-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)) (v2 : (c : Dev Cert.Kernel2Ideal.nD) → Buf (Elt Ideal) ((c.tc : Thread Cert.Kernel2Ideal.nD Cert.Kernel2Ideal.τ).loc Cert.Kernel2Ideal.main_v35_2)) (v3 : (c : Dev Cert.Kernel2Ideal.nD) → Buf (Elt Ideal) ((c.tc : Thread Cert.Kernel2Ideal.nD Cert.Kernel2Ideal.τ).loc Cert.Kernel2Ideal.main_v35_3)) (v4 : (c : Dev Cert.Kernel2Ideal.nD) → Buf (Elt Ideal) ((c.tc : Thread Cert.Kernel2Ideal.nD Cert.Kernel2Ideal.τ).loc Cert.Kernel2Ideal.main_v35_4)) (v5 : (c : Dev Cert.Kernel2Ideal.nD) → Buf (Elt Ideal) ((c.tc : Thread Cert.Kernel2Ideal.nD Cert.Kernel2Ideal.τ).loc Cert.Kernel2Ideal.main_v35_5)) (v6 : (c : Dev Cert.Kernel2Ideal.nD) → Buf (Elt Ideal) ((c.tc : Thread Cert.Kernel2Ideal.nD Cert.Kernel2Ideal.τ).loc Cert.Kernel2Ideal.main_v35_6)) (v7 : (c : Dev Cert.Kernel2Ideal.nD) → Buf (Elt Ideal) ((c.tc : Thread Cert.Kernel2Ideal.nD Cert.Kernel2Ideal.τ).loc Cert.Kernel2Ideal.main_v35_7)) (v8 : (c : Dev Cert.Kernel2Ideal.nD) → Buf (Elt Ideal) ((c.tc : Thread Cert.Kernel2Ideal.nD Cert.Kernel2Ideal.τ).loc Cert.Kernel2Ideal.main_v35_8)) (v9 : (c : Dev Cert.Kernel2Ideal.nD) → Buf (Elt Ideal) ((c.tc : Thread Cert.Kernel2Ideal.nD Cert.Kernel2Ideal.τ).loc Cert.Kernel2Ideal.main_v35_9)) (v10 : (c : Dev Cert.Kernel2Ideal.nD) → Buf (Elt Ideal) ((c.tc : Thread Cert.Kernel2Ideal.nD Cert.Kernel2Ideal.τ).loc Cert.Kernel2Ideal.main_v35_10)) (v11 : (c : Dev Cert.Kernel2Ideal.nD) → Buf (Elt Ideal) ((c.tc : Thread Cert.Kernel2Ideal.nD Cert.Kernel2Ideal.τ).loc Cert.Kernel2Ideal.main_v35_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_v35_2) = v2 c
          ∧ r.2.mem ((c.tc : Thread Cert.Kernel2Ideal.nD Cert.Kernel2Ideal.τ).loc Cert.Kernel2Ideal.main_v35_3) = v3 c
          ∧ r.2.mem ((c.tc : Thread Cert.Kernel2Ideal.nD Cert.Kernel2Ideal.τ).loc Cert.Kernel2Ideal.main_v35_4) = v4 c
          ∧ r.2.mem ((c.tc : Thread Cert.Kernel2Ideal.nD Cert.Kernel2Ideal.τ).loc Cert.Kernel2Ideal.main_v35_5) = v5 c
          ∧ r.2.mem ((c.tc : Thread Cert.Kernel2Ideal.nD Cert.Kernel2Ideal.τ).loc Cert.Kernel2Ideal.main_v35_6) = v6 c
          ∧ r.2.mem ((c.tc : Thread Cert.Kernel2Ideal.nD Cert.Kernel2Ideal.τ).loc Cert.Kernel2Ideal.main_v35_7) = v7 c
          ∧ r.2.mem ((c.tc : Thread Cert.Kernel2Ideal.nD Cert.Kernel2Ideal.τ).loc Cert.Kernel2Ideal.main_v35_8) = v8 c
          ∧ r.2.mem ((c.tc : Thread Cert.Kernel2Ideal.nD Cert.Kernel2Ideal.τ).loc Cert.Kernel2Ideal.main_v35_9) = v9 c
          ∧ r.2.mem ((c.tc : Thread Cert.Kernel2Ideal.nD Cert.Kernel2Ideal.τ).loc Cert.Kernel2Ideal.main_v35_10) = v10 c
          ∧ r.2.mem ((c.tc : Thread Cert.Kernel2Ideal.nD Cert.Kernel2Ideal.τ).loc Cert.Kernel2Ideal.main_v35_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v74) = v3 c
          ∧ r.2.mem ((c.tc : Thread Cert.Reference2Ideal.nD Cert.Reference2Ideal.τ).loc Cert.Reference2Ideal.main_v75) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_v81) = v6 c
          ∧ r.2.mem ((c.tc : Thread Cert.Reference2Ideal.nD Cert.Reference2Ideal.τ).loc Cert.Reference2Ideal.main_v82) = v7 c
          ∧ r.2.mem ((c.tc : Thread Cert.Reference2Ideal.nD Cert.Reference2Ideal.τ).loc Cert.Reference2Ideal.main_v85) = v8 c
          ∧ r.2.mem ((c.tc : Thread Cert.Reference2Ideal.nD Cert.Reference2Ideal.τ).loc Cert.Reference2Ideal.main_v88) = v9 c
          ∧ r.2.mem ((c.tc : Thread Cert.Reference2Ideal.nD Cert.Reference2Ideal.τ).loc Cert.Reference2Ideal.main_v90) = v10 c
          ∧ r.2.mem ((c.tc : Thread Cert.Reference2Ideal.nD Cert.Reference2Ideal.τ).loc Cert.Reference2Ideal.main_v92) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v78_0)) (v1 : (c : Dev Cert.Kernel4Ideal.nD) → Buf (Elt Ideal) ((c.tc : Thread Cert.Kernel4Ideal.nD Cert.Kernel4Ideal.τ).loc Cert.Kernel4Ideal.main_v78_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v78_0) = v0 c
          ∧ r.2.mem ((c.tc : Thread Cert.Kernel4Ideal.nD Cert.Kernel4Ideal.τ).loc Cert.Kernel4Ideal.main_v78_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S1x8192x1024 : Shape := ⟨3, ![1, 8192, 1024]⟩
abbrev S1x8192x128 : Shape := ⟨3, ![1, 8192, 128]⟩
abbrev S1x1024x1024 : Shape := ⟨3, ![1, 1024, 1024]⟩
abbrev S1x128x1024 : Shape := ⟨3, ![1, 128, 1024]⟩
abbrev S1x1024x128 : Shape := ⟨3, ![1, 1024, 128]⟩
abbrev S256x1024 : Shape := ⟨2, ![256, 1024]⟩
abbrev S256x2048 : Shape := ⟨2, ![256, 2048]⟩
abbrev S256x128 : Shape := ⟨2, ![256, 128]⟩
abbrev S128x1024 : Shape := ⟨2, ![128, 1024]⟩
abbrev S256x256 : Shape := ⟨2, ![256, 256]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S128x1 : Shape := ⟨2, ![128, 1]⟩
abbrev S1x256x128 : Shape := ⟨3, ![1, 256, 128]⟩

abbrev nBuf : Space → Nat
  | .hbm => 5
  | .vmem => 23
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .bf16⟩
  | .hbm, ⟨2, _⟩ => ⟨S1x8192x1024, .bf16⟩
  | .hbm, ⟨3, _⟩ => ⟨S1x8192x1024, .bf16⟩
  | .hbm, ⟨4, _⟩ => ⟨S1x8192x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x128, .f32⟩
  | .local _ .vmem, ⟨13, _⟩ => ⟨S1x1024x128, .f32⟩
  | .local _ .vmem, ⟨14, _⟩ => ⟨S256x1024, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
abbrev S1x8192x1024 : Shape := ⟨3, ![1, 8192, 1024]⟩
abbrev S1x8192x128 : Shape := ⟨3, ![1, 8192, 128]⟩
abbrev S1x1024x1024 : Shape := ⟨3, ![1, 1024, 1024]⟩
abbrev S1x128x1024 : Shape := ⟨3, ![1, 128, 1024]⟩
abbrev S1x1024x128 : Shape := ⟨3, ![1, 1024, 128]⟩
abbrev S256x1024 : Shape := ⟨2, ![256, 1024]⟩
abbrev S256x2048 : Shape := ⟨2, ![256, 2048]⟩
abbrev S256x128 : Shape := ⟨2, ![256, 128]⟩
abbrev S128x1024 : Shape := ⟨2, ![128, 1024]⟩
abbrev S256x256 : Shape := ⟨2, ![256, 256]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S128x1 : Shape := ⟨2, ![128, 1]⟩
abbrev S1x256x128 : Shape := ⟨3, ![1, 256, 128]⟩

abbrev nBuf : Space → Nat
  | .hbm => 5
  | .vmem => 23
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .bf16⟩
  | .hbm, ⟨2, _⟩ => ⟨S1x8192x1024, .bf16⟩
  | .hbm, ⟨3, _⟩ => ⟨S1x8192x1024, .bf16⟩
  | .hbm, ⟨4, _⟩ => ⟨S1x8192x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x128, .f32⟩
  | .local _ .vmem, ⟨13, _⟩ => ⟨S1x1024x128, .f32⟩
  | .local _ .vmem, ⟨14, _⟩ => ⟨S256x1024, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1x8192x1024 : Shape := ⟨3, ![1, 8192, 1024]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x64x128x16x64 : Shape := ⟨5, ![1, 64, 128, 16, 64]⟩
abbrev S1x65x128x16x64 : Shape := ⟨5, ![1, 65, 128, 16, 64]⟩
abbrev S1x64x256x16x64 : Shape := ⟨5, ![1, 64, 256, 16, 64]⟩
abbrev S1x64x16x128x256 : Shape := ⟨5, ![1, 64, 16, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x128x256 : Shape := ⟨5, ![1, 64, 1, 128, 256]⟩
abbrev S1x64x16x128 : Shape := ⟨4, ![1, 64, 16, 128]⟩
abbrev S1x64x16x128x1 : Shape := ⟨5, ![1, 64, 16, 128, 1]⟩
abbrev S1x64x16x64x128 : Shape := ⟨5, ![1, 64, 16, 64, 128]⟩
abbrev S1x8192x96 : Shape := ⟨3, ![1, 8192, 96]⟩
abbrev S1x64x128x16 : Shape := ⟨4, ![1, 64, 128, 16]⟩
abbrev S1x8192x16 : Shape := ⟨3, ![1, 8192, 16]⟩
abbrev S1x8192x128 : Shape := ⟨3, ![1, 8192, 128]⟩

abbrev nBuf : Space → Nat
  | .hbm => 82
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .bf16⟩
  | .hbm, ⟨2, _⟩ => ⟨S1x8192x1024, .bf16⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S1x8192x1024, .f32⟩
  | .hbm, ⟨14, _⟩ => ⟨S1x64x128x16x64, .f32⟩
  | .hbm, ⟨15, _⟩ => ⟨S1x8192x1024, .f32⟩
  | .hbm, ⟨16, _⟩ => ⟨S1x64x128x16x64, .f32⟩
  | .hbm, ⟨17, _⟩ => ⟨S1x8192x1024, .f32⟩
  | .hbm, ⟨18, _⟩ => ⟨S1x64x128x16x64, .f32⟩
  | .hbm, ⟨19, _⟩ => ⟨S_, .i32⟩
  | .hbm, ⟨20, _⟩ => ⟨S_, .f32⟩
  | .hbm, ⟨21, _⟩ => ⟨S1x65x128x16x64, .f32⟩
  | .hbm, ⟨22, _⟩ => ⟨S1x64x128x16x64, .f32⟩
  | .hbm, ⟨23, _⟩ => ⟨S1x64x256x16x64, .f32⟩
  | .hbm, ⟨24, _⟩ => ⟨S_, .i32⟩
  | .hbm, ⟨25, _⟩ => ⟨S_, .f32⟩
  | .hbm, ⟨26, _⟩ => ⟨S1x65x128x16x64, .f32⟩
  | .hbm, ⟨27, _⟩ => ⟨S1x64x128x16x64, .f32⟩
  | .hbm, ⟨28, _⟩ => ⟨S1x64x256x16x64, .f32⟩
  | .hbm, ⟨29, _⟩ => ⟨S1x64x16x128x256, .f32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S128x256, .i1⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S64x1x1, .i1⟩
  | .hbm, ⟨42, _⟩ => ⟨S_, .i32⟩
  | .hbm, ⟨43, _⟩ => ⟨S1x256, .i32⟩
  | .hbm, ⟨44, _⟩ => ⟨S1x256, .i1⟩
  | .hbm, ⟨45, _⟩ => ⟨S1x1x256, .i1⟩
  | .hbm, ⟨46, _⟩ => ⟨S64x1x256, .i1⟩
  | .hbm, ⟨47, _⟩ => ⟨S64x1x256, .i1⟩
  | .hbm, ⟨48, _⟩ => ⟨S64x1x256, .i1⟩
  | .hbm, ⟨49, _⟩ => ⟨S1x128x256, .i1⟩
  | .hbm, ⟨50, _⟩ => ⟨S64x128x256, .i1⟩
  | .hbm, ⟨51, _⟩ => ⟨S64x128x256, .i1⟩
  | .hbm, ⟨52, _⟩ => ⟨S64x128x256, .i1⟩
  | .hbm, ⟨53, _⟩ => ⟨S1x64x1x128x256, .i1⟩
  | .hbm, ⟨54, _⟩ => ⟨S_, .f32⟩
  | .hbm, ⟨55, _⟩ => ⟨S_, .f32⟩
  | .hbm, ⟨56, _⟩ => ⟨S1x64x16x128x256, .i1⟩
  | .hbm, ⟨57, _⟩ => ⟨S1x64x16x128x256, .f32⟩
  | .hbm, ⟨58, _⟩ => ⟨S1x64x16x128x256, .f32⟩
  | .hbm, ⟨59, _⟩ => ⟨S_, .f32⟩
  | .hbm, ⟨60, _⟩ => ⟨S1x64x16x128, .f32⟩
  | .hbm, ⟨61, _⟩ => ⟨S1x64x16x128x1, .f32⟩
  | .hbm, ⟨62, _⟩ => ⟨S1x64x16x128x256, .f32⟩
  | .hbm, ⟨63, _⟩ => ⟨S1x64x16x128x256, .f32⟩
  | .hbm, ⟨64, _⟩ => ⟨S_, .f32⟩
  | .hbm, ⟨65, _⟩ => ⟨S_, .f32⟩
  | .hbm, ⟨66, _⟩ => ⟨S1x64x16x128x256, .f32⟩
  | .hbm, ⟨67, _⟩ => ⟨S1x64x16x128x256, .f32⟩
  | .hbm, ⟨68, _⟩ => ⟨S1x64x16x128x256, .f32⟩
  | .hbm, ⟨69, _⟩ => ⟨S_, .f32⟩
  | .hbm, ⟨70, _⟩ => ⟨S1x64x16x128, .f32⟩
  | .hbm, ⟨71, _⟩ => ⟨S1x64x16x64x128, .f32⟩
  | .hbm, ⟨72, _⟩ => ⟨S1x64x128x16x64, .f32⟩
  | .hbm, ⟨73, _⟩ => ⟨S1x8192x1024, .f32⟩
  | .hbm, ⟨74, _⟩ => ⟨S_, .f32⟩
  | .hbm, ⟨75, _⟩ => ⟨S1x8192x96, .f32⟩
  | .hbm, ⟨76, _⟩ => ⟨S1x8192x1024, .bf16⟩
  | .hbm, ⟨77, _⟩ => ⟨S1x64x128x16, .f32⟩
  | .hbm, ⟨78, _⟩ => ⟨S1x8192x16, .f32⟩
  | .hbm, ⟨79, _⟩ => ⟨S1x64x128x16, .f32⟩
  | .hbm, ⟨80, _⟩ => ⟨S1x8192x16, .f32⟩
  | .hbm, ⟨81, _⟩ => ⟨S1x8192x128, .f32⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x3072 : Shape := ⟨2, ![2048, 3072]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S32x1 : Shape := ⟨2, ![32, 1]⟩
abbrev S32x32 : Shape := ⟨2, ![32, 32]⟩
abbrev S1x128 : Shape := ⟨2, ![1, 128]⟩
abbrev S256x128 : Shape := ⟨2, ![256, 128]⟩
abbrev S32x128 : Shape := ⟨2, ![32, 128]⟩
abbrev S1x2048 : Shape := ⟨2, ![1, 2048]⟩
abbrev S8192x1024 : Shape := ⟨2, ![8192, 1024]⟩
abbrev S4x2048x1024 : Shape := ⟨3, ![4, 2048, 1024]⟩
abbrev S16x512x1024 : Shape := ⟨3, ![16, 512, 1024]⟩
abbrev S1024x2048 : Shape := ⟨2, ![1024, 2048]⟩
abbrev S256x2048 : Shape := ⟨2, ![256, 2048]⟩
abbrev S256x1024 : Shape := ⟨2, ![256, 1024]⟩
abbrev S4x64x1024 : Shape := ⟨3, ![4, 64, 1024]⟩
abbrev S16x16x1024 : Shape := ⟨3, ![16, 16, 1024]⟩
abbrev S1024x256 : Shape := ⟨2, ![1024, 256]⟩
abbrev S8x256x128 : Shape := ⟨3, ![8, 256, 128]⟩
abbrev S2048x1024 : Shape := ⟨2, ![2048, 1024]⟩
abbrev S1x256x128 : Shape := ⟨3, ![1, 256, 128]⟩
abbrev S1x64x128 : Shape := ⟨3, ![1, 64, 128]⟩
abbrev S64x128 : Shape := ⟨2, ![64, 128]⟩
abbrev S1x16x128 : Shape := ⟨3, ![1, 16, 128]⟩
abbrev S16x128 : Shape := ⟨2, ![16, 128]⟩
abbrev S128x256 : Shape := ⟨2, ![128, 256]⟩

abbrev nBuf : Space → Nat
  | .hbm => 55
  | .vmem => 35
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .bf16⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S256, .i32⟩
  | .hbm, ⟨12, _⟩ => ⟨S256, .f32⟩
  | .hbm, ⟨13, _⟩ => ⟨S256x1, .f32⟩
  | .hbm, ⟨14, _⟩ => ⟨S1x32, .f32⟩
  | .hbm, ⟨15, _⟩ => ⟨S256x32, .f32⟩
  | .hbm, ⟨16, _⟩ => ⟨S256x32, .f32⟩
  | .hbm, ⟨17, _⟩ => ⟨S256x32, .f32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .f32⟩
  | .hbm, ⟨23, _⟩ => ⟨S32x1, .f32⟩
  | .hbm, ⟨24, _⟩ => ⟨S1x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S_, .f32⟩
  | .hbm, ⟨29, _⟩ => ⟨S1x32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x128, .f32⟩
  | .hbm, ⟨34, _⟩ => ⟨S256x32, .f32⟩
  | .hbm, ⟨35, _⟩ => ⟨S256x128, .f32⟩
  | .hbm, ⟨36, _⟩ => ⟨S256x32, .f32⟩
  | .hbm, ⟨37, _⟩ => ⟨S256x128, .f32⟩
  | .hbm, ⟨38, _⟩ => ⟨S32x32, .f32⟩
  | .hbm, ⟨39, _⟩ => ⟨S32x128, .f32⟩
  | .hbm, ⟨40, _⟩ => ⟨S32x32, .f32⟩
  | .hbm, ⟨41, _⟩ => ⟨S32x128, .f32⟩
  | .hbm, ⟨42, _⟩ => ⟨S1x2048, .f32⟩
  | .hbm, ⟨43, _⟩ => ⟨S8192x2048, .bf16⟩
  | .hbm, ⟨44, _⟩ => ⟨S8192x1024, .bf16⟩
  | .hbm, ⟨45, _⟩ => ⟨S4x2048x1024, .bf16⟩
  | .hbm, ⟨46, _⟩ => ⟨S16x512x1024, .bf16⟩
  | .hbm, ⟨47, _⟩ => ⟨S8192x1024, .bf16⟩
  | .hbm, ⟨48, _⟩ => ⟨S4x2048x1024, .bf16⟩
  | .hbm, ⟨49, _⟩ => ⟨S16x512x1024, .bf16⟩
  | .hbm, ⟨50, _⟩ => ⟨S8192x1024, .bf16⟩
  | .hbm, ⟨51, _⟩ => ⟨S4x2048x1024, .bf16⟩
  | .hbm, ⟨52, _⟩ => ⟨S16x512x1024, .bf16⟩
  | .hbm, ⟨53, _⟩ => ⟨S1024x2048, .f32⟩
  | .hbm, ⟨54, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3072, .bf16⟩
  | .local _ .vmem, ⟨4, _⟩ => ⟨S256x128, .f32⟩
  | .local _ .vmem, ⟨5, _⟩ => ⟨S256x128, .f32⟩
  | .local _ .vmem, ⟨6, _⟩ => ⟨S32x128, .f32⟩
  | .local _ .vmem, ⟨7, _⟩ => ⟨S32x128, .f32⟩
  | .local _ .vmem, ⟨8, _⟩ => ⟨S1x128, .f32⟩
  | .local _ .vmem, ⟨9, _⟩ => ⟨S256x2048, .bf16⟩
  | .local _ .vmem, ⟨10, _⟩ => ⟨S256x2048, .bf16⟩
  | .local _ .vmem, ⟨11, _⟩ => ⟨S256x1024, .bf16⟩
  | .local _ .vmem, ⟨12, _⟩ => ⟨S256x1024, .bf16⟩
  | .local _ .vmem, ⟨13, _⟩ => ⟨S4x64x1024, .bf16⟩
  | .local _ .vmem, ⟨14, _⟩ => ⟨S4x64x1024, .bf16⟩
  | .local _ .vmem, ⟨15, _⟩ => ⟨S16x16x1024, .bf16⟩
  | .local _ .vmem, ⟨16, _⟩ => ⟨S16x16x1024, .bf16⟩
  | .local _ .vmem, ⟨17, _⟩ => ⟨S256x1024, .bf16⟩
  | .local _ .vmem, ⟨18, _⟩ => ⟨S256x1024, .bf16⟩
  | .local _ .vmem, ⟨19, _⟩ => ⟨S4x64x1024, .bf16⟩
  | .local _ .vmem, ⟨20, _⟩ => ⟨S4x64x1024, .bf16⟩
  | .local _ .vmem, ⟨21, _⟩ => ⟨S16x16x1024, .bf16⟩
  | .local _ .vmem, ⟨22, _⟩ => ⟨S16x16x1024, .bf16⟩
  | .local _ .vmem, ⟨23, _⟩ => ⟨S256x1024, .bf16⟩
  | .local _ .vmem, ⟨24, _⟩ => ⟨S256x1024, .bf16⟩
  | .local _ .vmem, ⟨25, _⟩ => ⟨S4x64x1024, .bf16⟩
  | .local _ .vmem, ⟨26, _⟩ => ⟨S4x64x1024, .bf16⟩
  | .local _ .vmem, ⟨27, _⟩ => ⟨S16x16x1024, .bf16⟩
  | .local _ .vmem, ⟨28, _⟩ => ⟨S16x16x1024, .bf16⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S8x256x128, .f32⟩
  | .local _ .vmem, ⟨34, _⟩ => ⟨S8x256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev main_v35_3 : Ref sig .tc := ⟨.hbm, 46, rfl⟩
abbrev main_v35_4 : Ref sig .tc := ⟨.hbm, 47, rfl⟩
abbrev main_v35_5 : Ref sig .tc := ⟨.hbm, 48, rfl⟩
abbrev main_v35_6 : Ref sig .tc := ⟨.hbm, 49, rfl⟩
abbrev main_v35_7 : Ref sig .tc := ⟨.hbm, 50, rfl⟩
abbrev main_v35_8 : Ref sig .tc := ⟨.hbm, 51, rfl⟩
abbrev main_v35_9 : Ref sig .tc := ⟨.hbm, 52, rfl⟩
abbrev main_v35_10 : Ref sig .tc := ⟨.hbm, 53, rfl⟩
abbrev main_v35_11 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_19 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x16x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S8192x2048 : Shape := ⟨2, ![8192, 2048]⟩
abbrev S2048 : Shape := ⟨1, ![2048]⟩
abbrev S2048x3072 : Shape := ⟨2, ![2048, 3072]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3072 : Shape := ⟨2, ![8192, 3072]⟩
abbrev S8192x1024 : Shape := ⟨2, ![8192, 1024]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x16x64 : Shape := ⟨3, ![8192, 16, 64]⟩
abbrev S8192x16x32 : Shape := ⟨3, ![8192, 16, 32]⟩
abbrev S2048x4x1024 : Shape := ⟨3, ![2048, 4, 1024]⟩
abbrev S4x2048x1024 : Shape := ⟨3, ![4, 2048, 1024]⟩
abbrev S512x16x1024 : Shape := ⟨3, ![512, 16, 1024]⟩
abbrev S16x512x1024 : Shape := ⟨3, ![16, 512, 1024]⟩
abbrev S2048x1024 : Shape := ⟨2, ![2048, 1024]⟩
abbrev S1024x2048 : Shape := ⟨2, ![1024, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x3072, .f32⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S8192, .i32⟩
  | .hbm, ⟨33, _⟩ => ⟨S8192, .f32⟩
  | .hbm, ⟨34, _⟩ => ⟨S8192x1, .f32⟩
  | .hbm, ⟨35, _⟩ => ⟨S1x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x1x32, .f32⟩
  | .hbm, ⟨41, _⟩ => ⟨S8192x32, .f32⟩
  | .hbm, ⟨42, _⟩ => ⟨S8192x1x32, .f32⟩
  | .hbm, ⟨43, _⟩ => ⟨S8192x16x64, .f32⟩
  | .hbm, ⟨44, _⟩ => ⟨S8192x16x32, .f32⟩
  | .hbm, ⟨45, _⟩ => ⟨S8192x16x32, .f32⟩
  | .hbm, ⟨46, _⟩ => ⟨S8192x16x32, .f32⟩
  | .hbm, ⟨47, _⟩ => ⟨S8192x16x32, .f32⟩
  | .hbm, ⟨48, _⟩ => ⟨S8192x16x32, .f32⟩
  | .hbm, ⟨49, _⟩ => ⟨S8192x16x32, .f32⟩
  | .hbm, ⟨50, _⟩ => ⟨S8192x16x32, .f32⟩
  | .hbm, ⟨51, _⟩ => ⟨S8192x16x32, .f32⟩
  | .hbm, ⟨52, _⟩ => ⟨S8192x16x32, .f32⟩
  | .hbm, ⟨53, _⟩ => ⟨S8192x16x32, .f32⟩
  | .hbm, ⟨54, _⟩ => ⟨S8192x16x32, .f32⟩
  | .hbm, ⟨55, _⟩ => ⟨S8192x16x32, .f32⟩
  | .hbm, ⟨56, _⟩ => ⟨S8192x16x64, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x16x64, .f32⟩
  | .hbm, ⟨62, _⟩ => ⟨S8192x16x32, .f32⟩
  | .hbm, ⟨63, _⟩ => ⟨S8192x16x32, .f32⟩
  | .hbm, ⟨64, _⟩ => ⟨S8192x16x32, .f32⟩
  | .hbm, ⟨65, _⟩ => ⟨S8192x16x32, .f32⟩
  | .hbm, ⟨66, _⟩ => ⟨S8192x16x32, .f32⟩
  | .hbm, ⟨67, _⟩ => ⟨S8192x16x32, .f32⟩
  | .hbm, ⟨68, _⟩ => ⟨S8192x16x32, .f32⟩
  | .hbm, ⟨69, _⟩ => ⟨S8192x16x32, .f32⟩
  | .hbm, ⟨70, _⟩ => ⟨S8192x16x32, .f32⟩
  | .hbm, ⟨71, _⟩ => ⟨S8192x16x32, .f32⟩
  | .hbm, ⟨72, _⟩ => ⟨S8192x16x32, .f32⟩
  | .hbm, ⟨73, _⟩ => ⟨S8192x16x32, .f32⟩
  | .hbm, ⟨74, _⟩ => ⟨S8192x16x64, .f32⟩
  | .hbm, ⟨75, _⟩ => ⟨S8192x1024, .f32⟩
  | .hbm, ⟨76, _⟩ => ⟨S8192x2048, .bf16⟩
  | .hbm, ⟨77, _⟩ => ⟨S8192x1024, .bf16⟩
  | .hbm, ⟨78, _⟩ => ⟨S8192x1024, .bf16⟩
  | .hbm, ⟨79, _⟩ => ⟨S2048x4x1024, .bf16⟩
  | .hbm, ⟨80, _⟩ => ⟨S4x2048x1024, .bf16⟩
  | .hbm, ⟨81, _⟩ => ⟨S8192x1024, .bf16⟩
  | .hbm, ⟨82, _⟩ => ⟨S512x16x1024, .bf16⟩
  | .hbm, ⟨83, _⟩ => ⟨S16x512x1024, .bf16⟩
  | .hbm, ⟨84, _⟩ => ⟨S8192x1024, .bf16⟩
  | .hbm, ⟨85, _⟩ => ⟨S8192x1024, .bf16⟩
  | .hbm, ⟨86, _⟩ => ⟨S2048x4x1024, .bf16⟩
  | .hbm, ⟨87, _⟩ => ⟨S4x2048x1024, .bf16⟩
  | .hbm, ⟨88, _⟩ => ⟨S8192x1024, .bf16⟩
  | .hbm, ⟨89, _⟩ => ⟨S512x16x1024, .bf16⟩
  | .hbm, ⟨90, _⟩ => ⟨S16x512x1024, .bf16⟩
  | .hbm, ⟨91, _⟩ => ⟨S8192x1024, .bf16⟩
  | .hbm, ⟨92, _⟩ => ⟨S8192x1024, .bf16⟩
  | .hbm, ⟨93, _⟩ => ⟨S2048x4x1024, .bf16⟩
  | .hbm, ⟨94, _⟩ => ⟨S4x2048x1024, .bf16⟩
  | .hbm, ⟨95, _⟩ => ⟨S8192x1024, .bf16⟩
  | .hbm, ⟨96, _⟩ => ⟨S512x16x1024, .bf16⟩
  | .hbm, ⟨97, _⟩ => ⟨S16x512x1024, .bf16⟩
  | .hbm, ⟨98, _⟩ => ⟨S2048x1024, .f32⟩
  | .hbm, ⟨99, _⟩ => ⟨S1024x2048, .f32⟩
  | .hbm, ⟨100, _⟩ => ⟨S2048x1024, .f32⟩
  | .hbm, ⟨101, _⟩ => ⟨S1024x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩

abbrev nD : Nat := 1
abbrev τ : Topo := Topo.v7x

variable {F : FTy → Type} [FloatOps F]
-- ==== Kernel3.lean ====
abbrev S8192x1024 : Shape := ⟨2, ![8192, 1024]⟩
abbrev S4x2048x1024 : Shape := ⟨3, ![4, 2048, 1024]⟩
abbrev S16x512x1024 : Shape := ⟨3, ![16, 512, 1024]⟩
abbrev S8192x128 : Shape := ⟨2, ![8192, 128]⟩
abbrev S4x2048x128 : Shape := ⟨3, ![4, 2048, 128]⟩
abbrev S16x512x128 : Shape := ⟨3, ![16, 512, 128]⟩
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S4x128x1024 : Shape := ⟨3, ![4, 128, 1024]⟩
abbrev S16x32x1024 : Shape := ⟨3, ![16, 32, 1024]⟩
abbrev S512x128 : Shape := ⟨2, ![512, 128]⟩
abbrev S4x128x128 : Shape := ⟨3, ![4, 128, 128]⟩
abbrev S16x32x128 : Shape := ⟨3, ![16, 32, 128]⟩
abbrev S512x2048 : Shape := ⟨2, ![512, 2048]⟩
abbrev S8x512x128 : Shape := ⟨3, ![8, 512, 128]⟩
abbrev S2x512x128 : Shape := ⟨3, ![2, 512, 128]⟩
abbrev S256x128 : Shape := ⟨2, ![256, 128]⟩
abbrev S1x64x128 : Shape := ⟨3, ![1, 64, 128]⟩
abbrev S64x128 : Shape := ⟨2, ![64, 128]⟩
abbrev S1x16x128 : Shape := ⟨3, ![1, 16, 128]⟩
abbrev S16x128 : Shape := ⟨2, ![16, 128]⟩
abbrev S1x256x128 : Shape := ⟨3, ![1, 256, 128]⟩
abbrev S256x128x1 : Shape := ⟨3, ![256, 128, 1]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S4x2048x1024, .bf16⟩
  | .hbm, ⟨2, _⟩ => ⟨S16x512x1024, .bf16⟩
  | .hbm, ⟨3, _⟩ => ⟨S8192x128, .f32⟩
  | .hbm, ⟨4, _⟩ => ⟨S4x2048x128, .f32⟩
  | .hbm, ⟨5, _⟩ => ⟨S16x512x128, .f32⟩
  | .hbm, ⟨6, _⟩ => ⟨S8192x1024, .bf16⟩
  | .hbm, ⟨7, _⟩ => ⟨S8192x1024, .bf16⟩
  | .hbm, ⟨8, _⟩ => ⟨S8192x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S16x32x1024, .bf16⟩
  | .local _ .vmem, ⟨5, _⟩ => ⟨S16x32x1024, .bf16⟩
  | .local _ .vmem, ⟨6, _⟩ => ⟨S512x128, .f32⟩
  | .local _ .vmem, ⟨7, _⟩ => ⟨S512x128, .f32⟩
  | .local _ .vmem, ⟨8, _⟩ => ⟨S4x128x128, .f32⟩
  | .local _ .vmem, ⟨9, _⟩ => ⟨S4x128x128, .f32⟩
  | .local _ .vmem, ⟨10, _⟩ => ⟨S16x32x128, .f32⟩
  | .local _ .vmem, ⟨11, _⟩ => ⟨S16x32x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .f32⟩
  | .local _ .vmem, ⟨17, _⟩ => ⟨S512x2048, .f32⟩
  | .local _ .vmem, ⟨18, _⟩ => ⟨S2048x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x1024, .bf16⟩
  | .local _ .vmem, ⟨23, _⟩ => ⟨S8x512x128, .f32⟩
  | .local _ .vmem, ⟨24, _⟩ => ⟨S8x512x128, .f32⟩
  | .local _ .vmem, ⟨25, _⟩ => ⟨S8x512x128, .f32⟩
  | .local _ .vmem, ⟨26, _⟩ => ⟨S2x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8192x1024 : Shape := ⟨2, ![8192, 1024]⟩
abbrev S4x2048x1024 : Shape := ⟨3, ![4, 2048, 1024]⟩
abbrev S16x512x1024 : Shape := ⟨3, ![16, 512, 1024]⟩
abbrev S8192x128 : Shape := ⟨2, ![8192, 128]⟩
abbrev S4x2048x128 : Shape := ⟨3, ![4, 2048, 128]⟩
abbrev S16x512x128 : Shape := ⟨3, ![16, 512, 128]⟩
abbrev S8192x2048 : Shape := ⟨2, ![8192, 2048]⟩
abbrev S2048x2048 : Shape := ⟨2, ![2048, 2048]⟩
abbrev S2048 : Shape := ⟨1, ![2048]⟩
abbrev S2048x4x1024 : Shape := ⟨3, ![2048, 4, 1024]⟩
abbrev S512x16x1024 : Shape := ⟨3, ![512, 16, 1024]⟩
abbrev S8192x16x64 : Shape := ⟨3, ![8192, 16, 64]⟩
abbrev S2048x4x128 : Shape := ⟨3, ![2048, 4, 128]⟩
abbrev S512x16x128 : Shape := ⟨3, ![512, 16, 128]⟩
abbrev S8192x16 : Shape := ⟨2, ![8192, 16]⟩
abbrev S_ : Shape := ⟨0, ![]⟩
abbrev S8192x16x1 : Shape := ⟨3, ![8192, 16, 1]⟩
abbrev S8192 : Shape := ⟨1, ![8192]⟩
abbrev S8192x1 : Shape := ⟨2, ![8192, 1]⟩
abbrev S1x2048 : Shape := ⟨2, ![1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2048x1024, .bf16⟩
  | .hbm, ⟨2, _⟩ => ⟨S16x512x1024, .bf16⟩
  | .hbm, ⟨3, _⟩ => ⟨S8192x128, .f32⟩
  | .hbm, ⟨4, _⟩ => ⟨S4x2048x128, .f32⟩
  | .hbm, ⟨5, _⟩ => ⟨S16x512x128, .f32⟩
  | .hbm, ⟨6, _⟩ => ⟨S8192x1024, .bf16⟩
  | .hbm, ⟨7, _⟩ => ⟨S8192x1024, .bf16⟩
  | .hbm, ⟨8, _⟩ => ⟨S8192x2048, .f32⟩
  | .hbm, ⟨9, _⟩ => ⟨S2048x2048, .bf16⟩
  | .hbm, ⟨10, _⟩ => ⟨S2048, .f32⟩
  | .hbm, ⟨11, _⟩ => ⟨S2048x4x1024, .bf16⟩
  | .hbm, ⟨12, _⟩ => ⟨S8192x1024, .bf16⟩
  | .hbm, ⟨13, _⟩ => ⟨S512x16x1024, .bf16⟩
  | .hbm, ⟨14, _⟩ => ⟨S8192x1024, .bf16⟩
  | .hbm, ⟨15, _⟩ => ⟨S8192x1024, .f32⟩
  | .hbm, ⟨16, _⟩ => ⟨S8192x16x64, .f32⟩
  | .hbm, ⟨17, _⟩ => ⟨S8192x1024, .f32⟩
  | .hbm, ⟨18, _⟩ => ⟨S8192x16x64, .f32⟩
  | .hbm, ⟨19, _⟩ => ⟨S8192x1024, .f32⟩
  | .hbm, ⟨20, _⟩ => ⟨S8192x16x64, .f32⟩
  | .hbm, ⟨21, _⟩ => ⟨S2048x4x128, .f32⟩
  | .hbm, ⟨22, _⟩ => ⟨S8192x128, .f32⟩
  | .hbm, ⟨23, _⟩ => ⟨S512x16x128, .f32⟩
  | .hbm, ⟨24, _⟩ => ⟨S8192x128, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S_, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S_, .f32⟩
  | .hbm, ⟨41, _⟩ => ⟨S_, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S_, .f32⟩
  | .hbm, ⟨47, _⟩ => ⟨S_, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S8192x16x1, .f32⟩
  | .hbm, ⟨58, _⟩ => ⟨S8192x16x64, .f32⟩
  | .hbm, ⟨59, _⟩ => ⟨S8192x16x64, .f32⟩
  | .hbm, ⟨60, _⟩ => ⟨S_, .f32⟩
  | .hbm, ⟨61, _⟩ => ⟨S8192x16x64, .f32⟩
  | .hbm, ⟨62, _⟩ => ⟨S8192x16x64, .f32⟩
  | .hbm, ⟨63, _⟩ => ⟨S8192x16, .f32⟩
  | .hbm, ⟨64, _⟩ => ⟨S8192x16x1, .f32⟩
  | .hbm, ⟨65, _⟩ => ⟨S8192x16x64, .f32⟩
  | .hbm, ⟨66, _⟩ => ⟨S8192x16x64, .f32⟩
  | .hbm, ⟨67, _⟩ => ⟨S8192x16x64, .f32⟩
  | .hbm, ⟨68, _⟩ => ⟨S8192x16, .f32⟩
  | .hbm, ⟨69, _⟩ => ⟨S8192x16x1, .f32⟩
  | .hbm, ⟨70, _⟩ => ⟨S8192x16x64, .f32⟩
  | .hbm, ⟨71, _⟩ => ⟨S8192x16x64, .f32⟩
  | .hbm, ⟨72, _⟩ => ⟨S8192x16x64, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x2048, .f32⟩
  | .hbm, ⟨78, _⟩ => ⟨S2048x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S8192x2048, .f32⟩
  | .hbm, ⟨93, _⟩ => ⟨S8192x2048, .f32⟩
  | .hbm, ⟨94, _⟩ => ⟨S1x2048, .f32⟩
  | .hbm, ⟨95, _⟩ => ⟨S8192x2048, .f32⟩
  | .hbm, ⟨96, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_3 : Ref sig .tc := ⟨.hbm, 82, rfl⟩
abbrev main_v67 : Ref sig .tc := ⟨.hbm, 83, rfl⟩
abbrev main_v68 : Ref sig .tc := ⟨.hbm, 84, rfl⟩
abbrev main_cst_4 : Ref sig .tc := ⟨.hbm, 85, rfl⟩
abbrev main_v69 : Ref sig .tc := ⟨.hbm, 86, rfl⟩
abbrev main_v70 : Ref sig .tc := ⟨.hbm, 87, rfl⟩
abbrev main_cst_5 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Kernel4.lean ====
abbrev S128x1024 : Shape := ⟨2, ![128, 1024]⟩
abbrev S128x2048 : Shape := ⟨2, ![128, 2048]⟩
abbrev S2048x2048 : Shape := ⟨2, ![2048, 2048]⟩
abbrev S8x128x128 : Shape := ⟨3, ![8, 128, 128]⟩
abbrev S8x128 : Shape := ⟨2, ![8, 128]⟩
abbrev S2048 : Shape := ⟨1, ![2048]⟩
abbrev S8x4x4 : Shape := ⟨3, ![8, 4, 4]⟩
abbrev S4x4x8 : Shape := ⟨3, ![4, 4, 8]⟩
abbrev S1x1x8 : Shape := ⟨3, ![1, 1, 8]⟩
abbrev S8 : Shape := ⟨1, ![8]⟩
abbrev S1x8 : Shape := ⟨2, ![1, 8]⟩
abbrev S4x8 : Shape := ⟨2, ![4, 8]⟩
abbrev S_ : Shape := ⟨0, ![]⟩
abbrev S1x4x8 : Shape := ⟨3, ![1, 4, 8]⟩
abbrev S4x4x8x128 : Shape := ⟨4, ![4, 4, 8, 128]⟩
abbrev S4x4x1024 : Shape := ⟨3, ![4, 4, 1024]⟩
abbrev S1x4x1x4x1x1024 : Shape := ⟨6, ![1, 4, 1, 4, 1, 1024]⟩
abbrev S1x4x32x4x1x1024 : Shape := ⟨6, ![1, 4, 32, 4, 1, 1024]⟩
abbrev S4x128x1024 : Shape := ⟨3, ![4, 128, 1024]⟩
abbrev S8x4 : Shape := ⟨2, ![8, 4]⟩
abbrev S4x8x128 : Shape := ⟨3, ![4, 8, 128]⟩
abbrev S4x1024 : Shape := ⟨2, ![4, 1024]⟩
abbrev S1x4x1x1024 : Shape := ⟨4, ![1, 4, 1, 1024]⟩
abbrev S32x4x1x1024 : Shape := ⟨4, ![32, 4, 1, 1024]⟩
abbrev S1x2048 : Shape := ⟨2, ![1, 2048]⟩
abbrev S512x2048 : Shape := ⟨2, ![512, 2048]⟩
abbrev S1x128x1024 : Shape := ⟨3, ![1, 128, 1024]⟩
abbrev S128x512 : Shape := ⟨2, ![128, 512]⟩
abbrev S128 : Shape := ⟨1, ![128]⟩
abbrev S128x1 : Shape := ⟨2, ![128, 1]⟩

abbrev nBuf : Space → Nat
  | .hbm => 96
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x2048, .f32⟩
  | .hbm, ⟨6, _⟩ => ⟨S2048x2048, .f32⟩
  | .hbm, ⟨7, _⟩ => ⟨S8x128x128, .f32⟩
  | .hbm, ⟨8, _⟩ => ⟨S8x128, .f32⟩
  | .hbm, ⟨9, _⟩ => ⟨S2048, .f32⟩
  | .hbm, ⟨10, _⟩ => ⟨S8x4x4, .f32⟩
  | .hbm, ⟨11, _⟩ => ⟨S4x4x8, .f32⟩
  | .hbm, ⟨12, _⟩ => ⟨S1x1x8, .f32⟩
  | .hbm, ⟨13, _⟩ => ⟨S8, .f32⟩
  | .hbm, ⟨14, _⟩ => ⟨S1x1x8, .f32⟩
  | .hbm, ⟨15, _⟩ => ⟨S8, .f32⟩
  | .hbm, ⟨16, _⟩ => ⟨S1x1x8, .f32⟩
  | .hbm, ⟨17, _⟩ => ⟨S8, .f32⟩
  | .hbm, ⟨18, _⟩ => ⟨S1x1x8, .f32⟩
  | .hbm, ⟨19, _⟩ => ⟨S8, .f32⟩
  | .hbm, ⟨20, _⟩ => ⟨S1x8, .f32⟩
  | .hbm, ⟨21, _⟩ => ⟨S1x8, .f32⟩
  | .hbm, ⟨22, _⟩ => ⟨S1x8, .f32⟩
  | .hbm, ⟨23, _⟩ => ⟨S1x8, .f32⟩
  | .hbm, ⟨24, _⟩ => ⟨S4x8, .f32⟩
  | .hbm, ⟨25, _⟩ => ⟨S1x1x8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S1x1x8, .f32⟩
  | .hbm, ⟨30, _⟩ => ⟨S8, .f32⟩
  | .hbm, ⟨31, _⟩ => ⟨S1x1x8, .f32⟩
  | .hbm, ⟨32, _⟩ => ⟨S8, .f32⟩
  | .hbm, ⟨33, _⟩ => ⟨S1x1x8, .f32⟩
  | .hbm, ⟨34, _⟩ => ⟨S8, .f32⟩
  | .hbm, ⟨35, _⟩ => ⟨S1x8, .f32⟩
  | .hbm, ⟨36, _⟩ => ⟨S1x8, .f32⟩
  | .hbm, ⟨37, _⟩ => ⟨S1x8, .f32⟩
  | .hbm, ⟨38, _⟩ => ⟨S1x8, .f32⟩
  | .hbm, ⟨39, _⟩ => ⟨S4x8, .f32⟩
  | .hbm, ⟨40, _⟩ => ⟨S1x1x8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S1x1x8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S1x1x8, .f32⟩
  | .hbm, ⟨49, _⟩ => ⟨S8, .f32⟩
  | .hbm, ⟨50, _⟩ => ⟨S1x1x8, .f32⟩
  | .hbm, ⟨51, _⟩ => ⟨S8, .f32⟩
  | .hbm, ⟨52, _⟩ => ⟨S1x8, .f32⟩
  | .hbm, ⟨53, _⟩ => ⟨S1x8, .f32⟩
  | .hbm, ⟨54, _⟩ => ⟨S1x8, .f32⟩
  | .hbm, ⟨55, _⟩ => ⟨S1x8, .f32⟩
  | .hbm, ⟨56, _⟩ => ⟨S4x8, .f32⟩
  | .hbm, ⟨57, _⟩ => ⟨S1x1x8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S1x1x8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S1x1x8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S1x1x8, .f32⟩
  | .hbm, ⟨70, _⟩ => ⟨S8, .f32⟩
  | .hbm, ⟨71, _⟩ => ⟨S1x8, .f32⟩
  | .hbm, ⟨72, _⟩ => ⟨S1x8, .f32⟩
  | .hbm, ⟨73, _⟩ => ⟨S1x8, .f32⟩
  | .hbm, ⟨74, _⟩ => ⟨S1x8, .f32⟩
  | .hbm, ⟨75, _⟩ => ⟨S4x8, .f32⟩
  | .hbm, ⟨76, _⟩ => ⟨S1x4x8, .f32⟩
  | .hbm, ⟨77, _⟩ => ⟨S1x4x8, .f32⟩
  | .hbm, ⟨78, _⟩ => ⟨S1x4x8, .f32⟩
  | .hbm, ⟨79, _⟩ => ⟨S1x4x8, .f32⟩
  | .hbm, ⟨80, _⟩ => ⟨S4x4x8, .f32⟩
  | .hbm, ⟨81, _⟩ => ⟨S4x4x8x128, .f32⟩
  | .hbm, ⟨82, _⟩ => ⟨S4x4x1024, .f32⟩
  | .hbm, ⟨83, _⟩ => ⟨S1x4x1x4x1x1024, .f32⟩
  | .hbm, ⟨84, _⟩ => ⟨S1x4x32x4x1x1024, .f32⟩
  | .hbm, ⟨85, _⟩ => ⟨S4x128x1024, .f32⟩
  | .hbm, ⟨86, _⟩ => ⟨S8x4, .f32⟩
  | .hbm, ⟨87, _⟩ => ⟨S4x8, .f32⟩
  | .hbm, ⟨88, _⟩ => ⟨S4x8x128, .f32⟩
  | .hbm, ⟨89, _⟩ => ⟨S4x1024, .f32⟩
  | .hbm, ⟨90, _⟩ => ⟨S1x4x1x1024, .f32⟩
  | .hbm, ⟨91, _⟩ => ⟨S32x4x1x1024, .f32⟩
  | .hbm, ⟨92, _⟩ => ⟨S128x1024, .f32⟩
  | .hbm, ⟨93, _⟩ => ⟨S1x2048, .f32⟩
  | .hbm, ⟨94, _⟩ => ⟨S128x2048, .f32⟩
  | .hbm, ⟨95, _⟩ => ⟨S2048x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x2048, .f32⟩
  | .local _ .vmem, ⟨6, _⟩ => ⟨S512x2048, .f32⟩
  | .local _ .vmem, ⟨7, _⟩ => ⟨S512x2048, .f32⟩
  | .local _ .vmem, ⟨8, _⟩ => ⟨S4x128x1024, .f32⟩
  | .local _ .vmem, ⟨9, _⟩ => ⟨S128x1024, .f32⟩
  | .local _ .vmem, ⟨10, _⟩ => ⟨S1x2048, .f32⟩
  | .local _ .vmem, ⟨11, _⟩ => ⟨S128x2048, .f32⟩
  | .local _ .vmem, ⟨12, _⟩ => ⟨S512x2048, .bf16⟩
  | .local _ .vmem, ⟨13, _⟩ => ⟨S512x2048, .bf16⟩
  | .local _ .vmem, ⟨14, _⟩ => ⟨S128x2048, .bf16⟩
  | .local _ .vmem, ⟨15, _⟩ => ⟨S128x2048, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78_0 : Ref sig .tc := ⟨.hbm, 94, rfl⟩
abbrev main_v78_1 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v6 : BitVec 32 := Scalar.muli arg0 c512_i32
  v6
def k0_off1 (i : grid0.Coords) : Fin 2 → Nat :=
  let c0_6 : Index := 0#32
  let arg0 : BitVec 32 := BitVec.ofNat 32 (i 0).val
  let c512_i32 : BitVec 32 := 512#32
  let v6 : BitVec 32 := Scalar.muli arg0 c512_i32
  let v7 : BitVec 32 := v6
  let v9 : Index := Scalar.indexCast v7
  ![0, v9.toNat]
def k0_cond2 (i : grid0.Coords) : BitVec 1 :=
  let arg0 : BitVec 32 := BitVec.ofNat 32 (i 0).val
  let c3_i32 : BitVec 32 := 3#32
  let v16 : BitVec 1 := Scalar.cmpi .eq arg0 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S128x1024 : Shape := ⟨2, ![128, 1024]⟩
abbrev S128x2048 : Shape := ⟨2, ![128, 2048]⟩
abbrev S2048x2048 : Shape := ⟨2, ![2048, 2048]⟩
abbrev S8x128x128 : Shape := ⟨3, ![8, 128, 128]⟩
abbrev S8x128 : Shape := ⟨2, ![8, 128]⟩
abbrev S2048 : Shape := ⟨1, ![2048]⟩
abbrev S32x4x8x128 : Shape := ⟨4, ![32, 4, 8, 128]⟩
abbrev S_ : Shape := ⟨0, ![]⟩
abbrev S128x128 : Shape := ⟨2, ![128, 128]⟩
abbrev S1x128x128 : Shape := ⟨3, ![1, 128, 128]⟩
abbrev S8x4x4 : Shape := ⟨3, ![8, 4, 4]⟩
abbrev S8x32x128x4 : Shape := ⟨4, ![8, 32, 128, 4]⟩
abbrev S8x4 : Shape := ⟨2, ![8, 4]⟩
abbrev S4x8 : Shape := ⟨2, ![4, 8]⟩
abbrev S4x8x1 : Shape := ⟨3, ![4, 8, 1]⟩
abbrev S1x4x8x1 : Shape := ⟨4, ![1, 4, 8, 1]⟩
abbrev S128 : Shape := ⟨1, ![128]⟩
abbrev S128x1 : Shape := ⟨2, ![128, 1]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x2048, .f32⟩
  | .hbm, ⟨6, _⟩ => ⟨S2048x2048, .f32⟩
  | .hbm, ⟨7, _⟩ => ⟨S8x128x128, .f32⟩
  | .hbm, ⟨8, _⟩ => ⟨S8x128, .f32⟩
  | .hbm, ⟨9, _⟩ => ⟨S2048, .f32⟩
  | .hbm, ⟨10, _⟩ => ⟨S32x4x8x128, .f32⟩
  | .hbm, ⟨11, _⟩ => ⟨S_, .f32⟩
  | .hbm, ⟨12, _⟩ => ⟨S128x128, .f32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S1x128x128, .f32⟩
  | .hbm, ⟨23, _⟩ => ⟨S8x128x128, .f32⟩
  | .hbm, ⟨24, _⟩ => ⟨S8x128x128, .f32⟩
  | .hbm, ⟨25, _⟩ => ⟨S8x4x4, .f32⟩
  | .hbm, ⟨26, _⟩ => ⟨S8x32x128x4, .f32⟩
  | .hbm, ⟨27, _⟩ => ⟨S32x4x8x128, .f32⟩
  | .hbm, ⟨28, _⟩ => ⟨S8x4, .f32⟩
  | .hbm, ⟨29, _⟩ => ⟨S4x8, .f32⟩
  | .hbm, ⟨30, _⟩ => ⟨S4x8x1, .f32⟩
  | .hbm, ⟨31, _⟩ => ⟨S1x4x8x1, .f32⟩
  | .hbm, ⟨32, _⟩ => ⟨S32x4x8x128, .f32⟩
  | .hbm, ⟨33, _⟩ => ⟨S32x4x8x128, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S128x1, .f32⟩
  | .hbm, ⟨52, _⟩ => ⟨S128x2048, .f32⟩
  | .hbm, ⟨53, _⟩ => ⟨S128x2048, .f32⟩
  | .hbm, ⟨54, _⟩ => ⟨S1x2048, .f32⟩
  | .hbm, ⟨55, _⟩ => ⟨S128x2048, .f32⟩
  | .hbm, ⟨56, _⟩ => ⟨S128x2048, .f32⟩
  | .hbm, ⟨57, _⟩ => ⟨S2048x2048, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_0 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x2048x128 : Shape := ⟨3, ![4, 2048, 128]⟩
abbrev S1x1024x1024 : Shape := ⟨3, ![1, 1024, 1024]⟩
abbrev S1x128x1024 : Shape := ⟨3, ![1, 128, 1024]⟩
abbrev S1x1024x128 : Shape := ⟨3, ![1, 1024, 128]⟩
abbrev S256x1024 : Shape := ⟨2, ![256, 1024]⟩
abbrev S256x2048 : Shape := ⟨2, ![256, 2048]⟩
abbrev S256x128 : Shape := ⟨2, ![256, 128]⟩
abbrev S128x1024 : Shape := ⟨2, ![128, 1024]⟩
abbrev S256x256 : Shape := ⟨2, ![256, 256]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S128x1 : Shape := ⟨2, ![128, 1]⟩
abbrev S1x256x128 : Shape := ⟨3, ![1, 256, 128]⟩

abbrev nBuf : Space → Nat
  | .hbm => 5
  | .vmem => 23
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S4x2048x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x128, .f32⟩
  | .local _ .vmem, ⟨13, _⟩ => ⟨S1x1024x128, .f32⟩
  | .local _ .vmem, ⟨14, _⟩ => ⟨S256x1024, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S4x2048x1024 : Shape := ⟨3, ![4, 2048, 1024]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S4x16x128x16x64 : Shape := ⟨5, ![4, 16, 128, 16, 64]⟩
abbrev S4x17x128x16x64 : Shape := ⟨5, ![4, 17, 128, 16, 64]⟩
abbrev S4x16x256x16x64 : Shape := ⟨5, ![4, 16, 256, 16, 64]⟩
abbrev S4x16x16x128x256 : Shape := ⟨5, ![4, 16, 16, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x128x256 : Shape := ⟨5, ![1, 16, 1, 128, 256]⟩
abbrev S4x16x16x128 : Shape := ⟨4, ![4, 16, 16, 128]⟩
abbrev S4x16x16x128x1 : Shape := ⟨5, ![4, 16, 16, 128, 1]⟩
abbrev S4x16x16x64x128 : Shape := ⟨5, ![4, 16, 16, 64, 128]⟩
abbrev S4x2048x96 : Shape := ⟨3, ![4, 2048, 96]⟩
abbrev S4x16x128x16 : Shape := ⟨4, ![4, 16, 128, 16]⟩
abbrev S4x2048x16 : Shape := ⟨3, ![4, 2048, 16]⟩
abbrev S4x2048x128 : Shape := ⟨3, ![4, 2048, 128]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S4x2048x1024, .f32⟩
  | .hbm, ⟨14, _⟩ => ⟨S4x16x128x16x64, .f32⟩
  | .hbm, ⟨15, _⟩ => ⟨S4x2048x1024, .f32⟩
  | .hbm, ⟨16, _⟩ => ⟨S4x16x128x16x64, .f32⟩
  | .hbm, ⟨17, _⟩ => ⟨S4x2048x1024, .f32⟩
  | .hbm, ⟨18, _⟩ => ⟨S4x16x128x16x64, .f32⟩
  | .hbm, ⟨19, _⟩ => ⟨S_, .i32⟩
  | .hbm, ⟨20, _⟩ => ⟨S_, .f32⟩
  | .hbm, ⟨21, _⟩ => ⟨S4x17x128x16x64, .f32⟩
  | .hbm, ⟨22, _⟩ => ⟨S4x16x128x16x64, .f32⟩
  | .hbm, ⟨23, _⟩ => ⟨S4x16x256x16x64, .f32⟩
  | .hbm, ⟨24, _⟩ => ⟨S_, .i32⟩
  | .hbm, ⟨25, _⟩ => ⟨S_, .f32⟩
  | .hbm, ⟨26, _⟩ => ⟨S4x17x128x16x64, .f32⟩
  | .hbm, ⟨27, _⟩ => ⟨S4x16x128x16x64, .f32⟩
  | .hbm, ⟨28, _⟩ => ⟨S4x16x256x16x64, .f32⟩
  | .hbm, ⟨29, _⟩ => ⟨S4x16x16x128x256, .f32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S128x256, .i1⟩
  | .hbm, ⟨37, _⟩ => ⟨S16, .i32⟩
  | .hbm, ⟨38, _⟩ => ⟨S_, .i32⟩
  | .hbm, ⟨39, _⟩ => ⟨S16, .i32⟩
  | .hbm, ⟨40, _⟩ => ⟨S16, .i1⟩
  | .hbm, ⟨41, _⟩ => ⟨S16x1x1, .i1⟩
  | .hbm, ⟨42, _⟩ => ⟨S_, .i32⟩
  | .hbm, ⟨43, _⟩ => ⟨S1x256, .i32⟩
  | .hbm, ⟨44, _⟩ => ⟨S1x256, .i1⟩
  | .hbm, ⟨45, _⟩ => ⟨S1x1x256, .i1⟩
  | .hbm, ⟨46, _⟩ => ⟨S16x1x256, .i1⟩
  | .hbm, ⟨47, _⟩ => ⟨S16x1x256, .i1⟩
  | .hbm, ⟨48, _⟩ => ⟨S16x1x256, .i1⟩
  | .hbm, ⟨49, _⟩ => ⟨S1x128x256, .i1⟩
  | .hbm, ⟨50, _⟩ => ⟨S16x128x256, .i1⟩
  | .hbm, ⟨51, _⟩ => ⟨S16x128x256, .i1⟩
  | .hbm, ⟨52, _⟩ => ⟨S16x128x256, .i1⟩
  | .hbm, ⟨53, _⟩ => ⟨S1x16x1x128x256, .i1⟩
  | .hbm, ⟨54, _⟩ => ⟨S_, .f32⟩
  | .hbm, ⟨55, _⟩ => ⟨S_, .f32⟩
  | .hbm, ⟨56, _⟩ => ⟨S4x16x16x128x256, .i1⟩
  | .hbm, ⟨57, _⟩ => ⟨S4x16x16x128x256, .f32⟩
  | .hbm, ⟨58, _⟩ => ⟨S4x16x16x128x256, .f32⟩
  | .hbm, ⟨59, _⟩ => ⟨S_, .f32⟩
  | .hbm, ⟨60, _⟩ => ⟨S4x16x16x128, .f32⟩
  | .hbm, ⟨61, _⟩ => ⟨S4x16x16x128x1, .f32⟩
  | .hbm, ⟨62, _⟩ => ⟨S4x16x16x128x256, .f32⟩
  | .hbm, ⟨63, _⟩ => ⟨S4x16x16x128x256, .f32⟩
  | .hbm, ⟨64, _⟩ => ⟨S_, .f32⟩
  | .hbm, ⟨65, _⟩ => ⟨S_, .f32⟩
  | .hbm, ⟨66, _⟩ => ⟨S4x16x16x128x256, .f32⟩
  | .hbm, ⟨67, _⟩ => ⟨S4x16x16x128x256, .f32⟩
  | .hbm, ⟨68, _⟩ => ⟨S4x16x16x128x256, .f32⟩
  | .hbm, ⟨69, _⟩ => ⟨S_, .f32⟩
  | .hbm, ⟨70, _⟩ => ⟨S4x16x16x128, .f32⟩
  | .hbm, ⟨71, _⟩ => ⟨S4x16x16x64x128, .f32⟩
  | .hbm, ⟨72, _⟩ => ⟨S4x16x128x16x64, .f32⟩
  | .hbm, ⟨73, _⟩ => ⟨S4x2048x1024, .f32⟩
  | .hbm, ⟨74, _⟩ => ⟨S_, .f32⟩
  | .hbm, ⟨75, _⟩ => ⟨S4x2048x96, .f32⟩
  | .hbm, ⟨76, _⟩ => ⟨S4x2048x1024, .bf16⟩
  | .hbm, ⟨77, _⟩ => ⟨S4x16x128x16, .f32⟩
  | .hbm, ⟨78, _⟩ => ⟨S4x2048x16, .f32⟩
  | .hbm, ⟨79, _⟩ => ⟨S4x16x128x16, .f32⟩
  | .hbm, ⟨80, _⟩ => ⟨S4x2048x16, .f32⟩
  | .hbm, ⟨81, _⟩ => ⟨S4x2048x128, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Proof.Tile.lean ====
/-
  One tile of the attention: 128 queries of two neighbouring heads (the two 64-lane halves of a 128-lane group) against
  the 256 keys of their own block of 128 and the block before. The vector operations are named here as the kernel's
  body prints them, and each is read at an index over the extended reals: the scores, their maximum, the weights
  `2 ^ (score - maximum)`, the weighted sum of the values and the weights' sum.
-/
module

public import proofs.«01_k».proof.Proof.Gen.KernelIdeal.Value
public import Idealize.ShloMosaic.Lib.Pointwise

@[expose] public section

set_option maxRecDepth 16384

noncomputable section

namespace Cert.Attn

open Idealize.ShloMosaic Idealize.SL.Sem
open Cert.KernelIdeal Cert.KernelIdeal.Gen

/-! ## Attention of one query, in plain terms -/

/-- The greatest of 256 scores. -/
def top (S : Fin 256 → EReal) : EReal := Finset.univ.fold max ⊥ S
/-- A score's weight. -/
def weight (S : Fin 256 → EReal) (s : Fin 256) : EReal := Ideal.exp2 (S s - top S)
/-- The weighted sum of the values. -/
def numer (S V : Fin 256 → EReal) : EReal := ∑ s, weight S s * V s
/-- The weights' sum. -/
def denom (S : Fin 256 → EReal) : EReal := ∑ s, weight S s
/-- The score of a query against key `s` where the mask admits the key, `-∞` elsewhere. -/
def score (q : Fin 64 → EReal) (K : Fin 256 → Fin 64 → EReal) (ok : Fin 256 → Prop) [DecidablePred ok] (s : Fin 256) : EReal :=
  if ok s then ∑ u, q u * K s u else ⊥

/-! ## The tile's operations -/

/-- Lanes of the first head of the group. -/
def lowLanes : IVec S128x128 1 := cmpi .slt (iota .tc S128x128 32 [1] iota_S128x128_d1_w32) (broadcast S128x128 64#32)
/-- The zeros the other head's lanes are replaced by. -/
def zeros : FVec Ideal S128x128 .bf16 := broadcast S128x128 (Scalar.ofBits .bf16 0x0000#16)
/-- The queries of the two heads stacked: each with the other head's lanes zeroed. -/
def stacked (q : FVec Ideal S1x128x128 .bf16) : FVec Ideal S256x128 .bf16 :=
  concatenate S256x128 0 [⟨S128x128, select lowLanes (shapeCast S128x128 q shapeCasts_S1x128x128_S128x128) zeros⟩,
    ⟨S128x128, select lowLanes zeros (shapeCast S128x128 q shapeCasts_S1x128x128_S128x128)⟩] concatenates_S128x128_S128x128_S256x128_d0
/-- The masked scores. -/
def scores (q : FVec Ideal S1x128x128 .bf16) (k : FVec Ideal S256x128 .bf16) (b : FVec Ideal S256x256 .f32) : FVec Ideal S256x256 .f32 :=
  addf (matmul dot_S256x128_S256x128_S256x256_1_1_0_0_n_n none (stacked q) k (constant S256x256 .f32 0x00000000#32)) b
/-- Their row maxima. -/
def maxima (s : FVec Ideal S256x256 .f32) : FVec Ideal S256x1 .f32 :=
  shapeCast S256x1 (multiReduction .maximumf [1] S256 s 0xFF800000#32 reduces_S256x256_S256 (.inl rfl) rfl) shapeCasts_S256_S256x1
/-- The weights against values extended by ones. -/
def weighted (s : FVec Ideal S256x256 .f32) (v : FVec Ideal S256x256 .bf16) : FVec Ideal S256x256 .f32 :=
  matmul dot_S256x256_S256x256_S256x256_1_0_0_1_n_n none
    (truncf .bf16 (exp2 (subf s (broadcastTo S256x256 (maxima s) broadcasts_S256x1_S256x256))) bitsLt_bf16_f32) v (constant S256x256 .f32 0x00000000#32)
/-- The block of numerators: each head's rows at its own lanes. -/
def numBlock (s : FVec Ideal S256x256 .f32) (v : FVec Ideal S256x256 .bf16) : FVec Ideal S1x128x128 .bf16 :=
  shapeCast S1x128x128 (truncf .bf16 (select lowLanes
    (extractStridedSlice S128x128 ![0, 0] (extractStridedSlice S256x128 ![0, 0] (weighted s v) slices_S256x256_o0_0_S256x128) slices_S256x128_o0_0_S128x128)
    (extractStridedSlice S128x128 ![128, 0] (extractStridedSlice S256x128 ![0, 0] (weighted s v) slices_S256x256_o0_0_S256x128) slices_S256x128_o128_0_S128x128))
    bitsLt_bf16_f32) shapeCasts_S128x128_S1x128x128

/-- The lane numbers of a group. -/
def lanes : IVec S128x128 32 := iota .tc S128x128 32 [1] iota_S128x128_d1_w32
/-- The two heads of group `g` put their maxima into lanes `2 g`, `2 g + 1` and their sums into lanes `16 + 2 g`, `17 + 2 g`. -/
def statStep (g : ℕ) (s : FVec Ideal S256x256 .f32) (v : FVec Ideal S256x256 .bf16) (acc : FVec Ideal S128x128 .f32) : FVec Ideal S128x128 .f32 :=
  select (cmpi .eq lanes (broadcast S128x128 (BitVec.ofNat 32 (2 * g + 1))))
    (broadcastTo S128x128 (shapeCast S128x1 (extractStridedSlice S128x1 ![128, 0] (maxima s) slices_S256x1_o128_0_S128x1) shapeCasts_S128x1_S128x1) broadcasts_S128x1_S128x128)
    (select (cmpi .eq lanes (broadcast S128x128 (BitVec.ofNat 32 (16 + (2 * g + 1)))))
      (extractStridedSlice S128x128 ![128, 0] (extractStridedSlice S256x128 ![0, 128] (weighted s v) slices_S256x256_o0_128_S256x128) slices_S256x128_o128_0_S128x128)
      (select (cmpi .eq lanes (broadcast S128x128 (BitVec.ofNat 32 (2 * g))))
        (broadcastTo S128x128 (shapeCast S128x1 (extractStridedSlice S128x1 ![0, 0] (maxima s) slices_S256x1_o0_0_S128x1) shapeCasts_S128x1_S128x1) broadcasts_S128x1_S128x128)
        (select (cmpi .eq lanes (broadcast S128x128 (BitVec.ofNat 32 (16 + 2 * g))))
          (extractStridedSlice S128x128 ![0, 0] (extractStridedSlice S256x128 ![0, 128] (weighted s v) slices_S256x256_o0_128_S256x128) slices_S256x128_o0_0_S128x128)
          acc)))
/-- The first `n` groups' steps, from zeros in lanes 0 to 15 and ones elsewhere. -/
def statAcc (s : ℕ → FVec Ideal S256x256 .f32) (v : ℕ → FVec Ideal S256x256 .bf16) : ℕ → FVec Ideal S128x128 .f32
  | 0 => select (cmpi .slt lanes (broadcast S128x128 16#32)) (broadcast S128x128 (Scalar.ofBits .f32 0x00000000#32)) (broadcast S128x128 (Scalar.ofBits .f32 0x3F800000#32))
  | n + 1 => statStep n (s n) (v n) (statAcc s v n)
/-- The block of statistics. -/
def statBlock (s : ℕ → FVec Ideal S256x256 .f32) (v : ℕ → FVec Ideal S256x256 .bf16) : FVec Ideal S1x128x128 .f32 :=
  shapeCast S1x128x128 (statAcc s v 8) shapeCasts_S128x128_S1x128x128

/-- The row of a pair of stacked blocks, modulo 128, as the kernel computes it. -/
def rowMod : IVec S256x256 32 :=
  select (andi (xori (cmpi .slt (remsi (iota .tc S256x256 32 [0] iota_S256x256_d0_w32) (broadcast S256x256 (Scalar.select (Scalar.cmpi .eq 128#32 0#32) 1#32 128#32))) (broadcast S256x256 0#32))
        (broadcastTo S256x256 (broadcast S256x256 (Scalar.cmpi .slt (Scalar.select (Scalar.cmpi .eq 128#32 0#32) 1#32 128#32) 0#32)) broadcasts_S256x256_S256x256))
      (cmpi .ne (remsi (iota .tc S256x256 32 [0] iota_S256x256_d0_w32) (broadcast S256x256 (Scalar.select (Scalar.cmpi .eq 128#32 0#32) 1#32 128#32))) (broadcast S256x256 0#32)))
    (addi (remsi (iota .tc S256x256 32 [0] iota_S256x256_d0_w32) (broadcast S256x256 (Scalar.select (Scalar.cmpi .eq 128#32 0#32) 1#32 128#32)))
      (broadcast S256x256 (Scalar.select (Scalar.cmpi .eq 128#32 0#32) 1#32 128#32)))
    (remsi (iota .tc S256x256 32 [0] iota_S256x256_d0_w32) (broadcast S256x256 (Scalar.select (Scalar.cmpi .eq 128#32 0#32) 1#32 128#32)))
/-- The key numbers. -/
def keyNo : IVec S256x256 32 := iota .tc S256x256 32 [1] iota_S256x256_d1_w32
/-- Row minus key. -/
def gap : IVec S256x256 32 := subi (addi rowMod (broadcast S256x256 128#32)) keyNo
/-- The mask of the band: 0 inside, `-∞` (`w`) outside. -/
def bandBias (w : EReal) : FVec Ideal S256x256 .f32 :=
  select (andi (cmpi .sge gap (broadcast S256x256 0#32)) (cmpi .sle gap (broadcast S256x256 128#32)))
    (broadcast S256x256 (Scalar.ofBits .f32 0x00000000#32)) (broadcast S256x256 w)
/-- The first block's mask: where `e` is 1 the keys before the sequence are masked too. -/
def firstBias (w : EReal) (e : BitVec 1) : FVec Ideal S256x256 .f32 :=
  addf (bandBias w) (select (andi (cmpi .slt keyNo (broadcast S256x256 128#32)) (broadcast S256x256 e))
    (broadcast S256x256 w) (broadcast S256x256 (Scalar.ofBits .f32 0x00000000#32)))

/-! ## Read at an index -/

theorem lowLanes_apply (r l : Fin 128) : lowLanes (ix2 r l) = if l.val < 64 then 1#1 else 0#1 := by
  unfold lowLanes
  pointwise
  revert l
  decide +kernel

theorem stacked_apply (q : FVec Ideal S1x128x128 .bf16) (R : Fin 256) (l : Fin 128) :
    stacked q (ix2 R l) = if R.val / 128 = l.val / 64 then q (ix3 0 ⟨R.val % 128, by omega⟩ l) else (0 : EReal) := by
  unfold stacked zeros
  pointwise
  by_cases h : R.val < 128
  · have h0 : R.val / 128 = 0 := by omega
    have h1 : R.val % 128 = R.val := by omega
    simp only [h, ↓reduceDIte, h0, h1, lowLanes_apply]
    by_cases hl : l.val < 64
    · simp only [if_pos hl]; exact (if_pos (show 0 = l.val / 64 by omega)).symm
    · simp only [if_neg hl]; exact (if_neg (show ¬0 = l.val / 64 by omega)).symm
  · have h0 : R.val / 128 = 1 := by omega
    have h1 : R.val % 128 = R.val - 128 := by omega
    simp only [h, ↓reduceDIte, h0, h1, lowLanes_apply]
    by_cases hl : l.val < 64
    · simp only [if_pos hl]; exact (if_neg (show ¬1 = l.val / 64 by omega)).symm
    · simp only [if_neg hl]; exact (if_pos (show 1 = l.val / 64 by omega)).symm

theorem scores_apply (q : FVec Ideal S1x128x128 .bf16) (k : FVec Ideal S256x128 .bf16) (b : FVec Ideal S256x256 .f32) (R s : Fin 256) :
    scores q k b (ix2 R s) = (∑ u : Fin 64, q (ix3 0 ⟨R.val % 128, by omega⟩ ⟨64 * (R.val / 128) + u.val, by omega⟩)
      * k (ix2 s ⟨64 * (R.val / 128) + u.val, by omega⟩)) + b (ix2 R s) := by
  unfold scores
  pointwise
  congr 1
  simp only [stacked_apply]
  rw [Fin.sum_univ_two_halves 64 64 rfl]
  by_cases h : R.val < 128
  · have h0 : R.val / 128 = 0 := by omega
    have z : (∑ x : Fin 64, (if 0 = (64 + x.val) / 64 then q (ix3 0 ⟨R.val % 128, by omega⟩ ⟨64 + x.val, by omega⟩) else (0 : EReal))
        * k (ix2 s ⟨64 + x.val, by omega⟩)) = 0 :=
      Finset.sum_eq_zero fun x _ => by rw [if_neg (by omega), zero_mul]
    simp only [h0, Nat.mul_zero, Nat.zero_add]
    rw [z, add_zero]
    exact Finset.sum_congr rfl fun x _ => by rw [if_pos (by omega)]
  · have h0 : R.val / 128 = 1 := by omega
    have z : (∑ x : Fin 64, (if 1 = x.val / 64 then q (ix3 0 ⟨R.val % 128, by omega⟩ ⟨x.val, by omega⟩) else (0 : EReal))
        * k (ix2 s ⟨x.val, by omega⟩)) = 0 :=
      Finset.sum_eq_zero fun x _ => by rw [if_neg (by omega), zero_mul]
    simp only [h0, Nat.mul_one]
    rw [z, zero_add]
    exact Finset.sum_congr rfl fun x _ => by rw [if_pos (by omega)]

theorem maxima_apply (s : FVec Ideal S256x256 .f32) (R : Fin 256) : maxima s (ix2 R 0) = top fun t => s (ix2 R t) := by
  unfold maxima
  pointwise
  unfold top
  congr 1

theorem weighted_apply (s : FVec Ideal S256x256 .f32) (v : FVec Ideal S256x256 .bf16) (R c : Fin 256) :
    weighted s v (ix2 R c) = numer (fun t => s (ix2 R t)) fun t => v (ix2 t c) := by
  unfold weighted
  pointwise
  simp only [maxima_apply]
  rfl

theorem numBlock_apply (s : FVec Ideal S256x256 .f32) (v : FVec Ideal S256x256 .bf16) (r l : Fin 128) :
    numBlock s v (ix3 0 r l) = numer (fun t => s (ix2 ⟨128 * (l.val / 64) + r.val, by omega⟩ t)) fun t => v (ix2 t ⟨l.val, by omega⟩) := by
  unfold numBlock
  pointwise
  rw [lowLanes_apply]
  by_cases hl : l.val < 64
  · have h0 : l.val / 64 = 0 := by omega
    rw [if_pos hl, weighted_apply]
    simp only [h0, Nat.mul_zero, Nat.zero_add]
    rfl
  · have h0 : l.val / 64 = 1 := by omega
    rw [if_neg hl]
    simp only [h0, Nat.mul_one]
    exact weighted_apply s v _ _

theorem lane_eq (l : Fin 128) (a : ℕ) (ha : a < 128) (x y : EReal) :
    Scalar.select (IntOp.cmpi .eq (BitVec.ofNat 32 l.val) (BitVec.ofNat 32 a)) x y = if l.val = a then x else y := by
  rw [WordCmp.cmpi_eq_ofNat (by omega) (by omega), WordCmp.select_ofBool]
  simp only [decide_eq_true_eq]

theorem statStep_apply (g : ℕ) (hg : g < 8) (s : FVec Ideal S256x256 .f32) (v : FVec Ideal S256x256 .bf16) (acc : FVec Ideal S128x128 .f32) (r l : Fin 128) :
    statStep g s v acc (ix2 r l) = if l.val / 2 = g then maxima s (ix2 ⟨128 * (l.val % 2) + r.val, by omega⟩ 0)
      else if l.val / 2 = 8 + g then weighted s v (ix2 ⟨128 * (l.val % 2) + r.val, by omega⟩ ⟨128 + l.val, by omega⟩) else acc (ix2 r l) := by
  unfold statStep lanes
  pointwise
  rw [lane_eq _ _ (by omega), lane_eq _ _ (by omega), lane_eq _ _ (by omega), lane_eq _ _ (by omega)]
  by_cases h : l.val / 2 = g
  · rw [if_pos h]
    by_cases h1 : l.val % 2 = 1
    · rw [if_pos (by omega)]; simp only [h1, Nat.mul_one]
    · have h2 : l.val % 2 = 0 := by omega
      rw [if_neg (by omega), if_neg (by omega), if_pos (by omega)]; simp only [h2, Nat.mul_zero, Nat.zero_add]
  rw [if_neg h, if_neg (show ¬l.val = 2 * g + 1 by omega)]
  by_cases h' : l.val / 2 = 8 + g
  · rw [if_pos h']
    by_cases h1 : l.val % 2 = 1
    · rw [if_pos (by omega)]; simp only [h1, Nat.mul_one]
    · have h2 : l.val % 2 = 0 := by omega
      rw [if_neg (by omega), if_neg (by omega), if_pos (by omega)]; simp only [h2, Nat.mul_zero, Nat.zero_add]
  rw [if_neg h', if_neg (by omega), if_neg (by omega), if_neg (by omega)]

theorem statAcc_apply (s : ℕ → FVec Ideal S256x256 .f32) (v : ℕ → FVec Ideal S256x256 .bf16) (r l : Fin 128) : ∀ n, n ≤ 8 →
    statAcc s v n (ix2 r l) = if l.val / 2 < n then maxima (s (l.val / 2)) (ix2 ⟨128 * (l.val % 2) + r.val, by omega⟩ 0)
      else if 8 ≤ l.val / 2 ∧ l.val / 2 < 8 + n then
        weighted (s (l.val / 2 - 8)) (v (l.val / 2 - 8)) (ix2 ⟨128 * (l.val % 2) + r.val, by omega⟩ ⟨128 + l.val, by omega⟩)
      else if l.val < 16 then 0 else 1
  | 0, _ => by
    unfold statAcc lanes
    pointwise
    rw [if_neg (by omega), if_neg (by omega)]
    rw [WordCmp.cmpi_slt_ofNat (by omega) (by omega), WordCmp.select_ofBool]
    simp only [decide_eq_true_eq]
  | n + 1, hn => by
    show statStep n (s n) (v n) (statAcc s v n) (ix2 r l) = _
    rw [statStep_apply n (by omega), statAcc_apply s v r l n (by omega)]
    by_cases h : l.val / 2 = n
    · rw [if_pos h, if_pos (by omega)]; simp only [h]
    by_cases h' : l.val / 2 = 8 + n
    · rw [if_neg h, if_pos h', if_neg (by omega), if_pos (by omega)]; simp only [h', Nat.add_sub_cancel_left]
    rw [if_neg h, if_neg h']
    by_cases h1 : l.val / 2 < n
    · rw [if_pos h1, if_pos (by omega)]
    rw [if_neg h1, if_neg (show ¬l.val / 2 < n + 1 by omega)]
    by_cases h2 : 8 ≤ l.val / 2 ∧ l.val / 2 < 8 + n
    · rw [if_pos h2, if_pos (by omega)]
    rw [if_neg h2, if_neg (show ¬(8 ≤ l.val / 2 ∧ l.val / 2 < 8 + (n + 1)) by omega)]

theorem rowMod_apply (R s : Fin 256) : rowMod (ix2 R s) = BitVec.ofNat 32 (R.val % 128) := by
  unfold rowMod
  pointwise
  revert R
  decide +kernel

theorem inBand : ∀ (r : Fin 128) (s : Fin 256),
    IntOp.andi (IntOp.cmpi .sge (IntOp.subi (IntOp.addi (BitVec.ofNat 32 r.val) 128#32) (BitVec.ofNat 32 s.val)) 0#32)
      (IntOp.cmpi .sle (IntOp.subi (IntOp.addi (BitVec.ofNat 32 r.val) 128#32) (BitVec.ofNat 32 s.val)) 128#32)
      = if r.val ≤ s.val ∧ s.val ≤ r.val + 128 then 1#1 else 0#1 := by
  decide +kernel

theorem bandBias_apply (w : EReal) (R s : Fin 256) :
    bandBias w (ix2 R s) = if R.val % 128 ≤ s.val ∧ s.val ≤ R.val % 128 + 128 then 0 else w := by
  unfold bandBias gap keyNo
  pointwise
  simp only [rowMod_apply]
  rw [inBand ⟨R.val % 128, by omega⟩ s]
  by_cases h : R.val % 128 ≤ s.val ∧ s.val ≤ R.val % 128 + 128
  · simp only [if_pos h]; rfl
  · simp only [if_neg h]; rfl

theorem firstBias_apply (w : EReal) (e : BitVec 1) (R s : Fin 256) :
    firstBias w e (ix2 R s) = (if R.val % 128 ≤ s.val ∧ s.val ≤ R.val % 128 + 128 then 0 else w) + if s.val < 128 ∧ e = 1#1 then w else 0 := by
  unfold firstBias keyNo
  pointwise
  rw [bandBias_apply]
  congr 1
  rcases (by decide : ∀ e : BitVec 1, e = 0#1 ∨ e = 1#1) e with rfl | rfl
  · rw [if_neg (by simp)]
    rw [show IntOp.andi (IntOp.cmpi .slt (BitVec.ofNat 32 s.val) 128#32) 0#1 = 0#1 from (by decide +kernel : ∀ s : Fin 256, IntOp.andi (IntOp.cmpi .slt (BitVec.ofNat 32 s.val) 128#32) 0#1 = 0#1) s]
    rfl
  · rw [show IntOp.andi (IntOp.cmpi .slt (BitVec.ofNat 32 s.val) 128#32) 1#1 = if s.val < 128 then 1#1 else 0#1 from (by decide +kernel : ∀ s : Fin 256, IntOp.andi (IntOp.cmpi .slt (BitVec.ofNat 32 s.val) 128#32) 1#1 = if s.val < 128 then 1#1 else 0#1) s]
    by_cases h : s.val < 128
    · rw [if_pos h, if_pos ⟨h, rfl⟩]; rfl
    · rw [if_neg h, if_neg (fun h' => h h'.1)]; rfl

end Cert.Attn

end
-- ==== Proof.Loads.lean ====
/-
  What the body's loads hold: the keys and values of a row block are 256 consecutive rows of the 128 rows before the
  block followed by the block's own 1024; the extended value arrays hold those values in the even 128-lane groups and
  ones in the odd ones.
-/
module

public import proofs.«01_k».proof.Proof.Pieces
public import Idealize.ShloMosaic.Lib.Writes

@[expose] public section

set_option maxRecDepth 16384

noncomputable section

namespace Cert.Attn

open Idealize.ShloMosaic Idealize.SL.Sem
open Cert.KernelIdeal Cert.KernelIdeal.Gen

/-- Row `n`, column `c` of the 128 rows `p` followed by the 1024 rows `b`. -/
def extRow (p : Vec Ideal S1x128x1024 .bf16) (b : Vec Ideal S1x1024x1024 .bf16) (n c : ℕ) : EReal :=
  if n < 128 then p (ix3 0 ⟨n % 128, by omega⟩ ⟨c % 1024, by omega⟩) else b (ix3 0 ⟨(n - 128) % 1024, by omega⟩ ⟨c % 1024, by omega⟩)

/-- What the extended value array of row block `j` holds. -/
def valT (p : Vec Ideal S1x128x1024 .bf16) (b : Vec Ideal S1x1024x1024 .bf16) (j : ℕ) : Vec Ideal S256x2048 .bf16 := fun y =>
  if (y 1).val / 128 % 2 = 0 then extRow p b (128 * j + (y 0).val) (128 * ((y 1).val / 256) + (y 1).val % 128) else (1 : EReal)

theorem readAt_unread {s : Shape} {e : EltTy} {sp : Space} (a : Memref sig .tc sp s e) (ha : a.IsWhole) (x : Vec Ideal s e) (r : Rect s) (i : r.shape.Idx) :
    View.readAt (Elt Ideal) a.view r.toLoadRect (ha.unread x) i = x (r.emb i) := by
  rw [View.readAt_eq_ld, ha.read_unread]
  rfl

theorem tileLd_apply (a : Memref sig .tc .vmem S1x1024x1024 .bf16) (ha : a.IsWhole) (x : Vec Ideal S1x1024x1024 .bf16) (j g : ℕ) (r l : Fin 128) :
    tileLd a ha x j g (ix3 0 r l) = x (ix3 0 ⟨128 * (j % 8) + r.val, by omega⟩ ⟨128 * (g % 8) + l.val, by omega⟩) := by
  refine (readAt_unread a ha x (tileR j g) _).trans (congrArg x ?_)
  refine Rect.emb_eq_of_coords _ _ _ fun a => ?_
  fin_cases a <;> simp

theorem headLd_apply (a : Memref sig .tc .vmem S1x128x1024 .bf16) (ha : a.IsWhole) (x : Vec Ideal S1x128x1024 .bf16) (g : ℕ) (r l : Fin 128) :
    headLd a ha x g (ix3 0 r l) = x (ix3 0 r ⟨128 * (g % 8) + l.val, by omega⟩) := by
  refine (readAt_unread a ha x (headR g) _).trans (congrArg x ?_)
  refine Rect.emb_eq_of_coords _ _ _ fun a => ?_
  fin_cases a <;> simp

theorem keysLd_apply (a : Memref sig .tc .vmem S1x1024x1024 .bf16) (ha : a.IsWhole) (x : Vec Ideal S1x1024x1024 .bf16) (j g : ℕ) (r : Fin 256) (l : Fin 128) :
    keysLd a ha x j g (ix3 0 r l) = x (ix3 0 ⟨128 * (j % 7) + r.val, by omega⟩ ⟨128 * (g % 8) + l.val, by omega⟩) := by
  refine (readAt_unread a ha x (keysR j g) _).trans (congrArg x ?_)
  refine Rect.emb_eq_of_coords _ _ _ fun a => ?_
  fin_cases a <;> simp

/-- The keys' copy. -/
def copyT (p : Vec Ideal S1x128x1024 .bf16) (b : Vec Ideal S1x1024x1024 .bf16) : Vec Ideal S256x1024 .bf16 := fun y => extRow p b (y 0).val (y 1).val

theorem keyLd_apply (a9 : Memref sig .tc .vmem S256x1024 .bf16) (a3 : Memref sig .tc .vmem S1x128x1024 .bf16) (h3 : a3.IsWhole) (x1 : Vec Ideal S1x128x1024 .bf16)
    (a4 : Memref sig .tc .vmem S1x1024x1024 .bf16) (h4 : a4.IsWhole) (x2 : Vec Ideal S1x1024x1024 .bf16) (j g : ℕ) (hj : j < 8) (hg : g < 8) (s : Fin 256) (l : Fin 128) :
    keyLd a9 a3 h3 x1 a4 h4 x2 j g (ix2 s l) = extRow x1 x2 (128 * j + s.val) (128 * g + l.val) := by
  cases j with
  | zero =>
    unfold keyLd
    dsimp only
    rw [View.readCov_eq_canon']
    have hidx : (copyR g).toLoadRect.idx (ix2 s l) = (ix2 s ⟨128 * g + l.val, by omega⟩ : S256x1024.Idx) := by
      refine Rect.emb_eq_of_coords (copyR g) (ix2 s l) (ix2 s ⟨128 * g + l.val, by omega⟩ : S256x1024.Idx) fun a => ?_
      fin_cases a
      · simp
      · simp; omega
    show View.canon _ ((copyR g).toLoadRect.idx (ix2 s l)) = _
    rw [hidx, View.canon_apply_of_pieces (copyT x1 x2)]
    · simp [copyT]
    · intro p hp
      simp only [List.mem_cons, List.not_mem_nil, or_false] at hp
      rcases hp with rfl | rfl
      · have key : ∀ (r : Fin 128) (c : Fin 1024), shapeCast S128x1024 (shapeCast S128x1024
          (View.readAt (Elt Ideal) a4.view firstR.toLoadRect (h4.unread x2)) shapeCasts_S1x128x1024_S128x1024) shapeCasts_S128x1024_S128x1024 (ix2 r c)
            = x2 (ix3 0 ⟨r.val, by omega⟩ c) := fun r c => by
          pointwise
          refine (readAt_unread a4 h4 x2 firstR _).trans (congrArg x2 ?_)
          refine Rect.emb_eq_of_coords _ _ _ fun a => ?_
          fin_cases a <;> simp
        intro x
        obtain ⟨r, c, rfl⟩ : ∃ (r : Fin 128) (c : Fin 1024), x = ix2 r c := ⟨_, _, eq_ix2 x⟩
        refine (key r c).trans ?_
        unfold copyT extRow
        rw [if_neg (by simp)]
        congr 2
        · simp; omega
        · exact Fin.ext (by simp; omega)
      · have key : ∀ (r : Fin 128) (c : Fin 1024), shapeCast S128x1024 (shapeCast S128x1024
          (View.readAt (Elt Ideal) a3.view wholeR.toLoadRect (h3.unread x1)) shapeCasts_S1x128x1024_S128x1024) shapeCasts_S128x1024_S128x1024 (ix2 r c)
            = x1 (ix3 0 r c) := fun r c => by
          pointwise
          refine (readAt_unread a3 h3 x1 wholeR _).trans (congrArg x1 ?_)
          refine Rect.emb_eq_of_coords _ _ _ fun a => ?_
          fin_cases a <;> simp
        intro x
        obtain ⟨r, c, rfl⟩ : ∃ (r : Fin 128) (c : Fin 1024), x = ix2 r c := ⟨_, _, eq_ix2 x⟩
        refine (key r c).trans ?_
        unfold copyT extRow
        rw [if_pos (by simp)]
        congr 2
        · exact Fin.ext (by simp; omega)
        · exact Fin.ext (by simp; omega)
    · by_cases h : s.val < 128
      · refine ⟨_, List.mem_cons_of_mem _ (List.mem_singleton.2 rfl), ?_⟩
        rw [Rect.mem_set_unit]
        intro a
        fin_cases a
        · simp; omega
        · simp; omega
      · refine ⟨_, List.mem_cons_self, ?_⟩
        rw [Rect.mem_set_unit]
        intro a
        fin_cases a
        · simp; omega
        · simp; omega
  | succ j =>
    unfold keyLd
    pointwise
    refine (keysLd_apply a4 h4 x2 j g s l).trans ?_
    unfold extRow
    rw [if_neg (by omega)]
    congr 2
    · exact Fin.ext (by show _ = _; simp only []; omega)
    · exact Fin.ext (by show _ = _; simp only []; omega)

/-! ## The extended values -/

variable (p : Vec Ideal S1x128x1024 .bf16) (b : Vec Ideal S1x1024x1024 .bf16)

theorem onePieces_agree (j : ℕ) : ∀ n, ∀ q ∈ onePieces n, ∀ x : q.1.shape.Idx, q.2 x = valT p b j (q.1.emb x)
  | 0, _, h => absurd h List.not_mem_nil
  | n + 1, q, h => by
    rcases List.mem_cons.1 h with rfl | h
    · intro x
      obtain ⟨r, c, rfl⟩ : ∃ (r : Fin 256) (c : Fin 128), x = ix2 r c := ⟨_, _, eq_ix2 x⟩
      have key : shapeCast S256x128 (broadcast S256x128 (Scalar.ofBits (F := Ideal) .bf16 0x3F80#16)) shapeCasts_S256x128_S256x128 (ix2 r c) = (1 : EReal) := by
        pointwise
      refine key.trans ?_
      unfold valT
      rw [if_neg]
      simp; omega
    · exact onePieces_agree j n q h

theorem valPieces_agree (lo hi : ℕ → FVec Ideal S1x128x128 .bf16) (L : List (View.Piece (Elt Ideal) S256x2048 .bf16)) (j : ℕ)
    (hlo : ∀ g (r l : Fin 128), lo g (ix3 0 r l) = extRow p b (128 * j + r.val) (128 * (g % 8) + l.val))
    (hhi : ∀ g (r l : Fin 128), hi g (ix3 0 r l) = extRow p b (128 * j + (128 + r.val)) (128 * (g % 8) + l.val))
    (hL : ∀ q ∈ L, ∀ x : q.1.shape.Idx, q.2 x = valT p b j (q.1.emb x)) :
    ∀ n, ∀ q ∈ valPieces lo hi L n, ∀ x : q.1.shape.Idx, q.2 x = valT p b j (q.1.emb x)
  | 0, q, h => hL q h
  | n + 1, q, h => by
    rcases List.mem_cons.1 h with rfl | h
    · intro x
      obtain ⟨r, c, rfl⟩ : ∃ (r : Fin 128) (c : Fin 128), x = ix2 r c := ⟨_, _, eq_ix2 x⟩
      have key : ∀ f : FVec Ideal S1x128x128 .bf16, shapeCast S128x128 (shapeCast S128x128 f shapeCasts_S1x128x128_S128x128) shapeCasts_S128x128_S128x128 (ix2 r c) = f (ix3 0 r c) := by
        intro f; pointwise
      refine (key _).trans ?_
      unfold valT
      rw [if_pos (by simp; omega)]
      rcases Nat.mod_two_eq_zero_or_one n with h0 | h0
      · simp only [h0]
        rw [hlo]
        congr 1
        · simp; omega
        · simp; omega
      · simp only [h0]
        rw [hhi]
        congr 1
        · simp; omega
        · simp; omega
    · exact valPieces_agree lo hi L j hlo hhi hL n q h

theorem pairPieces_agree (w : ℕ → FVec Ideal S1x256x128 .bf16) (L : List (View.Piece (Elt Ideal) S256x2048 .bf16)) (j : ℕ)
    (hw : ∀ g (r : Fin 256) (l : Fin 128), w g (ix3 0 r l) = extRow p b (128 * j + r.val) (128 * (g % 8) + l.val))
    (hL : ∀ q ∈ L, ∀ x : q.1.shape.Idx, q.2 x = valT p b j (q.1.emb x)) :
    ∀ n, ∀ q ∈ pairPieces w L n, ∀ x : q.1.shape.Idx, q.2 x = valT p b j (q.1.emb x)
  | 0, q, h => hL q h
  | n + 1, q, h => by
    rcases List.mem_cons.1 h with rfl | h
    · intro x
      obtain ⟨r, c, rfl⟩ : ∃ (r : Fin 256) (c : Fin 128), x = ix2 r c := ⟨_, _, eq_ix2 x⟩
      have key : ∀ f : FVec Ideal S1x256x128 .bf16, shapeCast S256x128 (shapeCast S256x128 f shapeCasts_S1x256x128_S256x128) shapeCasts_S256x128_S256x128 (ix2 r c) = f (ix3 0 r c) := by
        intro f; pointwise
      refine (key _).trans ?_
      rw [hw]
      unfold valT
      rw [if_pos (by simp; omega)]
      congr 1
      · simp
      · simp; omega
    · exact pairPieces_agree w L j hw hL n q h

theorem extPieces_agree (a5 : Memref sig .tc .vmem S1x128x1024 .bf16) (h5 : a5.IsWhole) (a6 : Memref sig .tc .vmem S1x1024x1024 .bf16) (h6 : a6.IsWhole)
    (L : List (View.Piece (Elt Ideal) S256x2048 .bf16)) (j : ℕ) (hj : j < 8) (hL : ∀ q ∈ L, ∀ x : q.1.shape.Idx, q.2 x = valT p b j (q.1.emb x)) :
    ∀ q ∈ extPieces a5 h5 p a6 h6 b L j, ∀ x : q.1.shape.Idx, q.2 x = valT p b j (q.1.emb x) := by
  cases j with
  | zero =>
    refine valPieces_agree p b _ _ L 0 (fun g r l => ?_) (fun g r l => ?_) hL 16
    · rw [headLd_apply]
      unfold extRow
      rw [if_pos (by omega)]
      congr 2
      · exact Fin.ext (by show _ = _; simp only []; omega)
      · exact Fin.ext (by show _ = _; simp only []; omega)
    · rw [tileLd_apply]
      unfold extRow
      rw [if_neg (by omega)]
      congr 2
      · exact Fin.ext (by show _ = _; simp only []; omega)
      · exact Fin.ext (by show _ = _; simp only []; omega)
  | succ j =>
    refine pairPieces_agree p b _ L (j + 1) (fun g r l => ?_) hL 8
    rw [keysLd_apply]
    unfold extRow
    rw [if_neg (by omega)]
    congr 2
    · exact Fin.ext (by show _ = _; simp only []; omega)
    · exact Fin.ext (by show _ = _; simp only []; omega)

/-- The stores cover the even groups. -/
theorem extPieces_cover (a5 : Memref sig .tc .vmem S1x128x1024 .bf16) (h5 : a5.IsWhole) (a6 : Memref sig .tc .vmem S1x1024x1024 .bf16) (h6 : a6.IsWhole)
    (L : List (View.Piece (Elt Ideal) S256x2048 .bf16)) (j : ℕ) (y : S256x2048.Idx) (hy : (y 1).val / 128 % 2 = 0) :
    ∃ q ∈ extPieces a5 h5 p a6 h6 b L j, y ∈ q.1.set := by
  have hy0 : (y 0).val < 256 := (y 0).isLt
  have hy1 : (y 1).val < 2048 := (y 1).isLt
  cases j with
  | zero =>
    have hit : ∀ n, ∀ k < n, 128 * (k % 2) ≤ (y 0).val → (y 0).val < 128 * (k % 2) + 128 → 256 * (k / 2 % 8) ≤ (y 1).val → (y 1).val < 256 * (k / 2 % 8) + 128 →
        ∃ q ∈ valPieces (headLd a5 h5 p) (tileLd a6 h6 b 0) L n, y ∈ q.1.set := by
      intro n
      induction n with
      | zero => intro k hk; omega
      | succ n ih =>
        intro k hk h1 h2 h3 h4
        by_cases e : k = n
        · subst e
          refine ⟨_, List.mem_cons_self, ?_⟩
          rw [Rect.mem_set_unit]
          intro a
          fin_cases a
          · exact ⟨h1, h2⟩
          · exact ⟨h3, h4⟩
        · obtain ⟨q, hq, hs⟩ := ih k (by omega) h1 h2 h3 h4
          exact ⟨q, List.mem_cons_of_mem _ hq, hs⟩
    exact hit 16 (2 * ((y 1).val / 256) + (y 0).val / 128) (by omega) (by omega) (by omega) (by omega) (by omega)
  | succ j =>
    have hit : ∀ n, ∀ k < n, 256 * (k % 8) ≤ (y 1).val → (y 1).val < 256 * (k % 8) + 128 →
        ∃ q ∈ pairPieces (keysLd a6 h6 b j) L n, y ∈ q.1.set := by
      intro n
      induction n with
      | zero => intro k hk; omega
      | succ n ih =>
        intro k hk h3 h4
        by_cases e : k = n
        · subst e
          refine ⟨_, List.mem_cons_self, ?_⟩
          rw [Rect.mem_set_unit]
          intro a
          fin_cases a
          · exact ⟨Nat.zero_le _, by show (y 0).val < 0 + 256; omega⟩
          · exact ⟨h3, h4⟩
        · obtain ⟨q, hq, hs⟩ := ih k (by omega) h3 h4
          exact ⟨q, List.mem_cons_of_mem _ hq, hs⟩
    exact hit 8 ((y 1).val / 256) (by omega) (by omega) (by omega)

/-- and, over the ones' stores, everything. -/
theorem extPieces_cover_ones (a5 : Memref sig .tc .vmem S1x128x1024 .bf16) (h5 : a5.IsWhole) (a6 : Memref sig .tc .vmem S1x1024x1024 .bf16) (h6 : a6.IsWhole)
    (j : ℕ) (y : S256x2048.Idx) : ∃ q ∈ extPieces a5 h5 p a6 h6 b (onePieces 8) j, y ∈ q.1.set := by
  by_cases hy : (y 1).val / 128 % 2 = 0
  · exact extPieces_cover p b a5 h5 a6 h6 _ j y hy
  have hy0 : (y 0).val < 256 := (y 0).isLt
  have hy1 : (y 1).val < 2048 := (y 1).isLt
  have keep : ∀ q ∈ onePieces 8, q ∈ extPieces a5 h5 p a6 h6 b (onePieces 8) j := by
    intro q hq
    cases j with
    | zero =>
      have : ∀ n, q ∈ valPieces (headLd a5 h5 p) (tileLd a6 h6 b 0) (onePieces 8) n := fun n => by
        induction n with
        | zero => exact hq
        | succ n ih => exact List.mem_cons_of_mem _ ih
      exact this 16
    | succ j =>
      have : ∀ n, q ∈ pairPieces (keysLd a6 h6 b j) (onePieces 8) n := fun n => by
        induction n with
        | zero => exact hq
        | succ n ih => exact List.mem_cons_of_mem _ ih
      exact this 8
  have hit : ∀ n, ∀ k < n, 256 * (k % 8) + 128 ≤ (y 1).val → (y 1).val < 256 * (k % 8) + 128 + 128 → ∃ q ∈ onePieces n, y ∈ q.1.set := by
    intro n
    induction n with
    | zero => intro k hk; omega
    | succ n ih =>
      intro k hk h3 h4
      by_cases e : k = n
      · subst e
        refine ⟨_, List.mem_cons_self, ?_⟩
        rw [Rect.mem_set_unit]
        intro a
        fin_cases a
        · exact ⟨Nat.zero_le _, by show (y 0).val < 0 + 256; omega⟩
        · exact ⟨h3, h4⟩
      · obtain ⟨q, hq, hs⟩ := ih k (by omega) h3 h4
        exact ⟨q, List.mem_cons_of_mem _ hq, hs⟩
  obtain ⟨q, hq, hs⟩ := hit 8 ((y 1).val / 256) (by omega) (by omega) (by omega)
  exact ⟨q, keep q hq, hs⟩

/-- A scratch array whose odd groups hold ones. -/
def Ones (x : Vec Ideal S256x2048 .bf16) : Prop := ∀ y : S256x2048.Idx, (y 1).val / 128 % 2 = 1 → x y = (1 : EReal)

/-- The stores read back over such an array. -/
theorem ext_over {κ' : Kind} {sp : Space} (v : View sig κ' sp S256x2048 .bf16) (f : v.ty.Contents (Elt Ideal)) (hf : Ones (v.read (Elt Ideal) f))
    (a5 : Memref sig .tc .vmem S1x128x1024 .bf16) (h5 : a5.IsWhole) (a6 : Memref sig .tc .vmem S1x1024x1024 .bf16) (h6 : a6.IsWhole) (j : ℕ) (hj : j < 8) :
    v.read (Elt Ideal) (v.writes (Elt Ideal) f (extPieces a5 h5 p a6 h6 b [] j)) = valT p b j := by
  funext y
  by_cases hm : ∃ q ∈ extPieces a5 h5 p a6 h6 b [] j, y ∈ q.1.set
  · exact View.read_writes_apply_of_pieces v f (valT p b j) _ (extPieces_agree p b a5 h5 a6 h6 [] j hj fun q hq => absurd hq List.not_mem_nil) y hm
  · have hy : ¬(y 1).val / 128 % 2 = 0 := fun h => hm (extPieces_cover p b a5 h5 a6 h6 [] j y h)
    rw [View.read_writes_apply_of_forall_not_mem v f y _ fun q hq hs => hm ⟨q, hq, hs⟩, hf y (by omega)]
    unfold valT
    rw [if_neg hy]

/-- The stores over the ones' stores. -/
theorem ext_canon (a5 : Memref sig .tc .vmem S1x128x1024 .bf16) (h5 : a5.IsWhole) (a6 : Memref sig .tc .vmem S1x1024x1024 .bf16) (h6 : a6.IsWhole) (j : ℕ) (hj : j < 8) :
    View.canon (extPieces a5 h5 p a6 h6 b (onePieces 8) j) = valT p b j :=
  funext fun y => View.canon_apply_of_pieces (valT p b j) _ (extPieces_agree p b a5 h5 a6 h6 _ j hj (onePieces_agree p b j 8)) y (extPieces_cover_ones p b a5 h5 a6 h6 j y)

theorem valT_ones (j : ℕ) : Ones (valT p b j) := fun y hy => by
  unfold valT
  rw [if_neg (by omega)]

/-- A group's values and ones. -/
theorem valT_pair (j g : ℕ) (hg : g < 8) (s c : Fin 256) :
    valT p b j ((pairR g).toLoadRect.idx (ix2 s c)) = if c.val < 128 then extRow p b (128 * j + s.val) (128 * g + c.val) else (1 : EReal) := by
  have hidx : (pairR g).toLoadRect.idx (ix2 s c) = (ix2 s ⟨256 * g + c.val, by omega⟩ : S256x2048.Idx) := by
    refine Rect.emb_eq_of_coords (pairR g) (ix2 s c) (ix2 s ⟨256 * g + c.val, by omega⟩ : S256x2048.Idx) fun a => ?_
    fin_cases a
    · simp
    · simp; omega
  rw [hidx]
  show (if (256 * g + c.val) / 128 % 2 = 0 then extRow p b (128 * j + s.val) (128 * ((256 * g + c.val) / 256) + (256 * g + c.val) % 128) else (1 : EReal)) = _
  by_cases h : c.val < 128
  · rw [if_pos h, if_pos (by omega)]
    congr 1
    omega
  · rw [if_neg h, if_neg (by omega)]

end Cert.Attn

end
-- ==== Proof.Block.lean ====
/-
  What one grid point's body stores, in plain terms: for each query row of the block and each head the weighted sum of
  the values over the admitted keys, and the lanes of statistics.
-/
module

public import proofs.«01_k».proof.Proof.Loads

@[expose] public section

set_option maxRecDepth 16384

noncomputable section

namespace Cert.Attn

open Idealize.ShloMosaic Idealize.SL.Sem
open Cert.KernelIdeal Cert.KernelIdeal.Gen

/-- The key is one of the 128 before the query or the query's own. -/
abbrev inWindow (n s : ℕ) : Prop := n % 128 ≤ s ∧ s ≤ n % 128 + 128
/-- The keys row `n` of a block admits; `e` is 1 at a sequence's beginning. -/
abbrev admits (e : BitVec 1) (n s : ℕ) : Prop := inWindow n s ∧ ¬(s < 128 ∧ n < 128 ∧ e = 1#1)

/-- Row `n`, column `c` of a block of queries. -/
def cell (x : Vec Ideal S1x1024x1024 .bf16) (n c : ℕ) : EReal := x (ix3 0 ⟨n % 1024, by omega⟩ ⟨c % 1024, by omega⟩)

variable (x0 : Vec Ideal S1x1024x1024 .bf16) (x1 : Vec Ideal S1x128x1024 .bf16) (x2 : Vec Ideal S1x1024x1024 .bf16)
  (x3 : Vec Ideal S1x128x1024 .bf16) (x4 : Vec Ideal S1x1024x1024 .bf16) (e : BitVec 1)

/-- The scores of row `n`, head `h`. -/
def blockScore (n h : ℕ) : Fin 256 → EReal :=
  score (fun u => cell x0 n (64 * h + u.val)) (fun s u => extRow x1 x2 (128 * (n / 128) + s.val) (64 * h + u.val)) (fun s => admits e n s.val)

/-- The block of numerators. -/
def numT : Vec Ideal S1x1024x1024 .bf16 := fun y =>
  numer (blockScore x0 x1 x2 e (y 1).val ((y 2).val / 64)) fun s => extRow x3 x4 (128 * ((y 1).val / 128) + s.val) (y 2).val
/-- The block of statistics. -/
def statT : Vec Ideal S1x1024x128 .f32 := fun y =>
  if (y 2).val < 16 then top (blockScore x0 x1 x2 e (y 1).val (y 2).val)
  else if (y 2).val < 32 then denom (blockScore x0 x1 x2 e (y 1).val ((y 2).val - 16)) else (1 : EReal)

theorem numer_ones (S V : Fin 256 → EReal) (hV : ∀ s, V s = 1) : numer S V = denom S :=
  Finset.sum_congr rfl fun s _ => by rw [hV, mul_one]

theorem mask_val : (Named.named (F := Ideal) κ "mask" (φ := .f32) 0xF149F2CA#32 : EReal) = ⊥ :=
  IdealRules.named_const.ideal_named_scalar _ _ _ _ rfl

theorem biasOf_apply (j : ℕ) (hj : j < 8) (R s : Fin 256) (a : EReal) :
    a + biasOf e j (ix2 R s) = if admits e (128 * j + R.val % 128) s.val then a else ⊥ := by
  have hm : (128 * j + R.val % 128) % 128 = R.val % 128 := by omega
  cases j with
  | zero =>
    show a + firstBias (Named.named (F := Ideal) κ "mask" (φ := .f32) 0xF149F2CA#32) e (ix2 R s) = _
    rw [mask_val, firstBias_apply]
    by_cases h : R.val % 128 ≤ s.val ∧ s.val ≤ R.val % 128 + 128
    · by_cases h' : s.val < 128 ∧ e = 1#1
      · rw [if_pos h, if_pos h', if_neg]
        · rw [EReal.add_bot, EReal.add_bot]
        · exact fun hh => hh.2 ⟨h'.1, by omega, h'.2⟩
      · rw [if_pos h, if_neg h', if_pos]
        · rw [add_zero, add_zero]
        · exact ⟨⟨by omega, by omega⟩, fun hh => h' ⟨hh.1, hh.2.2⟩⟩
    · rw [if_neg h, EReal.bot_add, EReal.add_bot, if_neg]
      exact fun hh => h ⟨by omega, by omega⟩
  | succ j =>
    show a + bandBias (Named.named (F := Ideal) κ "mask" (φ := .f32) 0xF149F2CA#32) (ix2 R s) = _
    rw [mask_val, bandBias_apply]
    by_cases h : R.val % 128 ≤ s.val ∧ s.val ≤ R.val % 128 + 128
    · rw [if_pos h, if_pos, add_zero]
      exact ⟨⟨by omega, by omega⟩, fun hh => by omega⟩
    · rw [if_neg h, if_neg (fun hh => h ⟨by omega, by omega⟩), EReal.add_bot]

/-- A tile's scores. -/
theorem scoreOf_apply (a2 : Memref sig .tc .vmem S1x1024x1024 .bf16) (h2 : a2.IsWhole) (a9 : Memref sig .tc .vmem S256x1024 .bf16)
    (a3 : Memref sig .tc .vmem S1x128x1024 .bf16) (h3 : a3.IsWhole) (a4 : Memref sig .tc .vmem S1x1024x1024 .bf16) (h4 : a4.IsWhole)
    (j g : ℕ) (hj : j < 8) (hg : g < 8) (R s : Fin 256) :
    scoreOf (tileLd a2 h2 x0) (keyLd a9 a3 h3 x1 a4 h4 x2) e j g (ix2 R s) = blockScore x0 x1 x2 e (128 * j + R.val % 128) (2 * g + R.val / 128) s := by
  unfold scoreOf
  rw [scores_apply, biasOf_apply e j hj]
  unfold blockScore score
  refine if_congr Iff.rfl (Finset.sum_congr rfl fun u _ => ?_) rfl
  rw [tileLd_apply, keyLd_apply a9 a3 h3 x1 a4 h4 x2 j g hj hg]
  unfold cell
  congr 1
  · congr 2
    · exact Fin.ext (by show _ = _; simp only []; omega)
    · exact Fin.ext (by show _ = _; simp only []; omega)
  · congr 1
    · omega
    · show 128 * g + (64 * (R.val / 128) + u.val) = _
      omega

/-! ## The stores -/

variable {x0 x1 x2 x3 x4 e} (S : ℕ → ℕ → FVec Ideal S256x256 .f32) (W : ℕ → ℕ → FVec Ideal S256x256 .bf16)
  (hS : ∀ j g, j < 8 → g < 8 → ∀ R s : Fin 256, S j g (ix2 R s) = blockScore x0 x1 x2 e (128 * j + R.val % 128) (2 * g + R.val / 128) s)
  (hW : ∀ j g, j < 8 → g < 8 → ∀ s c : Fin 256, W j g (ix2 s c) = if c.val < 128 then extRow x3 x4 (128 * j + s.val) (128 * g + c.val) else (1 : EReal))

include hS hW

theorem numPieces_agree : ∀ n, n ≤ 64 → ∀ q ∈ numPieces S W n, ∀ x : q.1.shape.Idx, q.2 x = numT x0 x1 x2 x3 x4 e (q.1.emb x)
  | 0, _, _, h => absurd h List.not_mem_nil
  | n + 1, hn, q, h => by
    rcases List.mem_cons.1 h with rfl | h
    · intro x
      obtain ⟨z, r, l, rfl⟩ : ∃ (z : Fin 1) (r l : Fin 128), x = ix3 z r l := ⟨_, _, _, eq_ix3 x⟩
      obtain rfl : z = 0 := Subsingleton.elim _ _
      refine (numBlock_apply _ _ r l).trans ?_
      have e0 : (Rect.unit ![0, 128 * (n / 8 % 8), 128 * (n % 8)] ![1, 128, 128] (inTile (n / 8) n) : Rect S1x1024x1024).emb (ix3 0 r l)
          = (ix3 0 ⟨128 * (n / 8) + r.val, by omega⟩ ⟨128 * (n % 8) + l.val, by omega⟩ : S1x1024x1024.Idx) := by
        refine Rect.emb_eq_of_coords _ _ _ fun a => ?_
        fin_cases a
        · simp
        · simp; omega
        · simp
      rw [e0]
      show _ = numer (blockScore x0 x1 x2 e (128 * (n / 8) + r.val) ((128 * (n % 8) + l.val) / 64))
        fun s => extRow x3 x4 (128 * ((128 * (n / 8) + r.val) / 128) + s.val) (128 * (n % 8) + l.val)
      congr 1
      · funext t
        rw [hS _ _ (by omega) (by omega)]
        congr 1
        · show 128 * (n / 8) + (128 * (l.val / 64) + r.val) % 128 = _
          omega
        · show 2 * (n % 8) + (128 * (l.val / 64) + r.val) / 128 = _
          omega
      · funext t
        rw [hW _ _ (by omega) (by omega), if_pos (show l.val < 128 from l.isLt)]
        congr 1
        omega
    · exact numPieces_agree n (by omega) q h

theorem statAcc_lane (j : ℕ) (hj : j < 8) (r l : Fin 128) :
    statAcc (S j) (W j) 8 (ix2 r l) = if l.val < 16 then top (blockScore x0 x1 x2 e (128 * j + r.val) l.val)
      else if l.val < 32 then denom (blockScore x0 x1 x2 e (128 * j + r.val) (l.val - 16)) else (1 : EReal) := by
  rw [statAcc_apply _ _ r l 8 le_rfl]
  by_cases h : l.val < 16
  · rw [if_pos (by omega), if_pos h, maxima_apply]
    congr 1
    funext t
    rw [hS _ _ hj (by omega)]
    congr 1
    · show 128 * j + (128 * (l.val % 2) + r.val) % 128 = _
      omega
    · show 2 * (l.val / 2) + (128 * (l.val % 2) + r.val) / 128 = _
      omega
  rw [if_neg (show ¬l.val / 2 < 8 by omega)]
  simp only [if_neg h]
  by_cases h' : l.val < 32
  · rw [if_pos (by omega), if_pos h', weighted_apply]
    have e1 : (fun t => S j (l.val / 2 - 8) (ix2 ⟨128 * (l.val % 2) + r.val, by omega⟩ t)) = blockScore x0 x1 x2 e (128 * j + r.val) (l.val - 16) := by
      funext t
      rw [hS _ _ hj (by omega)]
      congr 1
      · show 128 * j + (128 * (l.val % 2) + r.val) % 128 = _
        omega
      · show 2 * (l.val / 2 - 8) + (128 * (l.val % 2) + r.val) / 128 = _
        omega
    rw [e1]
    refine numer_ones _ _ fun t => ?_
    rw [hW _ _ hj (by omega), if_neg (show ¬128 + l.val < 128 by omega)]
  · rw [if_neg (by omega), if_neg h']

theorem statPieces_agree : ∀ n, n ≤ 8 → ∀ q ∈ statPieces S W n, ∀ x : q.1.shape.Idx, q.2 x = statT x0 x1 x2 e (q.1.emb x)
  | 0, _, _, h => absurd h List.not_mem_nil
  | n + 1, hn, q, h => by
    rcases List.mem_cons.1 h with rfl | h
    · intro x
      obtain ⟨z, r, l, rfl⟩ : ∃ (z : Fin 1) (r l : Fin 128), x = ix3 z r l := ⟨_, _, _, eq_ix3 x⟩
      obtain rfl : z = 0 := Subsingleton.elim _ _
      have e1 : statBlock (S n) (W n) (ix3 0 r l) = statAcc (S n) (W n) 8 (ix2 r l) := by
        unfold statBlock
        pointwise
      refine e1.trans ?_
      have e0 : (Rect.unit ![0, 128 * (n % 8), 0] ![1, 128, 128] (inStat n) : Rect S1x1024x128).emb (ix3 0 r l)
          = (ix3 0 ⟨128 * n + r.val, by omega⟩ l : S1x1024x128.Idx) := by
        refine Rect.emb_eq_of_coords _ _ _ fun a => ?_
        fin_cases a
        · simp
        · simp; omega
        · simp
      rw [e0]
      exact statAcc_lane S W hS hW n (by omega) r l
    · exact statPieces_agree n (by omega) q h

end Cert.Attn

end
-- ==== Proof.Array.lean ====
/-
  The two arrays the attention call returns, in plain terms, and one grid point's blocks as their parts: row `n` admits
  its own and the 128 keys before it; in the arrays of keys and values, row `n` of the sequence is row `n + 128`
  of the sequence after 128 rows of zeros, which no query admits.
-/
module

public import proofs.«01_k».proof.Proof.Block

@[expose] public section

set_option maxRecDepth 16384

noncomputable section

namespace Cert.Attn

open Idealize.ShloMosaic Idealize.SL.Sem
open Cert.KernelIdeal Cert.KernelIdeal.Gen

/-- Row `n`, column `c`. -/
def row (a : Vec Ideal S1x8192x1024 .bf16) (n c : ℕ) : EReal := a (ix3 0 ⟨n % 8192, by omega⟩ ⟨c % 1024, by omega⟩)
/-- Row `n`, column `c` after 128 rows of zeros. -/
def late (a : Vec Ideal S1x8192x1024 .bf16) (n c : ℕ) : EReal := if n < 128 then 0 else row a (n - 128) c
/-- The keys row `n` of the sequence admits, of the 256 of its own block of 128 rows and the one before. -/
abbrev sees (n s : ℕ) : Prop := inWindow n s ∧ (128 ≤ s ∨ 128 ≤ n)
/-- The scores of row `n`, head `h`. -/
def headScore (q k : Vec Ideal S1x8192x1024 .bf16) (n h : ℕ) : Fin 256 → EReal :=
  score (fun u => row q n (64 * h + u.val)) (fun s u => late k (128 * (n / 128) + s.val) (64 * h + u.val)) (fun s => sees n s.val)
/-- The attention's numerators. -/
def attn (q k v : Vec Ideal S1x8192x1024 .bf16) : Vec Ideal S1x8192x1024 .bf16 := fun y =>
  numer (headScore q k (y 1).val ((y 2).val / 64)) fun s => late v (128 * ((y 1).val / 128) + s.val) (y 2).val
/-- Its statistics: lanes 0 to 15 the heads' greatest scores, lanes 16 to 31 their weights' sums, ones in the others. -/
def stats (q k : Vec Ideal S1x8192x1024 .bf16) : Vec Ideal S1x8192x128 .f32 := fun y =>
  if (y 2).val < 16 then top (headScore q k (y 1).val (y 2).val)
  else if (y 2).val < 32 then denom (headScore q k (y 1).val ((y 2).val - 16)) else (1 : EReal)

/-- A key the mask leaves out has no weight, so its value does not matter. -/
theorem numer_congr (S V V' : Fin 256 → EReal) (h : ∀ s, S s ≠ ⊥ → V s = V' s) : numer S V = numer S V' := by
  refine Finset.sum_congr rfl fun s _ => ?_
  by_cases hs : S s = ⊥
  · have hw : weight S s = 0 := by
      unfold weight
      rw [hs, sub_eq_add_neg, EReal.bot_add]
      exact Ideal.exp2_bot
    rw [hw, zero_mul, zero_mul]
  · rw [h s hs]

/-! ## One point's blocks -/

variable (x0 : Vec Ideal S1x1024x1024 .bf16) (x1 : Vec Ideal S1x128x1024 .bf16) (x2 : Vec Ideal S1x1024x1024 .bf16)
  (x3 : Vec Ideal S1x128x1024 .bf16) (x4 : Vec Ideal S1x1024x1024 .bf16) (e : BitVec 1)
  (q k v : Vec Ideal S1x8192x1024 .bf16) (t : ℕ) (ht : t < 8) (he : e = 1#1 ↔ t = 0)
  (hq : ∀ (n c : Fin 1024), x0 (ix3 0 n c) = row q (1024 * t + n.val) c.val)
  (hkp : ∀ (n : Fin 128) (c : Fin 1024), 0 < t → x1 (ix3 0 n c) = row k (1024 * t + n.val - 128) c.val)
  (hkb : ∀ (n c : Fin 1024), x2 (ix3 0 n c) = row k (1024 * t + n.val) c.val)
  (hvp : ∀ (n : Fin 128) (c : Fin 1024), 0 < t → x3 (ix3 0 n c) = row v (1024 * t + n.val - 128) c.val)
  (hvb : ∀ (n c : Fin 1024), x4 (ix3 0 n c) = row v (1024 * t + n.val) c.val)

theorem row_mod (a : Vec Ideal S1x8192x1024 .bf16) (n c : ℕ) : row a n (c % 1024) = row a n c := by
  unfold row
  congr 2
  exact Fin.ext (Nat.mod_mod _ _)

include ht in
theorem extRow_late (p : Vec Ideal S1x128x1024 .bf16) (b : Vec Ideal S1x1024x1024 .bf16) (a : Vec Ideal S1x8192x1024 .bf16)
    (hp : ∀ (n : Fin 128) (c : Fin 1024), 0 < t → p (ix3 0 n c) = row a (1024 * t + n.val - 128) c.val)
    (hb : ∀ (n c : Fin 1024), b (ix3 0 n c) = row a (1024 * t + n.val) c.val)
    (n c : ℕ) (hn : n < 1152) (h : 0 < t ∨ 128 ≤ n) : extRow p b n c = late a (1024 * t + n) c := by
  unfold extRow late
  by_cases h1 : n < 128
  · have h0 : 0 < t := by omega
    rw [if_pos h1, if_neg (by omega), hp _ _ h0, row_mod]
    congr 1
    show 1024 * t + n % 128 - 128 = _
    omega
  · rw [if_neg h1, if_neg (by omega), hb, row_mod]
    congr 1
    show 1024 * t + (n - 128) % 1024 = _
    omega

include ht he hq hkp hkb

theorem blockScore_eq (n h : ℕ) (hn : n < 1024) : blockScore x0 x1 x2 e n h = headScore q k (1024 * t + n) h := by
  funext s
  unfold blockScore headScore score
  have hiff : admits e n s.val ↔ sees (1024 * t + n) s.val := by
    constructor
    · rintro ⟨⟨a, b⟩, c⟩
      refine ⟨⟨by omega, by omega⟩, ?_⟩
      by_contra hc
      exact c ⟨by omega, by omega, he.2 (by omega)⟩
    · rintro ⟨⟨a, b⟩, c⟩
      refine ⟨⟨by omega, by omega⟩, ?_⟩
      rintro ⟨d, d', d''⟩
      have := he.1 d''
      omega
  by_cases hs : admits e n s.val
  · rw [if_pos hs, if_pos (hiff.1 hs)]
    refine Finset.sum_congr rfl fun u _ => ?_
    congr 1
    · show cell x0 n (64 * h + u.val) = row q (1024 * t + n) (64 * h + u.val)
      unfold cell
      rw [hq, row_mod]
      congr 1
      show 1024 * t + n % 1024 = _
      omega
    · show extRow x1 x2 (128 * (n / 128) + s.val) (64 * h + u.val) = late k (128 * ((1024 * t + n) / 128) + s.val) (64 * h + u.val)
      rw [extRow_late t ht x1 x2 k hkp hkb _ _ (by omega) (by have := (hiff.1 hs).2; omega)]
      congr 1
      omega
  · rw [if_neg hs, if_neg fun hh => hs (hiff.2 hh)]

theorem statT_eq (n l : ℕ) (hn : n < 1024) (hl : l < 128) :
    statT x0 x1 x2 e (ix3 0 ⟨n, hn⟩ ⟨l, hl⟩) = stats q k (ix3 0 ⟨1024 * t + n, by omega⟩ ⟨l, hl⟩) := by
  show (if l < 16 then top (blockScore x0 x1 x2 e n l) else if l < 32 then denom (blockScore x0 x1 x2 e n (l - 16)) else (1 : EReal))
    = if l < 16 then top (headScore q k (1024 * t + n) l) else if l < 32 then denom (headScore q k (1024 * t + n) (l - 16)) else (1 : EReal)
  rw [blockScore_eq x0 x1 x2 e q k t ht he hq hkp hkb n l hn, blockScore_eq x0 x1 x2 e q k t ht he hq hkp hkb n (l - 16) hn]

include hvp hvb

theorem numT_eq (n c : ℕ) (hn : n < 1024) (hc : c < 1024) :
    numT x0 x1 x2 x3 x4 e (ix3 0 ⟨n, hn⟩ ⟨c, hc⟩) = attn q k v (ix3 0 ⟨1024 * t + n, by omega⟩ ⟨c, hc⟩) := by
  show numer (blockScore x0 x1 x2 e n (c / 64)) (fun s => extRow x3 x4 (128 * (n / 128) + s.val) c)
    = numer (headScore q k (1024 * t + n) (c / 64)) fun s => late v (128 * ((1024 * t + n) / 128) + s.val) c
  rw [blockScore_eq x0 x1 x2 e q k t ht he hq hkp hkb n (c / 64) hn]
  refine numer_congr _ _ _ fun s hs => ?_
  have hv : sees (1024 * t + n) s.val := by
    by_contra hc
    exact hs (if_neg hc)
  rw [extRow_late t ht x3 x4 v hvp hvb _ _ (by omega) (by have := hv.2; omega)]
  congr 1
  omega

end Cert.Attn

end
-- ==== Proof.StoresA.lean ====
/-
  The stores of the body at the first point, as the lists of Pieces.lean.
-/
module

public import proofs.«01_k».proof.Proof.Pieces

@[expose] public section

set_option maxRecDepth 65536
set_option maxHeartbeats 4000000

noncomputable section

namespace Cert.Attn

open Idealize.ShloMosaic Idealize.ShloMosaic.TcCoe Idealize.SL.Sem
open Cert.KernelIdeal Cert.KernelIdeal.Gen

/-- The values of tile `(j, g)` and the ones beside them, loaded from scratch at the first point of a sequence: the stores of this point cover what is loaded. -/
def extLdA (arg5 : Memref sig .tc .vmem S1x128x1024 .bf16) (harg5 : arg5.IsWhole) (arg6 : Memref sig .tc .vmem S1x1024x1024 .bf16) (harg6 : arg6.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (x3 : Vec Ideal S1x128x1024 .bf16) (x4 : Vec Ideal S1x1024x1024 .bf16) : ℕ → ℕ → FVec Ideal S256x256 .bf16
  | 0, g => arg10.view.readCov (Val := Elt Ideal) (extPieces arg5 harg5 x3 arg6 harg6 x4 (onePieces 8) 0) (pairR g).toLoadRect
  | 1, g => arg11.view.readCov (Val := Elt Ideal) (extPieces arg5 harg5 x3 arg6 harg6 x4 (onePieces 8) 1) (pairR g).toLoadRect
  | 2, g => arg12.view.readCov (Val := Elt Ideal) (extPieces arg5 harg5 x3 arg6 harg6 x4 (onePieces 8) 2) (pairR g).toLoadRect
  | 3, g => arg13.view.readCov (Val := Elt Ideal) (extPieces arg5 harg5 x3 arg6 harg6 x4 (onePieces 8) 3) (pairR g).toLoadRect
  | 4, g => arg14.view.readCov (Val := Elt Ideal) (extPieces arg5 harg5 x3 arg6 harg6 x4 (onePieces 8) 4) (pairR g).toLoadRect
  | 5, g => arg15.view.readCov (Val := Elt Ideal) (extPieces arg5 harg5 x3 arg6 harg6 x4 (onePieces 8) 5) (pairR g).toLoadRect
  | 6, g => arg16.view.readCov (Val := Elt Ideal) (extPieces arg5 harg5 x3 arg6 harg6 x4 (onePieces 8) 6) (pairR g).toLoadRect
  | _, g => arg17.view.readCov (Val := Elt Ideal) (extPieces arg5 harg5 x3 arg6 harg6 x4 (onePieces 8) 7) (pairR g).toLoadRect

/-- The numerators' stores. -/
theorem numA (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).1 = numPieces (scoreOf (tileLd arg2 harg2 x0) (keyLd arg9 arg3 harg3 x1 arg4 harg4 x2) (Scalar.cmpi .eq (BitVec.ofNat 32 (i 1).val) 0#32)) (extLdA arg5 harg5 arg6 harg6 arg10 harg10 arg11 harg11 arg12 harg12 arg13 harg13 arg14 harg14 arg15 harg15 arg16 harg16 arg17 harg17 x3 x4) 64 := by
  rfl

/-- The statistics' stores. -/
theorem statA (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.1 = statPieces (scoreOf (tileLd arg2 harg2 x0) (keyLd arg9 arg3 harg3 x1 arg4 harg4 x2) (Scalar.cmpi .eq (BitVec.ofNat 32 (i 1).val) 0#32)) (extLdA arg5 harg5 arg6 harg6 arg10 harg10 arg11 harg11 arg12 harg12 arg13 harg13 arg14 harg14 arg15 harg15 arg16 harg16 arg17 harg17 x3 x4) 8 := by
  rfl

/-- The stores to scratch array 1. -/
theorem extA1 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.1 = (extPieces arg5 harg5 x3 arg6 harg6 x4 (onePieces 8) 0) := by
  rfl

/-- The stores to scratch array 2. -/
theorem extA2 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.1 = (extPieces arg5 harg5 x3 arg6 harg6 x4 (onePieces 8) 1) := by
  rfl

/-- The stores to scratch array 3. -/
theorem extA3 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.1 = (extPieces arg5 harg5 x3 arg6 harg6 x4 (onePieces 8) 2) := by
  rfl

/-- The stores to scratch array 4. -/
theorem extA4 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.1 = (extPieces arg5 harg5 x3 arg6 harg6 x4 (onePieces 8) 3) := by
  rfl

/-- The stores to scratch array 5. -/
theorem extA5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.2.1 = (extPieces arg5 harg5 x3 arg6 harg6 x4 (onePieces 8) 4) := by
  rfl

/-- The stores to scratch array 6. -/
theorem extA6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.2.2.1 = (extPieces arg5 harg5 x3 arg6 harg6 x4 (onePieces 8) 5) := by
  rfl

/-- The stores to scratch array 7. -/
theorem extA7 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.2.2.2.1 = (extPieces arg5 harg5 x3 arg6 harg6 x4 (onePieces 8) 6) := by
  rfl

/-- The stores to scratch array 8. -/
theorem extA8 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.2.2.2.2.1 = (extPieces arg5 harg5 x3 arg6 harg6 x4 (onePieces 8) 7) := by
  rfl

end Cert.Attn

end
-- ==== Proof.OutsA.lean ====
/-
  What the body leaves at the first point: the block of numerators, the block of statistics and the extended values
  of the eight scratch arrays.
-/
module

public import proofs.«01_k».proof.Proof.Block
public import proofs.«01_k».proof.Proof.StoresA

@[expose] public section

set_option maxRecDepth 65536

noncomputable section

namespace Cert.Attn

open Idealize.ShloMosaic Idealize.SL.Sem
open Cert.KernelIdeal Cert.KernelIdeal.Gen

/-- 1 at a sequence's beginning. -/
def atStart (i : grid0.Coords) : BitVec 1 := Scalar.cmpi .eq (BitVec.ofNat 32 (i 1).val) 0#32

/-- The loaded values and ones. -/
theorem extLdA_apply (arg5 : Memref sig .tc .vmem S1x128x1024 .bf16) (harg5 : arg5.IsWhole) (arg6 : Memref sig .tc .vmem S1x1024x1024 .bf16) (harg6 : arg6.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (x3 : Vec Ideal S1x128x1024 .bf16) (x4 : Vec Ideal S1x1024x1024 .bf16) (j g : ℕ) (hj : j < 8) (hg : g < 8) (s c : Fin 256) :
    extLdA arg5 harg5 arg6 harg6 arg10 harg10 arg11 harg11 arg12 harg12 arg13 harg13 arg14 harg14 arg15 harg15 arg16 harg16 arg17 harg17 x3 x4 j g (ix2 s c) = if c.val < 128 then extRow x3 x4 (128 * j + s.val) (128 * g + c.val) else (1 : EReal) := by
  have key : ∀ j' : Fin 8, extLdA arg5 harg5 arg6 harg6 arg10 harg10 arg11 harg11 arg12 harg12 arg13 harg13 arg14 harg14 arg15 harg15 arg16 harg16 arg17 harg17 x3 x4 j'.val g = fun y => valT x3 x4 j'.val ((pairR g).toLoadRect.idx y) := by
    intro j'
    fin_cases j'
    · exact (View.readCov_eq_canon' arg10.view _ _).trans (by rw [ext_canon x3 x4 arg5 harg5 arg6 harg6 0 (by decide)])
    · exact (View.readCov_eq_canon' arg11.view _ _).trans (by rw [ext_canon x3 x4 arg5 harg5 arg6 harg6 1 (by decide)])
    · exact (View.readCov_eq_canon' arg12.view _ _).trans (by rw [ext_canon x3 x4 arg5 harg5 arg6 harg6 2 (by decide)])
    · exact (View.readCov_eq_canon' arg13.view _ _).trans (by rw [ext_canon x3 x4 arg5 harg5 arg6 harg6 3 (by decide)])
    · exact (View.readCov_eq_canon' arg14.view _ _).trans (by rw [ext_canon x3 x4 arg5 harg5 arg6 harg6 4 (by decide)])
    · exact (View.readCov_eq_canon' arg15.view _ _).trans (by rw [ext_canon x3 x4 arg5 harg5 arg6 harg6 5 (by decide)])
    · exact (View.readCov_eq_canon' arg16.view _ _).trans (by rw [ext_canon x3 x4 arg5 harg5 arg6 harg6 6 (by decide)])
    · exact (View.readCov_eq_canon' arg17.view _ _).trans (by rw [ext_canon x3 x4 arg5 harg5 arg6 harg6 7 (by decide)])
  rw [key ⟨j, hj⟩]
  exact valT_pair x3 x4 j g hg s c

theorem outA5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = numT x0 x1 x2 x3 x4 (atStart i) := by
  funext y
  unfold out0_A_5
  refine View.read_writes_apply_of_pieces VO0_5 _ (numT x0 x1 x2 x3 x4 (atStart i)) _ ?_ y (cover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 y)
  rw [numA]
  exact numPieces_agree (scoreOf (tileLd arg2 harg2 x0) (keyLd arg9 arg3 harg3 x1 arg4 harg4 x2) (atStart i)) (extLdA arg5 harg5 arg6 harg6 arg10 harg10 arg11 harg11 arg12 harg12 arg13 harg13 arg14 harg14 arg15 harg15 arg16 harg16 arg17 harg17 x3 x4) (fun j g hj hg R s => scoreOf_apply x0 x1 x2 (atStart i) arg2 harg2 arg9 arg3 harg3 arg4 harg4 j g hj hg R s)
    (fun j g hj hg s c => extLdA_apply arg5 harg5 arg6 harg6 arg10 harg10 arg11 harg11 arg12 harg12 arg13 harg13 arg14 harg14 arg15 harg15 arg16 harg16 arg17 harg17 x3 x4 j g hj hg s c) 64 le_rfl

theorem outA6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = statT x0 x1 x2 (atStart i) := by
  funext y
  unfold out0_A_6
  refine View.read_writes_apply_of_pieces VO0_6 _ (statT x0 x1 x2 (atStart i)) _ ?_ y (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 y)
  rw [statA]
  exact statPieces_agree (scoreOf (tileLd arg2 harg2 x0) (keyLd arg9 arg3 harg3 x1 arg4 harg4 x2) (atStart i)) (extLdA arg5 harg5 arg6 harg6 arg10 harg10 arg11 harg11 arg12 harg12 arg13 harg13 arg14 harg14 arg15 harg15 arg16 harg16 arg17 harg17 x3 x4) (fun j g hj hg R s => scoreOf_apply x0 x1 x2 (atStart i) arg2 harg2 arg9 arg3 harg3 arg4 harg4 j g hj hg R s)
    (fun j g hj hg s c => extLdA_apply arg5 harg5 arg6 harg6 arg10 harg10 arg11 harg11 arg12 harg12 arg13 harg13 arg14 harg14 arg15 harg15 arg16 harg16 arg17 harg17 x3 x4 j g hj hg s c) 8 le_rfl

theorem soutA1 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 0 := by
  unfold sout0_A_1
  rw [extA1]
  exact (View.read_writes_eq_canon VS0_1 _ _ (extPieces_cover_ones x3 x4 arg5 harg5 arg6 harg6 0)).trans (ext_canon x3 x4 arg5 harg5 arg6 harg6 0 (by decide))

theorem soutA2 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 1 := by
  unfold sout0_A_2
  rw [extA2]
  exact (View.read_writes_eq_canon VS0_2 _ _ (extPieces_cover_ones x3 x4 arg5 harg5 arg6 harg6 1)).trans (ext_canon x3 x4 arg5 harg5 arg6 harg6 1 (by decide))

theorem soutA3 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 2 := by
  unfold sout0_A_3
  rw [extA3]
  exact (View.read_writes_eq_canon VS0_3 _ _ (extPieces_cover_ones x3 x4 arg5 harg5 arg6 harg6 2)).trans (ext_canon x3 x4 arg5 harg5 arg6 harg6 2 (by decide))

theorem soutA4 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 3 := by
  unfold sout0_A_4
  rw [extA4]
  exact (View.read_writes_eq_canon VS0_4 _ _ (extPieces_cover_ones x3 x4 arg5 harg5 arg6 harg6 3)).trans (ext_canon x3 x4 arg5 harg5 arg6 harg6 3 (by decide))

theorem soutA5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 4 := by
  unfold sout0_A_5
  rw [extA5]
  exact (View.read_writes_eq_canon VS0_5 _ _ (extPieces_cover_ones x3 x4 arg5 harg5 arg6 harg6 4)).trans (ext_canon x3 x4 arg5 harg5 arg6 harg6 4 (by decide))

theorem soutA6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 5 := by
  unfold sout0_A_6
  rw [extA6]
  exact (View.read_writes_eq_canon VS0_6 _ _ (extPieces_cover_ones x3 x4 arg5 harg5 arg6 harg6 5)).trans (ext_canon x3 x4 arg5 harg5 arg6 harg6 5 (by decide))

theorem soutA7 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 6 := by
  unfold sout0_A_7
  rw [extA7]
  exact (View.read_writes_eq_canon VS0_7 _ _ (extPieces_cover_ones x3 x4 arg5 harg5 arg6 harg6 6)).trans (ext_canon x3 x4 arg5 harg5 arg6 harg6 6 (by decide))

theorem soutA8 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 7 := by
  unfold sout0_A_8
  rw [extA8]
  exact (View.read_writes_eq_canon VS0_8 _ _ (extPieces_cover_ones x3 x4 arg5 harg5 arg6 harg6 7)).trans (ext_canon x3 x4 arg5 harg5 arg6 harg6 7 (by decide))

end Cert.Attn

end
-- ==== Proof.StoresB.lean ====
/-
  The stores of the body at a later point, as the lists of Pieces.lean.
-/
module

public import proofs.«01_k».proof.Proof.Pieces

@[expose] public section

set_option maxRecDepth 65536
set_option maxHeartbeats 4000000

noncomputable section

namespace Cert.Attn

open Idealize.ShloMosaic Idealize.ShloMosaic.TcCoe Idealize.SL.Sem
open Cert.KernelIdeal Cert.KernelIdeal.Gen

/-- The values of tile `(j, g)` and the ones beside them, loaded from scratch at a later point: over what the scratch held before. -/
def extLdB (arg5 : Memref sig .tc .vmem S1x128x1024 .bf16) (harg5 : arg5.IsWhole) (arg6 : Memref sig .tc .vmem S1x1024x1024 .bf16) (harg6 : arg6.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (x3 : Vec Ideal S1x128x1024 .bf16) (x4 : Vec Ideal S1x1024x1024 .bf16) (xs1 xs2 xs3 xs4 xs5 xs6 xs7 xs8 : Vec Ideal S256x2048 .bf16) : ℕ → ℕ → FVec Ideal S256x256 .bf16
  | 0, g => View.readAt (Elt Ideal) arg10.view (pairR g).toLoadRect (arg10.view.writes (Elt Ideal) (harg10.unread xs1) (extPieces arg5 harg5 x3 arg6 harg6 x4 [] 0))
  | 1, g => View.readAt (Elt Ideal) arg11.view (pairR g).toLoadRect (arg11.view.writes (Elt Ideal) (harg11.unread xs2) (extPieces arg5 harg5 x3 arg6 harg6 x4 [] 1))
  | 2, g => View.readAt (Elt Ideal) arg12.view (pairR g).toLoadRect (arg12.view.writes (Elt Ideal) (harg12.unread xs3) (extPieces arg5 harg5 x3 arg6 harg6 x4 [] 2))
  | 3, g => View.readAt (Elt Ideal) arg13.view (pairR g).toLoadRect (arg13.view.writes (Elt Ideal) (harg13.unread xs4) (extPieces arg5 harg5 x3 arg6 harg6 x4 [] 3))
  | 4, g => View.readAt (Elt Ideal) arg14.view (pairR g).toLoadRect (arg14.view.writes (Elt Ideal) (harg14.unread xs5) (extPieces arg5 harg5 x3 arg6 harg6 x4 [] 4))
  | 5, g => View.readAt (Elt Ideal) arg15.view (pairR g).toLoadRect (arg15.view.writes (Elt Ideal) (harg15.unread xs6) (extPieces arg5 harg5 x3 arg6 harg6 x4 [] 5))
  | 6, g => View.readAt (Elt Ideal) arg16.view (pairR g).toLoadRect (arg16.view.writes (Elt Ideal) (harg16.unread xs7) (extPieces arg5 harg5 x3 arg6 harg6 x4 [] 6))
  | _, g => View.readAt (Elt Ideal) arg17.view (pairR g).toLoadRect (arg17.view.writes (Elt Ideal) (harg17.unread xs8) (extPieces arg5 harg5 x3 arg6 harg6 x4 [] 7))

/-- The numerators' stores. -/
theorem numB (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).1 = numPieces (scoreOf (tileLd arg2 harg2 x0) (keyLd arg9 arg3 harg3 x1 arg4 harg4 x2) (Scalar.cmpi .eq (BitVec.ofNat 32 (i 1).val) 0#32)) (extLdB arg5 harg5 arg6 harg6 arg10 harg10 arg11 harg11 arg12 harg12 arg13 harg13 arg14 harg14 arg15 harg15 arg16 harg16 arg17 harg17 x3 x4 xs1 xs2 xs3 xs4 xs5 xs6 xs7 xs8) 64 := by
  rfl

/-- The statistics' stores. -/
theorem statB (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.1 = statPieces (scoreOf (tileLd arg2 harg2 x0) (keyLd arg9 arg3 harg3 x1 arg4 harg4 x2) (Scalar.cmpi .eq (BitVec.ofNat 32 (i 1).val) 0#32)) (extLdB arg5 harg5 arg6 harg6 arg10 harg10 arg11 harg11 arg12 harg12 arg13 harg13 arg14 harg14 arg15 harg15 arg16 harg16 arg17 harg17 x3 x4 xs1 xs2 xs3 xs4 xs5 xs6 xs7 xs8) 8 := by
  rfl

/-- The stores to scratch array 1. -/
theorem extB1 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.1 = (extPieces arg5 harg5 x3 arg6 harg6 x4 [] 0) := by
  rfl

/-- The stores to scratch array 2. -/
theorem extB2 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.1 = (extPieces arg5 harg5 x3 arg6 harg6 x4 [] 1) := by
  rfl

/-- The stores to scratch array 3. -/
theorem extB3 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.1 = (extPieces arg5 harg5 x3 arg6 harg6 x4 [] 2) := by
  rfl

/-- The stores to scratch array 4. -/
theorem extB4 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.1 = (extPieces arg5 harg5 x3 arg6 harg6 x4 [] 3) := by
  rfl

/-- The stores to scratch array 5. -/
theorem extB5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.2.1 = (extPieces arg5 harg5 x3 arg6 harg6 x4 [] 4) := by
  rfl

/-- The stores to scratch array 6. -/
theorem extB6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.2.2.1 = (extPieces arg5 harg5 x3 arg6 harg6 x4 [] 5) := by
  rfl

/-- The stores to scratch array 7. -/
theorem extB7 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.2.2.2.1 = (extPieces arg5 harg5 x3 arg6 harg6 x4 [] 6) := by
  rfl

/-- The stores to scratch array 8. -/
theorem extB8 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.2.2.2.2.1 = (extPieces arg5 harg5 x3 arg6 harg6 x4 [] 7) := by
  rfl

end Cert.Attn

end
-- ==== Proof.OutsB.lean ====
/-
  What the body leaves at a later point: the block of numerators, the block of statistics and the extended values
  of the eight scratch arrays, where the arrays held ones in their odd groups before.
-/
module

public import proofs.«01_k».proof.Proof.Block
public import proofs.«01_k».proof.Proof.StoresB
public import proofs.«01_k».proof.Proof.OutsA

@[expose] public section

set_option maxRecDepth 65536

noncomputable section

namespace Cert.Attn

open Idealize.ShloMosaic Idealize.SL.Sem
open Cert.KernelIdeal Cert.KernelIdeal.Gen

/-- The loaded values and ones. -/
theorem extLdB_apply (arg5 : Memref sig .tc .vmem S1x128x1024 .bf16) (harg5 : arg5.IsWhole) (arg6 : Memref sig .tc .vmem S1x1024x1024 .bf16) (harg6 : arg6.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (x3 : Vec Ideal S1x128x1024 .bf16) (x4 : Vec Ideal S1x1024x1024 .bf16) (xs1 xs2 xs3 xs4 xs5 xs6 xs7 xs8 : Vec Ideal S256x2048 .bf16) (hx1 : Ones xs1) (hx2 : Ones xs2) (hx3 : Ones xs3) (hx4 : Ones xs4) (hx5 : Ones xs5) (hx6 : Ones xs6) (hx7 : Ones xs7) (hx8 : Ones xs8) (j g : ℕ) (hj : j < 8) (hg : g < 8) (s c : Fin 256) :
    extLdB arg5 harg5 arg6 harg6 arg10 harg10 arg11 harg11 arg12 harg12 arg13 harg13 arg14 harg14 arg15 harg15 arg16 harg16 arg17 harg17 x3 x4 xs1 xs2 xs3 xs4 xs5 xs6 xs7 xs8 j g (ix2 s c) = if c.val < 128 then extRow x3 x4 (128 * j + s.val) (128 * g + c.val) else (1 : EReal) := by
  have key : ∀ j' : Fin 8, extLdB arg5 harg5 arg6 harg6 arg10 harg10 arg11 harg11 arg12 harg12 arg13 harg13 arg14 harg14 arg15 harg15 arg16 harg16 arg17 harg17 x3 x4 xs1 xs2 xs3 xs4 xs5 xs6 xs7 xs8 j'.val g = fun y => valT x3 x4 j'.val ((pairR g).toLoadRect.idx y) := by
    intro j'
    fin_cases j'
    · exact (View.readAt_eq_ld arg10.view _ _).trans (by rw [ext_over x3 x4 arg10.view _ (by rw [harg10.read_unread]; exact hx1) arg5 harg5 arg6 harg6 0 (by decide)])
    · exact (View.readAt_eq_ld arg11.view _ _).trans (by rw [ext_over x3 x4 arg11.view _ (by rw [harg11.read_unread]; exact hx2) arg5 harg5 arg6 harg6 1 (by decide)])
    · exact (View.readAt_eq_ld arg12.view _ _).trans (by rw [ext_over x3 x4 arg12.view _ (by rw [harg12.read_unread]; exact hx3) arg5 harg5 arg6 harg6 2 (by decide)])
    · exact (View.readAt_eq_ld arg13.view _ _).trans (by rw [ext_over x3 x4 arg13.view _ (by rw [harg13.read_unread]; exact hx4) arg5 harg5 arg6 harg6 3 (by decide)])
    · exact (View.readAt_eq_ld arg14.view _ _).trans (by rw [ext_over x3 x4 arg14.view _ (by rw [harg14.read_unread]; exact hx5) arg5 harg5 arg6 harg6 4 (by decide)])
    · exact (View.readAt_eq_ld arg15.view _ _).trans (by rw [ext_over x3 x4 arg15.view _ (by rw [harg15.read_unread]; exact hx6) arg5 harg5 arg6 harg6 5 (by decide)])
    · exact (View.readAt_eq_ld arg16.view _ _).trans (by rw [ext_over x3 x4 arg16.view _ (by rw [harg16.read_unread]; exact hx7) arg5 harg5 arg6 harg6 6 (by decide)])
    · exact (View.readAt_eq_ld arg17.view _ _).trans (by rw [ext_over x3 x4 arg17.view _ (by rw [harg17.read_unread]; exact hx8) arg5 harg5 arg6 harg6 7 (by decide)])
  rw [key ⟨j, hj⟩]
  exact valT_pair x3 x4 j g hg s c

theorem outB5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx1 : Ones xs1) (hx2 : Ones xs2) (hx3 : Ones xs3) (hx4 : Ones xs4) (hx5 : Ones xs5) (hx6 : Ones xs6) (hx7 : Ones xs7) (hx8 : Ones xs8) :
    out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = numT x0 x1 x2 x3 x4 (atStart i) := by
  funext y
  unfold out0_B_5
  refine View.read_writes_apply_of_pieces VO0_5 _ (numT x0 x1 x2 x3 x4 (atStart i)) _ ?_ y (cover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 y)
  rw [numB]
  exact numPieces_agree (scoreOf (tileLd arg2 harg2 x0) (keyLd arg9 arg3 harg3 x1 arg4 harg4 x2) (atStart i)) (extLdB arg5 harg5 arg6 harg6 arg10 harg10 arg11 harg11 arg12 harg12 arg13 harg13 arg14 harg14 arg15 harg15 arg16 harg16 arg17 harg17 x3 x4 xs1 xs2 xs3 xs4 xs5 xs6 xs7 xs8) (fun j g hj hg R s => scoreOf_apply x0 x1 x2 (atStart i) arg2 harg2 arg9 arg3 harg3 arg4 harg4 j g hj hg R s)
    (fun j g hj hg s c => extLdB_apply arg5 harg5 arg6 harg6 arg10 harg10 arg11 harg11 arg12 harg12 arg13 harg13 arg14 harg14 arg15 harg15 arg16 harg16 arg17 harg17 x3 x4 xs1 xs2 xs3 xs4 xs5 xs6 xs7 xs8 hx1 hx2 hx3 hx4 hx5 hx6 hx7 hx8 j g hj hg s c) 64 le_rfl

theorem outB6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx1 : Ones xs1) (hx2 : Ones xs2) (hx3 : Ones xs3) (hx4 : Ones xs4) (hx5 : Ones xs5) (hx6 : Ones xs6) (hx7 : Ones xs7) (hx8 : Ones xs8) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = statT x0 x1 x2 (atStart i) := by
  funext y
  unfold out0_B_6
  refine View.read_writes_apply_of_pieces VO0_6 _ (statT x0 x1 x2 (atStart i)) _ ?_ y (cover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 y)
  rw [statB]
  exact statPieces_agree (scoreOf (tileLd arg2 harg2 x0) (keyLd arg9 arg3 harg3 x1 arg4 harg4 x2) (atStart i)) (extLdB arg5 harg5 arg6 harg6 arg10 harg10 arg11 harg11 arg12 harg12 arg13 harg13 arg14 harg14 arg15 harg15 arg16 harg16 arg17 harg17 x3 x4 xs1 xs2 xs3 xs4 xs5 xs6 xs7 xs8) (fun j g hj hg R s => scoreOf_apply x0 x1 x2 (atStart i) arg2 harg2 arg9 arg3 harg3 arg4 harg4 j g hj hg R s)
    (fun j g hj hg s c => extLdB_apply arg5 harg5 arg6 harg6 arg10 harg10 arg11 harg11 arg12 harg12 arg13 harg13 arg14 harg14 arg15 harg15 arg16 harg16 arg17 harg17 x3 x4 xs1 xs2 xs3 xs4 xs5 xs6 xs7 xs8 hx1 hx2 hx3 hx4 hx5 hx6 hx7 hx8 j g hj hg s c) 8 le_rfl

theorem soutB1 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx1 : Ones xs1) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 0 := by
  unfold sout0_B_1
  rw [extB1]
  exact ext_over x3 x4 arg10.view _ (by rw [harg10.read_unread]; exact hx1) arg5 harg5 arg6 harg6 0 (by decide)

theorem soutB2 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx2 : Ones xs2) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 1 := by
  unfold sout0_B_2
  rw [extB2]
  exact ext_over x3 x4 arg11.view _ (by rw [harg11.read_unread]; exact hx2) arg5 harg5 arg6 harg6 1 (by decide)

theorem soutB3 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx3 : Ones xs3) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 2 := by
  unfold sout0_B_3
  rw [extB3]
  exact ext_over x3 x4 arg12.view _ (by rw [harg12.read_unread]; exact hx3) arg5 harg5 arg6 harg6 2 (by decide)

theorem soutB4 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx4 : Ones xs4) :
    sout0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 3 := by
  unfold sout0_B_4
  rw [extB4]
  exact ext_over x3 x4 arg13.view _ (by rw [harg13.read_unread]; exact hx4) arg5 harg5 arg6 harg6 3 (by decide)

theorem soutB5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx5 : Ones xs5) :
    sout0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 4 := by
  unfold sout0_B_5
  rw [extB5]
  exact ext_over x3 x4 arg14.view _ (by rw [harg14.read_unread]; exact hx5) arg5 harg5 arg6 harg6 4 (by decide)

theorem soutB6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx6 : Ones xs6) :
    sout0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 5 := by
  unfold sout0_B_6
  rw [extB6]
  exact ext_over x3 x4 arg15.view _ (by rw [harg15.read_unread]; exact hx6) arg5 harg5 arg6 harg6 5 (by decide)

theorem soutB7 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx7 : Ones xs7) :
    sout0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 6 := by
  unfold sout0_B_7
  rw [extB7]
  exact ext_over x3 x4 arg16.view _ (by rw [harg16.read_unread]; exact hx7) arg5 harg5 arg6 harg6 6 (by decide)

theorem soutB8 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx8 : Ones xs8) :
    sout0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 7 := by
  unfold sout0_B_8
  rw [extB8]
  exact ext_over x3 x4 arg17.view _ (by rw [harg17.read_unread]; exact hx8) arg5 harg5 arg6 harg6 7 (by decide)

end Cert.Attn

end
-- ==== Proof.Points.lean ====
/-
  The grid points and the arrays after the run: every point's blocks are the attention's, the scratch arrays' odd groups
  holding ones from the first point on; so the two arrays the run leaves are the attention's numerators and statistics.
-/
module

public import proofs.«01_k».proof.Proof.Array
public import proofs.«01_k».proof.Proof.OutsA
public import proofs.«01_k».proof.Proof.OutsB
public import Idealize.ShloMosaic.Lib.Pipeline.ValueKit.Point

@[expose] public section

set_option maxRecDepth 65536

noncomputable section

namespace Cert.Attn

open Idealize.ShloMosaic Idealize.SL.Sem Idealize.ShloMosaic.TcCoe
open Cert.KernelIdeal Cert.KernelIdeal.Gen Cert.KernelIdeal.Value

variable (m : (ℓ : Loc nD τ sig) → Buf (Elt Ideal) ℓ) (c : Dev nD)

/-- What point `t` leaves: its two blocks and the scratch arrays. -/
def leaves (t : Fin cfg0.N) : Vec Ideal S1x1024x1024 .bf16 × Vec Ideal S1x1024x128 .f32 × Vec Ideal S256x2048 .bf16 × Vec Ideal S256x2048 .bf16 × Vec Ideal S256x2048 .bf16 × Vec Ideal S256x2048 .bf16 × Vec Ideal S256x2048 .bf16 × Vec Ideal S256x2048 .bf16 × Vec Ideal S256x2048 .bf16 × Vec Ideal S256x2048 .bf16 :=
  (numT (iblk m c 0 t) (iblk m c 1 t) (iblk m c 2 t) (iblk m c 3 t) (iblk m c 4 t) (atStart (grid0.coords t)),
   statT (iblk m c 0 t) (iblk m c 1 t) (iblk m c 2 t) (atStart (grid0.coords t)),
   valT (iblk m c 3 t) (iblk m c 4 t) 0, valT (iblk m c 3 t) (iblk m c 4 t) 1, valT (iblk m c 3 t) (iblk m c 4 t) 2, valT (iblk m c 3 t) (iblk m c 4 t) 3,
   valT (iblk m c 3 t) (iblk m c 4 t) 4, valT (iblk m c 3 t) (iblk m c 4 t) 5, valT (iblk m c 3 t) (iblk m c 4 t) 6, valT (iblk m c 3 t) (iblk m c 4 t) 7)

theorem outsAt0_eq : ∀ (n : ℕ) (hn : n < cfg0.N), outsAt0 m c n hn = leaves m c ⟨n, hn⟩
  | 0, hn => by
    rw [outsAt0_A m c ⟨0, hn⟩ rfl, outA5, outA6, soutA1, soutA2, soutA3, soutA4, soutA5, soutA6, soutA7, soutA8]
    rfl
  | n + 1, hn => by
    have hN : cfg0.N = 8 := N_0
    have h0 : ¬(⟨n + 1, hn⟩ : Fin cfg0.N).val % 8 = 0 := by
      show ¬(n + 1) % 8 = 0
      omega
    have ih : outsAt0 m c ((⟨n + 1, hn⟩ : Fin cfg0.N).val - 1) (Nat.lt_of_le_of_lt (Nat.sub_le _ _) hn) = leaves m c ⟨n, by omega⟩ := outsAt0_eq n (by omega)
    rw [outsAt0_B m c ⟨n + 1, hn⟩ h0, ih]
    unfold leaves
    dsimp only
    have ones := valT_ones (iblk m c 3 ⟨n, by omega⟩) (iblk m c 4 ⟨n, by omega⟩)
    rw [outB5 (hx1 := ones 0) (hx2 := ones 1) (hx3 := ones 2) (hx4 := ones 3) (hx5 := ones 4) (hx6 := ones 5) (hx7 := ones 6) (hx8 := ones 7),
      outB6 (hx1 := ones 0) (hx2 := ones 1) (hx3 := ones 2) (hx4 := ones 3) (hx5 := ones 4) (hx6 := ones 5) (hx7 := ones 6) (hx8 := ones 7),
      soutB1 (hx1 := ones 0), soutB2 (hx2 := ones 1), soutB3 (hx3 := ones 2), soutB4 (hx4 := ones 3), soutB5 (hx5 := ones 4), soutB6 (hx6 := ones 5),
      soutB7 (hx7 := ones 6), soutB8 (hx8 := ones 7)]

/-! ## The blocks' places -/

/-- The call's queries, keys and values. -/
abbrev argQ : Vec Ideal S1x8192x1024 .bf16 := m ((c : Thread nD τ).loc main_arg0)
abbrev argK : Vec Ideal S1x8192x1024 .bf16 := m ((c : Thread nD τ).loc main_arg1)
abbrev argV : Vec Ideal S1x8192x1024 .bf16 := m ((c : Thread nD τ).loc main_arg2)

theorem places : ∀ t : Fin cfg0.N, win0_0.index t = ![0, t.val, 0] ∧ win0_1.index t = ![0, 8 * t.val - 1, 0] ∧ win0_2.index t = ![0, t.val, 0]
    ∧ win0_3.index t = ![0, 8 * t.val - 1, 0] ∧ win0_4.index t = ![0, t.val, 0] :=
  (by decide +kernel : ∀ t : Fin grid0.N, win0_0.index t = ![0, t.val, 0] ∧ win0_1.index t = ![0, 8 * t.val - 1, 0] ∧ win0_2.index t = ![0, t.val, 0]
    ∧ win0_3.index t = ![0, 8 * t.val - 1, 0] ∧ win0_4.index t = ![0, t.val, 0])

theorem starts : ∀ t : Fin cfg0.N, atStart (grid0.coords t) = 1#1 ↔ t.val = 0 :=
  (by decide +kernel : ∀ t : Fin grid0.N, atStart (grid0.coords t) = 1#1 ↔ t.val = 0)

theorem q_block (t : Fin cfg0.N) (n l : Fin 1024) : (iblk m c 0 t : Vec Ideal S1x1024x1024 .bf16) (ix3 0 n l) = row (argQ m c) (1024 * t.val + n.val) l.val := by
  have ht : t.val < 8 := lt_of_lt_of_eq t.isLt N_0
  have hp := (places t).1
  unfold row
  blk_ext [iblk, V, hp]

theorem k_prev (t : Fin cfg0.N) (n : Fin 128) (l : Fin 1024) (h : 0 < t.val) :
    (iblk m c 1 t : Vec Ideal S1x128x1024 .bf16) (ix3 0 n l) = row (argK m c) (1024 * t.val + n.val - 128) l.val := by
  have ht : t.val < 8 := lt_of_lt_of_eq t.isLt N_0
  have hp := (places t).2.1
  unfold row
  blk_ext [iblk, V, hp]

theorem k_block (t : Fin cfg0.N) (n l : Fin 1024) : (iblk m c 2 t : Vec Ideal S1x1024x1024 .bf16) (ix3 0 n l) = row (argK m c) (1024 * t.val + n.val) l.val := by
  have ht : t.val < 8 := lt_of_lt_of_eq t.isLt N_0
  have hp := (places t).2.2.1
  unfold row
  blk_ext [iblk, V, hp]

theorem v_prev (t : Fin cfg0.N) (n : Fin 128) (l : Fin 1024) (h : 0 < t.val) :
    (iblk m c 3 t : Vec Ideal S1x128x1024 .bf16) (ix3 0 n l) = row (argV m c) (1024 * t.val + n.val - 128) l.val := by
  have ht : t.val < 8 := lt_of_lt_of_eq t.isLt N_0
  have hp := (places t).2.2.2.1
  unfold row
  blk_ext [iblk, V, hp]

theorem v_block (t : Fin cfg0.N) (n l : Fin 1024) : (iblk m c 4 t : Vec Ideal S1x1024x1024 .bf16) (ix3 0 n l) = row (argV m c) (1024 * t.val + n.val) l.val := by
  have ht : t.val < 8 := lt_of_lt_of_eq t.isLt N_0
  have hp := (places t).2.2.2.2
  unfold row
  blk_ext [iblk, V, hp]

/-! ## The arrays -/

theorem G5_eq : (G5 m c : Vec Ideal S1x8192x1024 .bf16) = attn (argQ m c) (argK m c) (argV m c) := by
  funext y
  obtain ⟨z, n, l, rfl⟩ : ∃ (z : Fin 1) (n : Fin 8192) (l : Fin 1024), y = ix3 z n l := ⟨_, _, _, eq_ix3 y⟩
  obtain rfl : z = 0 := Subsingleton.elim _ _
  have hr : pt5Of (ix3 0 n l) = n.val / 1024 := by
    show 8 * (0 / 1 - 0) + 1 * (n.val / 1024 - 0) + 1 * (l.val / 1024 - 0) = _
    omega
  have hN : cfg0.N = 8 := N_0
  have hlt : n.val / 1024 < cfg0.N := by omega
  have hlt' : pt5Of (ix3 0 n l) < cfg0.N := by rw [hr]; exact hlt
  have hloc : loc5Of (ix3 0 n l) = ix3 0 ⟨n.val % 1024, by omega⟩ ⟨l.val, l.isLt⟩ := by
    funext a
    fin_cases a
    · rfl
    · rfl
    · exact Fin.ext (Nat.mod_eq_of_lt l.isLt)
  unfold G5
  rw [dif_pos hlt', ← outsAt0_sweep m c _ hlt', outsAt0_eq, hloc]
  have hpt : (⟨pt5Of (ix3 0 n l), hlt'⟩ : Fin cfg0.N) = ⟨n.val / 1024, hlt⟩ := Fin.ext hr
  rw [hpt]
  refine (numT_eq _ _ _ _ _ _ (argQ m c) (argK m c) (argV m c) (n.val / 1024) (by omega) (starts ⟨_, hlt⟩) (q_block m c ⟨_, hlt⟩) (k_prev m c ⟨_, hlt⟩)
    (k_block m c ⟨_, hlt⟩) (v_prev m c ⟨_, hlt⟩) (v_block m c ⟨_, hlt⟩) (n.val % 1024) l.val (by omega) l.isLt).trans ?_
  congr 2
  exact Fin.ext (Nat.div_add_mod _ _)

theorem G6_eq : (G6 m c : Vec Ideal S1x8192x128 .f32) = stats (argQ m c) (argK m c) := by
  funext y
  obtain ⟨z, n, l, rfl⟩ : ∃ (z : Fin 1) (n : Fin 8192) (l : Fin 128), y = ix3 z n l := ⟨_, _, _, eq_ix3 y⟩
  obtain rfl : z = 0 := Subsingleton.elim _ _
  have hr : pt6Of (ix3 0 n l) = n.val / 1024 := by
    show 8 * (0 / 1 - 0) + 1 * (n.val / 1024 - 0) + 1 * (l.val / 128 - 0) = _
    omega
  have hN : cfg0.N = 8 := N_0
  have hlt : n.val / 1024 < cfg0.N := by omega
  have hlt' : pt6Of (ix3 0 n l) < cfg0.N := by rw [hr]; exact hlt
  have hloc : loc6Of (ix3 0 n l) = ix3 0 ⟨n.val % 1024, by omega⟩ ⟨l.val, l.isLt⟩ := by
    funext a
    fin_cases a
    · rfl
    · rfl
    · exact Fin.ext (Nat.mod_eq_of_lt l.isLt)
  unfold G6
  rw [dif_pos hlt', ← outsAt0_sweep m c _ hlt', outsAt0_eq, hloc]
  have hpt : (⟨pt6Of (ix3 0 n l), hlt'⟩ : Fin cfg0.N) = ⟨n.val / 1024, hlt⟩ := Fin.ext hr
  rw [hpt]
  refine (statT_eq _ _ _ _ (argQ m c) (argK m c) (n.val / 1024) (by omega) (starts ⟨_, hlt⟩) (q_block m c ⟨_, hlt⟩) (k_prev m c ⟨_, hlt⟩)
    (k_block m c ⟨_, hlt⟩) (n.val % 1024) l.val (by omega) l.isLt).trans ?_
  congr 2
  exact Fin.ext (Nat.div_add_mod _ _)

end Cert.Attn

end
-- ==== Proof.Reference.lean ====
/-
  The reference read at an index: its scores, its mask, its weights and its two sums are the plain definitions of the
  attention, so its two results are `attn` and `stats` of its arguments.
-/
module

public import proofs.«01_k».proof.Proof.Array
public import proofs.«01_k».proof.Proof.Gen.ReferenceIdeal.Read
public import Idealize.ShloMosaic.Lib.KernelVsHost

@[expose] public section

set_option maxRecDepth 16384

noncomputable section

namespace Cert.Attn

open Idealize.ShloMosaic Idealize.SL.Sem
open Cert.ReferenceIdeal Cert.ReferenceIdeal.Gen Cert.ReferenceIdeal.Read

/-- A power of two, written by the exponential. -/
theorem exp_log_two (x : EReal) : Ideal.exp (x * ((Real.log 2 : ℝ) : EReal)) = Ideal.exp2 x := by
  have h2 : (0 : ℝ) < Real.log 2 := Real.log_pos (by norm_num)
  induction x using EReal.rec with
  | bot => rw [EReal.bot_mul_coe_of_pos h2]; rfl
  | top => rw [EReal.top_mul_coe_of_pos h2]; rfl
  | coe r =>
    rw [← EReal.coe_mul]
    show ((Real.exp (r * Real.log 2) : ℝ) : EReal) = ((Real.rpow 2 r : ℝ) : EReal)
    congr 1
    show _ = (2 : ℝ) ^ r
    rw [Real.rpow_def_of_pos (by norm_num), mul_comm]

/-- The pattern of the reference's mask is `-∞`. -/
theorem neg_inf : Ideal.ofBits .f32 0xFF800000#32 = ⊥ := by simp [Ideal.ofBits, Ideal.ieee]
theorem two : Ideal.ofBits .f32 0x40000000#32 = ((2 : ℝ) : EReal) := by
  simp [Ideal.ofBits, Ideal.ieee, -EReal.coe_mul]
  norm_num
theorem one : Ideal.ofBits .f32 0x3F800000#32 = 1 := by
  simp [Ideal.ofBits, Ideal.ieee, -EReal.coe_mul]
  norm_num

variable (q k v : Vec Ideal S1x8192x1024 .bf16)

/-! ## The blocks of heads -/

theorem block_apply (j : S1x64x128x16x64.Idx) : val_main_v10 (F := Ideal) q j = row q (128 * (j 1).val + (j 2).val) (64 * (j 3).val + (j 4).val) := by
  rw [val_main_v10_apply]
  show q _ = q _
  have h0 : (j 0).val < 1 := (j 0).isLt
  have h1 : (j 1).val < 64 := (j 1).isLt
  have h2 : (j 2).val < 128 := (j 2).isLt
  have h3 : (j 3).val < 16 := (j 3).isLt
  have h4 : (j 4).val < 64 := (j 4).isLt
  refine congrArg q (funext fun a => Fin.ext ?_)
  match a with
  | ⟨0, _⟩ => rfl
  | ⟨1, _⟩ =>
    show (((((j 0).val * 64 + (j 1).val) * 128 + (j 2).val) * 16 + (j 3).val) * 64 + (j 4).val) / 1024 % 8192 = (128 * (j 1).val + (j 2).val) % 8192
    omega
  | ⟨2, _⟩ =>
    show (((((j 0).val * 64 + (j 1).val) * 128 + (j 2).val) * 16 + (j 3).val) * 64 + (j 4).val) % 1024 = (64 * (j 3).val + (j 4).val) % 1024
    omega

/-- The keys of a block and the block before it. -/
theorem keys_apply (j : S1x64x256x16x64.Idx) : val_main_v17 (F := Ideal) k j = late k (128 * (j 1).val + (j 2).val) (64 * (j 3).val + (j 4).val) := by
  have h0 : (j 0).val < 1 := (j 0).isLt
  have h1 : (j 1).val < 64 := (j 1).isLt
  have h2 : (j 2).val < 256 := (j 2).isLt
  unfold val_main_v17 late
  by_cases hb : (j 2).val < 128
  · rw [concatenate_pair_apply_left 2 _ _ concatenates_S1x64x128x16x64_S1x64x128x16x64_S1x64x256x16x64_d2 j rfl
      (fun a => match a with | ⟨0, _⟩ => j 0 | ⟨1, _⟩ => j 1 | ⟨2, _⟩ => ⟨(j 2).val, hb⟩ | ⟨3, _⟩ => j 3 | ⟨4, _⟩ => j 4 : S1x64x128x16x64.Idx)
      (fun b => match b with | ⟨0, _⟩ => rfl | ⟨1, _⟩ => rfl | ⟨2, _⟩ => rfl | ⟨3, _⟩ => rfl | ⟨4, _⟩ => rfl), val_main_v16_apply]
    unfold val_main_v15
    by_cases hn : (j 1).val = 0
    · rw [if_pos (by omega), pad_apply_of_not_inside _ _ _ _ _ _ _ _ 1 (by
        rintro ⟨h, -, -⟩
        have h' : 1 ≤ (j 1).val := h
        omega)]
      show (((0#32 : BitVec 32).toInt : ℝ) : EReal) = 0
      simp
    · rw [if_neg (by omega), pad_apply_of_inside _ _ _ _ _ _ _ _
        (fun a => match a with | ⟨0, _⟩ => j 0 | ⟨1, _⟩ => ⟨(j 1).val - 1, by show _ < 64; omega⟩ | ⟨2, _⟩ => ⟨(j 2).val, hb⟩ | ⟨3, _⟩ => j 3 | ⟨4, _⟩ => j 4 : S1x64x128x16x64.Idx)
        (fun a => match a with
          | ⟨0, _⟩ => by show (j 0).val = 0 + (j 0).val * 1; omega
          | ⟨1, _⟩ => by show (j 1).val = 1 + ((j 1).val - 1) * 1; omega
          | ⟨2, _⟩ => by show (j 2).val = 0 + (j 2).val * 1; omega
          | ⟨3, _⟩ => by show (j 3).val = 0 + (j 3).val * 1; omega
          | ⟨4, _⟩ => by show (j 4).val = 0 + (j 4).val * 1; omega)]
      refine (block_apply k _).trans ?_
      show row k (128 * ((j 1).val - 1) + (j 2).val) (64 * (j 3).val + (j 4).val) = _
      congr 1
      omega
  · rw [concatenate_pair_apply_right 2 _ _ concatenates_S1x64x128x16x64_S1x64x128x16x64_S1x64x256x16x64_d2 j rfl rfl
      (fun a => match a with | ⟨0, _⟩ => j 0 | ⟨1, _⟩ => j 1 | ⟨2, _⟩ => ⟨(j 2).val - 128, by show _ < 128; omega⟩ | ⟨3, _⟩ => j 3 | ⟨4, _⟩ => j 4 : S1x64x128x16x64.Idx)
      (fun b hb => match b, hb with | ⟨0, _⟩, _ => rfl | ⟨1, _⟩, _ => rfl | ⟨2, _⟩, hb => absurd rfl hb | ⟨3, _⟩, _ => rfl | ⟨4, _⟩, _ => rfl)
      (by show (j 2).val - 128 + 128 = (j 2).val; omega), if_neg (by omega)]
    refine (block_apply k _).trans ?_
    show row k (128 * (j 1).val + ((j 2).val - 128)) (64 * (j 3).val + (j 4).val) = _
    congr 1
    omega

/-! ## The mask -/

theorem mask_apply (j : S1x64x1x128x256.Idx) : val_main_v41 (F := Ideal) j = if sees (128 * (j 1).val + (j 3).val) (j 4).val then 1#1 else 0#1 := by
  have h1 : (j 1).val < 64 := (j 1).isLt
  have h3 : (j 3).val < 128 := (j 3).isLt
  have h4 : (j 4).val < 256 := (j 4).isLt
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply, val_main_v28_apply, val_main_v27_apply,
    val_main_v26_apply, val_main_v25_apply, val_main_v24_apply, val_main_v23_apply, val_main_v22_apply, val_main_v8_apply, val_main_v7_apply, val_main_v6_apply,
    val_main_v5_apply, val_main_v4_apply, val_main_v3_apply, val_main_v2_apply, val_main_v1_apply, val_main_v0_apply,
    val_main_c_apply, val_main_c_2_apply, val_main_c_3_apply, val_main_c_4_apply, val_main_c_5_apply]
  have band := inBand ⟨(j 3).val, h3⟩ ⟨(j 4).val, h4⟩
  have prev := (by decide +kernel : ∀ (n : Fin 64) (s : Fin 256),
    IntOp.ori (IntOp.cmpi .sgt (BitVec.ofNat 32 n.val) 0#32) (IntOp.cmpi .sge (BitVec.ofNat 32 s.val) 128#32) = if 128 ≤ s.val ∨ 0 < n.val then 1#1 else 0#1) ⟨(j 1).val, h1⟩ ⟨(j 4).val, h4⟩
  refine (congrArg₂ IntOp.andi band prev).trans ?_
  have hm : (128 * (j 1).val + (j 3).val) % 128 = (j 3).val := by omega
  unfold sees inWindow
  rw [hm]
  have hd : 128 ≤ 128 * (j 1).val + (j 3).val ↔ 0 < (j 1).val := by omega
  simp only [hd]
  by_cases hA : (j 3).val ≤ (j 4).val ∧ (j 4).val ≤ (j 3).val + 128 <;> by_cases hB : 128 ≤ (j 4).val ∨ 0 < (j 1).val <;> simp [hA, hB] <;> decide

/-! ## The scores and their weights -/

theorem scores_read (j : S1x64x16x128x256.Idx) :
    val_main_v42 (F := Ideal) q k j = headScore q k (128 * (j 1).val + (j 3).val) (j 2).val ⟨(j 4).val, (j 4).isLt⟩ := by
  have h3 : (j 3).val < 128 := (j 3).isLt
  have hd : (128 * (j 1).val + (j 3).val) / 128 = (j 1).val := by omega
  rw [val_main_v42_apply, val_main_call2_v1_apply, mask_apply, val_main_v21_apply, val_main_call2_v2_apply]
  unfold headScore score
  rw [hd]
  show Scalar.select (if sees (128 * (j 1).val + (j 3).val) (j 4).val then 1#1 else 0#1) _ _ = if sees (128 * (j 1).val + (j 3).val) (j 4).val then _ else _
  by_cases h : sees (128 * (j 1).val + (j 3).val) (j 4).val
  · rw [if_pos h, if_pos h]
    show (∑ u : Fin 64, val_main_v10 (F := Ideal) q (lidx_main_v21 j u) * val_main_v17 (F := Ideal) k (ridx_main_v21 j u)) = _
    refine Finset.sum_congr rfl fun u _ => ?_
    rw [block_apply, keys_apply]
  · rw [if_neg h, if_neg h]
    exact neg_inf

theorem top_read (j : S1x64x16x128.Idx) : val_main_v43 (F := Ideal) q k j = top (headScore q k (128 * (j 1).val + (j 3).val) (j 2).val) := by
  unfold val_main_v43 top
  rw [Host.reduce_eq_fold_single _ _ _ _ (by decide : S1x64x16x128x256.Reduces [4] S1x64x16x128)]
  have hb : val_main_cst_6 (F := Ideal) (Shape.Idx.first h_S_) = ⊥ := by
    rw [val_main_cst_6_apply]
    exact neg_inf
  rw [hb]
  refine Finset.fold_congr fun s _ => ?_
  exact scores_read q k _

theorem weight_read (j : S1x64x16x128x256.Idx) :
    val_main_v50 (F := Ideal) q k j = weight (headScore q k (128 * (j 1).val + (j 3).val) (j 2).val) ⟨(j 4).val, (j 4).isLt⟩ := by
  rw [val_main_v50_apply, val_main_v49_apply, val_main_v48_apply, val_main_v47_apply, val_main_v46_apply, val_main_v45_apply, val_main_v44_apply, scores_read, top_read,
    val_main_cst_7_apply]
  show Ideal.exp ((_ - _) * Ideal.log (Ideal.ofBits .f32 0x40000000#32)) = Ideal.exp2 (_ - _)
  rw [two]
  have hl : Ideal.log ((2 : ℝ) : EReal) = ((Real.log 2 : ℝ) : EReal) := if_neg (by norm_num)
  rw [hl, exp_log_two]

theorem denom_read (j : S1x64x16x128.Idx) : val_main_v51 (F := Ideal) q k j = denom (headScore q k (128 * (j 1).val + (j 3).val) (j 2).val) := by
  rw [val_main_v51_apply, val_main_cst_8_apply]
  have h0 : FloatOps.ofBits (F := Ideal) .f32 0x00000000#32 = (0 : EReal) := by
    show Ideal.ofBits .f32 0x00000000#32 = 0
    simp [Ideal.ofBits, Ideal.ieee]
  rw [h0, zero_add]
  exact Finset.sum_congr rfl fun s _ => weight_read q k _

/-! ## The two results -/

theorem attn_read : val_main_v56 (F := Ideal) q k v = attn q k v := by
  funext y
  have h0 : (y 0).val < 1 := (y 0).isLt
  have h1 : (y 1).val < 8192 := (y 1).isLt
  have h2 : (y 2).val < 1024 := (y 2).isLt
  rw [val_main_v56_apply]
  show val_main_v54 (F := Ideal) q k v y = _
  rw [val_main_v54_apply, val_main_v53_apply, val_main_v52_apply]
  unfold attn numer
  refine Finset.sum_congr rfl fun s _ => ?_
  rw [mul_comm]
  have hN : (((y 0).val * 8192 + (y 1).val) * 1024 + (y 2).val) / 131072 % 64 = (y 1).val / 128 := by omega
  have hr : (((y 0).val * 8192 + (y 1).val) * 1024 + (y 2).val) / 1024 % 128 = (y 1).val % 128 := by omega
  have hh : (((y 0).val * 8192 + (y 1).val) * 1024 + (y 2).val) / 64 % 16 = (y 2).val / 64 := by omega
  have hc : (((y 0).val * 8192 + (y 1).val) * 1024 + (y 2).val) % 64 = (y 2).val % 64 := by omega
  refine congrArg₂ (· * ·) ((weight_read q k _).trans ?_) ((keys_apply v _).trans ?_)
  · show weight (headScore q k (128 * ((((y 0).val * 8192 + (y 1).val) * 1024 + (y 2).val) / 131072 % 64) + (((y 0).val * 8192 + (y 1).val) * 1024 + (y 2).val) / 1024 % 128)
      ((((y 0).val * 8192 + (y 1).val) * 1024 + (y 2).val) / 64 % 16)) s = _
    rw [hN, hr, hh, Nat.div_add_mod]
  · show late v (128 * ((((y 0).val * 8192 + (y 1).val) * 1024 + (y 2).val) / 131072 % 64) + s.val)
      (64 * ((((y 0).val * 8192 + (y 1).val) * 1024 + (y 2).val) / 64 % 16) + (((y 0).val * 8192 + (y 1).val) * 1024 + (y 2).val) % 64) = _
    rw [hN, hh, hc, Nat.div_add_mod]

theorem perHead (y : S1x8192x16.Idx) : (128 * ((((y 0).val * 8192 + (y 1).val) * 16 + (y 2).val) / 2048 % 64) + (((y 0).val * 8192 + (y 1).val) * 16 + (y 2).val) / 16 % 128) = (y 1).val
    ∧ (((y 0).val * 8192 + (y 1).val) * 16 + (y 2).val) % 16 = (y 2).val := by
  have h0 : (y 0).val < 1 := (y 0).isLt
  have h1 : (y 1).val < 8192 := (y 1).isLt
  have h2 : (y 2).val < 16 := (y 2).isLt
  omega

theorem topHead (y : S1x8192x16.Idx) : val_main_v58 (F := Ideal) q k y = top (headScore q k (y 1).val (y 2).val) := by
  rw [val_main_v58_apply, val_main_v57_apply, top_read]
  have h := perHead y
  exact congrArg top (congrArg₂ (headScore q k) h.1 h.2)

theorem denomHead (y : S1x8192x16.Idx) : val_main_v60 (F := Ideal) q k y = denom (headScore q k (y 1).val (y 2).val) := by
  rw [val_main_v60_apply, val_main_v59_apply, denom_read]
  have h := perHead y
  exact congrArg denom (congrArg₂ (headScore q k) h.1 h.2)

theorem stats_read : val_main_v61 (F := Ideal) q k = stats q k := by
  funext y
  have h2 : (y 2).val < 128 := (y 2).isLt
  unfold val_main_v61 stats
  by_cases h1 : (y 2).val < 16
  · rw [if_pos h1]
    refine (concatenate_apply_piece 2 _ _ y 0 (by simp) S1x8192x16 _ rfl rfl 0 rfl (ix3 (y 0) (y 1) ⟨(y 2).val, h1⟩)
      (fun b hb => match b, hb with | ⟨0, _⟩, _ => rfl | ⟨1, _⟩, _ => rfl | ⟨2, _⟩, hb => absurd rfl hb) (by show 0 + (y 2).val = (y 2).val; omega)).trans ?_
    exact topHead q k _
  rw [if_neg h1]
  by_cases h3 : (y 2).val < 32
  · rw [if_pos h3]
    refine (concatenate_apply_piece 2 _ _ y 1 (by simp) S1x8192x16 _ rfl rfl 16 rfl (ix3 (y 0) (y 1) ⟨(y 2).val - 16, by omega⟩)
      (fun b hb => match b, hb with | ⟨0, _⟩, _ => rfl | ⟨1, _⟩, _ => rfl | ⟨2, _⟩, hb => absurd rfl hb) (by show 16 + ((y 2).val - 16) = (y 2).val; omega)).trans ?_
    exact denomHead q k _
  · rw [if_neg h3]
    refine (concatenate_apply_piece 2 _ _ y 2 (by simp) S1x8192x96 _ rfl rfl 32 rfl (ix3 (y 0) (y 1) ⟨(y 2).val - 32, by omega⟩)
      (fun b hb => match b, hb with | ⟨0, _⟩, _ => rfl | ⟨1, _⟩, _ => rfl | ⟨2, _⟩, hb => absurd rfl hb) (by show 32 + ((y 2).val - 32) = (y 2).val; omega)).trans ?_
    rw [val_main_v55_apply]
    exact one

end Cert.Attn

end
-- ==== Proof.FourArray.lean ====
/-
  The attention over four sequences of 2048 rows (dilation 4): its two arrays are those of the attention over one
  sequence, taken of each of the four. A row sees no later rows, so it does not matter what follows a sequence's 2048.
-/
module

public import proofs.«01_k».proof.Proof.Array

@[expose] public section

noncomputable section

namespace Cert.Attn4

open Idealize.ShloMosaic Idealize.SL.Sem Cert.Attn

/-- Four sequences' rows, and their statistics. -/
abbrev Rows : Shape := ⟨3, ![4, 2048, 1024]⟩
abbrev Stats : Shape := ⟨3, ![4, 2048, 128]⟩

/-- Sequence `r` as the beginning of a longer one. -/
def seq (a : Vec Ideal Rows .bf16) (r : Fin 4) : Vec Ideal Cert.KernelIdeal.S1x8192x1024 .bf16 := fun y =>
  a (ix3 r ⟨(y 1).val % 2048, Nat.mod_lt _ (by decide)⟩ (y 2))
/-- The place of row `n`, column `l` there. -/
def place (n : Fin 2048) {w : ℕ} (l : Fin w) : (⟨3, ![1, 8192, w]⟩ : Shape).Idx := ix3 0 ⟨n.val, by omega⟩ l
/-- The four sequences' numerators. -/
def attn4 (q k v : Vec Ideal Rows .bf16) : Vec Ideal Rows .bf16 := fun y => attn (seq q (y 0)) (seq k (y 0)) (seq v (y 0)) (place (y 1) (y 2))
/-- Their statistics. -/
def stats4 (q k : Vec Ideal Rows .bf16) : Vec Ideal Stats .f32 := fun y => stats (seq q (y 0)) (seq k (y 0)) (place (y 1) (y 2))

end Cert.Attn4

end
-- ==== Proof.FourPieces.lean ====
/-
  The attention over four sequences (dilation 4), its body alike.
  What the body stores at one grid point, store by store: the 64 blocks of numerators and 8 blocks of statistics are
  the tile's operations on what the body loads, whatever memory the loads come from; the values' copies are stored
  16 blocks to each of 8 scratch arrays, whose other columns hold ones from the first point on.
-/
module

public import proofs.«01_k».proof.Proof.Tile
public import proofs.«01_k».proof.Proof.Gen.Kernel5Ideal.Value

@[expose] public section

set_option maxRecDepth 65536
set_option maxHeartbeats 4000000

noncomputable section

namespace Cert.Attn4

open Idealize.ShloMosaic Idealize.ShloMosaic.TcCoe Idealize.SL.Sem
open Cert.Attn Cert.Kernel5Ideal Cert.Kernel5Ideal.Gen

/-! ## Rectangles -/

theorem inTile (j g : ℕ) : ∀ a, (![0, 128 * (j % 8), 128 * (g % 8)] : Fin 3 → ℕ) a + (![1, 128, 128] : Fin 3 → ℕ) a ≤ S1x1024x1024.size a :=
  Fin.forall_fin_succ.2 ⟨(by decide : 0 + 1 ≤ 1), Fin.forall_fin_two.2 ⟨(by omega : 128 * (j % 8) + 128 ≤ 1024), (by omega : 128 * (g % 8) + 128 ≤ 1024)⟩⟩
theorem inKeys (j g : ℕ) : ∀ a, (![0, 128 * (j % 7), 128 * (g % 8)] : Fin 3 → ℕ) a + (![1, 256, 128] : Fin 3 → ℕ) a ≤ S1x1024x1024.size a :=
  Fin.forall_fin_succ.2 ⟨(by decide : 0 + 1 ≤ 1), Fin.forall_fin_two.2 ⟨(by omega : 128 * (j % 7) + 256 ≤ 1024), (by omega : 128 * (g % 8) + 128 ≤ 1024)⟩⟩
theorem inHead (g : ℕ) : ∀ a, (![0, 0, 128 * (g % 8)] : Fin 3 → ℕ) a + (![1, 128, 128] : Fin 3 → ℕ) a ≤ S1x128x1024.size a :=
  Fin.forall_fin_succ.2 ⟨(by decide : 0 + 1 ≤ 1), Fin.forall_fin_two.2 ⟨(by decide : 0 + 128 ≤ 128), (by omega : 128 * (g % 8) + 128 ≤ 1024)⟩⟩
theorem inKeyCopy (g : ℕ) : ∀ a, (![0, 128 * (g % 8)] : Fin 2 → ℕ) a + (![256, 128] : Fin 2 → ℕ) a ≤ S256x1024.size a :=
  Fin.forall_fin_two.2 ⟨(by decide : 0 + 256 ≤ 256), (by omega : 128 * (g % 8) + 128 ≤ 1024)⟩
theorem inExt (i g : ℕ) : ∀ a, (![128 * (i % 2), 256 * (g % 8)] : Fin 2 → ℕ) a + (![128, 128] : Fin 2 → ℕ) a ≤ S256x2048.size a :=
  Fin.forall_fin_two.2 ⟨(by omega : 128 * (i % 2) + 128 ≤ 256), (by omega : 256 * (g % 8) + 128 ≤ 2048)⟩
theorem inOnes (g : ℕ) : ∀ a, (![0, 256 * (g % 8) + 128] : Fin 2 → ℕ) a + (![256, 128] : Fin 2 → ℕ) a ≤ S256x2048.size a :=
  Fin.forall_fin_two.2 ⟨(by decide : 0 + 256 ≤ 256), (by omega : 256 * (g % 8) + 128 + 128 ≤ 2048)⟩
theorem inVals (g : ℕ) : ∀ a, (![0, 256 * (g % 8)] : Fin 2 → ℕ) a + (![256, 128] : Fin 2 → ℕ) a ≤ S256x2048.size a :=
  Fin.forall_fin_two.2 ⟨(by decide : 0 + 256 ≤ 256), (by omega : 256 * (g % 8) + 128 ≤ 2048)⟩
theorem inPair (g : ℕ) : ∀ a, (![0, 256 * (g % 8)] : Fin 2 → ℕ) a + (![256, 256] : Fin 2 → ℕ) a ≤ S256x2048.size a :=
  Fin.forall_fin_two.2 ⟨(by decide : 0 + 256 ≤ 256), (by omega : 256 * (g % 8) + 256 ≤ 2048)⟩
theorem inStat (j : ℕ) : ∀ a, (![0, 128 * (j % 8), 0] : Fin 3 → ℕ) a + (![1, 128, 128] : Fin 3 → ℕ) a ≤ S1x1024x128.size a :=
  Fin.forall_fin_succ.2 ⟨(by decide : 0 + 1 ≤ 1), Fin.forall_fin_two.2 ⟨(by omega : 128 * (j % 8) + 128 ≤ 1024), (by decide : 0 + 128 ≤ 128)⟩⟩

abbrev tileR (j g : ℕ) : Rect S1x1024x1024 := Rect.unit ![0, 128 * (j % 8), 128 * (g % 8)] ![1, 128, 128] (inTile j g)
abbrev keysR (j g : ℕ) : Rect S1x1024x1024 := Rect.unit ![0, 128 * (j % 7), 128 * (g % 8)] ![1, 256, 128] (inKeys j g)
abbrev headR (g : ℕ) : Rect S1x128x1024 := Rect.unit ![0, 0, 128 * (g % 8)] ![1, 128, 128] (inHead g)
abbrev firstR : Rect S1x1024x1024 := Rect.unit ![0, 0, 0] ![1, 128, 1024] inb_S1x1024x1024_S1x128x1024_0_0_0
abbrev copyR (g : ℕ) : Rect S256x1024 := Rect.unit ![0, 128 * (g % 8)] ![256, 128] (inKeyCopy g)
abbrev pairR (g : ℕ) : Rect S256x2048 := Rect.unit ![0, 256 * (g % 8)] ![256, 256] (inPair g)
abbrev wholeR : Rect S1x128x1024 := Rect.unit ![0, 0, 0] ![1, 128, 1024] inb_S1x128x1024_S1x128x1024_0_0_0

/-! ## Lists of stores -/

/-- The first `n` numerator blocks, last first, over the tiles' scores and values. -/
def numPieces (S : ℕ → ℕ → FVec Ideal S256x256 .f32) (W : ℕ → ℕ → FVec Ideal S256x256 .bf16) : ℕ → List (View.Piece (Elt Ideal) S1x1024x1024 .bf16)
  | 0 => []
  | n + 1 => ⟨Rect.unit ![0, 128 * (n / 8 % 8), 128 * (n % 8)] ![1, 128, 128] (inTile (n / 8) n), numBlock (S (n / 8) (n % 8)) (W (n / 8) (n % 8))⟩ :: numPieces S W n
/-- The first `n` statistics blocks. -/
def statPieces (S : ℕ → ℕ → FVec Ideal S256x256 .f32) (W : ℕ → ℕ → FVec Ideal S256x256 .bf16) : ℕ → List (View.Piece (Elt Ideal) S1x1024x128 .f32)
  | 0 => []
  | n + 1 => ⟨Rect.unit ![0, 128 * (n % 8), 0] ![1, 128, 128] (inStat n), statBlock (S n) (W n)⟩ :: statPieces S W n
/-- The ones' blocks of one scratch array. -/
def onePieces : ℕ → List (View.Piece (Elt Ideal) S256x2048 .bf16)
  | 0 => []
  | n + 1 => ⟨Rect.unit ![0, 256 * (n % 8) + 128] ![256, 128] (inOnes n), shapeCast S256x128 (broadcast S256x128 (Scalar.ofBits (F := Ideal) .bf16 0x3F80#16)) shapeCasts_S256x128_S256x128⟩ :: onePieces n
/-- The first `n` value blocks of one scratch array, over the stores `L` before them; `lo`, `hi`: the earlier and the later 128 keys. -/
def valPieces (lo hi : ℕ → FVec Ideal S1x128x128 .bf16) (L : List (View.Piece (Elt Ideal) S256x2048 .bf16)) : ℕ → List (View.Piece (Elt Ideal) S256x2048 .bf16)
  | 0 => L
  | n + 1 => ⟨Rect.unit ![128 * (n % 2), 256 * (n / 2 % 8)] ![128, 128] (inExt n (n / 2)),
      shapeCast S128x128 (shapeCast S128x128 (match n % 2 with | 0 => lo (n / 2) | _ => hi (n / 2)) shapeCasts_S1x128x128_S128x128) shapeCasts_S128x128_S128x128⟩ :: valPieces lo hi L n
/-- The first `n` value blocks of one scratch array where the 256 keys are stored at once. -/
def pairPieces (w : ℕ → FVec Ideal S1x256x128 .bf16) (L : List (View.Piece (Elt Ideal) S256x2048 .bf16)) : ℕ → List (View.Piece (Elt Ideal) S256x2048 .bf16)
  | 0 => L
  | n + 1 => ⟨Rect.unit ![0, 256 * (n % 8)] ![256, 128] (inVals n),
      shapeCast S256x128 (shapeCast S256x128 (w n) shapeCasts_S1x256x128_S256x128) shapeCasts_S256x128_S256x128⟩ :: pairPieces w L n

/-! ## Loads -/

/-- A load of tile `(j, g)` of a `1024 × 1024` block. -/
abbrev tileLd (a : Memref sig .tc .vmem S1x1024x1024 .bf16) (ha : a.IsWhole) (x : Vec Ideal S1x1024x1024 .bf16) (j g : ℕ) : FVec Ideal S1x128x128 .bf16 :=
  View.readAt (Elt Ideal) a.view (tileR j g).toLoadRect (ha.unread x)
/-- A load of group `g` of a `128 × 1024` block. -/
abbrev headLd (a : Memref sig .tc .vmem S1x128x1024 .bf16) (ha : a.IsWhole) (x : Vec Ideal S1x128x1024 .bf16) (g : ℕ) : FVec Ideal S1x128x128 .bf16 :=
  View.readAt (Elt Ideal) a.view (headR g).toLoadRect (ha.unread x)
/-- A load of the 256 rows from row block `j` on, group `g`, of a `1024 × 1024` block. -/
abbrev keysLd (a : Memref sig .tc .vmem S1x1024x1024 .bf16) (ha : a.IsWhole) (x : Vec Ideal S1x1024x1024 .bf16) (j g : ℕ) : FVec Ideal S1x256x128 .bf16 :=
  View.readAt (Elt Ideal) a.view (keysR j g).toLoadRect (ha.unread x)
/-- The keys of tile `(j, g)`: of the first row block from their copy, of the others straight from the block of keys. -/
def keyLd (a9 : Memref sig .tc .vmem S256x1024 .bf16) (a3 : Memref sig .tc .vmem S1x128x1024 .bf16) (h3 : a3.IsWhole) (x1 : Vec Ideal S1x128x1024 .bf16)
    (a4 : Memref sig .tc .vmem S1x1024x1024 .bf16) (h4 : a4.IsWhole) (x2 : Vec Ideal S1x1024x1024 .bf16) : ℕ → ℕ → FVec Ideal S256x128 .bf16
  | 0, g => a9.view.readCov (Val := Elt Ideal)
      [⟨Rect.unit ![128, 0] ![128, 1024] inb_S256x1024_S128x1024_128_0, shapeCast S128x1024 (shapeCast S128x1024
          (View.readAt (Elt Ideal) a4.view firstR.toLoadRect (h4.unread x2)) shapeCasts_S1x128x1024_S128x1024) shapeCasts_S128x1024_S128x1024⟩,
       ⟨Rect.unit ![0, 0] ![128, 1024] inb_S256x1024_S128x1024_0_0, shapeCast S128x1024 (shapeCast S128x1024
          (View.readAt (Elt Ideal) a3.view wholeR.toLoadRect (h3.unread x1)) shapeCasts_S1x128x1024_S128x1024) shapeCasts_S128x1024_S128x1024⟩]
      (copyR g).toLoadRect
  | j + 1, g => shapeCast S256x128 (keysLd a4 h4 x2 j g) shapeCasts_S1x256x128_S256x128
/-- The stores of row block `j`'s values to its scratch array, over the stores `L` before them: the first row block's 128 keys before the block and
    its own 128 keys one after the other, a later one's 256 keys at once. -/
def extPieces (a5 : Memref sig .tc .vmem S1x128x1024 .bf16) (h5 : a5.IsWhole) (x3 : Vec Ideal S1x128x1024 .bf16)
    (a6 : Memref sig .tc .vmem S1x1024x1024 .bf16) (h6 : a6.IsWhole) (x4 : Vec Ideal S1x1024x1024 .bf16) (L : List (View.Piece (Elt Ideal) S256x2048 .bf16)) :
    ℕ → List (View.Piece (Elt Ideal) S256x2048 .bf16)
  | 0 => valPieces (headLd a5 h5 x3) (tileLd a6 h6 x4 0) L 16
  | j + 1 => pairPieces (keysLd a6 h6 x4 j) L 8
/-- The masks of the row blocks: of the first one at a sequence's beginning (`e` is 1 there), of the others. -/
def biasOf (e : BitVec 1) : ℕ → FVec Ideal S256x256 .f32
  | 0 => firstBias (Named.named (F := Ideal) κ "mask" (φ := .f32) 0xF149F2CA#32) e
  | _ + 1 => bandBias (Named.named (F := Ideal) κ "mask" (φ := .f32) 0xF149F2CA#32)
/-- The tiles' scores. -/
def scoreOf (Q : ℕ → ℕ → FVec Ideal S1x128x128 .bf16) (K : ℕ → ℕ → FVec Ideal S256x128 .bf16) (e : BitVec 1) (j g : ℕ) : FVec Ideal S256x256 .f32 :=
  scores (Q j g) (K j g) (biasOf e j)

end Cert.Attn4

end
-- ==== Proof.FourLoads.lean ====
/-
  The attention over four sequences (dilation 4), its body alike.
  What the body's loads hold: the keys and values of a row block are 256 consecutive rows of the 128 rows before the
  block followed by the block's own 1024; the extended value arrays hold those values in the even 128-lane groups and
  ones in the odd ones.
-/
module

public import proofs.«01_k».proof.Proof.FourPieces
public import Idealize.ShloMosaic.Lib.Writes

@[expose] public section

set_option maxRecDepth 16384

noncomputable section

namespace Cert.Attn4

open Idealize.ShloMosaic Idealize.SL.Sem
open Cert.Attn Cert.Kernel5Ideal Cert.Kernel5Ideal.Gen

/-- Row `n`, column `c` of the 128 rows `p` followed by the 1024 rows `b`. -/
def extRow (p : Vec Ideal S1x128x1024 .bf16) (b : Vec Ideal S1x1024x1024 .bf16) (n c : ℕ) : EReal :=
  if n < 128 then p (ix3 0 ⟨n % 128, by omega⟩ ⟨c % 1024, by omega⟩) else b (ix3 0 ⟨(n - 128) % 1024, by omega⟩ ⟨c % 1024, by omega⟩)

/-- What the extended value array of row block `j` holds. -/
def valT (p : Vec Ideal S1x128x1024 .bf16) (b : Vec Ideal S1x1024x1024 .bf16) (j : ℕ) : Vec Ideal S256x2048 .bf16 := fun y =>
  if (y 1).val / 128 % 2 = 0 then extRow p b (128 * j + (y 0).val) (128 * ((y 1).val / 256) + (y 1).val % 128) else (1 : EReal)

theorem readAt_unread {s : Shape} {e : EltTy} {sp : Space} (a : Memref sig .tc sp s e) (ha : a.IsWhole) (x : Vec Ideal s e) (r : Rect s) (i : r.shape.Idx) :
    View.readAt (Elt Ideal) a.view r.toLoadRect (ha.unread x) i = x (r.emb i) := by
  rw [View.readAt_eq_ld, ha.read_unread]
  rfl

theorem tileLd_apply (a : Memref sig .tc .vmem S1x1024x1024 .bf16) (ha : a.IsWhole) (x : Vec Ideal S1x1024x1024 .bf16) (j g : ℕ) (r l : Fin 128) :
    tileLd a ha x j g (ix3 0 r l) = x (ix3 0 ⟨128 * (j % 8) + r.val, by omega⟩ ⟨128 * (g % 8) + l.val, by omega⟩) := by
  refine (readAt_unread a ha x (tileR j g) _).trans (congrArg x ?_)
  refine Rect.emb_eq_of_coords _ _ _ fun a => ?_
  fin_cases a <;> simp

theorem headLd_apply (a : Memref sig .tc .vmem S1x128x1024 .bf16) (ha : a.IsWhole) (x : Vec Ideal S1x128x1024 .bf16) (g : ℕ) (r l : Fin 128) :
    headLd a ha x g (ix3 0 r l) = x (ix3 0 r ⟨128 * (g % 8) + l.val, by omega⟩) := by
  refine (readAt_unread a ha x (headR g) _).trans (congrArg x ?_)
  refine Rect.emb_eq_of_coords _ _ _ fun a => ?_
  fin_cases a <;> simp

theorem keysLd_apply (a : Memref sig .tc .vmem S1x1024x1024 .bf16) (ha : a.IsWhole) (x : Vec Ideal S1x1024x1024 .bf16) (j g : ℕ) (r : Fin 256) (l : Fin 128) :
    keysLd a ha x j g (ix3 0 r l) = x (ix3 0 ⟨128 * (j % 7) + r.val, by omega⟩ ⟨128 * (g % 8) + l.val, by omega⟩) := by
  refine (readAt_unread a ha x (keysR j g) _).trans (congrArg x ?_)
  refine Rect.emb_eq_of_coords _ _ _ fun a => ?_
  fin_cases a <;> simp

/-- The keys' copy. -/
def copyT (p : Vec Ideal S1x128x1024 .bf16) (b : Vec Ideal S1x1024x1024 .bf16) : Vec Ideal S256x1024 .bf16 := fun y => extRow p b (y 0).val (y 1).val

theorem keyLd_apply (a9 : Memref sig .tc .vmem S256x1024 .bf16) (a3 : Memref sig .tc .vmem S1x128x1024 .bf16) (h3 : a3.IsWhole) (x1 : Vec Ideal S1x128x1024 .bf16)
    (a4 : Memref sig .tc .vmem S1x1024x1024 .bf16) (h4 : a4.IsWhole) (x2 : Vec Ideal S1x1024x1024 .bf16) (j g : ℕ) (hj : j < 8) (hg : g < 8) (s : Fin 256) (l : Fin 128) :
    keyLd a9 a3 h3 x1 a4 h4 x2 j g (ix2 s l) = extRow x1 x2 (128 * j + s.val) (128 * g + l.val) := by
  cases j with
  | zero =>
    unfold keyLd
    dsimp only
    rw [View.readCov_eq_canon']
    have hidx : (copyR g).toLoadRect.idx (ix2 s l) = (ix2 s ⟨128 * g + l.val, by omega⟩ : S256x1024.Idx) := by
      refine Rect.emb_eq_of_coords (copyR g) (ix2 s l) (ix2 s ⟨128 * g + l.val, by omega⟩ : S256x1024.Idx) fun a => ?_
      fin_cases a
      · simp
      · simp; omega
    show View.canon _ ((copyR g).toLoadRect.idx (ix2 s l)) = _
    rw [hidx, View.canon_apply_of_pieces (copyT x1 x2)]
    · simp [copyT]
    · intro p hp
      simp only [List.mem_cons, List.not_mem_nil, or_false] at hp
      rcases hp with rfl | rfl
      · have key : ∀ (r : Fin 128) (c : Fin 1024), shapeCast S128x1024 (shapeCast S128x1024
          (View.readAt (Elt Ideal) a4.view firstR.toLoadRect (h4.unread x2)) shapeCasts_S1x128x1024_S128x1024) shapeCasts_S128x1024_S128x1024 (ix2 r c)
            = x2 (ix3 0 ⟨r.val, by omega⟩ c) := fun r c => by
          pointwise
          refine (readAt_unread a4 h4 x2 firstR _).trans (congrArg x2 ?_)
          refine Rect.emb_eq_of_coords _ _ _ fun a => ?_
          fin_cases a <;> simp
        intro x
        obtain ⟨r, c, rfl⟩ : ∃ (r : Fin 128) (c : Fin 1024), x = ix2 r c := ⟨_, _, eq_ix2 x⟩
        refine (key r c).trans ?_
        unfold copyT extRow
        rw [if_neg (by simp)]
        congr 2
        · simp; omega
        · exact Fin.ext (by simp; omega)
      · have key : ∀ (r : Fin 128) (c : Fin 1024), shapeCast S128x1024 (shapeCast S128x1024
          (View.readAt (Elt Ideal) a3.view wholeR.toLoadRect (h3.unread x1)) shapeCasts_S1x128x1024_S128x1024) shapeCasts_S128x1024_S128x1024 (ix2 r c)
            = x1 (ix3 0 r c) := fun r c => by
          pointwise
          refine (readAt_unread a3 h3 x1 wholeR _).trans (congrArg x1 ?_)
          refine Rect.emb_eq_of_coords _ _ _ fun a => ?_
          fin_cases a <;> simp
        intro x
        obtain ⟨r, c, rfl⟩ : ∃ (r : Fin 128) (c : Fin 1024), x = ix2 r c := ⟨_, _, eq_ix2 x⟩
        refine (key r c).trans ?_
        unfold copyT extRow
        rw [if_pos (by simp)]
        congr 2
        · exact Fin.ext (by simp; omega)
        · exact Fin.ext (by simp; omega)
    · by_cases h : s.val < 128
      · refine ⟨_, List.mem_cons_of_mem _ (List.mem_singleton.2 rfl), ?_⟩
        rw [Rect.mem_set_unit]
        intro a
        fin_cases a
        · simp; omega
        · simp; omega
      · refine ⟨_, List.mem_cons_self, ?_⟩
        rw [Rect.mem_set_unit]
        intro a
        fin_cases a
        · simp; omega
        · simp; omega
  | succ j =>
    unfold keyLd
    pointwise
    refine (keysLd_apply a4 h4 x2 j g s l).trans ?_
    unfold extRow
    rw [if_neg (by omega)]
    congr 2
    · exact Fin.ext (by show _ = _; simp only []; omega)
    · exact Fin.ext (by show _ = _; simp only []; omega)

/-! ## The extended values -/

variable (p : Vec Ideal S1x128x1024 .bf16) (b : Vec Ideal S1x1024x1024 .bf16)

theorem onePieces_agree (j : ℕ) : ∀ n, ∀ q ∈ onePieces n, ∀ x : q.1.shape.Idx, q.2 x = valT p b j (q.1.emb x)
  | 0, _, h => absurd h List.not_mem_nil
  | n + 1, q, h => by
    rcases List.mem_cons.1 h with rfl | h
    · intro x
      obtain ⟨r, c, rfl⟩ : ∃ (r : Fin 256) (c : Fin 128), x = ix2 r c := ⟨_, _, eq_ix2 x⟩
      have key : shapeCast S256x128 (broadcast S256x128 (Scalar.ofBits (F := Ideal) .bf16 0x3F80#16)) shapeCasts_S256x128_S256x128 (ix2 r c) = (1 : EReal) := by
        pointwise
      refine key.trans ?_
      unfold valT
      rw [if_neg]
      simp; omega
    · exact onePieces_agree j n q h

theorem valPieces_agree (lo hi : ℕ → FVec Ideal S1x128x128 .bf16) (L : List (View.Piece (Elt Ideal) S256x2048 .bf16)) (j : ℕ)
    (hlo : ∀ g (r l : Fin 128), lo g (ix3 0 r l) = extRow p b (128 * j + r.val) (128 * (g % 8) + l.val))
    (hhi : ∀ g (r l : Fin 128), hi g (ix3 0 r l) = extRow p b (128 * j + (128 + r.val)) (128 * (g % 8) + l.val))
    (hL : ∀ q ∈ L, ∀ x : q.1.shape.Idx, q.2 x = valT p b j (q.1.emb x)) :
    ∀ n, ∀ q ∈ valPieces lo hi L n, ∀ x : q.1.shape.Idx, q.2 x = valT p b j (q.1.emb x)
  | 0, q, h => hL q h
  | n + 1, q, h => by
    rcases List.mem_cons.1 h with rfl | h
    · intro x
      obtain ⟨r, c, rfl⟩ : ∃ (r : Fin 128) (c : Fin 128), x = ix2 r c := ⟨_, _, eq_ix2 x⟩
      have key : ∀ f : FVec Ideal S1x128x128 .bf16, shapeCast S128x128 (shapeCast S128x128 f shapeCasts_S1x128x128_S128x128) shapeCasts_S128x128_S128x128 (ix2 r c) = f (ix3 0 r c) := by
        intro f; pointwise
      refine (key _).trans ?_
      unfold valT
      rw [if_pos (by simp; omega)]
      rcases Nat.mod_two_eq_zero_or_one n with h0 | h0
      · simp only [h0]
        rw [hlo]
        congr 1
        · simp; omega
        · simp; omega
      · simp only [h0]
        rw [hhi]
        congr 1
        · simp; omega
        · simp; omega
    · exact valPieces_agree lo hi L j hlo hhi hL n q h

theorem pairPieces_agree (w : ℕ → FVec Ideal S1x256x128 .bf16) (L : List (View.Piece (Elt Ideal) S256x2048 .bf16)) (j : ℕ)
    (hw : ∀ g (r : Fin 256) (l : Fin 128), w g (ix3 0 r l) = extRow p b (128 * j + r.val) (128 * (g % 8) + l.val))
    (hL : ∀ q ∈ L, ∀ x : q.1.shape.Idx, q.2 x = valT p b j (q.1.emb x)) :
    ∀ n, ∀ q ∈ pairPieces w L n, ∀ x : q.1.shape.Idx, q.2 x = valT p b j (q.1.emb x)
  | 0, q, h => hL q h
  | n + 1, q, h => by
    rcases List.mem_cons.1 h with rfl | h
    · intro x
      obtain ⟨r, c, rfl⟩ : ∃ (r : Fin 256) (c : Fin 128), x = ix2 r c := ⟨_, _, eq_ix2 x⟩
      have key : ∀ f : FVec Ideal S1x256x128 .bf16, shapeCast S256x128 (shapeCast S256x128 f shapeCasts_S1x256x128_S256x128) shapeCasts_S256x128_S256x128 (ix2 r c) = f (ix3 0 r c) := by
        intro f; pointwise
      refine (key _).trans ?_
      rw [hw]
      unfold valT
      rw [if_pos (by simp; omega)]
      congr 1
      · simp
      · simp; omega
    · exact pairPieces_agree w L j hw hL n q h

theorem extPieces_agree (a5 : Memref sig .tc .vmem S1x128x1024 .bf16) (h5 : a5.IsWhole) (a6 : Memref sig .tc .vmem S1x1024x1024 .bf16) (h6 : a6.IsWhole)
    (L : List (View.Piece (Elt Ideal) S256x2048 .bf16)) (j : ℕ) (hj : j < 8) (hL : ∀ q ∈ L, ∀ x : q.1.shape.Idx, q.2 x = valT p b j (q.1.emb x)) :
    ∀ q ∈ extPieces a5 h5 p a6 h6 b L j, ∀ x : q.1.shape.Idx, q.2 x = valT p b j (q.1.emb x) := by
  cases j with
  | zero =>
    refine valPieces_agree p b _ _ L 0 (fun g r l => ?_) (fun g r l => ?_) hL 16
    · rw [headLd_apply]
      unfold extRow
      rw [if_pos (by omega)]
      congr 2
      · exact Fin.ext (by show _ = _; simp only []; omega)
      · exact Fin.ext (by show _ = _; simp only []; omega)
    · rw [tileLd_apply]
      unfold extRow
      rw [if_neg (by omega)]
      congr 2
      · exact Fin.ext (by show _ = _; simp only []; omega)
      · exact Fin.ext (by show _ = _; simp only []; omega)
  | succ j =>
    refine pairPieces_agree p b _ L (j + 1) (fun g r l => ?_) hL 8
    rw [keysLd_apply]
    unfold extRow
    rw [if_neg (by omega)]
    congr 2
    · exact Fin.ext (by show _ = _; simp only []; omega)
    · exact Fin.ext (by show _ = _; simp only []; omega)

/-- The stores cover the even groups. -/
theorem extPieces_cover (a5 : Memref sig .tc .vmem S1x128x1024 .bf16) (h5 : a5.IsWhole) (a6 : Memref sig .tc .vmem S1x1024x1024 .bf16) (h6 : a6.IsWhole)
    (L : List (View.Piece (Elt Ideal) S256x2048 .bf16)) (j : ℕ) (y : S256x2048.Idx) (hy : (y 1).val / 128 % 2 = 0) :
    ∃ q ∈ extPieces a5 h5 p a6 h6 b L j, y ∈ q.1.set := by
  have hy0 : (y 0).val < 256 := (y 0).isLt
  have hy1 : (y 1).val < 2048 := (y 1).isLt
  cases j with
  | zero =>
    have hit : ∀ n, ∀ k < n, 128 * (k % 2) ≤ (y 0).val → (y 0).val < 128 * (k % 2) + 128 → 256 * (k / 2 % 8) ≤ (y 1).val → (y 1).val < 256 * (k / 2 % 8) + 128 →
        ∃ q ∈ valPieces (headLd a5 h5 p) (tileLd a6 h6 b 0) L n, y ∈ q.1.set := by
      intro n
      induction n with
      | zero => intro k hk; omega
      | succ n ih =>
        intro k hk h1 h2 h3 h4
        by_cases e : k = n
        · subst e
          refine ⟨_, List.mem_cons_self, ?_⟩
          rw [Rect.mem_set_unit]
          intro a
          fin_cases a
          · exact ⟨h1, h2⟩
          · exact ⟨h3, h4⟩
        · obtain ⟨q, hq, hs⟩ := ih k (by omega) h1 h2 h3 h4
          exact ⟨q, List.mem_cons_of_mem _ hq, hs⟩
    exact hit 16 (2 * ((y 1).val / 256) + (y 0).val / 128) (by omega) (by omega) (by omega) (by omega) (by omega)
  | succ j =>
    have hit : ∀ n, ∀ k < n, 256 * (k % 8) ≤ (y 1).val → (y 1).val < 256 * (k % 8) + 128 →
        ∃ q ∈ pairPieces (keysLd a6 h6 b j) L n, y ∈ q.1.set := by
      intro n
      induction n with
      | zero => intro k hk; omega
      | succ n ih =>
        intro k hk h3 h4
        by_cases e : k = n
        · subst e
          refine ⟨_, List.mem_cons_self, ?_⟩
          rw [Rect.mem_set_unit]
          intro a
          fin_cases a
          · exact ⟨Nat.zero_le _, by show (y 0).val < 0 + 256; omega⟩
          · exact ⟨h3, h4⟩
        · obtain ⟨q, hq, hs⟩ := ih k (by omega) h3 h4
          exact ⟨q, List.mem_cons_of_mem _ hq, hs⟩
    exact hit 8 ((y 1).val / 256) (by omega) (by omega) (by omega)

/-- and, over the ones' stores, everything. -/
theorem extPieces_cover_ones (a5 : Memref sig .tc .vmem S1x128x1024 .bf16) (h5 : a5.IsWhole) (a6 : Memref sig .tc .vmem S1x1024x1024 .bf16) (h6 : a6.IsWhole)
    (j : ℕ) (y : S256x2048.Idx) : ∃ q ∈ extPieces a5 h5 p a6 h6 b (onePieces 8) j, y ∈ q.1.set := by
  by_cases hy : (y 1).val / 128 % 2 = 0
  · exact extPieces_cover p b a5 h5 a6 h6 _ j y hy
  have hy0 : (y 0).val < 256 := (y 0).isLt
  have hy1 : (y 1).val < 2048 := (y 1).isLt
  have keep : ∀ q ∈ onePieces 8, q ∈ extPieces a5 h5 p a6 h6 b (onePieces 8) j := by
    intro q hq
    cases j with
    | zero =>
      have : ∀ n, q ∈ valPieces (headLd a5 h5 p) (tileLd a6 h6 b 0) (onePieces 8) n := fun n => by
        induction n with
        | zero => exact hq
        | succ n ih => exact List.mem_cons_of_mem _ ih
      exact this 16
    | succ j =>
      have : ∀ n, q ∈ pairPieces (keysLd a6 h6 b j) (onePieces 8) n := fun n => by
        induction n with
        | zero => exact hq
        | succ n ih => exact List.mem_cons_of_mem _ ih
      exact this 8
  have hit : ∀ n, ∀ k < n, 256 * (k % 8) + 128 ≤ (y 1).val → (y 1).val < 256 * (k % 8) + 128 + 128 → ∃ q ∈ onePieces n, y ∈ q.1.set := by
    intro n
    induction n with
    | zero => intro k hk; omega
    | succ n ih =>
      intro k hk h3 h4
      by_cases e : k = n
      · subst e
        refine ⟨_, List.mem_cons_self, ?_⟩
        rw [Rect.mem_set_unit]
        intro a
        fin_cases a
        · exact ⟨Nat.zero_le _, by show (y 0).val < 0 + 256; omega⟩
        · exact ⟨h3, h4⟩
      · obtain ⟨q, hq, hs⟩ := ih k (by omega) h3 h4
        exact ⟨q, List.mem_cons_of_mem _ hq, hs⟩
  obtain ⟨q, hq, hs⟩ := hit 8 ((y 1).val / 256) (by omega) (by omega) (by omega)
  exact ⟨q, keep q hq, hs⟩

/-- A scratch array whose odd groups hold ones. -/
def Ones (x : Vec Ideal S256x2048 .bf16) : Prop := ∀ y : S256x2048.Idx, (y 1).val / 128 % 2 = 1 → x y = (1 : EReal)

/-- The stores read back over such an array. -/
theorem ext_over {κ' : Kind} {sp : Space} (v : View sig κ' sp S256x2048 .bf16) (f : v.ty.Contents (Elt Ideal)) (hf : Ones (v.read (Elt Ideal) f))
    (a5 : Memref sig .tc .vmem S1x128x1024 .bf16) (h5 : a5.IsWhole) (a6 : Memref sig .tc .vmem S1x1024x1024 .bf16) (h6 : a6.IsWhole) (j : ℕ) (hj : j < 8) :
    v.read (Elt Ideal) (v.writes (Elt Ideal) f (extPieces a5 h5 p a6 h6 b [] j)) = valT p b j := by
  funext y
  by_cases hm : ∃ q ∈ extPieces a5 h5 p a6 h6 b [] j, y ∈ q.1.set
  · exact View.read_writes_apply_of_pieces v f (valT p b j) _ (extPieces_agree p b a5 h5 a6 h6 [] j hj fun q hq => absurd hq List.not_mem_nil) y hm
  · have hy : ¬(y 1).val / 128 % 2 = 0 := fun h => hm (extPieces_cover p b a5 h5 a6 h6 [] j y h)
    rw [View.read_writes_apply_of_forall_not_mem v f y _ fun q hq hs => hm ⟨q, hq, hs⟩, hf y (by omega)]
    unfold valT
    rw [if_neg hy]

/-- The stores over the ones' stores. -/
theorem ext_canon (a5 : Memref sig .tc .vmem S1x128x1024 .bf16) (h5 : a5.IsWhole) (a6 : Memref sig .tc .vmem S1x1024x1024 .bf16) (h6 : a6.IsWhole) (j : ℕ) (hj : j < 8) :
    View.canon (extPieces a5 h5 p a6 h6 b (onePieces 8) j) = valT p b j :=
  funext fun y => View.canon_apply_of_pieces (valT p b j) _ (extPieces_agree p b a5 h5 a6 h6 _ j hj (onePieces_agree p b j 8)) y (extPieces_cover_ones p b a5 h5 a6 h6 j y)

theorem valT_ones (j : ℕ) : Ones (valT p b j) := fun y hy => by
  unfold valT
  rw [if_neg (by omega)]

/-- A group's values and ones. -/
theorem valT_pair (j g : ℕ) (hg : g < 8) (s c : Fin 256) :
    valT p b j ((pairR g).toLoadRect.idx (ix2 s c)) = if c.val < 128 then extRow p b (128 * j + s.val) (128 * g + c.val) else (1 : EReal) := by
  have hidx : (pairR g).toLoadRect.idx (ix2 s c) = (ix2 s ⟨256 * g + c.val, by omega⟩ : S256x2048.Idx) := by
    refine Rect.emb_eq_of_coords (pairR g) (ix2 s c) (ix2 s ⟨256 * g + c.val, by omega⟩ : S256x2048.Idx) fun a => ?_
    fin_cases a
    · simp
    · simp; omega
  rw [hidx]
  show (if (256 * g + c.val) / 128 % 2 = 0 then extRow p b (128 * j + s.val) (128 * ((256 * g + c.val) / 256) + (256 * g + c.val) % 128) else (1 : EReal)) = _
  by_cases h : c.val < 128
  · rw [if_pos h, if_pos (by omega)]
    congr 1
    omega
  · rw [if_neg h, if_neg (by omega)]

end Cert.Attn4

end
-- ==== Proof.FourBlock.lean ====
/-
  The attention over four sequences (dilation 4), its body alike.
  What one grid point's body stores, in plain terms: for each query row of the block and each head the weighted sum of
  the values over the admitted keys, and the lanes of statistics.
-/
module

public import proofs.«01_k».proof.Proof.FourLoads

@[expose] public section

set_option maxRecDepth 16384

noncomputable section

namespace Cert.Attn4

open Idealize.ShloMosaic Idealize.SL.Sem
open Cert.Attn Cert.Kernel5Ideal Cert.Kernel5Ideal.Gen

/-- The key is one of the 128 before the query or the query's own. -/
abbrev inWindow (n s : ℕ) : Prop := n % 128 ≤ s ∧ s ≤ n % 128 + 128
/-- The keys row `n` of a block admits; `e` is 1 at a sequence's beginning. -/
abbrev admits (e : BitVec 1) (n s : ℕ) : Prop := inWindow n s ∧ ¬(s < 128 ∧ n < 128 ∧ e = 1#1)

/-- Row `n`, column `c` of a block of queries. -/
def cell (x : Vec Ideal S1x1024x1024 .bf16) (n c : ℕ) : EReal := x (ix3 0 ⟨n % 1024, by omega⟩ ⟨c % 1024, by omega⟩)

variable (x0 : Vec Ideal S1x1024x1024 .bf16) (x1 : Vec Ideal S1x128x1024 .bf16) (x2 : Vec Ideal S1x1024x1024 .bf16)
  (x3 : Vec Ideal S1x128x1024 .bf16) (x4 : Vec Ideal S1x1024x1024 .bf16) (e : BitVec 1)

/-- The scores of row `n`, head `h`. -/
def blockScore (n h : ℕ) : Fin 256 → EReal :=
  score (fun u => cell x0 n (64 * h + u.val)) (fun s u => extRow x1 x2 (128 * (n / 128) + s.val) (64 * h + u.val)) (fun s => admits e n s.val)

/-- The block of numerators. -/
def numT : Vec Ideal S1x1024x1024 .bf16 := fun y =>
  numer (blockScore x0 x1 x2 e (y 1).val ((y 2).val / 64)) fun s => extRow x3 x4 (128 * ((y 1).val / 128) + s.val) (y 2).val
/-- The block of statistics. -/
def statT : Vec Ideal S1x1024x128 .f32 := fun y =>
  if (y 2).val < 16 then top (blockScore x0 x1 x2 e (y 1).val (y 2).val)
  else if (y 2).val < 32 then denom (blockScore x0 x1 x2 e (y 1).val ((y 2).val - 16)) else (1 : EReal)

theorem numer_ones (S V : Fin 256 → EReal) (hV : ∀ s, V s = 1) : numer S V = denom S :=
  Finset.sum_congr rfl fun s _ => by rw [hV, mul_one]

theorem mask_val : (Named.named (F := Ideal) κ "mask" (φ := .f32) 0xF149F2CA#32 : EReal) = ⊥ :=
  IdealRules.named_const.ideal_named_scalar _ _ _ _ rfl

theorem biasOf_apply (j : ℕ) (hj : j < 8) (R s : Fin 256) (a : EReal) :
    a + biasOf e j (ix2 R s) = if admits e (128 * j + R.val % 128) s.val then a else ⊥ := by
  have hm : (128 * j + R.val % 128) % 128 = R.val % 128 := by omega
  cases j with
  | zero =>
    show a + firstBias (Named.named (F := Ideal) κ "mask" (φ := .f32) 0xF149F2CA#32) e (ix2 R s) = _
    rw [mask_val, firstBias_apply]
    by_cases h : R.val % 128 ≤ s.val ∧ s.val ≤ R.val % 128 + 128
    · by_cases h' : s.val < 128 ∧ e = 1#1
      · rw [if_pos h, if_pos h', if_neg]
        · rw [EReal.add_bot, EReal.add_bot]
        · exact fun hh => hh.2 ⟨h'.1, by omega, h'.2⟩
      · rw [if_pos h, if_neg h', if_pos]
        · rw [add_zero, add_zero]
        · exact ⟨⟨by omega, by omega⟩, fun hh => h' ⟨hh.1, hh.2.2⟩⟩
    · rw [if_neg h, EReal.bot_add, EReal.add_bot, if_neg]
      exact fun hh => h ⟨by omega, by omega⟩
  | succ j =>
    show a + bandBias (Named.named (F := Ideal) κ "mask" (φ := .f32) 0xF149F2CA#32) (ix2 R s) = _
    rw [mask_val, bandBias_apply]
    by_cases h : R.val % 128 ≤ s.val ∧ s.val ≤ R.val % 128 + 128
    · rw [if_pos h, if_pos, add_zero]
      exact ⟨⟨by omega, by omega⟩, fun hh => by omega⟩
    · rw [if_neg h, if_neg (fun hh => h ⟨by omega, by omega⟩), EReal.add_bot]

/-- A tile's scores. -/
theorem scoreOf_apply (a2 : Memref sig .tc .vmem S1x1024x1024 .bf16) (h2 : a2.IsWhole) (a9 : Memref sig .tc .vmem S256x1024 .bf16)
    (a3 : Memref sig .tc .vmem S1x128x1024 .bf16) (h3 : a3.IsWhole) (a4 : Memref sig .tc .vmem S1x1024x1024 .bf16) (h4 : a4.IsWhole)
    (j g : ℕ) (hj : j < 8) (hg : g < 8) (R s : Fin 256) :
    scoreOf (tileLd a2 h2 x0) (keyLd a9 a3 h3 x1 a4 h4 x2) e j g (ix2 R s) = blockScore x0 x1 x2 e (128 * j + R.val % 128) (2 * g + R.val / 128) s := by
  unfold scoreOf
  rw [scores_apply, biasOf_apply e j hj]
  unfold blockScore score
  refine if_congr Iff.rfl (Finset.sum_congr rfl fun u _ => ?_) rfl
  rw [tileLd_apply, keyLd_apply a9 a3 h3 x1 a4 h4 x2 j g hj hg]
  unfold cell
  congr 1
  · congr 2
    · exact Fin.ext (by show _ = _; simp only []; omega)
    · exact Fin.ext (by show _ = _; simp only []; omega)
  · congr 1
    · omega
    · show 128 * g + (64 * (R.val / 128) + u.val) = _
      omega

/-! ## The stores -/

variable {x0 x1 x2 x3 x4 e} (S : ℕ → ℕ → FVec Ideal S256x256 .f32) (W : ℕ → ℕ → FVec Ideal S256x256 .bf16)
  (hS : ∀ j g, j < 8 → g < 8 → ∀ R s : Fin 256, S j g (ix2 R s) = blockScore x0 x1 x2 e (128 * j + R.val % 128) (2 * g + R.val / 128) s)
  (hW : ∀ j g, j < 8 → g < 8 → ∀ s c : Fin 256, W j g (ix2 s c) = if c.val < 128 then extRow x3 x4 (128 * j + s.val) (128 * g + c.val) else (1 : EReal))

include hS hW

theorem numPieces_agree : ∀ n, n ≤ 64 → ∀ q ∈ numPieces S W n, ∀ x : q.1.shape.Idx, q.2 x = numT x0 x1 x2 x3 x4 e (q.1.emb x)
  | 0, _, _, h => absurd h List.not_mem_nil
  | n + 1, hn, q, h => by
    rcases List.mem_cons.1 h with rfl | h
    · intro x
      obtain ⟨z, r, l, rfl⟩ : ∃ (z : Fin 1) (r l : Fin 128), x = ix3 z r l := ⟨_, _, _, eq_ix3 x⟩
      obtain rfl : z = 0 := Subsingleton.elim _ _
      refine (numBlock_apply _ _ r l).trans ?_
      have e0 : (Rect.unit ![0, 128 * (n / 8 % 8), 128 * (n % 8)] ![1, 128, 128] (inTile (n / 8) n) : Rect S1x1024x1024).emb (ix3 0 r l)
          = (ix3 0 ⟨128 * (n / 8) + r.val, by omega⟩ ⟨128 * (n % 8) + l.val, by omega⟩ : S1x1024x1024.Idx) := by
        refine Rect.emb_eq_of_coords _ _ _ fun a => ?_
        fin_cases a
        · simp
        · simp; omega
        · simp
      rw [e0]
      show _ = numer (blockScore x0 x1 x2 e (128 * (n / 8) + r.val) ((128 * (n % 8) + l.val) / 64))
        fun s => extRow x3 x4 (128 * ((128 * (n / 8) + r.val) / 128) + s.val) (128 * (n % 8) + l.val)
      congr 1
      · funext t
        rw [hS _ _ (by omega) (by omega)]
        congr 1
        · show 128 * (n / 8) + (128 * (l.val / 64) + r.val) % 128 = _
          omega
        · show 2 * (n % 8) + (128 * (l.val / 64) + r.val) / 128 = _
          omega
      · funext t
        rw [hW _ _ (by omega) (by omega), if_pos (show l.val < 128 from l.isLt)]
        congr 1
        omega
    · exact numPieces_agree n (by omega) q h

theorem statAcc_lane (j : ℕ) (hj : j < 8) (r l : Fin 128) :
    statAcc (S j) (W j) 8 (ix2 r l) = if l.val < 16 then top (blockScore x0 x1 x2 e (128 * j + r.val) l.val)
      else if l.val < 32 then denom (blockScore x0 x1 x2 e (128 * j + r.val) (l.val - 16)) else (1 : EReal) := by
  rw [statAcc_apply _ _ r l 8 le_rfl]
  by_cases h : l.val < 16
  · rw [if_pos (by omega), if_pos h, maxima_apply]
    congr 1
    funext t
    rw [hS _ _ hj (by omega)]
    congr 1
    · show 128 * j + (128 * (l.val % 2) + r.val) % 128 = _
      omega
    · show 2 * (l.val / 2) + (128 * (l.val % 2) + r.val) / 128 = _
      omega
  rw [if_neg (show ¬l.val / 2 < 8 by omega)]
  simp only [if_neg h]
  by_cases h' : l.val < 32
  · rw [if_pos (by omega), if_pos h', weighted_apply]
    have e1 : (fun t => S j (l.val / 2 - 8) (ix2 ⟨128 * (l.val % 2) + r.val, by omega⟩ t)) = blockScore x0 x1 x2 e (128 * j + r.val) (l.val - 16) := by
      funext t
      rw [hS _ _ hj (by omega)]
      congr 1
      · show 128 * j + (128 * (l.val % 2) + r.val) % 128 = _
        omega
      · show 2 * (l.val / 2 - 8) + (128 * (l.val % 2) + r.val) / 128 = _
        omega
    rw [e1]
    refine numer_ones _ _ fun t => ?_
    rw [hW _ _ hj (by omega), if_neg (show ¬128 + l.val < 128 by omega)]
  · rw [if_neg (by omega), if_neg h']

theorem statPieces_agree : ∀ n, n ≤ 8 → ∀ q ∈ statPieces S W n, ∀ x : q.1.shape.Idx, q.2 x = statT x0 x1 x2 e (q.1.emb x)
  | 0, _, _, h => absurd h List.not_mem_nil
  | n + 1, hn, q, h => by
    rcases List.mem_cons.1 h with rfl | h
    · intro x
      obtain ⟨z, r, l, rfl⟩ : ∃ (z : Fin 1) (r l : Fin 128), x = ix3 z r l := ⟨_, _, _, eq_ix3 x⟩
      obtain rfl : z = 0 := Subsingleton.elim _ _
      have e1 : statBlock (S n) (W n) (ix3 0 r l) = statAcc (S n) (W n) 8 (ix2 r l) := by
        unfold statBlock
        pointwise
      refine e1.trans ?_
      have e0 : (Rect.unit ![0, 128 * (n % 8), 0] ![1, 128, 128] (inStat n) : Rect S1x1024x128).emb (ix3 0 r l)
          = (ix3 0 ⟨128 * n + r.val, by omega⟩ l : S1x1024x128.Idx) := by
        refine Rect.emb_eq_of_coords _ _ _ fun a => ?_
        fin_cases a
        · simp
        · simp; omega
        · simp
      rw [e0]
      exact statAcc_lane S W hS hW n (by omega) r l
    · exact statPieces_agree n (by omega) q h

end Cert.Attn4

end
-- ==== Proof.FourStoresA.lean ====
/-
  The attention over four sequences (dilation 4), its body alike.
  The stores of the body at the first point, as the lists of Pieces.lean.
-/
module

public import proofs.«01_k».proof.Proof.FourPieces

@[expose] public section

set_option maxRecDepth 65536
set_option maxHeartbeats 4000000

noncomputable section

namespace Cert.Attn4

open Idealize.ShloMosaic Idealize.ShloMosaic.TcCoe Idealize.SL.Sem
open Cert.Attn Cert.Kernel5Ideal Cert.Kernel5Ideal.Gen

/-- The values of tile `(j, g)` and the ones beside them, loaded from scratch at the first point of a sequence: the stores of this point cover what is loaded. -/
def extLdA (arg5 : Memref sig .tc .vmem S1x128x1024 .bf16) (harg5 : arg5.IsWhole) (arg6 : Memref sig .tc .vmem S1x1024x1024 .bf16) (harg6 : arg6.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (x3 : Vec Ideal S1x128x1024 .bf16) (x4 : Vec Ideal S1x1024x1024 .bf16) : ℕ → ℕ → FVec Ideal S256x256 .bf16
  | 0, g => arg10.view.readCov (Val := Elt Ideal) (extPieces arg5 harg5 x3 arg6 harg6 x4 (onePieces 8) 0) (pairR g).toLoadRect
  | 1, g => arg11.view.readCov (Val := Elt Ideal) (extPieces arg5 harg5 x3 arg6 harg6 x4 (onePieces 8) 1) (pairR g).toLoadRect
  | 2, g => arg12.view.readCov (Val := Elt Ideal) (extPieces arg5 harg5 x3 arg6 harg6 x4 (onePieces 8) 2) (pairR g).toLoadRect
  | 3, g => arg13.view.readCov (Val := Elt Ideal) (extPieces arg5 harg5 x3 arg6 harg6 x4 (onePieces 8) 3) (pairR g).toLoadRect
  | 4, g => arg14.view.readCov (Val := Elt Ideal) (extPieces arg5 harg5 x3 arg6 harg6 x4 (onePieces 8) 4) (pairR g).toLoadRect
  | 5, g => arg15.view.readCov (Val := Elt Ideal) (extPieces arg5 harg5 x3 arg6 harg6 x4 (onePieces 8) 5) (pairR g).toLoadRect
  | 6, g => arg16.view.readCov (Val := Elt Ideal) (extPieces arg5 harg5 x3 arg6 harg6 x4 (onePieces 8) 6) (pairR g).toLoadRect
  | _, g => arg17.view.readCov (Val := Elt Ideal) (extPieces arg5 harg5 x3 arg6 harg6 x4 (onePieces 8) 7) (pairR g).toLoadRect

/-- The numerators' stores. -/
theorem numA (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).1 = numPieces (scoreOf (tileLd arg2 harg2 x0) (keyLd arg9 arg3 harg3 x1 arg4 harg4 x2) (Scalar.cmpi .eq (BitVec.ofNat 32 (i 1).val) 0#32)) (extLdA arg5 harg5 arg6 harg6 arg10 harg10 arg11 harg11 arg12 harg12 arg13 harg13 arg14 harg14 arg15 harg15 arg16 harg16 arg17 harg17 x3 x4) 64 := by
  rfl

/-- The statistics' stores. -/
theorem statA (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.1 = statPieces (scoreOf (tileLd arg2 harg2 x0) (keyLd arg9 arg3 harg3 x1 arg4 harg4 x2) (Scalar.cmpi .eq (BitVec.ofNat 32 (i 1).val) 0#32)) (extLdA arg5 harg5 arg6 harg6 arg10 harg10 arg11 harg11 arg12 harg12 arg13 harg13 arg14 harg14 arg15 harg15 arg16 harg16 arg17 harg17 x3 x4) 8 := by
  rfl

/-- The stores to scratch array 1. -/
theorem extA1 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.1 = (extPieces arg5 harg5 x3 arg6 harg6 x4 (onePieces 8) 0) := by
  rfl

/-- The stores to scratch array 2. -/
theorem extA2 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.1 = (extPieces arg5 harg5 x3 arg6 harg6 x4 (onePieces 8) 1) := by
  rfl

/-- The stores to scratch array 3. -/
theorem extA3 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.1 = (extPieces arg5 harg5 x3 arg6 harg6 x4 (onePieces 8) 2) := by
  rfl

/-- The stores to scratch array 4. -/
theorem extA4 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.1 = (extPieces arg5 harg5 x3 arg6 harg6 x4 (onePieces 8) 3) := by
  rfl

/-- The stores to scratch array 5. -/
theorem extA5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.2.1 = (extPieces arg5 harg5 x3 arg6 harg6 x4 (onePieces 8) 4) := by
  rfl

/-- The stores to scratch array 6. -/
theorem extA6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.2.2.1 = (extPieces arg5 harg5 x3 arg6 harg6 x4 (onePieces 8) 5) := by
  rfl

/-- The stores to scratch array 7. -/
theorem extA7 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.2.2.2.1 = (extPieces arg5 harg5 x3 arg6 harg6 x4 (onePieces 8) 6) := by
  rfl

/-- The stores to scratch array 8. -/
theorem extA8 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4).2.2.2.2.2.2.2.2.2.1 = (extPieces arg5 harg5 x3 arg6 harg6 x4 (onePieces 8) 7) := by
  rfl

end Cert.Attn4

end
-- ==== Proof.FourOutsA.lean ====
/-
  The attention over four sequences (dilation 4), its body alike.
  What the body leaves at the first point: the block of numerators, the block of statistics and the extended values
  of the eight scratch arrays.
-/
module

public import proofs.«01_k».proof.Proof.FourBlock
public import proofs.«01_k».proof.Proof.FourStoresA

@[expose] public section

set_option maxRecDepth 65536

noncomputable section

namespace Cert.Attn4

open Idealize.ShloMosaic Idealize.SL.Sem
open Cert.Attn Cert.Kernel5Ideal Cert.Kernel5Ideal.Gen

/-- 1 at a sequence's beginning. -/
def atStart (i : grid0.Coords) : BitVec 1 := Scalar.cmpi .eq (BitVec.ofNat 32 (i 1).val) 0#32

/-- The loaded values and ones. -/
theorem extLdA_apply (arg5 : Memref sig .tc .vmem S1x128x1024 .bf16) (harg5 : arg5.IsWhole) (arg6 : Memref sig .tc .vmem S1x1024x1024 .bf16) (harg6 : arg6.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (x3 : Vec Ideal S1x128x1024 .bf16) (x4 : Vec Ideal S1x1024x1024 .bf16) (j g : ℕ) (hj : j < 8) (hg : g < 8) (s c : Fin 256) :
    extLdA arg5 harg5 arg6 harg6 arg10 harg10 arg11 harg11 arg12 harg12 arg13 harg13 arg14 harg14 arg15 harg15 arg16 harg16 arg17 harg17 x3 x4 j g (ix2 s c) = if c.val < 128 then extRow x3 x4 (128 * j + s.val) (128 * g + c.val) else (1 : EReal) := by
  have key : ∀ j' : Fin 8, extLdA arg5 harg5 arg6 harg6 arg10 harg10 arg11 harg11 arg12 harg12 arg13 harg13 arg14 harg14 arg15 harg15 arg16 harg16 arg17 harg17 x3 x4 j'.val g = fun y => valT x3 x4 j'.val ((pairR g).toLoadRect.idx y) := by
    intro j'
    fin_cases j'
    · exact (View.readCov_eq_canon' arg10.view _ _).trans (by rw [ext_canon x3 x4 arg5 harg5 arg6 harg6 0 (by decide)])
    · exact (View.readCov_eq_canon' arg11.view _ _).trans (by rw [ext_canon x3 x4 arg5 harg5 arg6 harg6 1 (by decide)])
    · exact (View.readCov_eq_canon' arg12.view _ _).trans (by rw [ext_canon x3 x4 arg5 harg5 arg6 harg6 2 (by decide)])
    · exact (View.readCov_eq_canon' arg13.view _ _).trans (by rw [ext_canon x3 x4 arg5 harg5 arg6 harg6 3 (by decide)])
    · exact (View.readCov_eq_canon' arg14.view _ _).trans (by rw [ext_canon x3 x4 arg5 harg5 arg6 harg6 4 (by decide)])
    · exact (View.readCov_eq_canon' arg15.view _ _).trans (by rw [ext_canon x3 x4 arg5 harg5 arg6 harg6 5 (by decide)])
    · exact (View.readCov_eq_canon' arg16.view _ _).trans (by rw [ext_canon x3 x4 arg5 harg5 arg6 harg6 6 (by decide)])
    · exact (View.readCov_eq_canon' arg17.view _ _).trans (by rw [ext_canon x3 x4 arg5 harg5 arg6 harg6 7 (by decide)])
  rw [key ⟨j, hj⟩]
  exact valT_pair x3 x4 j g hg s c

theorem outA5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = numT x0 x1 x2 x3 x4 (atStart i) := by
  funext y
  unfold out0_A_5
  refine View.read_writes_apply_of_pieces VO0_5 _ (numT x0 x1 x2 x3 x4 (atStart i)) _ ?_ y (cover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 y)
  rw [numA]
  exact numPieces_agree (scoreOf (tileLd arg2 harg2 x0) (keyLd arg9 arg3 harg3 x1 arg4 harg4 x2) (atStart i)) (extLdA arg5 harg5 arg6 harg6 arg10 harg10 arg11 harg11 arg12 harg12 arg13 harg13 arg14 harg14 arg15 harg15 arg16 harg16 arg17 harg17 x3 x4) (fun j g hj hg R s => scoreOf_apply x0 x1 x2 (atStart i) arg2 harg2 arg9 arg3 harg3 arg4 harg4 j g hj hg R s)
    (fun j g hj hg s c => extLdA_apply arg5 harg5 arg6 harg6 arg10 harg10 arg11 harg11 arg12 harg12 arg13 harg13 arg14 harg14 arg15 harg15 arg16 harg16 arg17 harg17 x3 x4 j g hj hg s c) 64 le_rfl

theorem outA6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = statT x0 x1 x2 (atStart i) := by
  funext y
  unfold out0_A_6
  refine View.read_writes_apply_of_pieces VO0_6 _ (statT x0 x1 x2 (atStart i)) _ ?_ y (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 y)
  rw [statA]
  exact statPieces_agree (scoreOf (tileLd arg2 harg2 x0) (keyLd arg9 arg3 harg3 x1 arg4 harg4 x2) (atStart i)) (extLdA arg5 harg5 arg6 harg6 arg10 harg10 arg11 harg11 arg12 harg12 arg13 harg13 arg14 harg14 arg15 harg15 arg16 harg16 arg17 harg17 x3 x4) (fun j g hj hg R s => scoreOf_apply x0 x1 x2 (atStart i) arg2 harg2 arg9 arg3 harg3 arg4 harg4 j g hj hg R s)
    (fun j g hj hg s c => extLdA_apply arg5 harg5 arg6 harg6 arg10 harg10 arg11 harg11 arg12 harg12 arg13 harg13 arg14 harg14 arg15 harg15 arg16 harg16 arg17 harg17 x3 x4 j g hj hg s c) 8 le_rfl

theorem soutA1 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 0 := by
  unfold sout0_A_1
  rw [extA1]
  exact (View.read_writes_eq_canon VS0_1 _ _ (extPieces_cover_ones x3 x4 arg5 harg5 arg6 harg6 0)).trans (ext_canon x3 x4 arg5 harg5 arg6 harg6 0 (by decide))

theorem soutA2 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 1 := by
  unfold sout0_A_2
  rw [extA2]
  exact (View.read_writes_eq_canon VS0_2 _ _ (extPieces_cover_ones x3 x4 arg5 harg5 arg6 harg6 1)).trans (ext_canon x3 x4 arg5 harg5 arg6 harg6 1 (by decide))

theorem soutA3 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 2 := by
  unfold sout0_A_3
  rw [extA3]
  exact (View.read_writes_eq_canon VS0_3 _ _ (extPieces_cover_ones x3 x4 arg5 harg5 arg6 harg6 2)).trans (ext_canon x3 x4 arg5 harg5 arg6 harg6 2 (by decide))

theorem soutA4 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 3 := by
  unfold sout0_A_4
  rw [extA4]
  exact (View.read_writes_eq_canon VS0_4 _ _ (extPieces_cover_ones x3 x4 arg5 harg5 arg6 harg6 3)).trans (ext_canon x3 x4 arg5 harg5 arg6 harg6 3 (by decide))

theorem soutA5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 4 := by
  unfold sout0_A_5
  rw [extA5]
  exact (View.read_writes_eq_canon VS0_5 _ _ (extPieces_cover_ones x3 x4 arg5 harg5 arg6 harg6 4)).trans (ext_canon x3 x4 arg5 harg5 arg6 harg6 4 (by decide))

theorem soutA6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 5 := by
  unfold sout0_A_6
  rw [extA6]
  exact (View.read_writes_eq_canon VS0_6 _ _ (extPieces_cover_ones x3 x4 arg5 harg5 arg6 harg6 5)).trans (ext_canon x3 x4 arg5 harg5 arg6 harg6 5 (by decide))

theorem soutA7 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 6 := by
  unfold sout0_A_7
  rw [extA7]
  exact (View.read_writes_eq_canon VS0_7 _ _ (extPieces_cover_ones x3 x4 arg5 harg5 arg6 harg6 6)).trans (ext_canon x3 x4 arg5 harg5 arg6 harg6 6 (by decide))

theorem soutA8 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) :
    sout0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 = valT x3 x4 7 := by
  unfold sout0_A_8
  rw [extA8]
  exact (View.read_writes_eq_canon VS0_8 _ _ (extPieces_cover_ones x3 x4 arg5 harg5 arg6 harg6 7)).trans (ext_canon x3 x4 arg5 harg5 arg6 harg6 7 (by decide))

end Cert.Attn4

end
-- ==== Proof.FourStoresB.lean ====
/-
  The attention over four sequences (dilation 4), its body alike.
  The stores of the body at a later point, as the lists of Pieces.lean.
-/
module

public import proofs.«01_k».proof.Proof.FourPieces

@[expose] public section

set_option maxRecDepth 65536
set_option maxHeartbeats 4000000

noncomputable section

namespace Cert.Attn4

open Idealize.ShloMosaic Idealize.ShloMosaic.TcCoe Idealize.SL.Sem
open Cert.Attn Cert.Kernel5Ideal Cert.Kernel5Ideal.Gen

/-- The values of tile `(j, g)` and the ones beside them, loaded from scratch at a later point: over what the scratch held before. -/
def extLdB (arg5 : Memref sig .tc .vmem S1x128x1024 .bf16) (harg5 : arg5.IsWhole) (arg6 : Memref sig .tc .vmem S1x1024x1024 .bf16) (harg6 : arg6.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (x3 : Vec Ideal S1x128x1024 .bf16) (x4 : Vec Ideal S1x1024x1024 .bf16) (xs1 xs2 xs3 xs4 xs5 xs6 xs7 xs8 : Vec Ideal S256x2048 .bf16) : ℕ → ℕ → FVec Ideal S256x256 .bf16
  | 0, g => View.readAt (Elt Ideal) arg10.view (pairR g).toLoadRect (arg10.view.writes (Elt Ideal) (harg10.unread xs1) (extPieces arg5 harg5 x3 arg6 harg6 x4 [] 0))
  | 1, g => View.readAt (Elt Ideal) arg11.view (pairR g).toLoadRect (arg11.view.writes (Elt Ideal) (harg11.unread xs2) (extPieces arg5 harg5 x3 arg6 harg6 x4 [] 1))
  | 2, g => View.readAt (Elt Ideal) arg12.view (pairR g).toLoadRect (arg12.view.writes (Elt Ideal) (harg12.unread xs3) (extPieces arg5 harg5 x3 arg6 harg6 x4 [] 2))
  | 3, g => View.readAt (Elt Ideal) arg13.view (pairR g).toLoadRect (arg13.view.writes (Elt Ideal) (harg13.unread xs4) (extPieces arg5 harg5 x3 arg6 harg6 x4 [] 3))
  | 4, g => View.readAt (Elt Ideal) arg14.view (pairR g).toLoadRect (arg14.view.writes (Elt Ideal) (harg14.unread xs5) (extPieces arg5 harg5 x3 arg6 harg6 x4 [] 4))
  | 5, g => View.readAt (Elt Ideal) arg15.view (pairR g).toLoadRect (arg15.view.writes (Elt Ideal) (harg15.unread xs6) (extPieces arg5 harg5 x3 arg6 harg6 x4 [] 5))
  | 6, g => View.readAt (Elt Ideal) arg16.view (pairR g).toLoadRect (arg16.view.writes (Elt Ideal) (harg16.unread xs7) (extPieces arg5 harg5 x3 arg6 harg6 x4 [] 6))
  | _, g => View.readAt (Elt Ideal) arg17.view (pairR g).toLoadRect (arg17.view.writes (Elt Ideal) (harg17.unread xs8) (extPieces arg5 harg5 x3 arg6 harg6 x4 [] 7))

/-- The numerators' stores. -/
theorem numB (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).1 = numPieces (scoreOf (tileLd arg2 harg2 x0) (keyLd arg9 arg3 harg3 x1 arg4 harg4 x2) (Scalar.cmpi .eq (BitVec.ofNat 32 (i 1).val) 0#32)) (extLdB arg5 harg5 arg6 harg6 arg10 harg10 arg11 harg11 arg12 harg12 arg13 harg13 arg14 harg14 arg15 harg15 arg16 harg16 arg17 harg17 x3 x4 xs1 xs2 xs3 xs4 xs5 xs6 xs7 xs8) 64 := by
  rfl

/-- The statistics' stores. -/
theorem statB (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.1 = statPieces (scoreOf (tileLd arg2 harg2 x0) (keyLd arg9 arg3 harg3 x1 arg4 harg4 x2) (Scalar.cmpi .eq (BitVec.ofNat 32 (i 1).val) 0#32)) (extLdB arg5 harg5 arg6 harg6 arg10 harg10 arg11 harg11 arg12 harg12 arg13 harg13 arg14 harg14 arg15 harg15 arg16 harg16 arg17 harg17 x3 x4 xs1 xs2 xs3 xs4 xs5 xs6 xs7 xs8) 8 := by
  rfl

/-- The stores to scratch array 1. -/
theorem extB1 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.1 = (extPieces arg5 harg5 x3 arg6 harg6 x4 [] 0) := by
  rfl

/-- The stores to scratch array 2. -/
theorem extB2 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.1 = (extPieces arg5 harg5 x3 arg6 harg6 x4 [] 1) := by
  rfl

/-- The stores to scratch array 3. -/
theorem extB3 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.1 = (extPieces arg5 harg5 x3 arg6 harg6 x4 [] 2) := by
  rfl

/-- The stores to scratch array 4. -/
theorem extB4 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.1 = (extPieces arg5 harg5 x3 arg6 harg6 x4 [] 3) := by
  rfl

/-- The stores to scratch array 5. -/
theorem extB5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.2.1 = (extPieces arg5 harg5 x3 arg6 harg6 x4 [] 4) := by
  rfl

/-- The stores to scratch array 6. -/
theorem extB6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.2.2.1 = (extPieces arg5 harg5 x3 arg6 harg6 x4 [] 5) := by
  rfl

/-- The stores to scratch array 7. -/
theorem extB7 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.2.2.2.1 = (extPieces arg5 harg5 x3 arg6 harg6 x4 [] 6) := by
  rfl

/-- The stores to scratch array 8. -/
theorem extB8 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8).2.2.2.2.2.2.2.2.2.1 = (extPieces arg5 harg5 x3 arg6 harg6 x4 [] 7) := by
  rfl

end Cert.Attn4

end
-- ==== Proof.FourOutsB.lean ====
/-
  The attention over four sequences (dilation 4), its body alike.
  What the body leaves at a later point: the block of numerators, the block of statistics and the extended values
  of the eight scratch arrays, where the arrays held ones in their odd groups before.
-/
module

public import proofs.«01_k».proof.Proof.FourBlock
public import proofs.«01_k».proof.Proof.FourStoresB
public import proofs.«01_k».proof.Proof.FourOutsA

@[expose] public section

set_option maxRecDepth 65536

noncomputable section

namespace Cert.Attn4

open Idealize.ShloMosaic Idealize.SL.Sem
open Cert.Attn Cert.Kernel5Ideal Cert.Kernel5Ideal.Gen

/-- The loaded values and ones. -/
theorem extLdB_apply (arg5 : Memref sig .tc .vmem S1x128x1024 .bf16) (harg5 : arg5.IsWhole) (arg6 : Memref sig .tc .vmem S1x1024x1024 .bf16) (harg6 : arg6.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (x3 : Vec Ideal S1x128x1024 .bf16) (x4 : Vec Ideal S1x1024x1024 .bf16) (xs1 xs2 xs3 xs4 xs5 xs6 xs7 xs8 : Vec Ideal S256x2048 .bf16) (hx1 : Ones xs1) (hx2 : Ones xs2) (hx3 : Ones xs3) (hx4 : Ones xs4) (hx5 : Ones xs5) (hx6 : Ones xs6) (hx7 : Ones xs7) (hx8 : Ones xs8) (j g : ℕ) (hj : j < 8) (hg : g < 8) (s c : Fin 256) :
    extLdB arg5 harg5 arg6 harg6 arg10 harg10 arg11 harg11 arg12 harg12 arg13 harg13 arg14 harg14 arg15 harg15 arg16 harg16 arg17 harg17 x3 x4 xs1 xs2 xs3 xs4 xs5 xs6 xs7 xs8 j g (ix2 s c) = if c.val < 128 then extRow x3 x4 (128 * j + s.val) (128 * g + c.val) else (1 : EReal) := by
  have key : ∀ j' : Fin 8, extLdB arg5 harg5 arg6 harg6 arg10 harg10 arg11 harg11 arg12 harg12 arg13 harg13 arg14 harg14 arg15 harg15 arg16 harg16 arg17 harg17 x3 x4 xs1 xs2 xs3 xs4 xs5 xs6 xs7 xs8 j'.val g = fun y => valT x3 x4 j'.val ((pairR g).toLoadRect.idx y) := by
    intro j'
    fin_cases j'
    · exact (View.readAt_eq_ld arg10.view _ _).trans (by rw [ext_over x3 x4 arg10.view _ (by rw [harg10.read_unread]; exact hx1) arg5 harg5 arg6 harg6 0 (by decide)])
    · exact (View.readAt_eq_ld arg11.view _ _).trans (by rw [ext_over x3 x4 arg11.view _ (by rw [harg11.read_unread]; exact hx2) arg5 harg5 arg6 harg6 1 (by decide)])
    · exact (View.readAt_eq_ld arg12.view _ _).trans (by rw [ext_over x3 x4 arg12.view _ (by rw [harg12.read_unread]; exact hx3) arg5 harg5 arg6 harg6 2 (by decide)])
    · exact (View.readAt_eq_ld arg13.view _ _).trans (by rw [ext_over x3 x4 arg13.view _ (by rw [harg13.read_unread]; exact hx4) arg5 harg5 arg6 harg6 3 (by decide)])
    · exact (View.readAt_eq_ld arg14.view _ _).trans (by rw [ext_over x3 x4 arg14.view _ (by rw [harg14.read_unread]; exact hx5) arg5 harg5 arg6 harg6 4 (by decide)])
    · exact (View.readAt_eq_ld arg15.view _ _).trans (by rw [ext_over x3 x4 arg15.view _ (by rw [harg15.read_unread]; exact hx6) arg5 harg5 arg6 harg6 5 (by decide)])
    · exact (View.readAt_eq_ld arg16.view _ _).trans (by rw [ext_over x3 x4 arg16.view _ (by rw [harg16.read_unread]; exact hx7) arg5 harg5 arg6 harg6 6 (by decide)])
    · exact (View.readAt_eq_ld arg17.view _ _).trans (by rw [ext_over x3 x4 arg17.view _ (by rw [harg17.read_unread]; exact hx8) arg5 harg5 arg6 harg6 7 (by decide)])
  rw [key ⟨j, hj⟩]
  exact valT_pair x3 x4 j g hg s c

theorem outB5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx1 : Ones xs1) (hx2 : Ones xs2) (hx3 : Ones xs3) (hx4 : Ones xs4) (hx5 : Ones xs5) (hx6 : Ones xs6) (hx7 : Ones xs7) (hx8 : Ones xs8) :
    out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = numT x0 x1 x2 x3 x4 (atStart i) := by
  funext y
  unfold out0_B_5
  refine View.read_writes_apply_of_pieces VO0_5 _ (numT x0 x1 x2 x3 x4 (atStart i)) _ ?_ y (cover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 y)
  rw [numB]
  exact numPieces_agree (scoreOf (tileLd arg2 harg2 x0) (keyLd arg9 arg3 harg3 x1 arg4 harg4 x2) (atStart i)) (extLdB arg5 harg5 arg6 harg6 arg10 harg10 arg11 harg11 arg12 harg12 arg13 harg13 arg14 harg14 arg15 harg15 arg16 harg16 arg17 harg17 x3 x4 xs1 xs2 xs3 xs4 xs5 xs6 xs7 xs8) (fun j g hj hg R s => scoreOf_apply x0 x1 x2 (atStart i) arg2 harg2 arg9 arg3 harg3 arg4 harg4 j g hj hg R s)
    (fun j g hj hg s c => extLdB_apply arg5 harg5 arg6 harg6 arg10 harg10 arg11 harg11 arg12 harg12 arg13 harg13 arg14 harg14 arg15 harg15 arg16 harg16 arg17 harg17 x3 x4 xs1 xs2 xs3 xs4 xs5 xs6 xs7 xs8 hx1 hx2 hx3 hx4 hx5 hx6 hx7 hx8 j g hj hg s c) 64 le_rfl

theorem outB6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx1 : Ones xs1) (hx2 : Ones xs2) (hx3 : Ones xs3) (hx4 : Ones xs4) (hx5 : Ones xs5) (hx6 : Ones xs6) (hx7 : Ones xs7) (hx8 : Ones xs8) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = statT x0 x1 x2 (atStart i) := by
  funext y
  unfold out0_B_6
  refine View.read_writes_apply_of_pieces VO0_6 _ (statT x0 x1 x2 (atStart i)) _ ?_ y (cover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 y)
  rw [statB]
  exact statPieces_agree (scoreOf (tileLd arg2 harg2 x0) (keyLd arg9 arg3 harg3 x1 arg4 harg4 x2) (atStart i)) (extLdB arg5 harg5 arg6 harg6 arg10 harg10 arg11 harg11 arg12 harg12 arg13 harg13 arg14 harg14 arg15 harg15 arg16 harg16 arg17 harg17 x3 x4 xs1 xs2 xs3 xs4 xs5 xs6 xs7 xs8) (fun j g hj hg R s => scoreOf_apply x0 x1 x2 (atStart i) arg2 harg2 arg9 arg3 harg3 arg4 harg4 j g hj hg R s)
    (fun j g hj hg s c => extLdB_apply arg5 harg5 arg6 harg6 arg10 harg10 arg11 harg11 arg12 harg12 arg13 harg13 arg14 harg14 arg15 harg15 arg16 harg16 arg17 harg17 x3 x4 xs1 xs2 xs3 xs4 xs5 xs6 xs7 xs8 hx1 hx2 hx3 hx4 hx5 hx6 hx7 hx8 j g hj hg s c) 8 le_rfl

theorem soutB1 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx1 : Ones xs1) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 0 := by
  unfold sout0_B_1
  rw [extB1]
  exact ext_over x3 x4 arg10.view _ (by rw [harg10.read_unread]; exact hx1) arg5 harg5 arg6 harg6 0 (by decide)

theorem soutB2 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx2 : Ones xs2) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 1 := by
  unfold sout0_B_2
  rw [extB2]
  exact ext_over x3 x4 arg11.view _ (by rw [harg11.read_unread]; exact hx2) arg5 harg5 arg6 harg6 1 (by decide)

theorem soutB3 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx3 : Ones xs3) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 2 := by
  unfold sout0_B_3
  rw [extB3]
  exact ext_over x3 x4 arg12.view _ (by rw [harg12.read_unread]; exact hx3) arg5 harg5 arg6 harg6 2 (by decide)

theorem soutB4 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx4 : Ones xs4) :
    sout0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 3 := by
  unfold sout0_B_4
  rw [extB4]
  exact ext_over x3 x4 arg13.view _ (by rw [harg13.read_unread]; exact hx4) arg5 harg5 arg6 harg6 3 (by decide)

theorem soutB5 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx5 : Ones xs5) :
    sout0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 4 := by
  unfold sout0_B_5
  rw [extB5]
  exact ext_over x3 x4 arg14.view _ (by rw [harg14.read_unread]; exact hx5) arg5 harg5 arg6 harg6 4 (by decide)

theorem soutB6 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx6 : Ones xs6) :
    sout0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 5 := by
  unfold sout0_B_6
  rw [extB6]
  exact ext_over x3 x4 arg15.view _ (by rw [harg15.read_unread]; exact hx6) arg5 harg5 arg6 harg6 5 (by decide)

theorem soutB7 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx7 : Ones xs7) :
    sout0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 6 := by
  unfold sout0_B_7
  rw [extB7]
  exact ext_over x3 x4 arg16.view _ (by rw [harg16.read_unread]; exact hx7) arg5 harg5 arg6 harg6 6 (by decide)

theorem soutB8 (c : Dev nD) (i : grid0.Coords) (arg2 : Memref sig .tc .vmem S1x1024x1024 .bf16) (harg2 : arg2.IsWhole) (arg3 : Memref sig .tc .vmem S1x128x1024 .bf16) (harg3 : arg3.IsWhole) (arg4 : Memref sig .tc .vmem S1x1024x1024 .bf16) (harg4 : arg4.IsWhole) (arg5 : Memref sig .tc .vmem S1x128x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x128 .f32) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x2048 .bf16) (harg16 : arg16.IsWhole) (arg17 : Memref sig .tc .vmem S256x2048 .bf16) (harg17 : arg17.IsWhole) (hc0 : ¬cond0_0 i)
    (x0 : Vec Ideal S1x1024x1024 .bf16) (x1 : Vec Ideal S1x128x1024 .bf16) (x2 : Vec Ideal S1x1024x1024 .bf16) (x3 : Vec Ideal S1x128x1024 .bf16) (x4 : Vec Ideal S1x1024x1024 .bf16) (xs1 : Vec Ideal S256x2048 .bf16) (xs2 : Vec Ideal S256x2048 .bf16) (xs3 : Vec Ideal S256x2048 .bf16) (xs4 : Vec Ideal S256x2048 .bf16) (xs5 : Vec Ideal S256x2048 .bf16) (xs6 : Vec Ideal S256x2048 .bf16) (xs7 : Vec Ideal S256x2048 .bf16) (xs8 : Vec Ideal S256x2048 .bf16) (hx8 : Ones xs8) :
    sout0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 xs1 xs2 xs3 xs4 xs5 xs6 xs7 xs8 = valT x3 x4 7 := by
  unfold sout0_B_8
  rw [extB8]
  exact ext_over x3 x4 arg17.view _ (by rw [harg17.read_unread]; exact hx8) arg5 harg5 arg6 harg6 7 (by decide)

end Cert.Attn4

end
-- ==== Proof.FourPoints.lean ====
/-
  The attention over four sequences (dilation 4). The grid points and the arrays after the run: every point's blocks are the attention's, the scratch arrays' odd groups
  holding ones from the first point on; so the two arrays the run leaves are the attention's numerators and statistics.
-/
module

public import proofs.«01_k».proof.Proof.FourArray
public import proofs.«01_k».proof.Proof.FourOutsA
public import proofs.«01_k».proof.Proof.FourOutsB
public import Idealize.ShloMosaic.Lib.Pipeline.ValueKit.Point

@[expose] public section

set_option maxRecDepth 65536

noncomputable section

namespace Cert.Attn4

open Idealize.ShloMosaic Idealize.SL.Sem Idealize.ShloMosaic.TcCoe
open Cert.Attn Cert.Kernel5Ideal Cert.Kernel5Ideal.Gen Cert.Kernel5Ideal.Value

variable (m : (ℓ : Loc nD τ sig) → Buf (Elt Ideal) ℓ) (c : Dev nD)

/-- What point `t` leaves: its two blocks and the scratch arrays. -/
def leaves (t : Fin cfg0.N) : Vec Ideal S1x1024x1024 .bf16 × Vec Ideal S1x1024x128 .f32 × Vec Ideal S256x2048 .bf16 × Vec Ideal S256x2048 .bf16 × Vec Ideal S256x2048 .bf16 × Vec Ideal S256x2048 .bf16 × Vec Ideal S256x2048 .bf16 × Vec Ideal S256x2048 .bf16 × Vec Ideal S256x2048 .bf16 × Vec Ideal S256x2048 .bf16 :=
  (numT (iblk m c 0 t) (iblk m c 1 t) (iblk m c 2 t) (iblk m c 3 t) (iblk m c 4 t) (atStart (grid0.coords t)),
   statT (iblk m c 0 t) (iblk m c 1 t) (iblk m c 2 t) (atStart (grid0.coords t)),
   valT (iblk m c 3 t) (iblk m c 4 t) 0, valT (iblk m c 3 t) (iblk m c 4 t) 1, valT (iblk m c 3 t) (iblk m c 4 t) 2, valT (iblk m c 3 t) (iblk m c 4 t) 3,
   valT (iblk m c 3 t) (iblk m c 4 t) 4, valT (iblk m c 3 t) (iblk m c 4 t) 5, valT (iblk m c 3 t) (iblk m c 4 t) 6, valT (iblk m c 3 t) (iblk m c 4 t) 7)

theorem outsAt0_eq : ∀ (n : ℕ) (hn : n < cfg0.N), outsAt0 m c n hn = leaves m c ⟨n, hn⟩
  | 0, hn => by
    rw [outsAt0_A m c ⟨0, hn⟩ rfl, outA5, outA6, soutA1, soutA2, soutA3, soutA4, soutA5, soutA6, soutA7, soutA8]
    rfl
  | n + 1, hn => by
    have hN : cfg0.N = 8 := N_0
    have h0 : ¬(⟨n + 1, hn⟩ : Fin cfg0.N).val % 8 = 0 := by
      show ¬(n + 1) % 8 = 0
      omega
    have ih : outsAt0 m c ((⟨n + 1, hn⟩ : Fin cfg0.N).val - 1) (Nat.lt_of_le_of_lt (Nat.sub_le _ _) hn) = leaves m c ⟨n, by omega⟩ := outsAt0_eq n (by omega)
    rw [outsAt0_B m c ⟨n + 1, hn⟩ h0, ih]
    unfold leaves
    dsimp only
    have ones := valT_ones (iblk m c 3 ⟨n, by omega⟩) (iblk m c 4 ⟨n, by omega⟩)
    rw [outB5 (hx1 := ones 0) (hx2 := ones 1) (hx3 := ones 2) (hx4 := ones 3) (hx5 := ones 4) (hx6 := ones 5) (hx7 := ones 6) (hx8 := ones 7),
      outB6 (hx1 := ones 0) (hx2 := ones 1) (hx3 := ones 2) (hx4 := ones 3) (hx5 := ones 4) (hx6 := ones 5) (hx7 := ones 6) (hx8 := ones 7),
      soutB1 (hx1 := ones 0), soutB2 (hx2 := ones 1), soutB3 (hx3 := ones 2), soutB4 (hx4 := ones 3), soutB5 (hx5 := ones 4), soutB6 (hx6 := ones 5),
      soutB7 (hx7 := ones 6), soutB8 (hx8 := ones 7)]

/-! ## The blocks' places -/

/-- The call's queries, keys and values. -/
abbrev argQ : Vec Ideal S4x2048x1024 .bf16 := m ((c : Thread nD τ).loc main_arg0)
abbrev argK : Vec Ideal S4x2048x1024 .bf16 := m ((c : Thread nD τ).loc main_arg1)
abbrev argV : Vec Ideal S4x2048x1024 .bf16 := m ((c : Thread nD τ).loc main_arg2)

theorem places : ∀ t : Fin cfg0.N, win0_0.index t = ![t.val / 2, t.val % 2, 0] ∧ win0_1.index t = ![t.val / 2, 8 * (t.val % 2) - 1, 0] ∧ win0_2.index t = ![t.val / 2, t.val % 2, 0]
    ∧ win0_3.index t = ![t.val / 2, 8 * (t.val % 2) - 1, 0] ∧ win0_4.index t = ![t.val / 2, t.val % 2, 0] :=
  (by decide +kernel : ∀ t : Fin grid0.N, win0_0.index t = ![t.val / 2, t.val % 2, 0] ∧ win0_1.index t = ![t.val / 2, 8 * (t.val % 2) - 1, 0] ∧ win0_2.index t = ![t.val / 2, t.val % 2, 0]
    ∧ win0_3.index t = ![t.val / 2, 8 * (t.val % 2) - 1, 0] ∧ win0_4.index t = ![t.val / 2, t.val % 2, 0])

theorem starts : ∀ t : Fin cfg0.N, atStart (grid0.coords t) = 1#1 ↔ t.val % 2 = 0 :=
  (by decide +kernel : ∀ t : Fin grid0.N, atStart (grid0.coords t) = 1#1 ↔ t.val % 2 = 0)

/-- The sequence point `t` works on. -/
def ofPoint (t : Fin cfg0.N) : Fin 4 := ⟨t.val / 2, by have ht : t.val < 8 := lt_of_lt_of_eq t.isLt N_0; omega⟩

theorem q_block (t : Fin cfg0.N) (n : Fin 1024) (l : Fin 1024) :
    (iblk m c 0 t : Vec Ideal S1x1024x1024 .bf16) (ix3 0 n l) = row (seq (argQ m c) (ofPoint t)) (1024 * (t.val % 2) + n.val) l.val := by
  have ht : t.val < 8 := lt_of_lt_of_eq t.isLt N_0
  have hp := (places t).1
  unfold row seq ofPoint
  blk_ext [iblk, V, hp]

theorem k_prev (t : Fin cfg0.N) (n : Fin 128) (l : Fin 1024) (h : 0 < t.val % 2) :
    (iblk m c 1 t : Vec Ideal S1x128x1024 .bf16) (ix3 0 n l) = row (seq (argK m c) (ofPoint t)) (1024 * (t.val % 2) + n.val - 128) l.val := by
  have ht : t.val < 8 := lt_of_lt_of_eq t.isLt N_0
  have hp := (places t).2.1
  unfold row seq ofPoint
  blk_ext [iblk, V, hp]

theorem k_block (t : Fin cfg0.N) (n : Fin 1024) (l : Fin 1024) :
    (iblk m c 2 t : Vec Ideal S1x1024x1024 .bf16) (ix3 0 n l) = row (seq (argK m c) (ofPoint t)) (1024 * (t.val % 2) + n.val) l.val := by
  have ht : t.val < 8 := lt_of_lt_of_eq t.isLt N_0
  have hp := (places t).2.2.1
  unfold row seq ofPoint
  blk_ext [iblk, V, hp]

theorem v_prev (t : Fin cfg0.N) (n : Fin 128) (l : Fin 1024) (h : 0 < t.val % 2) :
    (iblk m c 3 t : Vec Ideal S1x128x1024 .bf16) (ix3 0 n l) = row (seq (argV m c) (ofPoint t)) (1024 * (t.val % 2) + n.val - 128) l.val := by
  have ht : t.val < 8 := lt_of_lt_of_eq t.isLt N_0
  have hp := (places t).2.2.2.1
  unfold row seq ofPoint
  blk_ext [iblk, V, hp]

theorem v_block (t : Fin cfg0.N) (n : Fin 1024) (l : Fin 1024) :
    (iblk m c 4 t : Vec Ideal S1x1024x1024 .bf16) (ix3 0 n l) = row (seq (argV m c) (ofPoint t)) (1024 * (t.val % 2) + n.val) l.val := by
  have ht : t.val < 8 := lt_of_lt_of_eq t.isLt N_0
  have hp := (places t).2.2.2.2
  unfold row seq ofPoint
  blk_ext [iblk, V, hp]

/-! ## The arrays -/

theorem G5_eq : (G5 m c : Vec Ideal S4x2048x1024 .bf16) = attn4 (argQ m c) (argK m c) (argV m c) := by
  funext y
  obtain ⟨z, n, l, rfl⟩ : ∃ (z : Fin 4) (n : Fin 2048) (l : Fin 1024), y = ix3 z n l := ⟨_, _, _, eq_ix3 y⟩
  have hr : pt5Of (ix3 z n l) = 2 * z.val + n.val / 1024 := by
    show 2 * (z.val / 1 - 0) + 1 * (n.val / 1024 - 0) + 1 * (l.val / 1024 - 0) = _
    omega
  have hN : cfg0.N = 8 := N_0
  have hlt : 2 * z.val + n.val / 1024 < cfg0.N := by omega
  have hlt' : pt5Of (ix3 z n l) < cfg0.N := by rw [hr]; exact hlt
  have hloc : loc5Of (ix3 z n l) = ix3 0 ⟨n.val % 1024, by omega⟩ ⟨l.val, l.isLt⟩ := by
    funext a
    fin_cases a
    · exact Subsingleton.elim (α := Fin 1) _ _
    · rfl
    · exact Fin.ext (Nat.mod_eq_of_lt l.isLt)
  unfold G5
  rw [dif_pos hlt', ← outsAt0_sweep m c _ hlt', outsAt0_eq, hloc]
  have hpt : (⟨pt5Of (ix3 z n l), hlt'⟩ : Fin cfg0.N) = ⟨2 * z.val + n.val / 1024, hlt⟩ := Fin.ext hr
  rw [hpt]
  have hz : ofPoint ⟨2 * z.val + n.val / 1024, hlt⟩ = z := Fin.ext (show (2 * z.val + n.val / 1024) / 2 = z.val by omega)
  have hb : (2 * z.val + n.val / 1024) % 2 = n.val / 1024 := by omega
  refine (Cert.Attn.numT_eq _ _ _ _ _ _ (seq (argQ m c) (ofPoint ⟨_, hlt⟩)) (seq (argK m c) (ofPoint ⟨_, hlt⟩)) (seq (argV m c) (ofPoint ⟨_, hlt⟩)) ((2 * z.val + n.val / 1024) % 2) (by omega) (starts ⟨_, hlt⟩) (q_block m c ⟨_, hlt⟩) (k_prev m c ⟨_, hlt⟩)
    (k_block m c ⟨_, hlt⟩) (v_prev m c ⟨_, hlt⟩) (v_block m c ⟨_, hlt⟩)
    (n.val % 1024) l.val (by omega) l.isLt).trans ?_
  rw [hz]
  unfold attn4 place
  refine congrArg (fun i : Fin 8192 => attn (seq (argQ m c) z) (seq (argK m c) z) (seq (argV m c) z) (ix3 0 i l)) (Fin.ext ?_)
  show 1024 * ((2 * z.val + n.val / 1024) % 2) + n.val % 1024 = n.val
  omega

theorem G6_eq : (G6 m c : Vec Ideal S4x2048x128 .f32) = stats4 (argQ m c) (argK m c) := by
  funext y
  obtain ⟨z, n, l, rfl⟩ : ∃ (z : Fin 4) (n : Fin 2048) (l : Fin 128), y = ix3 z n l := ⟨_, _, _, eq_ix3 y⟩
  have hr : pt6Of (ix3 z n l) = 2 * z.val + n.val / 1024 := by
    show 2 * (z.val / 1 - 0) + 1 * (n.val / 1024 - 0) + 1 * (l.val / 128 - 0) = _
    omega
  have hN : cfg0.N = 8 := N_0
  have hlt : 2 * z.val + n.val / 1024 < cfg0.N := by omega
  have hlt' : pt6Of (ix3 z n l) < cfg0.N := by rw [hr]; exact hlt
  have hloc : loc6Of (ix3 z n l) = ix3 0 ⟨n.val % 1024, by omega⟩ ⟨l.val, l.isLt⟩ := by
    funext a
    fin_cases a
    · exact Subsingleton.elim (α := Fin 1) _ _
    · rfl
    · exact Fin.ext (Nat.mod_eq_of_lt l.isLt)
  unfold G6
  rw [dif_pos hlt', ← outsAt0_sweep m c _ hlt', outsAt0_eq, hloc]
  have hpt : (⟨pt6Of (ix3 z n l), hlt'⟩ : Fin cfg0.N) = ⟨2 * z.val + n.val / 1024, hlt⟩ := Fin.ext hr
  rw [hpt]
  have hz : ofPoint ⟨2 * z.val + n.val / 1024, hlt⟩ = z := Fin.ext (show (2 * z.val + n.val / 1024) / 2 = z.val by omega)
  have hb : (2 * z.val + n.val / 1024) % 2 = n.val / 1024 := by omega
  refine (Cert.Attn.statT_eq _ _ _ _ (seq (argQ m c) (ofPoint ⟨_, hlt⟩)) (seq (argK m c) (ofPoint ⟨_, hlt⟩)) ((2 * z.val + n.val / 1024) % 2) (by omega) (starts ⟨_, hlt⟩) (q_block m c ⟨_, hlt⟩) (k_prev m c ⟨_, hlt⟩)
    (k_block m c ⟨_, hlt⟩)
    (n.val % 1024) l.val (by omega) l.isLt).trans ?_
  rw [hz]
  unfold stats4 place
  refine congrArg (fun i : Fin 8192 => stats (seq (argQ m c) z) (seq (argK m c) z) (ix3 0 i l)) (Fin.ext ?_)
  show 1024 * ((2 * z.val + n.val / 1024) % 2) + n.val % 1024 = n.val
  omega

end Cert.Attn4

end
-- ==== Proof.FourReference.lean ====
/-
  The attention over four sequences (dilation 4). The reference read at an index: its scores, its mask, its weights and its two sums are the plain definitions of the
  attention, so its two results are `attn4` and `stats4` of its arguments.
-/
module

public import proofs.«01_k».proof.Proof.FourArray
public import proofs.«01_k».proof.Proof.Reference
public import proofs.«01_k».proof.Proof.Gen.Reference5Ideal.Read
public import Idealize.ShloMosaic.Lib.KernelVsHost

@[expose] public section

set_option maxRecDepth 16384

noncomputable section

namespace Cert.Attn4

open Idealize.ShloMosaic Idealize.SL.Sem
open Cert.Attn Cert.Reference5Ideal Cert.Reference5Ideal.Gen Cert.Reference5Ideal.Read

variable (q k v : Vec Ideal S4x2048x1024 .bf16)

/-! ## The blocks of heads -/

theorem block_apply (j : S4x16x128x16x64.Idx) : val_main_v10 (F := Ideal) q j = row (seq q (j 0)) (128 * (j 1).val + (j 2).val) (64 * (j 3).val + (j 4).val) := by
  rw [val_main_v10_apply]
  show q _ = q _
  have h0 : (j 0).val < 4 := (j 0).isLt
  have h1 : (j 1).val < 16 := (j 1).isLt
  have h2 : (j 2).val < 128 := (j 2).isLt
  have h3 : (j 3).val < 16 := (j 3).isLt
  have h4 : (j 4).val < 64 := (j 4).isLt
  refine congrArg q (funext fun a => Fin.ext ?_)
  match a with
  | ⟨0, _⟩ =>
    show (((((j 0).val * 16 + (j 1).val) * 128 + (j 2).val) * 16 + (j 3).val) * 64 + (j 4).val) / 2097152 = (j 0).val
    omega
  | ⟨1, _⟩ =>
    show (((((j 0).val * 16 + (j 1).val) * 128 + (j 2).val) * 16 + (j 3).val) * 64 + (j 4).val) / 1024 % 2048 = (128 * (j 1).val + (j 2).val) % 8192 % 2048
    omega
  | ⟨2, _⟩ =>
    show (((((j 0).val * 16 + (j 1).val) * 128 + (j 2).val) * 16 + (j 3).val) * 64 + (j 4).val) % 1024 = (64 * (j 3).val + (j 4).val) % 1024
    omega

/-- The keys of a block and the block before it. -/
theorem keys_apply (j : S4x16x256x16x64.Idx) : val_main_v17 (F := Ideal) k j = late (seq k (j 0)) (128 * (j 1).val + (j 2).val) (64 * (j 3).val + (j 4).val) := by
  have h0 : (j 0).val < 4 := (j 0).isLt
  have h1 : (j 1).val < 16 := (j 1).isLt
  have h2 : (j 2).val < 256 := (j 2).isLt
  unfold val_main_v17 late
  by_cases hb : (j 2).val < 128
  · rw [concatenate_pair_apply_left 2 _ _ concatenates_S4x16x128x16x64_S4x16x128x16x64_S4x16x256x16x64_d2 j rfl
      (fun a => match a with | ⟨0, _⟩ => j 0 | ⟨1, _⟩ => j 1 | ⟨2, _⟩ => ⟨(j 2).val, hb⟩ | ⟨3, _⟩ => j 3 | ⟨4, _⟩ => j 4 : S4x16x128x16x64.Idx)
      (fun b => match b with | ⟨0, _⟩ => rfl | ⟨1, _⟩ => rfl | ⟨2, _⟩ => rfl | ⟨3, _⟩ => rfl | ⟨4, _⟩ => rfl), val_main_v16_apply]
    unfold val_main_v15
    by_cases hn : (j 1).val = 0
    · rw [if_pos (by omega), pad_apply_of_not_inside _ _ _ _ _ _ _ _ 1 (by
        rintro ⟨h, -, -⟩
        have h' : 1 ≤ (j 1).val := h
        omega)]
      show (((0#32 : BitVec 32).toInt : ℝ) : EReal) = 0
      simp
    · rw [if_neg (by omega), pad_apply_of_inside _ _ _ _ _ _ _ _
        (fun a => match a with | ⟨0, _⟩ => j 0 | ⟨1, _⟩ => ⟨(j 1).val - 1, by show _ < 16; omega⟩ | ⟨2, _⟩ => ⟨(j 2).val, hb⟩ | ⟨3, _⟩ => j 3 | ⟨4, _⟩ => j 4 : S4x16x128x16x64.Idx)
        (fun a => match a with
          | ⟨0, _⟩ => by show (j 0).val = 0 + (j 0).val * 1; omega
          | ⟨1, _⟩ => by show (j 1).val = 1 + ((j 1).val - 1) * 1; omega
          | ⟨2, _⟩ => by show (j 2).val = 0 + (j 2).val * 1; omega
          | ⟨3, _⟩ => by show (j 3).val = 0 + (j 3).val * 1; omega
          | ⟨4, _⟩ => by show (j 4).val = 0 + (j 4).val * 1; omega)]
      refine (block_apply k _).trans ?_
      show row (seq k (j 0)) (128 * ((j 1).val - 1) + (j 2).val) (64 * (j 3).val + (j 4).val) = _
      congr 1
      omega
  · rw [concatenate_pair_apply_right 2 _ _ concatenates_S4x16x128x16x64_S4x16x128x16x64_S4x16x256x16x64_d2 j rfl rfl
      (fun a => match a with | ⟨0, _⟩ => j 0 | ⟨1, _⟩ => j 1 | ⟨2, _⟩ => ⟨(j 2).val - 128, by show _ < 128; omega⟩ | ⟨3, _⟩ => j 3 | ⟨4, _⟩ => j 4 : S4x16x128x16x64.Idx)
      (fun b hb => match b, hb with | ⟨0, _⟩, _ => rfl | ⟨1, _⟩, _ => rfl | ⟨2, _⟩, hb => absurd rfl hb | ⟨3, _⟩, _ => rfl | ⟨4, _⟩, _ => rfl)
      (by show (j 2).val - 128 + 128 = (j 2).val; omega), if_neg (by omega)]
    refine (block_apply k _).trans ?_
    show row (seq k (j 0)) (128 * (j 1).val + ((j 2).val - 128)) (64 * (j 3).val + (j 4).val) = _
    congr 1
    omega

/-! ## The mask -/

theorem mask_apply (j : S1x16x1x128x256.Idx) : val_main_v41 (F := Ideal) j = if sees (128 * (j 1).val + (j 3).val) (j 4).val then 1#1 else 0#1 := by
  have h1 : (j 1).val < 16 := (j 1).isLt
  have h3 : (j 3).val < 128 := (j 3).isLt
  have h4 : (j 4).val < 256 := (j 4).isLt
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply, val_main_v28_apply, val_main_v27_apply,
    val_main_v26_apply, val_main_v25_apply, val_main_v24_apply, val_main_v23_apply, val_main_v22_apply, val_main_v8_apply, val_main_v7_apply, val_main_v6_apply,
    val_main_v5_apply, val_main_v4_apply, val_main_v3_apply, val_main_v2_apply, val_main_v1_apply, val_main_v0_apply,
    val_main_c_apply, val_main_c_2_apply, val_main_c_3_apply, val_main_c_4_apply, val_main_c_5_apply]
  have band := inBand ⟨(j 3).val, h3⟩ ⟨(j 4).val, h4⟩
  have prev := (by decide +kernel : ∀ (n : Fin 16) (s : Fin 256),
    IntOp.ori (IntOp.cmpi .sgt (BitVec.ofNat 32 n.val) 0#32) (IntOp.cmpi .sge (BitVec.ofNat 32 s.val) 128#32) = if 128 ≤ s.val ∨ 0 < n.val then 1#1 else 0#1) ⟨(j 1).val, h1⟩ ⟨(j 4).val, h4⟩
  refine (congrArg₂ IntOp.andi band prev).trans ?_
  have hm : (128 * (j 1).val + (j 3).val) % 128 = (j 3).val := by omega
  unfold sees inWindow
  rw [hm]
  have hd : 128 ≤ 128 * (j 1).val + (j 3).val ↔ 0 < (j 1).val := by omega
  simp only [hd]
  by_cases hA : (j 3).val ≤ (j 4).val ∧ (j 4).val ≤ (j 3).val + 128 <;> by_cases hB : 128 ≤ (j 4).val ∨ 0 < (j 1).val <;> simp [hA, hB] <;> decide

/-! ## The scores and their weights -/

theorem scores_read (j : S4x16x16x128x256.Idx) :
    val_main_v42 (F := Ideal) q k j = headScore (seq q (j 0)) (seq k (j 0)) (128 * (j 1).val + (j 3).val) (j 2).val ⟨(j 4).val, (j 4).isLt⟩ := by
  have h3 : (j 3).val < 128 := (j 3).isLt
  have hd : (128 * (j 1).val + (j 3).val) / 128 = (j 1).val := by omega
  rw [val_main_v42_apply, val_main_call2_v1_apply, mask_apply, val_main_v21_apply, val_main_call2_v2_apply]
  unfold headScore score
  rw [hd]
  show Scalar.select (if sees (128 * (j 1).val + (j 3).val) (j 4).val then 1#1 else 0#1) _ _ = if sees (128 * (j 1).val + (j 3).val) (j 4).val then _ else _
  by_cases h : sees (128 * (j 1).val + (j 3).val) (j 4).val
  · rw [if_pos h, if_pos h]
    show (∑ u : Fin 64, val_main_v10 (F := Ideal) q (lidx_main_v21 j u) * val_main_v17 (F := Ideal) k (ridx_main_v21 j u)) = _
    refine Finset.sum_congr rfl fun u _ => ?_
    rw [block_apply, keys_apply]
    rfl
  · rw [if_neg h, if_neg h]
    exact neg_inf

theorem top_read (j : S4x16x16x128.Idx) : val_main_v43 (F := Ideal) q k j = top (headScore (seq q (j 0)) (seq k (j 0)) (128 * (j 1).val + (j 3).val) (j 2).val) := by
  unfold val_main_v43 top
  rw [Host.reduce_eq_fold_single _ _ _ _ (by decide : S4x16x16x128x256.Reduces [4] S4x16x16x128)]
  have hb : val_main_cst_6 (F := Ideal) (Shape.Idx.first h_S_) = ⊥ := by
    rw [val_main_cst_6_apply]
    exact neg_inf
  rw [hb]
  refine Finset.fold_congr fun s _ => ?_
  exact scores_read q k _

theorem weight_read (j : S4x16x16x128x256.Idx) :
    val_main_v50 (F := Ideal) q k j = weight (headScore (seq q (j 0)) (seq k (j 0)) (128 * (j 1).val + (j 3).val) (j 2).val) ⟨(j 4).val, (j 4).isLt⟩ := by
  rw [val_main_v50_apply, val_main_v49_apply, val_main_v48_apply, val_main_v47_apply, val_main_v46_apply, val_main_v45_apply, val_main_v44_apply, scores_read, top_read,
    val_main_cst_7_apply]
  show Ideal.exp ((_ - _) * Ideal.log (Ideal.ofBits .f32 0x40000000#32)) = Ideal.exp2 (_ - _)
  rw [two]
  have hl : Ideal.log ((2 : ℝ) : EReal) = ((Real.log 2 : ℝ) : EReal) := if_neg (by norm_num)
  rw [hl, exp_log_two]
  rfl

theorem denom_read (j : S4x16x16x128.Idx) : val_main_v51 (F := Ideal) q k j = denom (headScore (seq q (j 0)) (seq k (j 0)) (128 * (j 1).val + (j 3).val) (j 2).val) := by
  rw [val_main_v51_apply, val_main_cst_8_apply]
  have h0 : FloatOps.ofBits (F := Ideal) .f32 0x00000000#32 = (0 : EReal) := by
    show Ideal.ofBits .f32 0x00000000#32 = 0
    simp [Ideal.ofBits, Ideal.ieee]
  rw [h0, zero_add]
  exact Finset.sum_congr rfl fun s _ => weight_read q k _

/-! ## The two results -/

theorem attn_read : val_main_v56 (F := Ideal) q k v = attn4 q k v := by
  funext y
  have h0 : (y 0).val < 4 := (y 0).isLt
  have h1 : (y 1).val < 2048 := (y 1).isLt
  have h2 : (y 2).val < 1024 := (y 2).isLt
  rw [val_main_v56_apply]
  show val_main_v54 (F := Ideal) q k v y = _
  rw [val_main_v54_apply, val_main_v53_apply, val_main_v52_apply]
  unfold attn4 attn numer place
  refine Finset.sum_congr rfl fun s _ => ?_
  rw [mul_comm]
  have h4 : (⟨(((y 0).val * 2048 + (y 1).val) * 1024 + (y 2).val) / 2097152, by omega⟩ : Fin 4) = y 0 := Fin.ext (show (((y 0).val * 2048 + (y 1).val) * 1024 + (y 2).val) / 2097152 = (y 0).val by omega)
  have hN : (((y 0).val * 2048 + (y 1).val) * 1024 + (y 2).val) / 131072 % 16 = (y 1).val / 128 := by omega
  have hr : (((y 0).val * 2048 + (y 1).val) * 1024 + (y 2).val) / 1024 % 128 = (y 1).val % 128 := by omega
  have hh : (((y 0).val * 2048 + (y 1).val) * 1024 + (y 2).val) / 64 % 16 = (y 2).val / 64 := by omega
  have hc : (((y 0).val * 2048 + (y 1).val) * 1024 + (y 2).val) % 64 = (y 2).val % 64 := by omega
  refine congrArg₂ (· * ·) ((weight_read q k _).trans ?_) ((keys_apply v _).trans ?_)
  · show weight (headScore (seq q ⟨(((y 0).val * 2048 + (y 1).val) * 1024 + (y 2).val) / 2097152, _⟩) (seq k ⟨(((y 0).val * 2048 + (y 1).val) * 1024 + (y 2).val) / 2097152, _⟩) (128 * ((((y 0).val * 2048 + (y 1).val) * 1024 + (y 2).val) / 131072 % 16) + (((y 0).val * 2048 + (y 1).val) * 1024 + (y 2).val) / 1024 % 128)
      ((((y 0).val * 2048 + (y 1).val) * 1024 + (y 2).val) / 64 % 16)) s = _
    rw [h4, hN, hr, hh, Nat.div_add_mod]
    rfl
  · show late (seq v ⟨(((y 0).val * 2048 + (y 1).val) * 1024 + (y 2).val) / 2097152, _⟩) (128 * ((((y 0).val * 2048 + (y 1).val) * 1024 + (y 2).val) / 131072 % 16) + s.val)
      (64 * ((((y 0).val * 2048 + (y 1).val) * 1024 + (y 2).val) / 64 % 16) + (((y 0).val * 2048 + (y 1).val) * 1024 + (y 2).val) % 64) = _
    rw [h4, hN, hh, hc, Nat.div_add_mod]
    rfl

theorem perHead (y : S4x2048x16.Idx) : (128 * ((((y 0).val * 2048 + (y 1).val) * 16 + (y 2).val) / 2048 % 16) + (((y 0).val * 2048 + (y 1).val) * 16 + (y 2).val) / 16 % 128) = (y 1).val
    ∧ (((y 0).val * 2048 + (y 1).val) * 16 + (y 2).val) % 16 = (y 2).val ∧ (((y 0).val * 2048 + (y 1).val) * 16 + (y 2).val) / 32768 = (y 0).val := by
  have h0 : (y 0).val < 4 := (y 0).isLt
  have h1 : (y 1).val < 2048 := (y 1).isLt
  have h2 : (y 2).val < 16 := (y 2).isLt
  omega

theorem topHead (y : S4x2048x16.Idx) : val_main_v58 (F := Ideal) q k y = top (headScore (seq q (y 0)) (seq k (y 0)) (y 1).val (y 2).val) := by
  rw [val_main_v58_apply, val_main_v57_apply, top_read]
  have h := perHead y
  refine congrArg top ((congrArg (fun r : Fin 4 => headScore (seq q r) (seq k r) _ _) (Fin.ext h.2.2 : _ = y 0)).trans ?_)
  exact congrArg₂ (headScore (seq q (y 0)) (seq k (y 0))) h.1 h.2.1

theorem denomHead (y : S4x2048x16.Idx) : val_main_v60 (F := Ideal) q k y = denom (headScore (seq q (y 0)) (seq k (y 0)) (y 1).val (y 2).val) := by
  rw [val_main_v60_apply, val_main_v59_apply, denom_read]
  have h := perHead y
  refine congrArg denom ((congrArg (fun r : Fin 4 => headScore (seq q r) (seq k r) _ _) (Fin.ext h.2.2 : _ = y 0)).trans ?_)
  exact congrArg₂ (headScore (seq q (y 0)) (seq k (y 0))) h.1 h.2.1

theorem stats_read : val_main_v61 (F := Ideal) q k = stats4 q k := by
  funext y
  have h2 : (y 2).val < 128 := (y 2).isLt
  unfold val_main_v61
  show _ = if (y 2).val < 16 then top (headScore (seq q (y 0)) (seq k (y 0)) (y 1).val (y 2).val)
    else if (y 2).val < 32 then denom (headScore (seq q (y 0)) (seq k (y 0)) (y 1).val ((y 2).val - 16)) else (1 : EReal)
  by_cases h1 : (y 2).val < 16
  · rw [if_pos h1]
    refine (concatenate_apply_piece 2 _ _ y 0 (by simp) S4x2048x16 _ rfl rfl 0 rfl (ix3 (y 0) (y 1) ⟨(y 2).val, h1⟩)
      (fun b hb => match b, hb with | ⟨0, _⟩, _ => rfl | ⟨1, _⟩, _ => rfl | ⟨2, _⟩, hb => absurd rfl hb) (by show 0 + (y 2).val = (y 2).val; omega)).trans ?_
    exact topHead q k _
  rw [if_neg h1]
  by_cases h3 : (y 2).val < 32
  · rw [if_pos h3]
    refine (concatenate_apply_piece 2 _ _ y 1 (by simp) S4x2048x16 _ rfl rfl 16 rfl (ix3 (y 0) (y 1) ⟨(y 2).val - 16, by omega⟩)
      (fun b hb => match b, hb with | ⟨0, _⟩, _ => rfl | ⟨1, _⟩, _ => rfl | ⟨2, _⟩, hb => absurd rfl hb) (by show 16 + ((y 2).val - 16) = (y 2).val; omega)).trans ?_
    exact denomHead q k _
  · rw [if_neg h3]
    refine (concatenate_apply_piece 2 _ _ y 2 (by simp) S4x2048x96 _ rfl rfl 32 rfl (ix3 (y 0) (y 1) ⟨(y 2).val - 32, by omega⟩)
      (fun b hb => match b, hb with | ⟨0, _⟩, _ => rfl | ⟨1, _⟩, _ => rfl | ⟨2, _⟩, hb => absurd rfl hb) (by show 32 + ((y 2).val - 32) = (y 2).val; omega)).trans ?_
    rw [val_main_v55_apply]
    exact one

end Cert.Attn4

end
-- ==== Proof.ProjPieces.lean ====
/-
  The projection to queries, keys and values: what the body stores at one grid point, store by store. A block of 256
  rows of the input is normalized and multiplied by the three 1024-column parts of the weights; each 128-lane group of
  a product is turned by the rows' angles (queries and keys), written as it is and written again with its rows sorted
  by their remainder modulo 4 and modulo 16. The sorted copies go through scratch memory: every fourth row is loaded.
-/
module

public import proofs.«01_k».proof.Proof.Gen.Kernel2Ideal.Value
public import Idealize.ShloMosaic.Lib.Pointwise

@[expose] public section

set_option maxRecDepth 65536

noncomputable section

namespace Cert.Proj

open Idealize.ShloMosaic Idealize.ShloMosaic.TcCoe Idealize.SL.Sem
open Cert.Kernel2Ideal Cert.Kernel2Ideal.Gen

/-! ## The body's operations -/

/-- The normalized rows. -/
def normed (x : FVec Ideal S256x2048 .f32) (g : FVec Ideal S1x2048 .f32) : FVec Ideal S256x2048 .bf16 :=
  truncf .bf16 (mulf (mulf x (broadcastTo S256x2048 (rsqrt (addf
    (divf (shapeCast S256x1 (multiReduction .add [1] S256 (mulf x x) 0x00000000#32 reduces_S256x2048_S256 (.inl rfl) rfl) shapeCasts_S256_S256x1)
      (broadcast S256x1 (Scalar.ofBits .f32 0x45000000#32)))
    (broadcast S256x1 (Scalar.ofBits .f32 0x358637BD#32)))) broadcasts_S256x1_S256x2048))
    (broadcastTo S256x2048 (shapeCast S1x2048 g shapeCasts_S1x2048_S1x2048) broadcasts_S1x2048_S256x2048)) bitsLt_bf16_f32
/-- The cosines of the block's angles, from those of the row in the block and of the block's first row. -/
def cosines (cr sr : FVec Ideal S256x128 .f32) (cb sb : FVec Ideal S1x128 .f32) : FVec Ideal S256x128 .f32 :=
  subf (mulf (shapeCast S256x128 cr shapeCasts_S256x128_S256x128) (broadcastTo S256x128 (shapeCast S1x128 cb shapeCasts_S1x128_S1x128) broadcasts_S1x128_S256x128))
    (mulf (shapeCast S256x128 sr shapeCasts_S256x128_S256x128) (broadcastTo S256x128 (shapeCast S1x128 sb shapeCasts_S1x128_S1x128) broadcasts_S1x128_S256x128))
/-- The sines with the sign of the half. -/
def sines (cr sr : FVec Ideal S256x128 .f32) (cb sb sg : FVec Ideal S1x128 .f32) : FVec Ideal S256x128 .f32 :=
  mulf (addf
    (mulf (shapeCast S256x128 sr shapeCasts_S256x128_S256x128) (broadcastTo S256x128 (shapeCast S1x128 cb shapeCasts_S1x128_S1x128) broadcasts_S1x128_S256x128))
    (mulf (shapeCast S256x128 cr shapeCasts_S256x128_S256x128) (broadcastTo S256x128 (shapeCast S1x128 sb shapeCasts_S1x128_S1x128) broadcasts_S1x128_S256x128)))
    (broadcastTo S256x128 (shapeCast S1x128 sg shapeCasts_S1x128_S1x128) broadcasts_S1x128_S256x128)
/-- One part's product. -/
def product (xb : FVec Ideal S256x2048 .bf16) (w : FVec Ideal S2048x1024 .bf16) : FVec Ideal S256x1024 .f32 :=
  matmul dot_S256x2048_S2048x1024_S256x1024_1_0_0_1_n_n none xb w (constant S256x1024 .f32 0x00000000#32)
theorem inGroup (g : ℕ) : S256x1024.Slices ![0, 128 * (g % 8)] S256x128 :=
  ⟨rfl, Fin.forall_fin_two.2 ⟨(by decide : 0 + 256 ≤ 256), (by omega : 128 * (g % 8) + 128 ≤ 1024)⟩⟩
/-- Group `g` of a product. -/
def group (z : FVec Ideal S256x1024 .f32) (g : ℕ) : FVec Ideal S256x128 .f32 := extractStridedSlice S256x128 ![0, 128 * (g % 8)] z (inGroup g)
/-- The lane numbers. -/
def laneNo : IVec S256x128 32 := iota .tc S256x128 32 [1] iota_S256x128_d1_w32
/-- The divisor 64, as the remainder's text guards it against 0. -/
def headLanes : BitVec 32 := Scalar.select (Scalar.cmpi .eq 64#32 0#32) 1#32 64#32
/-- The lane numbers' signed remainder modulo 64. -/
def laneRem : IVec S256x128 32 := remsi laneNo (broadcast S256x128 headLanes)
/-- 1 in the first 32 lanes of a head. -/
def lowHalf : IVec S256x128 1 :=
  cmpi .slt (select (andi (xori (cmpi .slt laneRem (broadcast S256x128 0#32)) (broadcastTo S256x128 (broadcast S256x128 (Scalar.cmpi .slt headLanes 0#32)) broadcasts_S256x128_S256x128))
    (cmpi .ne laneRem (broadcast S256x128 0#32))) (addi laneRem (broadcast S256x128 headLanes)) laneRem) (broadcast S256x128 32#32)
/-- A group turned by the angles. -/
def turned (r c s : FVec Ideal S256x128 .f32) : FVec Ideal S256x128 .f32 :=
  addf (mulf r c) (mulf (select lowHalf (dynamicRotate 1 96#32 none r rotates_S256x128_d1) (dynamicRotate 1 32#32 none r rotates_S256x128_d1)) s)
/-- A turned group times the scores' scale. -/
def scaled (r : FVec Ideal S256x128 .f32) : FVec Ideal S256x128 .f32 := mulf r (broadcast S256x128 (Scalar.ofBits .f32 0x3E38AA3B#32))

/-! ## Rectangles -/

theorem inCols (g : ℕ) : ∀ a, (![0, 128 * (g % 8)] : Fin 2 → ℕ) a + S256x128.size a ≤ S256x1024.size a :=
  Fin.forall_fin_two.2 ⟨(by decide : 0 + 256 ≤ 256), (by omega : 128 * (g % 8) + 128 ≤ 1024)⟩
theorem inRows (g : ℕ) : ∀ a, (![128 * (g % 8), 0] : Fin 2 → ℕ) a + S128x256.size a ≤ S1024x256.size a :=
  Fin.forall_fin_two.2 ⟨(by omega : 128 * (g % 8) + 128 ≤ 1024), (by decide : 0 + 256 ≤ 256)⟩
theorem inSlab (g : ℕ) : ∀ a, (![g % 8, 0, 0] : Fin 3 → ℕ) a + S1x256x128.size a ≤ S8x256x128.size a :=
  Fin.forall_fin_succ.2 ⟨(by omega : g % 8 + 1 ≤ 8), Fin.forall_fin_two.2 ⟨(by decide : 0 + 256 ≤ 256), (by decide : 0 + 128 ≤ 128)⟩⟩
theorem inQuarter (g r : ℕ) : ∀ a, (![g % 8, 64 * (r % 4), 0] : Fin 3 → ℕ) a + S1x64x128.size a ≤ S8x256x128.size a :=
  Fin.forall_fin_succ.2 ⟨(by omega : g % 8 + 1 ≤ 8), Fin.forall_fin_two.2 ⟨(by omega : 64 * (r % 4) + 64 ≤ 256), (by decide : 0 + 128 ≤ 128)⟩⟩
theorem inFours' (g r : ℕ) : ∀ a, (![g % 8, r % 4, 0] : Fin 3 → ℕ) a + (![1, 4, 1] : Fin 3 → ℕ) a * (S1x64x128.size a - 1) < S8x256x128.size a :=
  Fin.forall_fin_succ.2 ⟨(by omega : g % 8 + 1 * (1 - 1) < 8), Fin.forall_fin_two.2 ⟨(by omega : r % 4 + 4 * (64 - 1) < 256), (by decide : 0 + 1 * (128 - 1) < 128)⟩⟩
theorem inFours (g r : ℕ) : ∀ a, S1x64x128.size a = 0 ∨ (![g % 8, r % 4, 0] : Fin 3 → ℕ) a + (![1, 4, 1] : Fin 3 → ℕ) a * (S1x64x128.size a - 1) < S8x256x128.size a :=
  fun a => .inr (inFours' g r a)
theorem inSixteens' (g r a : ℕ) : ∀ b, (![g % 8, 64 * (r % 4) + a % 4, 0] : Fin 3 → ℕ) b + (![1, 4, 1] : Fin 3 → ℕ) b * (S1x16x128.size b - 1) < S8x256x128.size b :=
  Fin.forall_fin_succ.2 ⟨(by omega : g % 8 + 1 * (1 - 1) < 8), Fin.forall_fin_two.2 ⟨(by omega : 64 * (r % 4) + a % 4 + 4 * (16 - 1) < 256), (by decide : 0 + 1 * (128 - 1) < 128)⟩⟩
theorem inSixteens (g r a : ℕ) : ∀ b, S1x16x128.size b = 0 ∨ (![g % 8, 64 * (r % 4) + a % 4, 0] : Fin 3 → ℕ) b + (![1, 4, 1] : Fin 3 → ℕ) b * (S1x16x128.size b - 1) < S8x256x128.size b :=
  fun b => .inr (inSixteens' g r a b)
theorem inClass4 (r g : ℕ) : ∀ a, (![r % 4, 0, 128 * (g % 8)] : Fin 3 → ℕ) a + S1x64x128.size a ≤ S4x64x1024.size a :=
  Fin.forall_fin_succ.2 ⟨(by omega : r % 4 + 1 ≤ 4), Fin.forall_fin_two.2 ⟨(by decide : 0 + 64 ≤ 64), (by omega : 128 * (g % 8) + 128 ≤ 1024)⟩⟩
theorem inClass16 (r a g : ℕ) : ∀ b, (![r % 4 + 4 * (a % 4), 0, 128 * (g % 8)] : Fin 3 → ℕ) b + S1x16x128.size b ≤ S16x16x1024.size b :=
  Fin.forall_fin_succ.2 ⟨(by omega : r % 4 + 4 * (a % 4) + 1 ≤ 16), Fin.forall_fin_two.2 ⟨(by decide : 0 + 16 ≤ 16), (by omega : 128 * (g % 8) + 128 ≤ 1024)⟩⟩

abbrev colsR (g : ℕ) : Rect S256x1024 := Rect.unit ![0, 128 * (g % 8)] S256x128.size (inCols g)
abbrev rowsR (g : ℕ) : Rect S1024x256 := Rect.unit ![128 * (g % 8), 0] S128x256.size (inRows g)
abbrev slabR (g : ℕ) : Rect S8x256x128 := Rect.unit ![g % 8, 0, 0] S1x256x128.size (inSlab g)
abbrev quarterR (g r : ℕ) : Rect S8x256x128 := Rect.unit ![g % 8, 64 * (r % 4), 0] S1x64x128.size (inQuarter g r)
abbrev foursR (g r : ℕ) : LoadRect S8x256x128 := ⟨![g % 8, r % 4, 0], S1x64x128.size, ![1, 4, 1], inFours g r⟩
abbrev sixteensR (g r a : ℕ) : LoadRect S8x256x128 := ⟨![g % 8, 64 * (r % 4) + a % 4, 0], S1x16x128.size, ![1, 4, 1], inSixteens g r a⟩
abbrev class4R (r g : ℕ) : Rect S4x64x1024 := Rect.unit ![r % 4, 0, 128 * (g % 8)] S1x64x128.size (inClass4 r g)
abbrev class16R (r a g : ℕ) : Rect S16x16x1024 := Rect.unit ![r % 4 + 4 * (a % 4), 0, 128 * (g % 8)] S1x16x128.size (inClass16 r a g)

/-! ## Lists of stores, last first -/

variable (T : ℕ → FVec Ideal S256x128 .f32)

/-- The first `n` groups as they are. -/
def plainPieces : ℕ → List (View.Piece (Elt Ideal) S256x1024 .bf16)
  | 0 => []
  | n + 1 => ⟨colsR n, truncf .bf16 (T n) bitsLt_bf16_f32⟩ :: plainPieces n
/-- The first `n` groups transposed. -/
def tailPieces : ℕ → List (View.Piece (Elt Ideal) S1024x256 .f32)
  | 0 => []
  | n + 1 => ⟨rowsR n, transpose S128x256 [1, 0] (T n) transposes_S256x128_p1_0_S128x256⟩ :: tailPieces n
/-- The first `n` groups in the first scratch array, over the stores `L` before them. -/
def slabPieces (L : List (View.Piece (Elt Ideal) S8x256x128 .f32)) : ℕ → List (View.Piece (Elt Ideal) S8x256x128 .f32)
  | 0 => L
  | n + 1 => ⟨slabR n, shapeCast S1x256x128 (T n) shapeCasts_S256x128_S1x256x128⟩ :: slabPieces L n

/-- Every fourth row of group `g` from row `r`, as loaded from the first scratch array after group `g`'s store. -/
def foursLd (a : Memref sig .tc .vmem S8x256x128 .f32) (L : List (View.Piece (Elt Ideal) S8x256x128 .f32)) (g r : ℕ) : FVec Ideal S1x64x128 .f32 :=
  a.view.readCov (Val := Elt Ideal) (slabPieces T L (g + 1)) (foursR g r)

variable (V : ℕ → ℕ → FVec Ideal S1x64x128 .f32)

/-- The first `n` quarters (four to a group) in their own array. -/
def class4Pieces : ℕ → List (View.Piece (Elt Ideal) S4x64x1024 .bf16)
  | 0 => []
  | n + 1 => ⟨class4R n (n / 4), shapeCast S1x64x128 (truncf .bf16 (shapeCast S64x128 (V (n / 4) (n % 4)) shapeCasts_S1x64x128_S64x128) bitsLt_bf16_f32) shapeCasts_S64x128_S1x64x128⟩ :: class4Pieces n
/-- The first `n` quarters in the second scratch array, over the stores `L` before them. -/
def quarterPieces (L : List (View.Piece (Elt Ideal) S8x256x128 .f32)) : ℕ → List (View.Piece (Elt Ideal) S8x256x128 .f32)
  | 0 => L
  | n + 1 => ⟨quarterR (n / 4) n, shapeCast S1x64x128 (shapeCast S64x128 (V (n / 4) (n % 4)) shapeCasts_S1x64x128_S64x128) shapeCasts_S64x128_S1x64x128⟩ :: quarterPieces L n

/-- Every fourth row of quarter `r` of group `g` from its row `a`, as loaded from the second scratch array after the group's quarters' stores. -/
def sixteensLd (m : Memref sig .tc .vmem S8x256x128 .f32) (L : List (View.Piece (Elt Ideal) S8x256x128 .f32)) (g r a : ℕ) : FVec Ideal S1x16x128 .f32 :=
  m.view.readCov (Val := Elt Ideal) (quarterPieces V L (4 * (g + 1))) (sixteensR g r a)

/-- The first `n` sixteenths (sixteen to a group) in their own array. -/
def class16Pieces (W : ℕ → ℕ → ℕ → FVec Ideal S1x16x128 .f32) : ℕ → List (View.Piece (Elt Ideal) S16x16x1024 .bf16)
  | 0 => []
  | n + 1 => ⟨class16R (n / 4) n (n / 16), shapeCast S1x16x128 (truncf .bf16 (shapeCast S16x128 (W (n / 16) (n / 4 % 4) (n % 4)) shapeCasts_S1x16x128_S16x128) bitsLt_bf16_f32) shapeCasts_S16x128_S1x16x128⟩ :: class16Pieces W n

end Cert.Proj

end
-- ==== Proof.ProjRows.lean ====
/-
  One block of rows, entry by entry: the normalized rows, a part of their product with the weights, the turn of a head's
  two halves and the queries' scale.
-/
module

public import proofs.«01_k».proof.Proof.ProjPieces
public import Idealize.ShloMosaic.Lib.Claim
public import Idealize.ShloMosaic.Lib.Pipeline.ValueKit.Point

@[expose] public section

set_option maxRecDepth 65536

noncomputable section

namespace Cert.Proj

open Idealize.ShloMosaic Idealize.ShloMosaic.TcCoe Idealize.SL.Sem
open Cert.Kernel2Ideal Cert.Kernel2Ideal.Gen

/-- A row divided by the root of its mean square, times the gains. -/
def rms (x g : Fin 2048 → EReal) (k : Fin 2048) : EReal :=
  x k * Ideal.rsqrt (Ideal.div (∑ j, x j * x j) (Ideal.ofBits .f32 0x45000000#32) + Ideal.ofBits .f32 0x358637BD#32) * g k

theorem normed_apply (x : FVec Ideal S256x2048 .f32) (g : FVec Ideal S1x2048 .f32) (m : Fin 256) (k : Fin 2048) :
    normed x g (ix2 m k) = rms (fun j => x (ix2 m j)) (fun j => g (ix2 0 j)) k := by
  unfold normed rms
  pointwise

theorem product_apply (xb : FVec Ideal S256x2048 .bf16) (w : FVec Ideal S2048x1024 .bf16) (m : Fin 256) (j : Fin 1024) :
    product xb w (ix2 m j) = ∑ k, xb (ix2 m k) * w (ix2 k j) := by
  unfold product
  pointwise

theorem group_apply (z : FVec Ideal S256x1024 .f32) (g : ℕ) (hg : g < 8) (m : Fin 256) (l : Fin 128) :
    group z g (ix2 m l) = z (ix2 m ⟨128 * g + l.val, by omega⟩) := by
  have h : g % 8 = g := Nat.mod_eq_of_lt hg
  unfold group
  pointwise
  simp only [h]

theorem lowHalf_apply (m : Fin 256) (l : Fin 128) : lowHalf (ix2 m l) = if l.val % 64 < 32 then 1#1 else 0#1 := by
  have h : ∀ l : Fin 128, lowHalf (ix2 0 l) = if l.val % 64 < 32 then 1#1 else 0#1 := by decide +kernel
  exact h l

theorem turned_apply (r c s : FVec Ideal S256x128 .f32) (m : Fin 256) (l : Fin 128) :
    turned r c s (ix2 m l) = r (ix2 m l) * c (ix2 m l) + (if l.val % 64 < 32 then r (ix2 m ⟨(l.val + 32) % 128, by omega⟩) else r (ix2 m ⟨(l.val + 96) % 128, by omega⟩)) * s (ix2 m l) := by
  unfold turned
  pointwise
  rw [lowHalf_apply]
  by_cases h : l.val % 64 < 32
  · rw [if_pos h, if_pos h]
    rfl
  · rw [if_neg h, if_neg h]
    rfl

theorem scaled_apply (r : FVec Ideal S256x128 .f32) (m : Fin 256) (l : Fin 128) :
    scaled r (ix2 m l) = r (ix2 m l) * Ideal.ofBits .f32 0x3E38AA3B#32 := by
  rfl

end Cert.Proj
-- ==== Proof.ProjTables.lean ====
/-
  The tables the host computes for the kernel: the cosines and sines of the angles of a block's rows and of the blocks'
  first rows, and the sign of a head's halves.
-/
module

public import proofs.«01_k».proof.Proof.ProjPieces
public import Idealize.ShloMosaic.Lib.StableHlo.ReadAt
public import Idealize.ShloMosaic.Lib.Claim

@[expose] public section

set_option maxRecDepth 65536
set_option maxHeartbeats 1000000

noncomputable section

namespace Cert.Proj

open Idealize.ShloMosaic Idealize.ShloMosaic.TcCoe Idealize.SL.Sem
open Cert.Kernel2Ideal Cert.Kernel2Ideal.Gen

/-- The frequencies' logarithm at the last step. -/
def slope : ℝ := (Ideal.ofBits .f32 0xC1135D8E#32).toReal

theorem slope_eq : Ideal.ofBits .f32 0xC1135D8E#32 = ((slope : ℝ) : EReal) := by
  unfold slope
  rw [EReal.coe_toReal] <;> simp [Ideal.ofBits, Ideal.ieee, -EReal.coe_mul, -EReal.coe_neg]

theorem thirtytwo : Ideal.ofBits .f32 0x42000000#32 = ((32 : ℝ) : EReal) := by
  simp [Ideal.ofBits, Ideal.ieee, -EReal.coe_mul]
  norm_num

/-- The frequency of lane `e`. -/
def freq (e : ℕ) : ℝ := Real.exp (slope * (e : ℝ) * (1 / 32))

theorem word (n : ℕ) (h : n < 2 ^ 31) : (FloatOps.sitofp (F := Ideal) .f32 (BitVec.ofNat 32 n) : EReal) = ((n : ℝ) : EReal) := by
  show (((BitVec.ofNat 32 n).toInt : ℝ) : EReal) = _
  rw [BitVec.toInt_ofNat', Int.bmod_eq_of_le (by omega) (by omega)]
  norm_cast

theorem freq_eq (e : ℕ) (h : e < 32) :
    Ideal.exp (Ideal.div (Ideal.ofBits .f32 0xC1135D8E#32 * (FloatOps.sitofp (F := Ideal) .f32 (BitVec.ofNat 32 e) : EReal)) (Ideal.ofBits .f32 0x42000000#32)) = ((freq e : ℝ) : EReal) := by
  rw [slope_eq, thirtytwo, word e (by omega), Ideal.div_coe (by norm_num), ← EReal.coe_mul, ← EReal.coe_mul]
  rfl

/-- The cosine of row `n`'s angle at lane `e`. -/
def cosA (n e : ℕ) : ℝ := Real.cos ((n : ℝ) * freq e)
/-- The sine of it. -/
def sinA (n e : ℕ) : ℝ := Real.sin ((n : ℝ) * freq e)

theorem cos_angle (n e : ℕ) (hn : n < 2 ^ 31) (he : e < 32) :
    Ideal.cos ((FloatOps.sitofp (F := Ideal) .f32 (BitVec.ofNat 32 n) : EReal) * Ideal.exp (Ideal.div (Ideal.ofBits .f32 0xC1135D8E#32 * (FloatOps.sitofp (F := Ideal) .f32 (BitVec.ofNat 32 e) : EReal)) (Ideal.ofBits .f32 0x42000000#32))) = ((cosA n e : ℝ) : EReal) := by
  rw [freq_eq e he, word n hn, ← EReal.coe_mul]
  rfl

theorem sin_angle (n e : ℕ) (hn : n < 2 ^ 31) (he : e < 32) :
    Ideal.sin ((FloatOps.sitofp (F := Ideal) .f32 (BitVec.ofNat 32 n) : EReal) * Ideal.exp (Ideal.div (Ideal.ofBits .f32 0xC1135D8E#32 * (FloatOps.sitofp (F := Ideal) .f32 (BitVec.ofNat 32 e) : EReal)) (Ideal.ofBits .f32 0x42000000#32))) = ((sinA n e : ℝ) : EReal) := by
  rw [freq_eq e he, word n hn, ← EReal.coe_mul]
  rfl

theorem first_row (b : Fin 32) : IntOp.muli (BitVec.ofNat 32 b.val) 256#32 = BitVec.ofNat 32 (256 * b.val) := by
  revert b
  decide

theorem cos_first (b : Fin 32) (e : ℕ) (he : e < 32) :
    Ideal.cos ((FloatOps.sitofp (F := Ideal) .f32 (IntOp.muli (BitVec.ofNat 32 b.val) 256#32) : EReal) * Ideal.exp (Ideal.div (Ideal.ofBits .f32 0xC1135D8E#32 * (FloatOps.sitofp (F := Ideal) .f32 (BitVec.ofNat 32 e) : EReal)) (Ideal.ofBits .f32 0x42000000#32))) = ((cosA (256 * b.val) e : ℝ) : EReal) := by
  rw [first_row]
  exact cos_angle _ _ (by omega) he

theorem sin_first (b : Fin 32) (e : ℕ) (he : e < 32) :
    Ideal.sin ((FloatOps.sitofp (F := Ideal) .f32 (IntOp.muli (BitVec.ofNat 32 b.val) 256#32) : EReal) * Ideal.exp (Ideal.div (Ideal.ofBits .f32 0xC1135D8E#32 * (FloatOps.sitofp (F := Ideal) .f32 (BitVec.ofNat 32 e) : EReal)) (Ideal.ofBits .f32 0x42000000#32))) = ((sinA (256 * b.val) e : ℝ) : EReal) := by
  rw [first_row]
  exact sin_angle _ _ (by omega) he

variable (m : (ℓ : Loc nD τ sig) → Buf (Elt Ideal) ℓ) (c : Dev nD)

theorem cosines_in_block (r : Fin 256) (l : Fin 128) : (V m c main_v27 : Vec Ideal S256x128 .f32) (ix2 r l) = ((cosA r.val (l.val % 32) : ℝ) : EReal) := by
  unfold V
  after_reads_at
  after_reads_at
  simp only [dite_eq_ite]
  split_ifs <;> exact (cos_angle _ _ (by omega) (by omega)).trans (congrArg (fun e => ((cosA r.val e : ℝ) : EReal)) (by omega))

theorem sines_in_block (r : Fin 256) (l : Fin 128) : (V m c main_v29 : Vec Ideal S256x128 .f32) (ix2 r l) = ((sinA r.val (l.val % 32) : ℝ) : EReal) := by
  unfold V
  after_reads_at
  after_reads_at
  simp only [dite_eq_ite]
  split_ifs <;> exact (sin_angle _ _ (by omega) (by omega)).trans (congrArg (fun e => ((sinA r.val e : ℝ) : EReal)) (by omega))

theorem cosines_of_first (b : Fin 32) (l : Fin 128) : (V m c main_v31 : Vec Ideal S32x128 .f32) (ix2 b l) = ((cosA (256 * b.val) (l.val % 32) : ℝ) : EReal) := by
  unfold V
  after_reads_at
  after_reads_at
  simp only [dite_eq_ite]
  split_ifs <;> exact (cos_first b _ (by omega)).trans (congrArg (fun e => ((cosA (256 * b.val) e : ℝ) : EReal)) (by omega))

theorem sines_of_first (b : Fin 32) (l : Fin 128) : (V m c main_v33 : Vec Ideal S32x128 .f32) (ix2 b l) = ((sinA (256 * b.val) (l.val % 32) : ℝ) : EReal) := by
  unfold V
  after_reads_at
  after_reads_at
  simp only [dite_eq_ite]
  split_ifs <;> exact (sin_first b _ (by omega)).trans (congrArg (fun e => ((sinA (256 * b.val) e : ℝ) : EReal)) (by omega))

theorem signs (l : Fin 128) : (V m c main_v25 : Vec Ideal S1x128 .f32) (ix2 0 l) = if l.val % 64 < 32 then (-1 : EReal) else 1 := by
  unfold V
  after_reads_at
  after_reads_at
  simp only [dite_eq_ite]
  split_ifs <;> first | rfl | omega

theorem gains (k : Fin 2048) : (V m c main_v34 : Vec Ideal S1x2048 .f32) (ix2 0 k) = (m (c, Proc.tc.devRef main_arg1) : Vec Ideal S2048 .f32) (ix1 k) := by
  unfold V
  after_reads_at

end Cert.Proj

end
-- ==== Proof.ProjSpec.lean ====
/-
  The projection in plain terms: each row normalized, its product with the weights' columns, the queries' and the keys'
  halves turned by the row's angles, and the arrays that hold these values in the rows' order, sorted by the rows'
  remainder modulo 4 and 16, and transposed for the last 2048 rows.
-/
module

public import proofs.«01_k».proof.Proof.ProjRows
public import proofs.«01_k».proof.Proof.ProjTables

@[expose] public section

set_option maxRecDepth 16384

noncomputable section

namespace Cert.Proj

open Idealize.ShloMosaic Idealize.SL.Sem
open Cert.Kernel2Ideal Cert.Kernel2Ideal.Gen

variable (X : Vec Ideal S8192x2048 .f32) (G : Vec Ideal S2048 .f32) (W : Vec Ideal S2048x3072 .bf16)

/-- Row `n`, normalized. -/
def normRow (n : ℕ) : Fin 2048 → EReal := rms (fun k => X (ix2 ⟨n % 8192, by omega⟩ k)) (fun k => G (ix1 k))
/-- Row `n`, column `j` of the product. -/
def proj (n j : ℕ) : EReal := ∑ k, normRow X G n k * W (ix2 k ⟨j % 3072, by omega⟩)

/-- The halves of a head turned by row `n`'s angles. -/
def rope (z : ℕ → EReal) (n j : ℕ) : EReal :=
  if j % 64 < 32 then z j * ((cosA n (j % 32) : ℝ) : EReal) - z (j + 32) * ((sinA n (j % 32) : ℝ) : EReal)
  else z j * ((cosA n (j % 32) : ℝ) : EReal) + z (j - 32) * ((sinA n (j % 32) : ℝ) : EReal)

/-- The queries with the scores' scale (part 0), the keys (part 1), the values (part 2). -/
def part (p n j : ℕ) : EReal :=
  match p with
  | 0 => rope (fun j => proj X G W n j) n j * Ideal.ofBits .f32 0x3E38AA3B#32
  | 1 => rope (fun j => proj X G W n (1024 + j)) n j
  | _ => proj X G W n (2048 + j)

/-- The normalized rows. -/
def rowsA : Vec Ideal S8192x2048 .bf16 := fun y => normRow X G (y 0).val (y 1)

variable (Z : ℕ → ℕ → EReal)

/-- The rows in order. -/
def plainA : Vec Ideal S8192x1024 .bf16 := fun y => Z (y 0).val (y 1).val
/-- Sorted by their remainder modulo 4. -/
def class4A : Vec Ideal S4x2048x1024 .bf16 := fun y => Z (4 * (y 1).val + (y 0).val) (y 2).val
/-- Sorted by their remainder modulo 16. -/
def class16A : Vec Ideal S16x512x1024 .bf16 := fun y => Z (16 * (y 1).val + (y 0).val) (y 2).val
/-- The last 2048 rows, transposed. -/
def tailA : Vec Ideal S1024x2048 .f32 := fun y => Z (6144 + (y 1).val) (y 0).val

/-! ## The angle sums -/

theorem cos_sum (t r e : ℕ) : ((cosA r e : ℝ) : EReal) * ((cosA (256 * t) e : ℝ) : EReal) - ((sinA r e : ℝ) : EReal) * ((sinA (256 * t) e : ℝ) : EReal)
    = ((cosA (256 * t + r) e : ℝ) : EReal) := by
  rw [← EReal.coe_mul, ← EReal.coe_mul, ← EReal.coe_sub]
  unfold cosA sinA
  rw [Nat.cast_add, add_mul, add_comm, Real.cos_add]

theorem sin_sum (t r e : ℕ) : ((sinA r e : ℝ) : EReal) * ((cosA (256 * t) e : ℝ) : EReal) + ((cosA r e : ℝ) : EReal) * ((sinA (256 * t) e : ℝ) : EReal)
    = ((sinA (256 * t + r) e : ℝ) : EReal) := by
  rw [← EReal.coe_mul, ← EReal.coe_mul, ← EReal.coe_add]
  unfold cosA sinA
  rw [Nat.cast_add, add_mul, add_comm ((256 * t : ℕ) * freq e : ℝ), Real.sin_add]

end Cert.Proj

end
-- ==== Proof.ProjStores.lean ====
/-
  The stores of the body at a grid point are the lists of ProjPieces.lean, over what the body loads from its blocks.
-/
module

public import proofs.«01_k».proof.Proof.ProjPieces

@[expose] public section

set_option maxRecDepth 65536
set_option maxHeartbeats 4000000

noncomputable section

namespace Cert.Proj

open Idealize.ShloMosaic Idealize.ShloMosaic.TcCoe Idealize.SL.Sem
open Cert.Kernel2Ideal Cert.Kernel2Ideal.Gen

theorem inPart (p : ℕ) : ∀ a, (![0, 1024 * (p % 3)] : Fin 2 → ℕ) a + S2048x1024.size a ≤ S2048x3072.size a :=
  Fin.forall_fin_two.2 ⟨(by decide : 0 + 2048 ≤ 2048), (by omega : 1024 * (p % 3) + 1024 ≤ 3072)⟩
abbrev partR (p : ℕ) : Rect S2048x3072 := Rect.unit ![0, 1024 * (p % 3)] S2048x1024.size (inPart p)
abbrev pointR (i : grid0.Coords) : Rect S32x128 := Rect.unit (k0_off1 i) S1x128.size (k0_off1_inb i)

/-! ## What is loaded -/

/-- A load from an input's block. -/
abbrev ld {s : Shape} {e : EltTy} {sp : Space} (a : Memref sig .tc sp s e) (ha : a.IsWhole) (x : Vec Ideal s e) (r : Rect s) : r.shape.Idx → Elt Ideal e :=
  View.readAt (Elt Ideal) a.view r.toLoadRect (ha.unread x)

variable (c : Dev nD) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S2048x3072 .bf16) (harg3 : arg3.IsWhole)
  (arg4 : Memref sig .tc .vmem S256x128 .f32) (harg4 : arg4.IsWhole)
  (arg5 : Memref sig .tc .vmem S256x128 .f32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S1x128 .f32) (harg8 : arg8.IsWhole)
  (arg9 : Memref sig .tc .vmem S256x2048 .bf16) (harg9 : arg9.IsWhole)
  (arg10 : Memref sig .tc .vmem S256x1024 .bf16) (harg10 : arg10.IsWhole)
  (arg11 : Memref sig .tc .vmem S4x64x1024 .bf16) (harg11 : arg11.IsWhole)
  (arg12 : Memref sig .tc .vmem S16x16x1024 .bf16) (harg12 : arg12.IsWhole)
  (arg13 : Memref sig .tc .vmem S256x1024 .bf16) (harg13 : arg13.IsWhole)
  (arg14 : Memref sig .tc .vmem S4x64x1024 .bf16) (harg14 : arg14.IsWhole)
  (arg15 : Memref sig .tc .vmem S16x16x1024 .bf16) (harg15 : arg15.IsWhole)
  (arg16 : Memref sig .tc .vmem S256x1024 .bf16) (harg16 : arg16.IsWhole)
  (arg17 : Memref sig .tc .vmem S4x64x1024 .bf16) (harg17 : arg17.IsWhole)
  (arg18 : Memref sig .tc .vmem S16x16x1024 .bf16) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S8x256x128 .f32) (harg21 : arg21.IsWhole)
  (arg22 : Memref sig .tc .vmem S8x256x128 .f32) (harg22 : arg22.IsWhole)
  (x0 : Vec Ideal S256x2048 .f32) (x1 : Vec Ideal S1x2048 .f32) (x2 : Vec Ideal S2048x3072 .bf16) (x3 : Vec Ideal S256x128 .f32) (x4 : Vec Ideal S256x128 .f32) (x5 : Vec Ideal S32x128 .f32) (x6 : Vec Ideal S32x128 .f32) (x7 : Vec Ideal S1x128 .f32)

/-- The block's normalized rows. -/
def xnLd : FVec Ideal S256x2048 .bf16 := normed (ld arg1 harg1 x0 (Rect.unit (s := S256x2048) ![0, 0] S256x2048.size inb_S256x2048_S256x2048_0_0)) (ld arg2 harg2 x1 (Rect.unit (s := S1x2048) ![0, 0] S1x2048.size inb_S1x2048_S1x2048_0_0))
/-- The block's cosines. -/
def cosLd : FVec Ideal S256x128 .f32 :=
  cosines (ld arg4 harg4 x3 (Rect.unit (s := S256x128) ![0, 0] S256x128.size inb_S256x128_S256x128_0_0)) (ld arg5 harg5 x4 (Rect.unit (s := S256x128) ![0, 0] S256x128.size inb_S256x128_S256x128_0_0)) (ld arg6 harg6 x5 (pointR i)) (ld arg7 harg7 x6 (pointR i))
/-- The block's signed sines. -/
def sinLd : FVec Ideal S256x128 .f32 :=
  sines (ld arg4 harg4 x3 (Rect.unit (s := S256x128) ![0, 0] S256x128.size inb_S256x128_S256x128_0_0)) (ld arg5 harg5 x4 (Rect.unit (s := S256x128) ![0, 0] S256x128.size inb_S256x128_S256x128_0_0)) (ld arg6 harg6 x5 (pointR i)) (ld arg7 harg7 x6 (pointR i))
    (ld arg8 harg8 x7 (Rect.unit (s := S1x128) ![0, 0] S1x128.size inb_S1x128_S1x128_0_0))
/-- Group `g` of part `p`'s product. -/
def partLd (p g : ℕ) : FVec Ideal S256x128 .f32 := group (product (xnLd arg1 harg1 arg2 harg2 x0 x1) (ld arg3 harg3 x2 (partR p))) g
/-- Group `g` of the queries (part 0), the keys (part 1), the values (part 2). -/
def tileLd (p g : ℕ) : FVec Ideal S256x128 .f32 :=
  match p with
  | 0 => scaled (turned (partLd arg1 harg1 arg2 harg2 arg3 harg3 x0 x1 x2 0 g) (cosLd i arg4 harg4 arg5 harg5 arg6 harg6 arg7 harg7 x3 x4 x5 x6) (sinLd i arg4 harg4 arg5 harg5 arg6 harg6 arg7 harg7 arg8 harg8 x3 x4 x5 x6 x7))
  | 1 => turned (partLd arg1 harg1 arg2 harg2 arg3 harg3 x0 x1 x2 1 g) (cosLd i arg4 harg4 arg5 harg5 arg6 harg6 arg7 harg7 x3 x4 x5 x6) (sinLd i arg4 harg4 arg5 harg5 arg6 harg6 arg7 harg7 arg8 harg8 x3 x4 x5 x6 x7)
  | _ => partLd arg1 harg1 arg2 harg2 arg3 harg3 x0 x1 x2 2 g
/-- The first scratch array's stores before part `p`. -/
def slabsBefore : ℕ → List (View.Piece (Elt Ideal) S8x256x128 .f32)
  | 0 => []
  | p + 1 => slabPieces (tileLd i arg1 harg1 arg2 harg2 arg3 harg3 arg4 harg4 arg5 harg5 arg6 harg6 arg7 harg7 arg8 harg8 x0 x1 x2 x3 x4 x5 x6 x7 p) (slabsBefore p) 8
/-- Every fourth row from row `r`, of group `g` of part `p`. -/
def quarterLd (p g r : ℕ) : FVec Ideal S1x64x128 .f32 := foursLd (tileLd i arg1 harg1 arg2 harg2 arg3 harg3 arg4 harg4 arg5 harg5 arg6 harg6 arg7 harg7 arg8 harg8 x0 x1 x2 x3 x4 x5 x6 x7 p) arg21 (slabsBefore i arg1 harg1 arg2 harg2 arg3 harg3 arg4 harg4 arg5 harg5 arg6 harg6 arg7 harg7 arg8 harg8 x0 x1 x2 x3 x4 x5 x6 x7 p) g r
/-- The second scratch array's stores before part `p`. -/
def quartersBefore : ℕ → List (View.Piece (Elt Ideal) S8x256x128 .f32)
  | 0 => []
  | p + 1 => quarterPieces (quarterLd i arg1 harg1 arg2 harg2 arg3 harg3 arg4 harg4 arg5 harg5 arg6 harg6 arg7 harg7 arg8 harg8 arg21 x0 x1 x2 x3 x4 x5 x6 x7 p) (quartersBefore p) 32
/-- Every fourth row from row `a` of the quarter `r`, of group `g` of part `p`. -/
def sixteenthLd (p g r a : ℕ) : FVec Ideal S1x16x128 .f32 := sixteensLd (quarterLd i arg1 harg1 arg2 harg2 arg3 harg3 arg4 harg4 arg5 harg5 arg6 harg6 arg7 harg7 arg8 harg8 arg21 x0 x1 x2 x3 x4 x5 x6 x7 p) arg22 (quartersBefore i arg1 harg1 arg2 harg2 arg3 harg3 arg4 harg4 arg5 harg5 arg6 harg6 arg7 harg7 arg8 harg8 arg21 x0 x1 x2 x3 x4 x5 x6 x7 p) g r a

/-- The normalized rows' store. -/
theorem xn_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).1 = [⟨Rect.unit (s := S256x2048) ![0, 0] S256x2048.size inb_S256x2048_S256x2048_0_0, xnLd arg1 harg1 arg2 harg2 x0 x1⟩] := by
  rfl

/-- The stores of the queries. -/
theorem plain0_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.1 = plainPieces (tileLd i arg1 harg1 arg2 harg2 arg3 harg3 arg4 harg4 arg5 harg5 arg6 harg6 arg7 harg7 arg8 harg8 x0 x1 x2 x3 x4 x5 x6 x7 0) 8 := by
  rfl

/-- The stores of the queries sorted modulo 4. -/
theorem fours0_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.1 = class4Pieces (quarterLd i arg1 harg1 arg2 harg2 arg3 harg3 arg4 harg4 arg5 harg5 arg6 harg6 arg7 harg7 arg8 harg8 arg21 x0 x1 x2 x3 x4 x5 x6 x7 0) 32 := by
  rfl

/-- The stores of the queries sorted modulo 16. -/
theorem sixteens0_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.1 = class16Pieces (sixteenthLd i arg1 harg1 arg2 harg2 arg3 harg3 arg4 harg4 arg5 harg5 arg6 harg6 arg7 harg7 arg8 harg8 arg21 arg22 x0 x1 x2 x3 x4 x5 x6 x7 0) 128 := by
  rfl

/-- The stores of the keys. -/
theorem plain1_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.2.1 = plainPieces (tileLd i arg1 harg1 arg2 harg2 arg3 harg3 arg4 harg4 arg5 harg5 arg6 harg6 arg7 harg7 arg8 harg8 x0 x1 x2 x3 x4 x5 x6 x7 1) 8 := by
  rfl

/-- The stores of the keys sorted modulo 4. -/
theorem fours1_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.2.2.1 = class4Pieces (quarterLd i arg1 harg1 arg2 harg2 arg3 harg3 arg4 harg4 arg5 harg5 arg6 harg6 arg7 harg7 arg8 harg8 arg21 x0 x1 x2 x3 x4 x5 x6 x7 1) 32 := by
  rfl

/-- The stores of the keys sorted modulo 16. -/
theorem sixteens1_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.2.2.2.1 = class16Pieces (sixteenthLd i arg1 harg1 arg2 harg2 arg3 harg3 arg4 harg4 arg5 harg5 arg6 harg6 arg7 harg7 arg8 harg8 arg21 arg22 x0 x1 x2 x3 x4 x5 x6 x7 1) 128 := by
  rfl

/-- The stores of the values. -/
theorem plain2_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.2.2.2.2.1 = plainPieces (tileLd i arg1 harg1 arg2 harg2 arg3 harg3 arg4 harg4 arg5 harg5 arg6 harg6 arg7 harg7 arg8 harg8 x0 x1 x2 x3 x4 x5 x6 x7 2) 8 := by
  rfl

/-- The stores of the values sorted modulo 4. -/
theorem fours2_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.2.2.2.2.2.1 = class4Pieces (quarterLd i arg1 harg1 arg2 harg2 arg3 harg3 arg4 harg4 arg5 harg5 arg6 harg6 arg7 harg7 arg8 harg8 arg21 x0 x1 x2 x3 x4 x5 x6 x7 2) 32 := by
  rfl

/-- The stores of the values sorted modulo 16. -/
theorem sixteens2_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.2.2.2.2.2.2.1 = class16Pieces (sixteenthLd i arg1 harg1 arg2 harg2 arg3 harg3 arg4 harg4 arg5 harg5 arg6 harg6 arg7 harg7 arg8 harg8 arg21 arg22 x0 x1 x2 x3 x4 x5 x6 x7 2) 128 := by
  rfl

/-- The transposed keys' stores. -/
theorem tail1_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.2.2.2.2.2.2.2.1 = tailPieces (tileLd i arg1 harg1 arg2 harg2 arg3 harg3 arg4 harg4 arg5 harg5 arg6 harg6 arg7 harg7 arg8 harg8 x0 x1 x2 x3 x4 x5 x6 x7 1) 8 := by
  rfl

/-- The transposed values' stores. -/
theorem tail2_stores :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7).2.2.2.2.2.2.2.2.2.2.2.1 = tailPieces (tileLd i arg1 harg1 arg2 harg2 arg3 harg3 arg4 harg4 arg5 harg5 arg6 harg6 arg7 harg7 arg8 harg8 x0 x1 x2 x3 x4 x5 x6 x7 2) 8 := by
  rfl

end Cert.Proj

end
-- ==== Proof.ProjBlock.lean ====
/-
  What the body leaves in its output blocks, group by group: the groups side by side, the same with the rows sorted by
  their remainder modulo 4 and modulo 16, and the groups transposed one below the other.
-/
module

public import proofs.«01_k».proof.Proof.ProjStores

@[expose] public section

set_option maxRecDepth 65536

noncomputable section

namespace Cert.Proj

open Idealize.ShloMosaic Idealize.ShloMosaic.TcCoe Idealize.SL.Sem
open Cert.Kernel2Ideal Cert.Kernel2Ideal.Gen

/-- Row `m`, lane `l` of a group. -/
def cell (t : FVec Ideal S256x128 .f32) (m l : ℕ) : EReal := t (ix2 ⟨m % 256, by omega⟩ ⟨l % 128, by omega⟩)

theorem cell_eq (t : FVec Ideal S256x128 .f32) (m : Fin 256) (l : Fin 128) : t (ix2 m l) = cell t m.val l.val := by
  unfold cell
  congr 2
  · exact Fin.ext (Nat.mod_eq_of_lt m.isLt).symm
  · exact Fin.ext (Nat.mod_eq_of_lt l.isLt).symm

section lists

variable (T : ℕ → FVec Ideal S256x128 .f32)

/-- The groups side by side. -/
def plainT : Vec Ideal S256x1024 .bf16 := fun y => cell (T ((y 1).val / 128)) (y 0).val ((y 1).val % 128)
/-- The groups' rows sorted by their remainder modulo 4. -/
def class4T : Vec Ideal S4x64x1024 .bf16 := fun y => cell (T ((y 2).val / 128)) (4 * (y 1).val + (y 0).val) ((y 2).val % 128)
/-- The groups' rows sorted by their remainder modulo 16. -/
def class16T : Vec Ideal S16x16x1024 .bf16 := fun y => cell (T ((y 2).val / 128)) (16 * (y 1).val + (y 0).val) ((y 2).val % 128)
/-- The groups transposed, one below the other. -/
def tailT : Vec Ideal S1024x256 .f32 := fun y => cell (T ((y 0).val / 128)) (y 1).val ((y 0).val % 128)

/-- Every fourth row of a group, loaded. -/
theorem foursLd_apply (m : Memref sig .tc .vmem S8x256x128 .f32) (L : List (View.Piece (Elt Ideal) S8x256x128 .f32)) (g r : ℕ) (hg : g < 8) (hr : r < 4)
    (k : Fin 64) (l : Fin 128) : foursLd T m L g r (ix3 0 k l) = cell (T g) (4 * k.val + r) l.val := by
  unfold foursLd
  rw [View.readCov_eq_canon']
  have hidx : (foursR g r).idx (ix3 0 k l) = (slabR g).emb (ix3 0 ⟨4 * k.val + r, by omega⟩ l) := by
    refine (Rect.emb_eq_of_coords (slabR g) _ _ fun a => ?_).symm
    fin_cases a
    · simp [LoadRect.idx]
    · simp [LoadRect.idx]; omega
    · simp [LoadRect.idx]
  show View.canon (slabPieces T L (g + 1)) ((foursR g r).idx (ix3 0 k l)) = _
  rw [hidx]
  refine (View.canon_cons_emb _ _ _ _).trans ?_
  refine Eq.trans ?_ (cell_eq (T g) ⟨4 * k.val + r, by omega⟩ l)
  pointwise

variable (V : ℕ → ℕ → FVec Ideal S1x64x128 .f32)

/-- A quarter, read back from the second scratch array. -/
theorem quarterPieces_canon (L : List (View.Piece (Elt Ideal) S8x256x128 .f32)) (g r : ℕ) (hg : g < 8) (hr : r < 4) (k : Fin 64) (l : Fin 128) :
    ∀ n, 4 * g + r < n → n ≤ 4 * (g + 1) → View.canon (quarterPieces V L n) ((quarterR g r).emb (ix3 0 k l)) = V g r (ix3 0 k l)
  | 0, h, _ => absurd h (Nat.not_lt_zero _)
  | n + 1, h, h' => by
    have hn : n / 4 = g := by omega
    by_cases e : n = 4 * g + r
    · subst e
      have hr' : (4 * g + r) % 4 = r := by omega
      have he : (quarterR g r).emb (ix3 0 k l) = (quarterR ((4 * g + r) / 4) (4 * g + r)).emb (ix3 0 k l) := by
        refine Rect.emb_eq_of_coords (quarterR g r) _ _ fun a => ?_
        fin_cases a
        · simp; omega
        · simp
        · simp
      rw [he]
      refine (View.canon_cons_emb _ _ _ _).trans ?_
      rw [hn, hr']
      pointwise
    · refine (View.canon_cons_of_not_mem _ _ ?_).trans (quarterPieces_canon L g r hg hr k l n (by omega) (by omega))
      rw [Rect.mem_set_unit]
      intro hm
      have := hm 1
      simp at this
      omega

/-- Every fourth row of a quarter, loaded. -/
theorem sixteensLd_apply (hV : ∀ g r, g < 8 → r < 4 → ∀ (k : Fin 64) (l : Fin 128), V g r (ix3 0 k l) = cell (T g) (4 * k.val + r) l.val)
    (m : Memref sig .tc .vmem S8x256x128 .f32) (L : List (View.Piece (Elt Ideal) S8x256x128 .f32)) (g r a : ℕ) (hg : g < 8) (hr : r < 4) (ha : a < 4)
    (k : Fin 16) (l : Fin 128) : sixteensLd V m L g r a (ix3 0 k l) = cell (T g) (16 * k.val + (r + 4 * a)) l.val := by
  unfold sixteensLd
  rw [View.readCov_eq_canon']
  have hidx : (sixteensR g r a).idx (ix3 0 k l) = (quarterR g r).emb (ix3 0 ⟨4 * k.val + a, by omega⟩ l) := by
    refine (Rect.emb_eq_of_coords (quarterR g r) _ _ fun a => ?_).symm
    fin_cases a
    · simp [LoadRect.idx]
    · simp [LoadRect.idx]; omega
    · simp [LoadRect.idx]
  show View.canon (quarterPieces V L (4 * (g + 1))) ((sixteensR g r a).idx (ix3 0 k l)) = _
  rw [hidx, quarterPieces_canon V L g r hg hr _ l _ (by omega) le_rfl, hV g r hg hr]
  congr 1
  show 4 * (4 * k.val + a) + r = _
  omega

theorem plainPieces_agree : ∀ n, n ≤ 8 → ∀ q ∈ plainPieces T n, ∀ x : q.1.shape.Idx, q.2 x = plainT T (q.1.emb x)
  | 0, _, _, h => absurd h List.not_mem_nil
  | n + 1, hn, q, h => by
    rcases List.mem_cons.1 h with rfl | h
    · intro x
      obtain ⟨r, l, rfl⟩ : ∃ (r : Fin 256) (l : Fin 128), x = ix2 r l := ⟨_, _, eq_ix2 x⟩
      refine (cell_eq (T n) r l).trans ?_
      have e0 : (colsR n).emb (ix2 r l) = (ix2 r ⟨128 * n + l.val, by omega⟩ : S256x1024.Idx) := by
        refine Rect.emb_eq_of_coords _ _ _ fun a => ?_
        fin_cases a
        · simp
        · simp; omega
      rw [e0]
      show _ = cell (T ((128 * n + l.val) / 128)) r.val ((128 * n + l.val) % 128)
      congr 2
      · omega
      · omega
    · exact plainPieces_agree n (by omega) q h

theorem tailPieces_agree : ∀ n, n ≤ 8 → ∀ q ∈ tailPieces T n, ∀ x : q.1.shape.Idx, q.2 x = tailT T (q.1.emb x)
  | 0, _, _, h => absurd h List.not_mem_nil
  | n + 1, hn, q, h => by
    rcases List.mem_cons.1 h with rfl | h
    · intro x
      obtain ⟨l, r, rfl⟩ : ∃ (l : Fin 128) (r : Fin 256), x = ix2 l r := ⟨_, _, eq_ix2 x⟩
      have e1 : transpose S128x256 [1, 0] (T n) transposes_S256x128_p1_0_S128x256 (ix2 l r) = T n (ix2 r l) := by pointwise
      refine (e1.trans (cell_eq (T n) r l)).trans ?_
      have e0 : (rowsR n).emb (ix2 l r) = (ix2 ⟨128 * n + l.val, by omega⟩ r : S1024x256.Idx) := by
        refine Rect.emb_eq_of_coords _ _ _ fun a => ?_
        fin_cases a
        · simp; omega
        · simp
      rw [e0]
      show _ = cell (T ((128 * n + l.val) / 128)) r.val ((128 * n + l.val) % 128)
      congr 2
      · omega
      · omega
    · exact tailPieces_agree n (by omega) q h

theorem class4Pieces_agree (hV : ∀ g r, g < 8 → r < 4 → ∀ (k : Fin 64) (l : Fin 128), V g r (ix3 0 k l) = cell (T g) (4 * k.val + r) l.val) :
    ∀ n, n ≤ 32 → ∀ q ∈ class4Pieces V n, ∀ x : q.1.shape.Idx, q.2 x = class4T T (q.1.emb x)
  | 0, _, _, h => absurd h List.not_mem_nil
  | n + 1, hn, q, h => by
    rcases List.mem_cons.1 h with rfl | h
    · intro x
      obtain ⟨z, k, l, rfl⟩ : ∃ (z : Fin 1) (k : Fin 64) (l : Fin 128), x = ix3 z k l := ⟨_, _, _, eq_ix3 x⟩
      obtain rfl : z = 0 := Subsingleton.elim _ _
      have e1 : shapeCast S1x64x128 (truncf .bf16 (shapeCast S64x128 (V (n / 4) (n % 4)) shapeCasts_S1x64x128_S64x128) bitsLt_bf16_f32) shapeCasts_S64x128_S1x64x128 (ix3 0 k l)
          = V (n / 4) (n % 4) (ix3 0 k l) := by pointwise
      refine (e1.trans (hV _ _ (by omega) (by omega) k l)).trans ?_
      have e0 : (class4R n (n / 4)).emb (ix3 0 k l) = (ix3 ⟨n % 4, by omega⟩ k ⟨128 * (n / 4) + l.val, by omega⟩ : S4x64x1024.Idx) := by
        refine Rect.emb_eq_of_coords _ _ _ fun a => ?_
        fin_cases a
        · simp
        · simp
        · simp; omega
      rw [e0]
      show _ = cell (T ((128 * (n / 4) + l.val) / 128)) (4 * k.val + n % 4) ((128 * (n / 4) + l.val) % 128)
      congr 2
      · omega
      · omega
    · exact class4Pieces_agree hV n (by omega) q h

theorem class16Pieces_agree (W : ℕ → ℕ → ℕ → FVec Ideal S1x16x128 .f32)
    (hW : ∀ g r a, g < 8 → r < 4 → a < 4 → ∀ (k : Fin 16) (l : Fin 128), W g r a (ix3 0 k l) = cell (T g) (16 * k.val + (r + 4 * a)) l.val) :
    ∀ n, n ≤ 128 → ∀ q ∈ class16Pieces W n, ∀ x : q.1.shape.Idx, q.2 x = class16T T (q.1.emb x)
  | 0, _, _, h => absurd h List.not_mem_nil
  | n + 1, hn, q, h => by
    rcases List.mem_cons.1 h with rfl | h
    · intro x
      obtain ⟨z, k, l, rfl⟩ : ∃ (z : Fin 1) (k : Fin 16) (l : Fin 128), x = ix3 z k l := ⟨_, _, _, eq_ix3 x⟩
      obtain rfl : z = 0 := Subsingleton.elim _ _
      have e1 : shapeCast S1x16x128 (truncf .bf16 (shapeCast S16x128 (W (n / 16) (n / 4 % 4) (n % 4)) shapeCasts_S1x16x128_S16x128) bitsLt_bf16_f32) shapeCasts_S16x128_S1x16x128 (ix3 0 k l)
          = W (n / 16) (n / 4 % 4) (n % 4) (ix3 0 k l) := by pointwise
      refine (e1.trans (hW _ _ _ (by omega) (by omega) (by omega) k l)).trans ?_
      have e0 : (class16R (n / 4) n (n / 16)).emb (ix3 0 k l) = (ix3 ⟨n / 4 % 4 + 4 * (n % 4), by omega⟩ k ⟨128 * (n / 16) + l.val, by omega⟩ : S16x16x1024.Idx) := by
        refine Rect.emb_eq_of_coords _ _ _ fun a => ?_
        fin_cases a
        · simp
        · simp
        · simp; omega
      rw [e0]
      show _ = cell (T ((128 * (n / 16) + l.val) / 128)) (16 * k.val + (n / 4 % 4 + 4 * (n % 4))) ((128 * (n / 16) + l.val) % 128)
      congr 2
      · omega
      · omega
    · exact class16Pieces_agree W hW n (by omega) q h

end lists

end Cert.Proj

end
-- ==== Proof.ProjOuts.lean ====
/-
  The twelve blocks a grid point leaves: its normalized rows, and the groups of its queries, keys and values in their orders.
-/
module

public import proofs.«01_k».proof.Proof.ProjBlock
public import proofs.«01_k».proof.Proof.Gen.Kernel2Ideal.Frame

@[expose] public section

set_option maxRecDepth 65536

noncomputable section

namespace Cert.Proj

open Idealize.ShloMosaic Idealize.ShloMosaic.TcCoe Idealize.SL.Sem
open Cert.Kernel2Ideal Cert.Kernel2Ideal.Gen

section loads

variable (i : grid0.Coords)
  (arg1 : Memref sig .tc .vmem S256x2048 .f32) (harg1 : arg1.IsWhole)
  (arg2 : Memref sig .tc .vmem S1x2048 .f32) (harg2 : arg2.IsWhole)
  (arg3 : Memref sig .tc .vmem S2048x3072 .bf16) (harg3 : arg3.IsWhole)
  (arg4 : Memref sig .tc .vmem S256x128 .f32) (harg4 : arg4.IsWhole)
  (arg5 : Memref sig .tc .vmem S256x128 .f32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S1x128 .f32) (harg8 : arg8.IsWhole)
  (arg9 : Memref sig .tc .vmem S256x2048 .bf16) (harg9 : arg9.IsWhole)
  (arg10 : Memref sig .tc .vmem S256x1024 .bf16) (harg10 : arg10.IsWhole)
  (arg11 : Memref sig .tc .vmem S4x64x1024 .bf16) (harg11 : arg11.IsWhole)
  (arg12 : Memref sig .tc .vmem S16x16x1024 .bf16) (harg12 : arg12.IsWhole)
  (arg13 : Memref sig .tc .vmem S256x1024 .bf16) (harg13 : arg13.IsWhole)
  (arg14 : Memref sig .tc .vmem S4x64x1024 .bf16) (harg14 : arg14.IsWhole)
  (arg15 : Memref sig .tc .vmem S16x16x1024 .bf16) (harg15 : arg15.IsWhole)
  (arg16 : Memref sig .tc .vmem S256x1024 .bf16) (harg16 : arg16.IsWhole)
  (arg17 : Memref sig .tc .vmem S4x64x1024 .bf16) (harg17 : arg17.IsWhole)
  (arg18 : Memref sig .tc .vmem S16x16x1024 .bf16) (harg18 : arg18.IsWhole)
  (arg19 : Memref sig .tc .vmem S1024x256 .f32) (harg19 : arg19.IsWhole)
  (arg20 : Memref sig .tc .vmem S1024x256 .f32) (harg20 : arg20.IsWhole)
  (arg21 : Memref sig .tc .vmem S8x256x128 .f32) (harg21 : arg21.IsWhole)
  (arg22 : Memref sig .tc .vmem S8x256x128 .f32) (harg22 : arg22.IsWhole)
  (x0 : Vec Ideal S256x2048 .f32) (x1 : Vec Ideal S1x2048 .f32) (x2 : Vec Ideal S2048x3072 .bf16) (x3 : Vec Ideal S256x128 .f32) (x4 : Vec Ideal S256x128 .f32) (x5 : Vec Ideal S32x128 .f32) (x6 : Vec Ideal S32x128 .f32) (x7 : Vec Ideal S1x128 .f32)

theorem quarterLd_apply (p g r : ℕ) (hg : g < 8) (hr : r < 4) (k : Fin 64) (l : Fin 128) :
    quarterLd i arg1 harg1 arg2 harg2 arg3 harg3 arg4 harg4 arg5 harg5 arg6 harg6 arg7 harg7 arg8 harg8 arg21 x0 x1 x2 x3 x4 x5 x6 x7 p g r (ix3 0 k l) = cell (tileLd i arg1 harg1 arg2 harg2 arg3 harg3 arg4 harg4 arg5 harg5 arg6 harg6 arg7 harg7 arg8 harg8 x0 x1 x2 x3 x4 x5 x6 x7 p g) (4 * k.val + r) l.val := by
  unfold quarterLd
  exact foursLd_apply _ _ _ g r hg hr k l

theorem sixteenthLd_apply (p g r a : ℕ) (hg : g < 8) (hr : r < 4) (ha : a < 4) (k : Fin 16) (l : Fin 128) :
    sixteenthLd i arg1 harg1 arg2 harg2 arg3 harg3 arg4 harg4 arg5 harg5 arg6 harg6 arg7 harg7 arg8 harg8 arg21 arg22 x0 x1 x2 x3 x4 x5 x6 x7 p g r a (ix3 0 k l) = cell (tileLd i arg1 harg1 arg2 harg2 arg3 harg3 arg4 harg4 arg5 harg5 arg6 harg6 arg7 harg7 arg8 harg8 x0 x1 x2 x3 x4 x5 x6 x7 p g) (16 * k.val + (r + 4 * a)) l.val := by
  unfold sixteenthLd
  exact sixteensLd_apply _ _ (quarterLd_apply i arg1 harg1 arg2 harg2 arg3 harg3 arg4 harg4 arg5 harg5 arg6 harg6 arg7 harg7 arg8 harg8 arg21 x0 x1 x2 x3 x4 x5 x6 x7 p) arg22 _ g r a hg hr ha k l

end loads

variable (m : (ℓ : Loc nD τ sig) → Buf (Elt Ideal) ℓ) (c : Dev nD) (t : Fin cfg0.N)

/-- Group `g` of the point's queries (part 0), keys (part 1), values (part 2). -/
def tile (p g : ℕ) : FVec Ideal S256x128 .f32 :=
  tileLd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t) (iblk m c 5 t) (iblk m c 6 t) (iblk m c 7 t) p g

/-- The normalized rows. -/
theorem left_rows : (outsAt0 m c t).1 = xnLd (ms0_0 t) (hs0_0 t) (ms0_1 t) (hs0_1 t) (iblk m c 0 t) (iblk m c 1 t) := by
  funext y
  rw [outsAt0]
  dsimp only
  rw [out0_A_8]
  refine View.read_writes_apply_of_pieces VO0_8 _ _ _ ?_ y (cover0_A_8 ..)
  rw [xn_stores]
  intro q h
  obtain rfl := List.mem_singleton.1 h
  intro x
  refine congrArg _ (Rect.emb_eq_of_coords _ _ _ fun a => ?_).symm
  fin_cases a <;> simp

theorem left_plain0 : (outsAt0 m c t).2.1 = plainT (tile m c t 0) := by
  funext y
  rw [outsAt0]
  dsimp only
  rw [out0_A_9]
  refine View.read_writes_apply_of_pieces VO0_9 _ _ _ ?_ y (cover0_A_9 ..)
  rw [plain0_stores]
  exact plainPieces_agree _ 8 le_rfl

theorem left_class40 : (outsAt0 m c t).2.2.1 = class4T (tile m c t 0) := by
  funext y
  rw [outsAt0]
  dsimp only
  rw [out0_A_10]
  refine View.read_writes_apply_of_pieces VO0_10 _ _ _ ?_ y (cover0_A_10 ..)
  rw [fours0_stores]
  exact class4Pieces_agree _ _ (quarterLd_apply (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (iblk m c 0 t) (iblk m c 1 t) (iblk m c 2 t) (iblk m c 3 t) (iblk m c 4 t) (iblk m c 5 t) (iblk m c 6 t) (iblk m c 7 t) 0) 32 le_rfl

theorem left_class160 : (outsAt0 m c t).2.2.2.1 = class16T (tile m c t 0) := by
  funext y
  rw [outsAt0]
  dsimp only
  rw [out0_A_11]
  refine View.read_writes_apply_of_pieces VO0_11 _ _ _ ?_ y (cover0_A_11 ..)
  rw [sixteens0_stores]
  exact class16Pieces_agree _ _ (sixteenthLd_apply (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (iblk m c 0 t) (iblk m c 1 t) (iblk m c 2 t) (iblk m c 3 t) (iblk m c 4 t) (iblk m c 5 t) (iblk m c 6 t) (iblk m c 7 t) 0) 128 le_rfl

theorem left_plain1 : (outsAt0 m c t).2.2.2.2.1 = plainT (tile m c t 1) := by
  funext y
  rw [outsAt0]
  dsimp only
  rw [out0_A_12]
  refine View.read_writes_apply_of_pieces VO0_12 _ _ _ ?_ y (cover0_A_12 ..)
  rw [plain1_stores]
  exact plainPieces_agree _ 8 le_rfl

theorem left_class41 : (outsAt0 m c t).2.2.2.2.2.1 = class4T (tile m c t 1) := by
  funext y
  rw [outsAt0]
  dsimp only
  rw [out0_A_13]
  refine View.read_writes_apply_of_pieces VO0_13 _ _ _ ?_ y (cover0_A_13 ..)
  rw [fours1_stores]
  exact class4Pieces_agree _ _ (quarterLd_apply (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (iblk m c 0 t) (iblk m c 1 t) (iblk m c 2 t) (iblk m c 3 t) (iblk m c 4 t) (iblk m c 5 t) (iblk m c 6 t) (iblk m c 7 t) 1) 32 le_rfl

theorem left_class161 : (outsAt0 m c t).2.2.2.2.2.2.1 = class16T (tile m c t 1) := by
  funext y
  rw [outsAt0]
  dsimp only
  rw [out0_A_14]
  refine View.read_writes_apply_of_pieces VO0_14 _ _ _ ?_ y (cover0_A_14 ..)
  rw [sixteens1_stores]
  exact class16Pieces_agree _ _ (sixteenthLd_apply (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (iblk m c 0 t) (iblk m c 1 t) (iblk m c 2 t) (iblk m c 3 t) (iblk m c 4 t) (iblk m c 5 t) (iblk m c 6 t) (iblk m c 7 t) 1) 128 le_rfl

theorem left_plain2 : (outsAt0 m c t).2.2.2.2.2.2.2.1 = plainT (tile m c t 2) := by
  funext y
  rw [outsAt0]
  dsimp only
  rw [out0_A_15]
  refine View.read_writes_apply_of_pieces VO0_15 _ _ _ ?_ y (cover0_A_15 ..)
  rw [plain2_stores]
  exact plainPieces_agree _ 8 le_rfl

theorem left_class42 : (outsAt0 m c t).2.2.2.2.2.2.2.2.1 = class4T (tile m c t 2) := by
  funext y
  rw [outsAt0]
  dsimp only
  rw [out0_A_16]
  refine View.read_writes_apply_of_pieces VO0_16 _ _ _ ?_ y (cover0_A_16 ..)
  rw [fours2_stores]
  exact class4Pieces_agree _ _ (quarterLd_apply (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (iblk m c 0 t) (iblk m c 1 t) (iblk m c 2 t) (iblk m c 3 t) (iblk m c 4 t) (iblk m c 5 t) (iblk m c 6 t) (iblk m c 7 t) 2) 32 le_rfl

theorem left_class162 : (outsAt0 m c t).2.2.2.2.2.2.2.2.2.1 = class16T (tile m c t 2) := by
  funext y
  rw [outsAt0]
  dsimp only
  rw [out0_A_17]
  refine View.read_writes_apply_of_pieces VO0_17 _ _ _ ?_ y (cover0_A_17 ..)
  rw [sixteens2_stores]
  exact class16Pieces_agree _ _ (sixteenthLd_apply (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 scM0_1 (iblk m c 0 t) (iblk m c 1 t) (iblk m c 2 t) (iblk m c 3 t) (iblk m c 4 t) (iblk m c 5 t) (iblk m c 6 t) (iblk m c 7 t) 2) 128 le_rfl

theorem left_tail1 : (outsAt0 m c t).2.2.2.2.2.2.2.2.2.2.1 = tailT (tile m c t 1) := by
  funext y
  rw [outsAt0]
  dsimp only
  rw [out0_A_18]
  refine View.read_writes_apply_of_pieces VO0_18 _ _ _ ?_ y (cover0_A_18 ..)
  rw [tail1_stores]
  exact tailPieces_agree _ 8 le_rfl

theorem left_tail2 : (outsAt0 m c t).2.2.2.2.2.2.2.2.2.2.2 = tailT (tile m c t 2) := by
  funext y
  rw [outsAt0]
  dsimp only
  rw [out0_A_19]
  refine View.read_writes_apply_of_pieces VO0_19 _ _ _ ?_ y (cover0_A_19 ..)
  rw [tail2_stores]
  exact tailPieces_agree _ 8 le_rfl

end Cert.Proj

end
-- ==== Proof.ProjEntries.lean ====
/-
  A grid point's loads, entry by entry: its rows, the gains, the weights and the tables' entries.
-/
module

public import proofs.«01_k».proof.Proof.ProjRows
public import proofs.«01_k».proof.Proof.ProjTables
public import proofs.«01_k».proof.Proof.ProjOuts
public import Idealize.ShloMosaic.Lib.Writes

@[expose] public section

set_option maxRecDepth 65536

noncomputable section

namespace Cert.Proj

open Idealize.ShloMosaic Idealize.ShloMosaic.TcCoe Idealize.SL.Sem
open Cert.Kernel2Ideal Cert.Kernel2Ideal.Gen

theorem ld_apply {s : Shape} {e : EltTy} {sp : Space} (a : Memref sig .tc sp s e) (ha : a.IsWhole) (x : Vec Ideal s e) (r : Rect s) (i : r.shape.Idx) :
    ld a ha x r i = x (r.emb i) := by
  unfold ld
  rw [View.readAt_eq_ld, ha.read_unread]
  rfl

/-- A load of a whole block. -/
theorem ld_whole2 {a b : ℕ} {e : EltTy} {sp : Space} (M : Memref sig .tc sp ⟨2, ![a, b]⟩ e) (hM : M.IsWhole) (x : Vec Ideal ⟨2, ![a, b]⟩ e) (h) (p : Fin a) (q : Fin b) :
    ld M hM x (Rect.unit (s := ⟨2, ![a, b]⟩) ![0, 0] ![a, b] h) (ix2 p q) = x (ix2 p q) := by
  rw [ld_apply]
  refine congrArg x (Rect.emb_eq_of_coords _ _ _ fun d => ?_)
  fin_cases d <;> simp

variable (m : (ℓ : Loc nD τ sig) → Buf (Elt Ideal) ℓ) (c : Dev nD) (t : Fin cfg0.N)

/-- The call's rows, gains and weights. -/
abbrev argX : Vec Ideal S8192x2048 .f32 := m ((c : Thread nD τ).loc main_arg0)
abbrev argG : Vec Ideal S2048 .f32 := m ((c : Thread nD τ).loc main_arg1)
abbrev argW : Vec Ideal S2048x3072 .bf16 := m ((c : Thread nD τ).loc main_arg2)

theorem places : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0])

theorem x_block (r : Fin 256) (k : Fin 2048) : (iblk m c 0 t : Vec Ideal S256x2048 .f32) (ix2 r k) = argX m c (ix2 ⟨(256 * t.val + r.val) % 8192, by omega⟩ k) := by
  have ht : t.val < 32 := lt_of_lt_of_eq t.isLt N_0
  have hp := (places t).1
  blk_ext [iblk, V, hp]

theorem g_block (k : Fin 2048) : (iblk m c 1 t : Vec Ideal S1x2048 .f32) (ix2 0 k) = argG m c (ix1 k) := by
  have hp := (places t).2.1
  refine Eq.trans (b := (V m c main_v34 : Vec Ideal S1x2048 .f32) (ix2 0 k)) ?_ (gains m c k)
  blk_ext [iblk, hp]

theorem w_block (k : Fin 2048) (j : Fin 3072) : (iblk m c 2 t : Vec Ideal S2048x3072 .bf16) (ix2 k j) = argW m c (ix2 k j) := by
  have hp := (places t).2.2.1
  blk_ext [iblk, V, hp]

theorem cr_block (r : Fin 256) (l : Fin 128) : (iblk m c 3 t : Vec Ideal S256x128 .f32) (ix2 r l) = ((cosA r.val (l.val % 32) : ℝ) : EReal) := by
  have hp := (places t).2.2.2.1
  refine Eq.trans (b := (V m c main_v27 : Vec Ideal S256x128 .f32) (ix2 r l)) ?_ (cosines_in_block m c r l)
  blk_ext [iblk, hp]

theorem sr_block (r : Fin 256) (l : Fin 128) : (iblk m c 4 t : Vec Ideal S256x128 .f32) (ix2 r l) = ((sinA r.val (l.val % 32) : ℝ) : EReal) := by
  have hp := (places t).2.2.2.2.1
  refine Eq.trans (b := (V m c main_v29 : Vec Ideal S256x128 .f32) (ix2 r l)) ?_ (sines_in_block m c r l)
  blk_ext [iblk, hp]

theorem cb_block (b : Fin 32) (l : Fin 128) : (iblk m c 5 t : Vec Ideal S32x128 .f32) (ix2 b l) = ((cosA (256 * b.val) (l.val % 32) : ℝ) : EReal) := by
  have hp := (places t).2.2.2.2.2.1
  refine Eq.trans (b := (V m c main_v31 : Vec Ideal S32x128 .f32) (ix2 b l)) ?_ (cosines_of_first m c b l)
  blk_ext [iblk, hp]

theorem sb_block (b : Fin 32) (l : Fin 128) : (iblk m c 6 t : Vec Ideal S32x128 .f32) (ix2 b l) = ((sinA (256 * b.val) (l.val % 32) : ℝ) : EReal) := by
  have hp := (places t).2.2.2.2.2.2.1
  refine Eq.trans (b := (V m c main_v33 : Vec Ideal S32x128 .f32) (ix2 b l)) ?_ (sines_of_first m c b l)
  blk_ext [iblk, hp]

theorem sign_block (l : Fin 128) : (iblk m c 7 t : Vec Ideal S1x128 .f32) (ix2 0 l) = if l.val % 64 < 32 then (-1 : EReal) else 1 := by
  have hp := (places t).2.2.2.2.2.2.2
  refine Eq.trans (b := (V m c main_v25 : Vec Ideal S1x128 .f32) (ix2 0 l)) ?_ (signs m c l)
  blk_ext [iblk, hp]

end Cert.Proj

end
-- ==== Proof.ProjTile.lean ====
/-
  A grid point's groups are the projection's rows and columns: group `g` of part `p` at row `r`, lane `l` is row
  `256 t + r`, column `128 g + l`.
-/
module

public import proofs.«01_k».proof.Proof.ProjSpec
public import proofs.«01_k».proof.Proof.ProjEntries

@[expose] public section

set_option maxRecDepth 65536

noncomputable section

namespace Cert.Proj

open Idealize.ShloMosaic Idealize.ShloMosaic.TcCoe Idealize.SL.Sem
open Cert.Kernel2Ideal Cert.Kernel2Ideal.Gen

theorem cosines_apply (cr sr : FVec Ideal S256x128 .f32) (cb sb : FVec Ideal S1x128 .f32) (r : Fin 256) (l : Fin 128) :
    cosines cr sr cb sb (ix2 r l) = cr (ix2 r l) * cb (ix2 0 l) - sr (ix2 r l) * sb (ix2 0 l) := by
  unfold cosines
  pointwise

theorem sines_apply (cr sr : FVec Ideal S256x128 .f32) (cb sb sg : FVec Ideal S1x128 .f32) (r : Fin 256) (l : Fin 128) :
    sines cr sr cb sb sg (ix2 r l) = (sr (ix2 r l) * cb (ix2 0 l) + cr (ix2 r l) * sb (ix2 0 l)) * sg (ix2 0 l) := by
  unfold sines
  pointwise

/-- A load of the tables' row of a grid point. -/
theorem ld_point {sp : Space} (M : Memref sig .tc sp S32x128 .f32) (hM : M.IsWhole) (x : Vec Ideal S32x128 .f32) (t : Fin cfg0.N) (l : Fin 128) :
    ld M hM x (pointR (grid0.coords t)) (ix2 0 l) = x (ix2 ⟨t.val, lt_of_lt_of_eq t.isLt N_0⟩ l) := by
  have hi : k0_off1 (grid0.coords t) = ![t.val, 0] :=
    (by decide +kernel : ∀ t : Fin grid0.N, k0_off1 (grid0.coords t) = ![t.val, 0]) t
  rw [ld_apply]
  refine congrArg x (Rect.emb_eq_of_coords _ _ _ fun d => ?_)
  fin_cases d
  · simp [hi]
  · simp [hi]

/-- A load of one part's columns of the weights. -/
theorem ld_part {sp : Space} (M : Memref sig .tc sp S2048x3072 .bf16) (hM : M.IsWhole) (x : Vec Ideal S2048x3072 .bf16) (p : ℕ) (hp : p < 3) (k : Fin 2048) (j : Fin 1024) :
    ld M hM x (partR p) (ix2 k j) = x (ix2 k ⟨1024 * p + j.val, by omega⟩) := by
  have h : p % 3 = p := Nat.mod_eq_of_lt hp
  rw [ld_apply]
  refine congrArg x (Rect.emb_eq_of_coords _ _ _ fun d => ?_)
  fin_cases d
  · simp
  · simp [h]

variable (m : (ℓ : Loc nD τ sig) → Buf (Elt Ideal) ℓ) (c : Dev nD) (t : Fin cfg0.N)

theorem rows_apply (r : Fin 256) (k : Fin 2048) :
    xnLd (ms0_0 t) (hs0_0 t) (ms0_1 t) (hs0_1 t) (iblk m c 0 t) (iblk m c 1 t) (ix2 r k) = normRow (argX m c) (argG m c) (256 * t.val + r.val) k := by
  unfold xnLd normRow
  rw [normed_apply]
  congr 1
  · funext j
    exact (ld_whole2 _ _ _ _ r j).trans (x_block m c t r j)
  · funext j
    exact (ld_whole2 _ _ _ _ 0 j).trans (g_block m c t j)

/-- One part's groups before the turn. -/
theorem part_apply (p g : ℕ) (hp : p < 3) (hg : g < 8) (r : Fin 256) (l : Fin 128) :
    partLd (ms0_0 t) (hs0_0 t) (ms0_1 t) (hs0_1 t) (ms0_2 t) (hs0_2 t) (iblk m c 0 t) (iblk m c 1 t) (iblk m c 2 t) p g (ix2 r l)
      = proj (argX m c) (argG m c) (argW m c) (256 * t.val + r.val) (1024 * p + (128 * g + l.val)) := by
  unfold partLd proj
  rw [group_apply _ g hg, product_apply]
  refine Finset.sum_congr rfl fun k _ => ?_
  rw [rows_apply, ld_part _ _ _ p hp, w_block]
  congr 3
  exact Fin.ext (Nat.mod_eq_of_lt (by omega)).symm

theorem cos_apply (r : Fin 256) (l : Fin 128) :
    cosLd (grid0.coords t) (ms0_3 t) (hs0_3 t) (ms0_4 t) (hs0_4 t) (ms0_5 t) (hs0_5 t) (ms0_6 t) (hs0_6 t) (iblk m c 3 t) (iblk m c 4 t) (iblk m c 5 t) (iblk m c 6 t) (ix2 r l)
      = ((cosA (256 * t.val + r.val) (l.val % 32) : ℝ) : EReal) := by
  unfold cosLd
  rw [cosines_apply, ld_whole2 _ _ _ _ r l, ld_whole2 _ _ _ _ r l, ld_point, ld_point, cr_block, sr_block, cb_block, sb_block]
  exact cos_sum _ _ _

theorem sin_apply (r : Fin 256) (l : Fin 128) :
    sinLd (grid0.coords t) (ms0_3 t) (hs0_3 t) (ms0_4 t) (hs0_4 t) (ms0_5 t) (hs0_5 t) (ms0_6 t) (hs0_6 t) (ms0_7 t) (hs0_7 t) (iblk m c 3 t) (iblk m c 4 t) (iblk m c 5 t) (iblk m c 6 t) (iblk m c 7 t) (ix2 r l)
      = ((sinA (256 * t.val + r.val) (l.val % 32) : ℝ) : EReal) * if l.val % 64 < 32 then (-1 : EReal) else 1 := by
  unfold sinLd
  rw [sines_apply, ld_whole2 _ _ _ _ r l, ld_whole2 _ _ _ _ r l, ld_point, ld_point, ld_whole2 _ _ _ _ 0 l, cr_block, sr_block, cb_block, sb_block, sign_block]
  exact congrArg (· * _) (sin_sum _ _ _)

/-- A turned group. -/
theorem turned_part (p g : ℕ) (hp : p < 3) (hg : g < 8) (r : Fin 256) (l : Fin 128) :
    turned (partLd (ms0_0 t) (hs0_0 t) (ms0_1 t) (hs0_1 t) (ms0_2 t) (hs0_2 t) (iblk m c 0 t) (iblk m c 1 t) (iblk m c 2 t) p g)
        (cosLd (grid0.coords t) (ms0_3 t) (hs0_3 t) (ms0_4 t) (hs0_4 t) (ms0_5 t) (hs0_5 t) (ms0_6 t) (hs0_6 t) (iblk m c 3 t) (iblk m c 4 t) (iblk m c 5 t) (iblk m c 6 t))
        (sinLd (grid0.coords t) (ms0_3 t) (hs0_3 t) (ms0_4 t) (hs0_4 t) (ms0_5 t) (hs0_5 t) (ms0_6 t) (hs0_6 t) (ms0_7 t) (hs0_7 t) (iblk m c 3 t) (iblk m c 4 t) (iblk m c 5 t) (iblk m c 6 t) (iblk m c 7 t)) (ix2 r l)
      = rope (fun j => proj (argX m c) (argG m c) (argW m c) (256 * t.val + r.val) (1024 * p + j)) (256 * t.val + r.val) (128 * g + l.val) := by
  have h64 : (128 * g + l.val) % 64 = l.val % 64 := by omega
  have h32 : (128 * g + l.val) % 32 = l.val % 32 := by omega
  rw [turned_apply, cos_apply, sin_apply]
  unfold rope
  rw [h64, h32]
  by_cases h : l.val % 64 < 32
  · rw [if_pos h, if_pos h, if_pos h, part_apply m c t p g hp hg, part_apply m c t p g hp hg]
    have e : 1024 * p + (128 * g + (l.val + 32) % 128) = 1024 * p + (128 * g + l.val + 32) := by omega
    show _ + proj _ _ _ _ (1024 * p + (128 * g + (l.val + 32) % 128)) * _ = _
    rw [e, mul_neg, mul_one, mul_neg, sub_eq_add_neg]
  · rw [if_neg h, if_neg h, if_neg h, part_apply m c t p g hp hg, part_apply m c t p g hp hg]
    have e : 1024 * p + (128 * g + (l.val + 96) % 128) = 1024 * p + (128 * g + l.val - 32) := by omega
    show _ + proj _ _ _ _ (1024 * p + (128 * g + (l.val + 96) % 128)) * _ = _
    rw [e, mul_one]

/-- A point's groups. -/
theorem tile_apply (p g : ℕ) (hp : p < 3) (hg : g < 8) (r : Fin 256) (l : Fin 128) :
    tile m c t p g (ix2 r l) = part (argX m c) (argG m c) (argW m c) p (256 * t.val + r.val) (128 * g + l.val) := by
  unfold tile
  match p, hp with
  | 0, _ =>
    refine (scaled_apply _ r l).trans ?_
    refine (congrArg (· * _) (turned_part m c t 0 g (by omega) hg r l)).trans ?_
    unfold part
    simp only [Nat.mul_zero, Nat.zero_add]
  | 1, _ => exact turned_part m c t 1 g (by omega) hg r l
  | 2, _ => exact part_apply m c t 2 g (by omega) hg r l

/-- The same, at natural numbers. -/
theorem cell_tile (p j r : ℕ) (hp : p < 3) (hj : j < 1024) (hr : r < 256) :
    cell (tile m c t p (j / 128)) r (j % 128) = part (argX m c) (argG m c) (argW m c) p (256 * t.val + r) j := by
  have e1 : r % 256 = r := Nat.mod_eq_of_lt hr
  have e2 : 128 * (j / 128) + j % 128 % 128 = j := by omega
  refine (tile_apply m c t p (j / 128) hp (by omega) _ _).trans ?_
  show part _ _ _ p (256 * t.val + r % 256) (128 * (j / 128) + j % 128 % 128) = _
  rw [e1, e2]

end Cert.Proj

end
-- ==== Proof.ProjArrays.lean ====
/-
  The twelve arrays after the run: every grid point's blocks are the projection's, and the written-back blocks fill the
  arrays. The two transposed arrays' blocks are written back from the twenty-fifth point on.
-/
module

public import proofs.«01_k».proof.Proof.ProjTile
public import Idealize.ShloMosaic.Lib.Pipeline.ValueKit

@[expose] public section

set_option maxRecDepth 65536

noncomputable section

namespace Cert.Proj

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-! ## A block at its place -/

section place

variable (t : Fin cfg0.N) (p : ℕ) (hp : p < 3)

theorem rows_place (y : S256x2048.Idx) (z : S8192x2048.Idx) (h0 : (z 0).val = 256 * t.val + (y 0).val) (h1 : (z 1).val = (y 1).val) :
    xnLd (ms0_0 t) (hs0_0 t) (ms0_1 t) (hs0_1 t) (iblk m c 0 t) (iblk m c 1 t) y = rowsA (argX m c) (argG m c) z := by
  obtain ⟨r, k, rfl⟩ : ∃ (r : Fin 256) (k : Fin 2048), y = ix2 r k := ⟨_, _, eq_ix2 y⟩
  unfold rowsA
  rw [rows_apply, h0]
  exact congrArg _ (Fin.ext h1).symm

include hp

theorem plain_place (y : S256x1024.Idx) (z : S8192x1024.Idx) (h0 : (z 0).val = 256 * t.val + (y 0).val) (h1 : (z 1).val = (y 1).val) :
    plainT (tile m c t p) y = plainA (part (argX m c) (argG m c) (argW m c) p) z := by
  unfold plainT plainA
  rw [cell_tile m c t p _ _ hp (y 1).isLt (y 0).isLt, h0, h1]

theorem class4_place (y : S4x64x1024.Idx) (z : S4x2048x1024.Idx) (h0 : (z 0).val = (y 0).val) (h1 : (z 1).val = 64 * t.val + (y 1).val) (h2 : (z 2).val = (y 2).val) :
    class4T (tile m c t p) y = class4A (part (argX m c) (argG m c) (argW m c) p) z := by
  have b0 : (y 0).val < 4 := (y 0).isLt
  have b1 : (y 1).val < 64 := (y 1).isLt
  unfold class4T class4A
  rw [cell_tile m c t p _ _ hp (y 2).isLt (by omega), h0, h1, h2]
  congr 1
  omega

theorem class16_place (y : S16x16x1024.Idx) (z : S16x512x1024.Idx) (h0 : (z 0).val = (y 0).val) (h1 : (z 1).val = 16 * t.val + (y 1).val) (h2 : (z 2).val = (y 2).val) :
    class16T (tile m c t p) y = class16A (part (argX m c) (argG m c) (argW m c) p) z := by
  have b0 : (y 0).val < 16 := (y 0).isLt
  have b1 : (y 1).val < 16 := (y 1).isLt
  unfold class16T class16A
  rw [cell_tile m c t p _ _ hp (y 2).isLt (by omega), h0, h1, h2]
  congr 1
  omega

theorem tail_place (ht : 24 ≤ t.val) (y : S1024x256.Idx) (z : S1024x2048.Idx) (h0 : (z 0).val = (y 0).val) (h1 : (z 1).val = 256 * (t.val - 24) + (y 1).val) :
    tailT (tile m c t p) y = tailA (part (argX m c) (argG m c) (argW m c) p) z := by
  unfold tailT tailA
  rw [cell_tile m c t p _ _ hp (y 0).isLt (y 1).isLt, h0, h1]
  congr 1
  omega

end place

/-! ## The arrays -/

theorem rows_array : (dats m 0 c).arrAt 8 cfg0.N = (rowsA (argX m c) (argG m c) : Vec Ideal S8192x2048 .bf16) := by
  refine (dats m 0 c).arrAt_eq_of_covers 8 _ (by decide +kernel) fun t hf y => ?_
  have hp : win0_8.index t = ![t.val, 0] := (by decide +kernel : ∀ t : Fin grid0.N, win0_8.index t = ![t.val, 0]) t
  blk_simp
  rw [after0_8, left_rows]
  exact rows_place m c t y _ (by blk_simp [hp] <;> simp <;> omega) (by blk_simp [hp] <;> simp)

theorem plain_array0 : (dats m 0 c).arrAt 9 cfg0.N = (plainA (part (argX m c) (argG m c) (argW m c) 0) : Vec Ideal S8192x1024 .bf16) := by
  refine (dats m 0 c).arrAt_eq_of_covers 9 _ (by decide +kernel) fun t hf y => ?_
  have hp : win0_9.index t = ![t.val, 0] := (by decide +kernel : ∀ t : Fin grid0.N, win0_9.index t = ![t.val, 0]) t
  blk_simp
  rw [after0_9, left_plain0]
  exact plain_place m c t 0 (by decide) y _ (by blk_simp [hp] <;> simp <;> omega) (by blk_simp [hp] <;> simp <;> omega)

theorem class4_array0 : (dats m 0 c).arrAt 10 cfg0.N = (class4A (part (argX m c) (argG m c) (argW m c) 0) : Vec Ideal S4x2048x1024 .bf16) := by
  refine (dats m 0 c).arrAt_eq_of_covers 10 _ (by decide +kernel) fun t hf y => ?_
  have hp : win0_10.index t = ![0, t.val, 0] := (by decide +kernel : ∀ t : Fin grid0.N, win0_10.index t = ![0, t.val, 0]) t
  blk_simp
  rw [after0_10, left_class40]
  exact class4_place m c t 0 (by decide) y _ (by blk_simp [hp] <;> simp <;> omega) (by blk_simp [hp] <;> simp <;> omega) (by blk_simp [hp] <;> simp <;> omega)

theorem class16_array0 : (dats m 0 c).arrAt 11 cfg0.N = (class16A (part (argX m c) (argG m c) (argW m c) 0) : Vec Ideal S16x512x1024 .bf16) := by
  refine (dats m 0 c).arrAt_eq_of_covers 11 _ (by decide +kernel) fun t hf y => ?_
  have hp : win0_11.index t = ![0, t.val, 0] := (by decide +kernel : ∀ t : Fin grid0.N, win0_11.index t = ![0, t.val, 0]) t
  blk_simp
  rw [after0_11, left_class160]
  exact class16_place m c t 0 (by decide) y _ (by blk_simp [hp] <;> simp <;> omega) (by blk_simp [hp] <;> simp <;> omega) (by blk_simp [hp] <;> simp <;> omega)

theorem plain_array1 : (dats m 0 c).arrAt 12 cfg0.N = (plainA (part (argX m c) (argG m c) (argW m c) 1) : Vec Ideal S8192x1024 .bf16) := by
  refine (dats m 0 c).arrAt_eq_of_covers 12 _ (by decide +kernel) fun t hf y => ?_
  have hp : win0_12.index t = ![t.val, 0] := (by decide +kernel : ∀ t : Fin grid0.N, win0_12.index t = ![t.val, 0]) t
  blk_simp
  rw [after0_12, left_plain1]
  exact plain_place m c t 1 (by decide) y _ (by blk_simp [hp] <;> simp <;> omega) (by blk_simp [hp] <;> simp <;> omega)

theorem class4_array1 : (dats m 0 c).arrAt 13 cfg0.N = (class4A (part (argX m c) (argG m c) (argW m c) 1) : Vec Ideal S4x2048x1024 .bf16) := by
  refine (dats m 0 c).arrAt_eq_of_covers 13 _ (by decide +kernel) fun t hf y => ?_
  have hp : win0_13.index t = ![0, t.val, 0] := (by decide +kernel : ∀ t : Fin grid0.N, win0_13.index t = ![0, t.val, 0]) t
  blk_simp
  rw [after0_13, left_class41]
  exact class4_place m c t 1 (by decide) y _ (by blk_simp [hp] <;> simp <;> omega) (by blk_simp [hp] <;> simp <;> omega) (by blk_simp [hp] <;> simp <;> omega)

theorem class16_array1 : (dats m 0 c).arrAt 14 cfg0.N = (class16A (part (argX m c) (argG m c) (argW m c) 1) : Vec Ideal S16x512x1024 .bf16) := by
  refine (dats m 0 c).arrAt_eq_of_covers 14 _ (by decide +kernel) fun t hf y => ?_
  have hp : win0_14.index t = ![0, t.val, 0] := (by decide +kernel : ∀ t : Fin grid0.N, win0_14.index t = ![0, t.val, 0]) t
  blk_simp
  rw [after0_14, left_class161]
  exact class16_place m c t 1 (by decide) y _ (by blk_simp [hp] <;> simp <;> omega) (by blk_simp [hp] <;> simp <;> omega) (by blk_simp [hp] <;> simp <;> omega)

theorem plain_array2 : (dats m 0 c).arrAt 15 cfg0.N = (plainA (part (argX m c) (argG m c) (argW m c) 2) : Vec Ideal S8192x1024 .bf16) := by
  refine (dats m 0 c).arrAt_eq_of_covers 15 _ (by decide +kernel) fun t hf y => ?_
  have hp : win0_15.index t = ![t.val, 0] := (by decide +kernel : ∀ t : Fin grid0.N, win0_15.index t = ![t.val, 0]) t
  blk_simp
  rw [after0_15, left_plain2]
  exact plain_place m c t 2 (by decide) y _ (by blk_simp [hp] <;> simp <;> omega) (by blk_simp [hp] <;> simp <;> omega)

theorem class4_array2 : (dats m 0 c).arrAt 16 cfg0.N = (class4A (part (argX m c) (argG m c) (argW m c) 2) : Vec Ideal S4x2048x1024 .bf16) := by
  refine (dats m 0 c).arrAt_eq_of_covers 16 _ (by decide +kernel) fun t hf y => ?_
  have hp : win0_16.index t = ![0, t.val, 0] := (by decide +kernel : ∀ t : Fin grid0.N, win0_16.index t = ![0, t.val, 0]) t
  blk_simp
  rw [after0_16, left_class42]
  exact class4_place m c t 2 (by decide) y _ (by blk_simp [hp] <;> simp <;> omega) (by blk_simp [hp] <;> simp <;> omega) (by blk_simp [hp] <;> simp <;> omega)

theorem class16_array2 : (dats m 0 c).arrAt 17 cfg0.N = (class16A (part (argX m c) (argG m c) (argW m c) 2) : Vec Ideal S16x512x1024 .bf16) := by
  refine (dats m 0 c).arrAt_eq_of_covers 17 _ (by decide +kernel) fun t hf y => ?_
  have hp : win0_17.index t = ![0, t.val, 0] := (by decide +kernel : ∀ t : Fin grid0.N, win0_17.index t = ![0, t.val, 0]) t
  blk_simp
  rw [after0_17, left_class162]
  exact class16_place m c t 2 (by decide) y _ (by blk_simp [hp] <;> simp <;> omega) (by blk_simp [hp] <;> simp <;> omega) (by blk_simp [hp] <;> simp <;> omega)

theorem tail_array1 : (dats m 0 c).arrAt 18 cfg0.N = (tailA (part (argX m c) (argG m c) (argW m c) 1) : Vec Ideal S1024x2048 .f32) := by
  refine (dats m 0 c).arrAt_eq_of_covers 18 _ (by decide +kernel) fun t hf y => ?_
  obtain ⟨ht, hp⟩ := (by decide +kernel : ∀ t : Fin grid0.N, win0_18.flush t = true → 24 ≤ t.val ∧ win0_18.index t = ![0, t.val - 24]) t hf
  blk_simp
  rw [after0_18, left_tail1]
  exact tail_place m c t 1 (by decide) ht y _ (by blk_simp [hp] <;> simp <;> omega) (by blk_simp [hp] <;> simp <;> omega)

theorem tail_array2 : (dats m 0 c).arrAt 19 cfg0.N = (tailA (part (argX m c) (argG m c) (argW m c) 2) : Vec Ideal S1024x2048 .f32) := by
  refine (dats m 0 c).arrAt_eq_of_covers 19 _ (by decide +kernel) fun t hf y => ?_
  obtain ⟨ht, hp⟩ := (by decide +kernel : ∀ t : Fin grid0.N, win0_19.flush t = true → 24 ≤ t.val ∧ win0_19.index t = ![0, t.val - 24]) t hf
  blk_simp
  rw [after0_19, left_tail2]
  exact tail_place m c t 2 (by decide) ht y _ (by blk_simp [hp] <;> simp <;> omega) (by blk_simp [hp] <;> simp <;> omega)

end Cert.Proj

end
-- ==== Proof.ProjReference.lean ====
/-
  The reference's twelve results are the projection's arrays.
-/
module

public import proofs.«01_k».proof.Proof.ProjSpec
public import proofs.«01_k».proof.Proof.Gen.Reference2Ideal
public import proofs.«01_k».proof.Proof.Gen.Reference2Ideal.Read

@[expose] public section

set_option maxRecDepth 65536

noncomputable section

namespace Cert.ProjRef

open Idealize.ShloMosaic Idealize.SL.Sem Cert.Proj
open Cert.Reference2Ideal Cert.Reference2Ideal.Gen Cert.Reference2Ideal.Read

variable (X : Vec Ideal S8192x2048 .f32) (G : Vec Ideal S2048 .f32) (W : Vec Ideal S2048x3072 .bf16)

theorem rows_read (n : Fin 8192) (k : Fin 2048) : val_main_v12 (F := Ideal) X G (ix2 n k) = normRow X G n.val k := by
  have hn : n.val % 8192 = n.val := Nat.mod_eq_of_lt n.isLt
  unfold normRow rms
  simp only [hn]
  simp only [val_main_v12, val_main_v11, val_main_v10, val_main_v9, val_main_v8, val_main_v7, val_main_v6, val_main_v5, val_main_v4, val_main_v3, val_main_v2, val_main_v1, val_main_v0, val_main_cst, val_main_cst_0, val_main_cst_1]
  pointwise

theorem product_read (n : Fin 8192) (j : Fin 3072) : val_main_v14 (F := Ideal) X G W (ix2 n j) = proj X G W n.val j.val := by
  have hj : j.val % 3072 = j.val := Nat.mod_eq_of_lt j.isLt
  unfold proj
  simp only [hj]
  simp only [val_main_v14, val_main_v13]
  pointwise
  exact Finset.sum_congr rfl fun k _ => by rw [rows_read]

theorem cos_read (n : Fin 8192) (h : Fin 1) (e : Fin 32) : val_main_v32 (F := Ideal) (ix3 n h e) = ((cosA n.val e.val : ℝ) : EReal) := by
  refine Eq.trans ?_ (cos_angle n.val e.val (by omega) (by omega))
  simp only [val_main_v32, val_main_v31, val_main_v30, val_main_v29, val_main_v28, val_main_v27, val_main_v26, val_main_v25, val_main_v24, val_main_v23, val_main_v22, val_main_v21, val_main_v20, val_main_v19, val_main_v18, val_main_cst_2, val_main_cst_3]
  pointwise

theorem sin_read (n : Fin 8192) (h : Fin 1) (e : Fin 32) : val_main_v34 (F := Ideal) (ix3 n h e) = ((sinA n.val e.val : ℝ) : EReal) := by
  refine Eq.trans ?_ (sin_angle n.val e.val (by omega) (by omega))
  simp only [val_main_v34, val_main_v33, val_main_v30, val_main_v29, val_main_v28, val_main_v27, val_main_v26, val_main_v25, val_main_v24, val_main_v23, val_main_v22, val_main_v21, val_main_v20, val_main_v19, val_main_v18, val_main_cst_2, val_main_cst_3]
  pointwise

/-! ## The turn -/

/-- The heads' entries of the queries, and of the keys. -/
theorem q_heads (n : Fin 8192) (h : Fin 16) (u : Fin 64) : val_main_v35 (F := Ideal) X G W (ix3 n h u) = proj X G W n.val (64 * h.val + u.val) := by
  simp only [val_main_v35, val_main_v15]
  pointwise
  rw [product_read]
  congr 1
  show h.val * 64 + u.val = _
  omega

theorem k_heads (n : Fin 8192) (h : Fin 16) (u : Fin 64) : val_main_v52 (F := Ideal) X G W (ix3 n h u) = proj X G W n.val (1024 + (64 * h.val + u.val)) := by
  simp only [val_main_v52, val_main_v16]
  pointwise
  rw [product_read]
  congr 1
  show 1024 + (h.val * 64 + u.val) = _
  omega

/-- A head's halves turned, the second half's product and sum in the reference's order. -/
theorem turn_eq (z : ℕ → EReal) (n : Fin 8192) (h : Fin 16) (u : Fin 64) :
    (if u.val < 32 then z (64 * h.val + u.val) * ((cosA n.val (u.val % 32) : ℝ) : EReal) - z (64 * h.val + (u.val + 32)) * ((sinA n.val (u.val % 32) : ℝ) : EReal)
      else z (64 * h.val + u.val) * ((cosA n.val (u.val % 32) : ℝ) : EReal) + z (64 * h.val + (u.val - 32)) * ((sinA n.val (u.val % 32) : ℝ) : EReal))
      = rope z n.val (64 * h.val + u.val) := by
  have h64 : (64 * h.val + u.val) % 64 = u.val := by omega
  have h32 : (64 * h.val + u.val) % 32 = u.val % 32 := by omega
  unfold rope
  rw [h64, h32]
  by_cases hu : u.val < 32
  · rw [if_pos hu, if_pos hu]
    rfl
  · have e : 64 * h.val + (u.val - 32) = 64 * h.val + u.val - 32 := by omega
    rw [if_neg hu, if_neg hu, e]

theorem q_turned (n : Fin 8192) (h : Fin 16) (u : Fin 64) : val_main_v48 (F := Ideal) X G W (ix3 n h u) = rope (fun j => proj X G W n.val j) n.val (64 * h.val + u.val) := by
  rw [← turn_eq]
  simp only [val_main_v48]
  pointwise
  by_cases hu : u.val < 32
  · have e : u.val % 32 = u.val := by omega
    rw [dif_pos hu, if_pos hu, e, Nat.add_comm u.val 32]
    simp only [val_main_v42, val_main_v41, val_main_v40, val_main_v39, val_main_v38, val_main_v37, val_main_v36]
    pointwise
    rw [q_heads, q_heads, cos_read, sin_read]
  · have e : u.val % 32 = u.val - 32 := by omega
    have e' : 32 + (u.val - 32) = u.val := by omega
    rw [dif_neg hu, if_neg hu, e]
    simp only [val_main_v47, val_main_v46, val_main_v45, val_main_v44, val_main_v43, val_main_v37, val_main_v36]
    pointwise
    rw [q_heads, q_heads, cos_read, sin_read]
    simp only [e']

theorem k_turned (n : Fin 8192) (h : Fin 16) (u : Fin 64) : val_main_v65 (F := Ideal) X G W (ix3 n h u) = rope (fun j => proj X G W n.val (1024 + j)) n.val (64 * h.val + u.val) := by
  rw [← turn_eq]
  simp only [val_main_v65]
  pointwise
  by_cases hu : u.val < 32
  · have e : u.val % 32 = u.val := by omega
    rw [dif_pos hu, if_pos hu, e, Nat.add_comm u.val 32]
    simp only [val_main_v59, val_main_v58, val_main_v57, val_main_v56, val_main_v55, val_main_v54, val_main_v53]
    pointwise
    rw [k_heads, k_heads, cos_read, sin_read]
  · have e : u.val % 32 = u.val - 32 := by omega
    have e' : 32 + (u.val - 32) = u.val := by omega
    rw [dif_neg hu, if_neg hu, e]
    simp only [val_main_v64, val_main_v63, val_main_v62, val_main_v61, val_main_v60, val_main_v54, val_main_v53]
    pointwise
    rw [k_heads, k_heads, cos_read, sin_read]
    simp only [e']

/-! ## The three parts in the rows' order -/

theorem q_read (n : Fin 8192) (j : Fin 1024) : val_main_v51 (F := Ideal) X G W (ix2 n j) = part X G W 0 n.val j.val := by
  simp only [val_main_v51, val_main_v50, val_main_v49, val_main_cst_4]
  pointwise
  rw [q_turned]
  exact congrArg (fun i => rope (fun j => proj X G W n.val j) n.val i * _) (Nat.div_add_mod j.val 64)

theorem k_read (n : Fin 8192) (j : Fin 1024) : val_main_v66 (F := Ideal) X G W (ix2 n j) = part X G W 1 n.val j.val := by
  simp only [val_main_v66]
  pointwise
  rw [k_turned]
  exact congrArg (fun i => rope (fun j => proj X G W n.val (1024 + j)) n.val i) (Nat.div_add_mod j.val 64)

theorem v_read (n : Fin 8192) (j : Fin 1024) : val_main_v17 (F := Ideal) X G W (ix2 n j) = part X G W 2 n.val j.val := by
  simp only [val_main_v17]
  pointwise
  rw [product_read]
  rfl

/-! ## The results -/

theorem rows_result : val_main_v67 (F := Ideal) X G = rowsA X G := by
  funext y
  obtain ⟨n, k, rfl⟩ : ∃ (n : Fin 8192) (k : Fin 2048), y = ix2 n k := ⟨_, _, eq_ix2 y⟩
  exact rows_read X G n k

/-- Rows sorted by their remainder modulo 4 and modulo 16. -/
theorem sorted4 (z : Vec Ideal S8192x1024 .bf16) (Z : ℕ → ℕ → EReal) (hz : ∀ (n : Fin 8192) (j : Fin 1024), z (ix2 n j) = Z n.val j.val) :
    transpose S4x2048x1024 [1, 0, 2] (shapeCast S2048x4x1024 z shapeCasts_S8192x1024_S2048x4x1024) transposes_S2048x4x1024_S4x2048x1024_1_0_2 = class4A Z := by
  funext y
  obtain ⟨a, k, j, rfl⟩ : ∃ (a : Fin 4) (k : Fin 2048) (j : Fin 1024), y = ix3 a k j := ⟨_, _, _, eq_ix3 y⟩
  pointwise
  rw [hz]
  exact congrArg (fun n => Z n j.val) (by show k.val * 4 + a.val = 4 * k.val + a.val; omega)

theorem sorted16 (z : Vec Ideal S8192x1024 .bf16) (Z : ℕ → ℕ → EReal) (hz : ∀ (n : Fin 8192) (j : Fin 1024), z (ix2 n j) = Z n.val j.val) :
    transpose S16x512x1024 [1, 0, 2] (shapeCast S512x16x1024 z shapeCasts_S8192x1024_S512x16x1024) transposes_S512x16x1024_S16x512x1024_1_0_2 = class16A Z := by
  funext y
  obtain ⟨a, k, j, rfl⟩ : ∃ (a : Fin 16) (k : Fin 512) (j : Fin 1024), y = ix3 a k j := ⟨_, _, _, eq_ix3 y⟩
  pointwise
  rw [hz]
  exact congrArg (fun n => Z n j.val) (by show k.val * 16 + a.val = 16 * k.val + a.val; omega)

/-- Rows in order. -/
theorem plain (z : Vec Ideal S8192x1024 .bf16) (Z : ℕ → ℕ → EReal) (hz : ∀ (n : Fin 8192) (j : Fin 1024), z (ix2 n j) = Z n.val j.val) : z = plainA Z := by
  funext y
  obtain ⟨n, j, rfl⟩ : ∃ (n : Fin 8192) (j : Fin 1024), y = ix2 n j := ⟨_, _, eq_ix2 y⟩
  exact hz n j

/-- The last 2048 rows transposed. -/
theorem tail (z : Vec Ideal S8192x1024 .f32) (Z : ℕ → ℕ → EReal) (hz : ∀ (n : Fin 8192) (j : Fin 1024), z (ix2 n j) = Z n.val j.val) :
    transpose S1024x2048 [1, 0] (extractStridedSlice S2048x1024 ![6144, 0] z slices_S8192x1024_S2048x1024_6144_0) transposes_S2048x1024_S1024x2048_1_0 = tailA Z := by
  funext y
  obtain ⟨j, n, rfl⟩ : ∃ (j : Fin 1024) (n : Fin 2048), y = ix2 j n := ⟨_, _, eq_ix2 y⟩
  pointwise
  rw [hz]
  rfl

theorem q_result : val_main_v68 (F := Ideal) X G W = plainA (part X G W 0) :=
  plain (val_main_v68 (F := Ideal) X G W) _ fun n j => (rfl : val_main_v68 (F := Ideal) X G W (ix2 n j) = val_main_v51 (F := Ideal) X G W (ix2 n j)).trans (q_read X G W n j)
theorem q_result4 : val_main_v71 (F := Ideal) X G W = class4A (part X G W 0) :=
  sorted4 (val_main_v69 (F := Ideal) X G W) _ fun n j => (rfl : val_main_v69 (F := Ideal) X G W (ix2 n j) = val_main_v51 (F := Ideal) X G W (ix2 n j)).trans (q_read X G W n j)
theorem q_result16 : val_main_v74 (F := Ideal) X G W = class16A (part X G W 0) :=
  sorted16 (val_main_v72 (F := Ideal) X G W) _ fun n j => (rfl : val_main_v72 (F := Ideal) X G W (ix2 n j) = val_main_v51 (F := Ideal) X G W (ix2 n j)).trans (q_read X G W n j)
theorem k_result : val_main_v75 (F := Ideal) X G W = plainA (part X G W 1) :=
  plain (val_main_v75 (F := Ideal) X G W) _ fun n j => (rfl : val_main_v75 (F := Ideal) X G W (ix2 n j) = val_main_v66 (F := Ideal) X G W (ix2 n j)).trans (k_read X G W n j)
theorem k_result4 : val_main_v78 (F := Ideal) X G W = class4A (part X G W 1) :=
  sorted4 (val_main_v76 (F := Ideal) X G W) _ fun n j => (rfl : val_main_v76 (F := Ideal) X G W (ix2 n j) = val_main_v66 (F := Ideal) X G W (ix2 n j)).trans (k_read X G W n j)
theorem k_result16 : val_main_v81 (F := Ideal) X G W = class16A (part X G W 1) :=
  sorted16 (val_main_v79 (F := Ideal) X G W) _ fun n j => (rfl : val_main_v79 (F := Ideal) X G W (ix2 n j) = val_main_v66 (F := Ideal) X G W (ix2 n j)).trans (k_read X G W n j)
theorem v_result : val_main_v82 (F := Ideal) X G W = plainA (part X G W 2) :=
  plain (val_main_v82 (F := Ideal) X G W) _ fun n j => (rfl : val_main_v82 (F := Ideal) X G W (ix2 n j) = val_main_v17 (F := Ideal) X G W (ix2 n j)).trans (v_read X G W n j)
theorem v_result4 : val_main_v85 (F := Ideal) X G W = class4A (part X G W 2) :=
  sorted4 (val_main_v83 (F := Ideal) X G W) _ fun n j => (rfl : val_main_v83 (F := Ideal) X G W (ix2 n j) = val_main_v17 (F := Ideal) X G W (ix2 n j)).trans (v_read X G W n j)
theorem v_result16 : val_main_v88 (F := Ideal) X G W = class16A (part X G W 2) :=
  sorted16 (val_main_v86 (F := Ideal) X G W) _ fun n j => (rfl : val_main_v86 (F := Ideal) X G W (ix2 n j) = val_main_v17 (F := Ideal) X G W (ix2 n j)).trans (v_read X G W n j)
theorem k_tail : val_main_v90 (F := Ideal) X G W = tailA (part X G W 1) := tail (val_main_v66 (F := Ideal) X G W) _ (k_read X G W)
theorem v_tail : val_main_v92 (F := Ideal) X G W = tailA (part X G W 2) := tail (val_main_v17 (F := Ideal) X G W) _ (v_read X G W)

end Cert.ProjRef

end
-- ==== Proof.ProjRun.lean ====
/-
  The projection's reference, run: its twelve results are the arrays of `part` of its arguments.
-/
module

public import proofs.«01_k».proof.Proof.ProjReference
public import proofs.«01_k».proof.Proof.Gen.Reference2Ideal.Run

@[expose] public section

noncomputable section

namespace Cert.ProjRef

open Idealize.ShloMosaic Idealize.SL.Sem Cert.Reference2Ideal Cert.Reference2Ideal.Gen Cert.Reference2Ideal.Read Cert.Proj

variable (m : (ℓ : Loc nD τ sig) → Buf (Elt Ideal) ℓ) (c : Dev nD)

/-- The reference's three arguments: the rows, the gain, the weights. -/
def gotX : Vec Ideal S8192x2048 .f32 := m ((c.tc : Thread nD τ).loc main_arg0)
def gotG : Vec Ideal S2048 .f32 := m ((c.tc : Thread nD τ).loc main_arg1)
def gotW : Vec Ideal S2048x3072 .bf16 := m ((c.tc : Thread nD τ).loc main_arg2)

/-- Each result that the run spells out or names, as the array it is. -/
theorem end68 : Value.res_main_v68 m c = plainA (part (gotX m c) (gotG m c) (gotW m c) 0) :=
  (val_main_v68_eq m c).trans (q_result (gotX m c) (gotG m c) (gotW m c))
theorem end71 : Value.res_main_v71 m c = class4A (part (gotX m c) (gotG m c) (gotW m c) 0) :=
  (val_main_v71_eq m c).trans (q_result4 (gotX m c) (gotG m c) (gotW m c))
theorem end74 : Value.res_main_v74 m c = class16A (part (gotX m c) (gotG m c) (gotW m c) 0) :=
  (val_main_v74_eq m c).trans (q_result16 (gotX m c) (gotG m c) (gotW m c))
theorem end75 : Value.res_main_v75 m c = plainA (part (gotX m c) (gotG m c) (gotW m c) 1) :=
  (val_main_v75_eq m c).trans (k_result (gotX m c) (gotG m c) (gotW m c))
theorem end78 : Value.res_main_v78 m c = class4A (part (gotX m c) (gotG m c) (gotW m c) 1) :=
  (val_main_v78_eq m c).trans (k_result4 (gotX m c) (gotG m c) (gotW m c))
theorem end81 : Value.res_main_v81 m c = class16A (part (gotX m c) (gotG m c) (gotW m c) 1) :=
  (val_main_v81_eq m c).trans (k_result16 (gotX m c) (gotG m c) (gotW m c))
theorem end90 : Value.res_main_v90 m c = tailA (part (gotX m c) (gotG m c) (gotW m c) 1) :=
  (val_main_v90_eq m c).trans (k_tail (gotX m c) (gotG m c) (gotW m c))

/-- The run of the reference, with its results as these arrays. -/
theorem reference_run (ρ : Dev nD → PrngReg) :
    θ_run defs (onTc (τ := τ) (main (F := Ideal))) ⟨m, fun _ => 0, ρ⟩ fun r => ∀ c : Dev nD,
      r.2.mem ((c.tc : Thread nD τ).loc main_v67) = rowsA (gotX m c) (gotG m c)
      ∧ r.2.mem ((c.tc : Thread nD τ).loc main_v68) = plainA (part (gotX m c) (gotG m c) (gotW m c) 0)
      ∧ r.2.mem ((c.tc : Thread nD τ).loc main_v71) = class4A (part (gotX m c) (gotG m c) (gotW m c) 0)
      ∧ r.2.mem ((c.tc : Thread nD τ).loc main_v74) = class16A (part (gotX m c) (gotG m c) (gotW m c) 0)
      ∧ r.2.mem ((c.tc : Thread nD τ).loc main_v75) = plainA (part (gotX m c) (gotG m c) (gotW m c) 1)
      ∧ r.2.mem ((c.tc : Thread nD τ).loc main_v78) = class4A (part (gotX m c) (gotG m c) (gotW m c) 1)
      ∧ r.2.mem ((c.tc : Thread nD τ).loc main_v81) = class16A (part (gotX m c) (gotG m c) (gotW m c) 1)
      ∧ r.2.mem ((c.tc : Thread nD τ).loc main_v82) = plainA (part (gotX m c) (gotG m c) (gotW m c) 2)
      ∧ r.2.mem ((c.tc : Thread nD τ).loc main_v85) = class4A (part (gotX m c) (gotG m c) (gotW m c) 2)
      ∧ r.2.mem ((c.tc : Thread nD τ).loc main_v88) = class16A (part (gotX m c) (gotG m c) (gotW m c) 2)
      ∧ r.2.mem ((c.tc : Thread nD τ).loc main_v90) = tailA (part (gotX m c) (gotG m c) (gotW m c) 1)
      ∧ r.2.mem ((c.tc : Thread nD τ).loc main_v92) = tailA (part (gotX m c) (gotG m c) (gotW m c) 2)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c => by
    obtain ⟨h0, h1, h2, h3, h4, h5, h6, h7, h8, h9, h10, h11, ha⟩ := h c
    refine ⟨h0.trans ((val_main_v67_eq (F := Ideal) (gotX m c) (gotG m c)).trans (rows_result (gotX m c) (gotG m c))),
      h1.trans (end68 m c),
      h2.trans (end71 m c),
      h3.trans (end74 m c),
      h4.trans (end75 m c),
      h5.trans (end78 m c),
      h6.trans (end81 m c),
      h7.trans ((val_main_v82_eq (F := Ideal) (gotX m c) (gotG m c) (gotW m c)).trans (v_result (gotX m c) (gotG m c) (gotW m c))),
      h8.trans ((val_main_v85_eq (F := Ideal) (gotX m c) (gotG m c) (gotW m c)).trans (v_result4 (gotX m c) (gotG m c) (gotW m c))),
      h9.trans ((val_main_v88_eq (F := Ideal) (gotX m c) (gotG m c) (gotW m c)).trans (v_result16 (gotX m c) (gotG m c) (gotW m c))),
      h10.trans (end90 m c),
      h11.trans ((val_main_v92_eq (F := Ideal) (gotX m c) (gotG m c) (gotW m c)).trans (v_tail (gotX m c) (gotG m c) (gotW m c))), ha⟩)
    (Value.run (F := Ideal) m ρ)

end Cert.ProjRef

end
-- ==== Proof.OutPieces.lean ====
/-
  The output projection's body in small parts: the rectangles it reads and writes, the order of its stores, and the sums it
  makes of what it has read.

  One grid point puts 512 rows in order, in two tiles of 256. For each tile the statistics and the attention of the two dilated
  groups, which come class by class, are first laid out in the order of the rows: a class of every fourth row goes straight to its
  rows; a class of every sixteenth goes in two steps, first to its place among the classes with the same remainder by four.
-/
module

public import proofs.«01_k».proof.Proof.Gen.Kernel3Ideal.Frame.RunA
public import Idealize.ShloMosaic.Lib.Pointwise

@[expose] public section

noncomputable section

namespace Cert.Out

open Idealize.ShloMosaic Idealize.ShloMosaic.TcCoe Idealize.SL.Sem
open Cert.Kernel3Ideal Cert.Kernel3Ideal.Gen

/-- The pieces `P 0, …, P (n - 1)`, the last of them in front, laid over the pieces of `L`. -/
def stack {s : Shape} {e : EltTy} (P : ℕ → View.Piece (Elt Ideal) s e) (L : List (View.Piece (Elt Ideal) s e)) : ℕ → List (View.Piece (Elt Ideal) s e)
  | 0 => L
  | n + 1 => P n :: stack P L n

theorem inClass4 (t r g : ℕ) : ∀ a, (![r % 4, 64 * (t % 2), 128 * (g % 8)] : Fin 3 → ℕ) a + S1x64x128.size a ≤ S4x128x1024.size a :=
  Fin.forall_fin_succ.2 ⟨show r % 4 + 1 ≤ 4 by omega, Fin.forall_fin_two.2 ⟨show 64 * (t % 2) + 64 ≤ 128 by omega, show 128 * (g % 8) + 128 ≤ 1024 by omega⟩⟩
theorem inClass16 (t r g : ℕ) : ∀ a, (![r % 16, 16 * (t % 2), 128 * (g % 8)] : Fin 3 → ℕ) a + S1x16x128.size a ≤ S16x32x1024.size a :=
  Fin.forall_fin_succ.2 ⟨show r % 16 + 1 ≤ 16 by omega, Fin.forall_fin_two.2 ⟨show 16 * (t % 2) + 16 ≤ 32 by omega, show 128 * (g % 8) + 128 ≤ 1024 by omega⟩⟩
theorem inStatClass4 (t r : ℕ) : ∀ a, (![r % 4, 64 * (t % 2), 0] : Fin 3 → ℕ) a + S1x64x128.size a ≤ S4x128x128.size a :=
  Fin.forall_fin_succ.2 ⟨show r % 4 + 1 ≤ 4 by omega, Fin.forall_fin_two.2 ⟨show 64 * (t % 2) + 64 ≤ 128 by omega, show 0 + 128 ≤ 128 by omega⟩⟩
theorem inStatClass16 (t r : ℕ) : ∀ a, (![r % 16, 16 * (t % 2), 0] : Fin 3 → ℕ) a + S1x16x128.size a ≤ S16x32x128.size a :=
  Fin.forall_fin_succ.2 ⟨show r % 16 + 1 ≤ 16 by omega, Fin.forall_fin_two.2 ⟨show 16 * (t % 2) + 16 ≤ 32 by omega, show 0 + 128 ≤ 128 by omega⟩⟩
theorem inQuarter (t r g : ℕ) : ∀ a, (![g % 8, 256 * (t % 2) + 64 * (r % 4), 0] : Fin 3 → ℕ) a + S1x64x128.size a ≤ S8x512x128.size a :=
  Fin.forall_fin_succ.2 ⟨show g % 8 + 1 ≤ 8 by omega, Fin.forall_fin_two.2 ⟨show 256 * (t % 2) + 64 * (r % 4) + 64 ≤ 512 by omega, show 0 + 128 ≤ 128 by omega⟩⟩
theorem inSlabRows (t g : ℕ) : ∀ a, (![g % 8, 256 * (t % 2), 0] : Fin 3 → ℕ) a + S1x256x128.size a ≤ S8x512x128.size a :=
  Fin.forall_fin_succ.2 ⟨show g % 8 + 1 ≤ 8 by omega, Fin.forall_fin_two.2 ⟨show 256 * (t % 2) + 256 ≤ 512 by omega, show 0 + 128 ≤ 128 by omega⟩⟩
theorem inStatRows (d t : ℕ) : ∀ a, (![d % 2, 256 * (t % 2), 0] : Fin 3 → ℕ) a + S1x256x128.size a ≤ S2x512x128.size a :=
  Fin.forall_fin_succ.2 ⟨show d % 2 + 1 ≤ 2 by omega, Fin.forall_fin_two.2 ⟨show 256 * (t % 2) + 256 ≤ 512 by omega, show 0 + 128 ≤ 128 by omega⟩⟩
theorem inTile (t g : ℕ) : ∀ a, (![256 * (t % 2), 128 * (g % 8)] : Fin 2 → ℕ) a + S256x128.size a ≤ S512x1024.size a :=
  Fin.forall_fin_two.2 ⟨show 256 * (t % 2) + 256 ≤ 512 by omega, show 128 * (g % 8) + 128 ≤ 1024 by omega⟩
theorem inStat (t : ℕ) : ∀ a, (![256 * (t % 2), 0] : Fin 2 → ℕ) a + S256x128.size a ≤ S512x128.size a :=
  Fin.forall_fin_two.2 ⟨show 256 * (t % 2) + 256 ≤ 512 by omega, show 0 + 128 ≤ 128 by omega⟩
theorem inHalf (t : ℕ) : ∀ a, (![256 * (t % 2), 0] : Fin 2 → ℕ) a + S256x1024.size a ≤ S512x1024.size a :=
  Fin.forall_fin_two.2 ⟨show 256 * (t % 2) + 256 ≤ 512 by omega, show 0 + 1024 ≤ 1024 by omega⟩
theorem inOut (t : ℕ) : ∀ a, (![256 * (t % 2), 0] : Fin 2 → ℕ) a + S256x2048.size a ≤ S512x2048.size a :=
  Fin.forall_fin_two.2 ⟨show 256 * (t % 2) + 256 ≤ 512 by omega, show 0 + 2048 ≤ 2048 by omega⟩
theorem inWeights (p : ℕ) : ∀ a, (![1024 * (p % 2), 0] : Fin 2 → ℕ) a + S1024x2048.size a ≤ S2048x2048.size a :=
  Fin.forall_fin_two.2 ⟨show 1024 * (p % 2) + 1024 ≤ 2048 by omega, show 0 + 2048 ≤ 2048 by omega⟩
theorem inGain : ∀ a, (![0, 0] : Fin 2 → ℕ) a + S1x2048.size a ≤ S1x2048.size a := by decide

theorem inStatFours (t r : ℕ) : ∀ a, S1x64x128.size a = 0 ∨ (![0, 256 * (t % 2) + r % 4, 0] : Fin 3 → ℕ) a + (![1, 4, 1] : Fin 3 → ℕ) a * (S1x64x128.size a - 1) < S2x512x128.size a :=
  Fin.forall_fin_succ.2 ⟨.inr (show 0 + 1 * (1 - 1) < 2 by omega), Fin.forall_fin_two.2 ⟨.inr (show 256 * (t % 2) + r % 4 + 4 * (64 - 1) < 512 by omega), .inr (show 0 + 1 * (128 - 1) < 128 by omega)⟩⟩
theorem inStatSixteens (t r : ℕ) : ∀ a, S1x16x128.size a = 0 ∨ (![1, 256 * (t % 2) + r % 16, 0] : Fin 3 → ℕ) a + (![1, 16, 1] : Fin 3 → ℕ) a * (S1x16x128.size a - 1) < S2x512x128.size a :=
  Fin.forall_fin_succ.2 ⟨.inr (show 1 + 1 * (1 - 1) < 2 by omega), Fin.forall_fin_two.2 ⟨.inr (show 256 * (t % 2) + r % 16 + 16 * (16 - 1) < 512 by omega), .inr (show 0 + 1 * (128 - 1) < 128 by omega)⟩⟩
theorem inFours (t r g : ℕ) : ∀ a, S1x64x128.size a = 0 ∨ (![g % 8, 256 * (t % 2) + r % 4, 0] : Fin 3 → ℕ) a + (![1, 4, 1] : Fin 3 → ℕ) a * (S1x64x128.size a - 1) < S8x512x128.size a :=
  Fin.forall_fin_succ.2 ⟨.inr (show g % 8 + 1 * (1 - 1) < 8 by omega), Fin.forall_fin_two.2 ⟨.inr (show 256 * (t % 2) + r % 4 + 4 * (64 - 1) < 512 by omega), .inr (show 0 + 1 * (128 - 1) < 128 by omega)⟩⟩
theorem inQuarterFours (t r a' g : ℕ) : ∀ a, S1x16x128.size a = 0 ∨ (![g % 8, 256 * (t % 2) + 64 * (r % 4) + a' % 4, 0] : Fin 3 → ℕ) a + (![1, 4, 1] : Fin 3 → ℕ) a * (S1x16x128.size a - 1) < S8x512x128.size a :=
  Fin.forall_fin_succ.2 ⟨.inr (show g % 8 + 1 * (1 - 1) < 8 by omega), Fin.forall_fin_two.2 ⟨.inr (show 256 * (t % 2) + 64 * (r % 4) + a' % 4 + 4 * (16 - 1) < 512 by omega), .inr (show 0 + 1 * (128 - 1) < 128 by omega)⟩⟩

/-- Of the attention by every fourth row: class `r`, the tile `t`, the 128 lanes numbered `g`. -/
abbrev class4R (t r g : ℕ) : Rect S4x128x1024 := .unit ![r % 4, 64 * (t % 2), 128 * (g % 8)] S1x64x128.size (inClass4 t r g)
/-- Of the attention by every sixteenth row. -/
abbrev class16R (t r g : ℕ) : Rect S16x32x1024 := .unit ![r % 16, 16 * (t % 2), 128 * (g % 8)] S1x16x128.size (inClass16 t r g)
/-- The statistics of class `r` of every fourth row. -/
abbrev statClass4R (t r : ℕ) : Rect S4x128x128 := .unit ![r % 4, 64 * (t % 2), 0] S1x64x128.size (inStatClass4 t r)
/-- The statistics of class `r` of every sixteenth row. -/
abbrev statClass16R (t r : ℕ) : Rect S16x32x128 := .unit ![r % 16, 16 * (t % 2), 0] S1x16x128.size (inStatClass16 t r)
/-- The quarter `r` of the tile `t` in slab `g`. -/
abbrev quarterR (t r g : ℕ) : Rect S8x512x128 := .unit ![g % 8, 256 * (t % 2) + 64 * (r % 4), 0] S1x64x128.size (inQuarter t r g)
/-- The tile `t` in slab `g`. -/
abbrev slabRowsR (t g : ℕ) : Rect S8x512x128 := .unit ![g % 8, 256 * (t % 2), 0] S1x256x128.size (inSlabRows t g)
/-- The tile `t` of the statistics in order: by fours for `d = 0`, by sixteens for `d = 1`. -/
abbrev statRowsR (d t : ℕ) : Rect S2x512x128 := .unit ![d % 2, 256 * (t % 2), 0] S1x256x128.size (inStatRows d t)
/-- The tile `t`, the lanes numbered `g`. -/
abbrev tileR (t g : ℕ) : Rect S512x1024 := .unit ![256 * (t % 2), 128 * (g % 8)] S256x128.size (inTile t g)
/-- The tile `t` of the statistics of the neighbours. -/
abbrev statR (t : ℕ) : Rect S512x128 := .unit ![256 * (t % 2), 0] S256x128.size (inStat t)
/-- The tile `t` of the gated attention. -/
abbrev halfR (t : ℕ) : Rect S512x1024 := .unit ![256 * (t % 2), 0] S256x1024.size (inHalf t)
/-- The tile `t` of the result. -/
abbrev outR (t : ℕ) : Rect S512x2048 := .unit ![256 * (t % 2), 0] S256x2048.size (inOut t)
/-- The upper or lower half of the weights. -/
abbrev weightsR (p : ℕ) : Rect S2048x2048 := .unit ![1024 * (p % 2), 0] S1024x2048.size (inWeights p)
/-- All the gains. -/
abbrev gainR : Rect S1x2048 := .unit ![0, 0] S1x2048.size inGain
/-- The rows of the tile `t` that leave `r` by four, in the statistics. -/
abbrev statFoursR (t r : ℕ) : Rect S2x512x128 := ⟨(⟨![0, 256 * (t % 2) + r % 4, 0], S1x64x128.size, ![1, 4, 1], inStatFours t r⟩ : LoadRect S2x512x128), spos_1_4_1⟩
/-- The rows of the tile `t` that leave `r` by sixteen, in the statistics. -/
abbrev statSixteensR (t r : ℕ) : Rect S2x512x128 := ⟨(⟨![1, 256 * (t % 2) + r % 16, 0], S1x16x128.size, ![1, 16, 1], inStatSixteens t r⟩ : LoadRect S2x512x128), spos_1_16_1⟩
/-- The rows of the tile `t` that leave `r` by four, in slab `g`. -/
abbrev foursR (t r g : ℕ) : Rect S8x512x128 := ⟨(⟨![g % 8, 256 * (t % 2) + r % 4, 0], S1x64x128.size, ![1, 4, 1], inFours t r g⟩ : LoadRect S8x512x128), spos_1_4_1⟩
/-- The rows of the quarter `r` that leave `a` by four, in slab `g`. -/
abbrev quarterFoursR (t r a g : ℕ) : Rect S8x512x128 := ⟨(⟨![g % 8, 256 * (t % 2) + 64 * (r % 4) + a % 4, 0], S1x16x128.size, ![1, 4, 1], inQuarterFours t r a g⟩ : LoadRect S8x512x128), spos_1_4_1⟩

section Ops

/-- A slab of 64 rows without its leading axis and with it again. -/
def through64 (v : FVec Ideal S1x64x128 .f32) : FVec Ideal S1x64x128 .f32 :=
  shapeCast S1x64x128 (shapeCast S64x128 v shapeCasts_S1x64x128_S64x128) shapeCasts_S64x128_S1x64x128
def through16 (v : FVec Ideal S1x16x128 .f32) : FVec Ideal S1x16x128 .f32 :=
  shapeCast S1x16x128 (shapeCast S16x128 v shapeCasts_S1x16x128_S16x128) shapeCasts_S16x128_S1x16x128
/-- The same, widened on the way. -/
def wide64 (v : FVec Ideal S1x64x128 .bf16) : FVec Ideal S1x64x128 .f32 :=
  shapeCast S1x64x128 (extf .f32 (shapeCast S64x128 v shapeCasts_S1x64x128_S64x128) bitsLt_bf16_f32) shapeCasts_S64x128_S1x64x128
def wide16 (v : FVec Ideal S1x16x128 .bf16) : FVec Ideal S1x16x128 .f32 :=
  shapeCast S1x16x128 (extf .f32 (shapeCast S16x128 v shapeCasts_S1x16x128_S16x128) bitsLt_bf16_f32) shapeCasts_S16x128_S1x16x128
/-- 256 rows without their leading axis. -/
def flat (v : FVec Ideal S1x256x128 .f32) : FVec Ideal S256x128 .f32 := shapeCast S256x128 v shapeCasts_S1x256x128_S256x128

/-- The number of each lane. -/
def laneNo : IVec S256x128 32 := iota .tc S256x128 32 [1] iota_S256x128_d1_w32
/-- The lane's number over 64, rounded down. -/
def lowHigh : IVec S256x128 32 :=
  select (andi (cmpi .ne (subi (extui 32 (cmpi .sgt laneNo (broadcast S256x128 0#32)) natLt_1_32) (extui 32 (cmpi .slt laneNo (broadcast S256x128 0#32)) natLt_1_32)) (broadcast S256x128 (Scalar.subi (Scalar.extui (Scalar.cmpi .sgt 64#32 0#32)) (Scalar.extui (Scalar.cmpi .slt 64#32 0#32))))) (cmpi .ne (remsi laneNo (broadcast S256x128 64#32)) (broadcast S256x128 0#32)))
    (subi (divsi laneNo (broadcast S256x128 64#32)) (broadcast S256x128 1#32))
    (divsi laneNo (broadcast S256x128 64#32))
/-- The lanes that hold a head's statistics. -/
def headLanes : IVec S256x128 1 := cmpi .slt laneNo (broadcast S256x128 16#32)
/-- The head each lane of the group `g` belongs to. -/
def headOf (g : ℕ) : IVec S256x128 32 :=
  shapeCast S256x128 (shapeCast S256x128x1
    (select (cmpi .slt (addi lowHigh (broadcast S256x128 (BitVec.ofNat 32 (2 * g)))) (broadcast S256x128 0#32)) (addi (addi lowHigh (broadcast S256x128 (BitVec.ofNat 32 (2 * g)))) (broadcast S256x128 128#32)) (addi lowHigh (broadcast S256x128 (BitVec.ofNat 32 (2 * g)))))
    shapeCasts_S256x128_S256x128x1) shapeCasts_S256x128x1_S256x128

/-- The largest score of the three groups. -/
def topOf (a b c : FVec Ideal S256x128 .f32) : FVec Ideal S256x128 .f32 := maximumf (maximumf a b) c
/-- How much of the joint maximum a group's own maximum is worth. -/
def scaleOf (s top : FVec Ideal S256x128 .f32) : FVec Ideal S256x128 .f32 := exp2 (subf s top)
/-- The denominators, which lie sixteen lanes after the maxima, brought under them. -/
def densOf (s : FVec Ideal S256x128 .f32) : FVec Ideal S256x128 .f32 := dynamicRotate 1 112#32 none s rotates_S256x128_d1
/-- The denominators of the three groups together; one where a lane holds no head. -/
def totalOf (a b c : FVec Ideal S256x128 .f32) : FVec Ideal S256x128 .f32 :=
  select headLanes (addf (addf (mulf (scaleOf a (topOf a b c)) (densOf a)) (mulf (scaleOf b (topOf a b c)) (densOf b))) (mulf (scaleOf c (topOf a b c)) (densOf c))) (broadcast S256x128 (Scalar.ofBits .f32 0x3F800000#32))
/-- The weight of the group with statistics `s`. -/
def weightOf (s a b c : FVec Ideal S256x128 .f32) : FVec Ideal S256x128 .f32 := divf (scaleOf s (topOf a b c)) (totalOf a b c)
/-- Three groups' attention in the proportion of their weights, gated: 256 rows and the lanes of the group `g`. -/
def gatedOf (g : ℕ) (a b c : FVec Ideal S256x128 .f32) (o : FVec Ideal S256x128 .bf16) (p q : FVec Ideal S1x256x128 .f32) (gate : FVec Ideal S256x128 .bf16) : FVec Ideal S256x128 .bf16 :=
  shapeCast S256x128 (truncf .bf16 (mulf
    (addf (addf (mulf (dynamicGather 1 (weightOf a a b c) (headOf g)) (extf .f32 o bitsLt_bf16_f32)) (mulf (dynamicGather 1 (weightOf b a b c) (headOf g)) (flat p))) (mulf (dynamicGather 1 (weightOf c a b c) (headOf g)) (flat q)))
    (extf .f32 gate bitsLt_bf16_f32)) bitsLt_bf16_f32) shapeCasts_S256x128_S256x128

/-- The rows with both products added to them. -/
def summed (z c : FVec Ideal S256x1024 .bf16) (u v : FVec Ideal S1024x2048 .bf16) (x : FVec Ideal S256x2048 .f32) : FVec Ideal S256x2048 .f32 :=
  addf x (addf (matmul dot_S256x1024_S1024x2048_S256x2048_1_0_0_1_n_n none z u (constant S256x2048 .f32 0x00000000#32)) (matmul dot_S256x1024_S1024x2048_S256x2048_1_0_0_1_n_n none c v (constant S256x2048 .f32 0x00000000#32)))
/-- The rows over the root of their mean square, times the gains. -/
def normed (x : FVec Ideal S256x2048 .f32) (g : FVec Ideal S1x2048 .f32) : FVec Ideal S256x2048 .f32 :=
  mulf (mulf x (broadcastTo S256x2048 (rsqrt (addf (divf (shapeCast S256x1 (multiReduction .add [1] S256 (mulf x x) 0x00000000#32 reduces_S256x2048_S256 (.inl rfl) rfl) shapeCasts_S256_S256x1) (broadcast S256x1 (Scalar.ofBits .f32 0x45000000#32))) (broadcast S256x1 (Scalar.ofBits .f32 0x358637BD#32)))) broadcasts_S256x1_S256x2048))
    (broadcastTo S256x2048 (shapeCast S1x2048 g shapeCasts_S1x2048_S1x2048) broadcasts_S1x2048_S256x2048)

end Ops

end Cert.Out
-- ==== Proof.OutSpec.lean ====
/-
  What the output projection computes, row by row and in plain arithmetic: three groups' attention in the proportion of their
  denominators brought to a joint maximum, gated, multiplied with the weights beside the branch's output, added to the rows and
  normalized.
-/
module

public import proofs.«01_k».proof.Proof.ProjRows

@[expose] public section

noncomputable section

namespace Cert.Out

open Idealize.ShloMosaic Idealize.ShloMosaic.TcCoe Idealize.SL.Sem

/-- A row of a matrix, `n` and `j` taken within its bounds. -/
def row {R C : ℕ} {φ : FTy} (hR : 0 < R) (hC : 0 < C) (A : FVec Ideal ⟨2, ![R, C]⟩ φ) (n j : ℕ) : EReal :=
  A (ix2 ⟨n % R, Nat.mod_lt _ hR⟩ ⟨j % C, Nat.mod_lt _ hC⟩)

/-- A row of an array that holds the rows class by class: row `n` is number `n / r` of class `n % r`. -/
def classRow {r Q C : ℕ} {φ : FTy} (hr : 0 < r) (hQ : 0 < Q) (hC : 0 < C) (A : FVec Ideal ⟨3, ![r, Q, C]⟩ φ) (n j : ℕ) : EReal :=
  A (ix3 ⟨n % r, Nat.mod_lt _ hr⟩ ⟨n / r % Q, Nat.mod_lt _ hQ⟩ ⟨j % C, Nat.mod_lt _ hC⟩)

theorem row_eq {R C : ℕ} {φ : FTy} (hR : 0 < R) (hC : 0 < C) (A : FVec Ideal ⟨2, ![R, C]⟩ φ) (n j : ℕ) (z : Shape.Idx ⟨2, ![R, C]⟩) (h0 : (z 0).val = n % R) (h1 : (z 1).val = j % C) :
    A z = row hR hC A n j := by
  unfold row
  refine congrArg A (funext fun a => Fin.ext ?_)
  fin_cases a
  · exact h0
  · exact h1

theorem classRow_eq {r Q C : ℕ} {φ : FTy} (hr : 0 < r) (hQ : 0 < Q) (hC : 0 < C) (A : FVec Ideal ⟨3, ![r, Q, C]⟩ φ) (n j : ℕ) (z : Shape.Idx ⟨3, ![r, Q, C]⟩)
    (h0 : (z 0).val = n % r) (h1 : (z 1).val = n / r % Q) (h2 : (z 2).val = j % C) : A z = classRow hr hQ hC A n j := by
  unfold classRow
  refine congrArg A (funext fun a => Fin.ext ?_)
  fin_cases a
  · exact h0
  · exact h1
  · exact h2

/-- A block of rows, row by row: the block's row `n` is the array's row `N + n`. -/
theorem row_shift {R R' C : ℕ} {φ : FTy} (hR : 0 < R) (hR' : 0 < R') (hC : 0 < C) (A : FVec Ideal ⟨2, ![R, C]⟩ φ) (B : FVec Ideal ⟨2, ![R', C]⟩ φ) (N n : ℕ) (hn : n < R)
    (h : ∀ (r : Fin R) (k : Fin C), A (ix2 r k) = B (ix2 ⟨(N + r.val) % R', Nat.mod_lt _ hR'⟩ k)) : row hR hC A n = row hR' hC B (N + n) := by
  funext j
  have e : n % R = n := Nat.mod_eq_of_lt hn
  unfold row
  rw [h]
  simp only [e]

/-- A block of every class, row by row: the block's row `n` is the array's row `r * N + n`. -/
theorem classRow_shift {r Q Q' C : ℕ} {φ : FTy} (hr : 0 < r) (hQ : 0 < Q) (hQ' : 0 < Q') (hC : 0 < C) (A : FVec Ideal ⟨3, ![r, Q, C]⟩ φ) (B : FVec Ideal ⟨3, ![r, Q', C]⟩ φ) (N n M : ℕ)
    (hn : n / r < Q) (hM : M = r * N + n) (h : ∀ (a : Fin r) (q : Fin Q) (k : Fin C), A (ix3 a q k) = B (ix3 a ⟨(N + q.val) % Q', Nat.mod_lt _ hQ'⟩ k)) :
    classRow hr hQ hC A n = classRow hr hQ' hC B M := by
  funext j
  subst hM
  have e : n / r % Q = n / r := Nat.mod_eq_of_lt hn
  have e0 : (r * N + n) % r = n % r := Nat.mul_add_mod r N n
  have e1 : (r * N + n) / r = N + n / r := Nat.mul_add_div hr N n
  unfold classRow
  rw [h]
  simp only [e, e0, e1]

section
variable (a b c : ℕ → EReal)

/-- The joint maximum of head `h`. -/
def top (h : ℕ) : EReal := max (max (a h) (b h)) (c h)
/-- What the group with statistics `s` is worth against the joint maximum. -/
def scale (s : ℕ → EReal) (h : ℕ) : EReal := Ideal.exp2 (s h - top a b c h)
/-- The three denominators, sixteen lanes after the maxima, brought to the joint maximum and added. -/
def total (h : ℕ) : EReal := scale a b c a h * a (16 + h) + scale a b c b h * b (16 + h) + scale a b c c h * c (16 + h)
/-- The group's weight. -/
def weight (s : ℕ → EReal) (h : ℕ) : EReal := Ideal.div (scale a b c s h) (total a b c h)
/-- Entry `j` of the groups' numerators `u`, `v`, `w` together, gated. -/
def mixed (u v w g : ℕ → EReal) (j : ℕ) : EReal :=
  (weight a b c a (j / 64) * u j + weight a b c b (j / 64) * v j + weight a b c c (j / 64) * w j) * g j
end

/-- The rows with the attention `z` and the branch `y` times their halves of the weights added. -/
def added (z y : ℕ → EReal) (W : Fin 2048 → Fin 2048 → EReal) (x : Fin 2048 → EReal) (k : Fin 2048) : EReal :=
  x k + (∑ i : Fin 1024, z i.val * W ⟨i.val, by omega⟩ k + ∑ i : Fin 1024, y i.val * W ⟨1024 + i.val, by omega⟩ k)

/-- A row of the result. -/
def resultRow (a b c u v w g y : ℕ → EReal) (W : Fin 2048 → Fin 2048 → EReal) (x G : Fin 2048 → EReal) (k : Fin 2048) : EReal :=
  Cert.Proj.rms (added (mixed a b c u v w g) y W x) G k

/-- A sum of 2048 as the sum of its halves. -/
theorem sum_halves (f : Fin 2048 → EReal) : ∑ k, f k = ∑ i : Fin 1024, f ⟨i.val, by omega⟩ + ∑ i : Fin 1024, f ⟨1024 + i.val, by omega⟩ :=
  Fin.sum_univ_add (a := 1024) (b := 1024) f

/-- The result from the whole arrays. -/
def resultA (o1 : FVec Ideal ⟨2, ![8192, 1024]⟩ .bf16) (o4 : FVec Ideal ⟨3, ![4, 2048, 1024]⟩ .bf16) (o16 : FVec Ideal ⟨3, ![16, 512, 1024]⟩ .bf16)
    (s1 : FVec Ideal ⟨2, ![8192, 128]⟩ .f32) (s4 : FVec Ideal ⟨3, ![4, 2048, 128]⟩ .f32) (s16 : FVec Ideal ⟨3, ![16, 512, 128]⟩ .f32)
    (gate y : FVec Ideal ⟨2, ![8192, 1024]⟩ .bf16) (x : FVec Ideal ⟨2, ![8192, 2048]⟩ .f32) (W : FVec Ideal ⟨2, ![2048, 2048]⟩ .bf16) (G : FVec Ideal ⟨1, ![2048]⟩ .f32) :
    FVec Ideal ⟨2, ![8192, 2048]⟩ .f32 := fun z =>
  resultRow (row (by decide) (by decide) s1 (z 0).val) (classRow (by decide) (by decide) (by decide) s4 (z 0).val) (classRow (by decide) (by decide) (by decide) s16 (z 0).val)
    (row (by decide) (by decide) o1 (z 0).val) (classRow (by decide) (by decide) (by decide) o4 (z 0).val) (classRow (by decide) (by decide) (by decide) o16 (z 0).val)
    (row (by decide) (by decide) gate (z 0).val) (row (by decide) (by decide) y (z 0).val) (fun i k => W (ix2 i k)) (fun k => x (ix2 (z 0) k)) (fun k => G (ix1 k)) (z 1)

end Cert.Out
-- ==== Proof.OutTile.lean ====
/-
  One tile's arithmetic entry by entry: the groups' weights, the gated attention, and the normalized rows.
-/
module

public import proofs.«01_k».proof.Proof.OutPieces
public import proofs.«01_k».proof.Proof.OutSpec

@[expose] public section

set_option maxRecDepth 65536

noncomputable section

namespace Cert.Out

open Idealize.ShloMosaic Idealize.ShloMosaic.TcCoe Idealize.SL.Sem
open Cert.Kernel3Ideal Cert.Kernel3Ideal.Gen

/-- The lanes of row `m`. -/
def lanes (s : FVec Ideal S256x128 .f32) (m : Fin 256) (l : ℕ) : EReal := s (ix2 m ⟨l % 128, Nat.mod_lt _ (by decide)⟩)

theorem through64_apply (v : FVec Ideal S1x64x128 .f32) (k : Fin 64) (l : Fin 128) : through64 v (ix3 0 k l) = v (ix3 0 k l) := by
  unfold through64
  pointwise
theorem through16_apply (v : FVec Ideal S1x16x128 .f32) (k : Fin 16) (l : Fin 128) : through16 v (ix3 0 k l) = v (ix3 0 k l) := by
  unfold through16
  pointwise
theorem wide64_apply (v : FVec Ideal S1x64x128 .bf16) (k : Fin 64) (l : Fin 128) : wide64 v (ix3 0 k l) = v (ix3 0 k l) := by
  unfold wide64
  pointwise
theorem wide16_apply (v : FVec Ideal S1x16x128 .bf16) (k : Fin 16) (l : Fin 128) : wide16 v (ix3 0 k l) = v (ix3 0 k l) := by
  unfold wide16
  pointwise
theorem flat_apply (v : FVec Ideal S1x256x128 .f32) (k : Fin 256) (l : Fin 128) : flat v (ix2 k l) = v (ix3 0 k l) := by
  unfold flat
  pointwise

theorem lowHigh_apply (m : Fin 256) (l : Fin 128) : lowHigh (ix2 m l) = BitVec.ofNat 32 (l.val / 64) := by
  have h : ∀ l : Fin 128, lowHigh (ix2 0 l) = BitVec.ofNat 32 (l.val / 64) := by decide +kernel
  exact h l

theorem headLanes_apply (m : Fin 256) (l : Fin 128) : headLanes (ix2 m l) = if l.val < 16 then 1#1 else 0#1 := by
  have h : ∀ l : Fin 128, headLanes (ix2 0 l) = if l.val < 16 then 1#1 else 0#1 := by decide +kernel
  exact h l

theorem headOf_apply (g : ℕ) (hg : g < 8) (m : Fin 256) (l : Fin 128) : headOf g (ix2 m l) = BitVec.ofNat 32 (2 * g + l.val / 64) := by
  unfold headOf
  pointwise
  simp only [lowHigh_apply]
  have h : ∀ g : Fin 8, ∀ l : Fin 128, Scalar.select (IntOp.cmpi CmpIPredicate.slt (IntOp.addi (BitVec.ofNat 32 (l.val / 64)) (BitVec.ofNat 32 (2 * g.val))) 0#32) (IntOp.addi (IntOp.addi (BitVec.ofNat 32 (l.val / 64)) (BitVec.ofNat 32 (2 * g.val))) 128#32)
      (IntOp.addi (BitVec.ofNat 32 (l.val / 64)) (BitVec.ofNat 32 (2 * g.val))) = BitVec.ofNat 32 (2 * g.val + l.val / 64) := by decide +kernel
  exact h ⟨g, hg⟩ l

theorem weightOf_apply (s a b c : FVec Ideal S256x128 .f32) (m : Fin 256) (h : Fin 128) (hh : h.val < 16) :
    weightOf s a b c (ix2 m h) = weight (lanes a m) (lanes b m) (lanes c m) (lanes s m) h.val := by
  unfold weightOf weight total totalOf scale scaleOf densOf top topOf lanes
  pointwise
  simp only [headLanes_apply]
  have e1 : (h.val + 128 - 112) % 128 = (16 + h.val) % 128 := by omega
  have e2 : h.val % 128 = h.val := Nat.mod_eq_of_lt h.isLt
  rw [if_pos hh]
  simp only [e1, e2]
  rfl

theorem gatedOf_apply (g : ℕ) (hg : g < 8) (a b c : FVec Ideal S256x128 .f32) (o : FVec Ideal S256x128 .bf16) (p q : FVec Ideal S1x256x128 .f32) (gate : FVec Ideal S256x128 .bf16) (m : Fin 256) (l : Fin 128) :
    gatedOf g a b c o p q gate (ix2 m l)
      = (weight (lanes a m) (lanes b m) (lanes c m) (lanes a m) (2 * g + l.val / 64) * o (ix2 m l) + weight (lanes a m) (lanes b m) (lanes c m) (lanes b m) (2 * g + l.val / 64) * p (ix3 0 m l)
        + weight (lanes a m) (lanes b m) (lanes c m) (lanes c m) (2 * g + l.val / 64) * q (ix3 0 m l)) * gate (ix2 m l) := by
  unfold gatedOf
  pointwise
  simp only [headOf_apply g hg]
  have e : (BitVec.ofNat 32 (2 * g + l.val / 64)).toNat % 128 = 2 * g + l.val / 64 := by
    rw [BitVec.toNat_ofNat]
    omega
  have hl : 2 * g + l.val / 64 < 16 := by omega
  simp only [e, flat_apply]
  rw [weightOf_apply _ _ _ _ m ⟨2 * g + l.val / 64, by omega⟩ hl, weightOf_apply _ _ _ _ m ⟨2 * g + l.val / 64, by omega⟩ hl, weightOf_apply _ _ _ _ m ⟨2 * g + l.val / 64, by omega⟩ hl]

theorem summed_apply (z c : FVec Ideal S256x1024 .bf16) (u v : FVec Ideal S1024x2048 .bf16) (x : FVec Ideal S256x2048 .f32) (m : Fin 256) (k : Fin 2048) :
    summed z c u v x (ix2 m k) = x (ix2 m k) + (∑ i : Fin 1024, z (ix2 m i) * u (ix2 i k) + ∑ i : Fin 1024, c (ix2 m i) * v (ix2 i k)) := by
  unfold summed
  pointwise

theorem normed_apply (x : FVec Ideal S256x2048 .f32) (g : FVec Ideal S1x2048 .f32) (m : Fin 256) (k : Fin 2048) :
    normed x g (ix2 m k) = Cert.Proj.rms (fun j => x (ix2 m j)) (fun j => g (ix2 0 j)) k := by
  unfold normed Cert.Proj.rms
  pointwise

end Cert.Out
-- ==== Proof.OutStores.lean ====
/-
  The stores of the output projection's body, one grid point: every scratch array as the list of the pieces laid into it, and
  the result's two tiles.
-/
module

public import proofs.«01_k».proof.Proof.OutPieces

@[expose] public section

noncomputable section

namespace Cert.Out

open Idealize.ShloMosaic Idealize.ShloMosaic.TcCoe Idealize.SL.Sem
open Cert.Kernel3Ideal Cert.Kernel3Ideal.Gen

/-- What a load reads from the block `x`. -/
abbrev ld {s : Shape} {e : EltTy} (a : Memref sig .tc .vmem s e) (ha : a.IsWhole) (x : Vec Ideal s e) (r : LoadRect s) : r.shape.Idx → Elt Ideal e :=
  View.readAt (Elt Ideal) a.view r (ha.unread x)

section
variable (c : Dev nD) (i : grid0.Coords) (arg1 : Memref sig .tc .vmem S512x1024 .bf16) (harg1 : arg1.IsWhole) (arg2 : Memref sig .tc .vmem S4x128x1024 .bf16) (harg2 : arg2.IsWhole) (arg3 : Memref sig .tc .vmem S16x32x1024 .bf16) (harg3 : arg3.IsWhole)
  (arg4 : Memref sig .tc .vmem S512x128 .f32) (harg4 : arg4.IsWhole) (arg5 : Memref sig .tc .vmem S4x128x128 .f32) (harg5 : arg5.IsWhole) (arg6 : Memref sig .tc .vmem S16x32x128 .f32) (harg6 : arg6.IsWhole)
  (arg7 : Memref sig .tc .vmem S512x1024 .bf16) (harg7 : arg7.IsWhole) (arg8 : Memref sig .tc .vmem S512x1024 .bf16) (harg8 : arg8.IsWhole) (arg9 : Memref sig .tc .vmem S512x2048 .f32) (harg9 : arg9.IsWhole)
  (arg10 : Memref sig .tc .vmem S2048x2048 .bf16) (harg10 : arg10.IsWhole) (arg11 : Memref sig .tc .vmem S1x2048 .f32) (harg11 : arg11.IsWhole) (arg12 : Memref sig .tc .vmem S512x2048 .f32) (harg12 : arg12.IsWhole)
  (arg13 : Memref sig .tc .vmem S512x1024 .bf16) (harg13 : arg13.IsWhole) (arg14 : Memref sig .tc .vmem S8x512x128 .f32) (harg14 : arg14.IsWhole) (arg15 : Memref sig .tc .vmem S8x512x128 .f32) (harg15 : arg15.IsWhole)
  (arg16 : Memref sig .tc .vmem S8x512x128 .f32) (harg16 : arg16.IsWhole) (arg17 : Memref sig .tc .vmem S2x512x128 .f32) (harg17 : arg17.IsWhole)
  (x0 : Vec Ideal S512x1024 .bf16) (x1 : Vec Ideal S4x128x1024 .bf16) (x2 : Vec Ideal S16x32x1024 .bf16) (x3 : Vec Ideal S512x128 .f32) (x4 : Vec Ideal S4x128x128 .f32) (x5 : Vec Ideal S16x32x128 .f32)
  (x6 x7 : Vec Ideal S512x1024 .bf16) (x8 : Vec Ideal S512x2048 .f32) (x9 : Vec Ideal S2048x2048 .bf16) (x10 : Vec Ideal S1x2048 .f32)

/-- The statistics of one class of every fourth row, to its rows. -/
def statFour (t n : ℕ) : View.Piece (Elt Ideal) S2x512x128 .f32 := ⟨statFoursR t n, through64 (ld arg5 harg5 x4 (statClass4R t n).toLoadRect)⟩
/-- The statistics of one class of every sixteenth row, to its rows. -/
def statSixteen (t n : ℕ) : View.Piece (Elt Ideal) S2x512x128 .f32 := ⟨statSixteensR t n, through16 (ld arg6 harg6 x5 (statClass16R t n).toLoadRect)⟩
/-- The statistics of the first `t` tiles. -/
def stats : ℕ → List (View.Piece (Elt Ideal) S2x512x128 .f32)
  | 0 => []
  | t + 1 => stack (statSixteen arg6 harg6 x5 t) (stack (statFour arg5 harg5 x4 t) (stats t) 4) 16

/-- The attention of one class of every fourth row, the lanes of one group, to its rows. -/
def four (t n : ℕ) : View.Piece (Elt Ideal) S8x512x128 .f32 := ⟨foursR t (n / 8) n, wide64 (ld arg2 harg2 x1 (class4R t (n / 8) n).toLoadRect)⟩
/-- The attention by fours, of the first `t` tiles. -/
def fours : ℕ → List (View.Piece (Elt Ideal) S8x512x128 .f32)
  | 0 => []
  | t + 1 => stack (four arg2 harg2 x1 t) (fours t) 32

/-- The first step of the attention by sixteens: class `n / 4 % 4 + 4 * (n % 4)`, the lanes of the group `n / 16`. -/
def step (t n : ℕ) : View.Piece (Elt Ideal) S8x512x128 .f32 := ⟨quarterFoursR t (n / 4) n (n / 16), wide16 (ld arg3 harg3 x2 (class16R t (n / 4 % 4 + 4 * (n % 4)) (n / 16)).toLoadRect)⟩
def steps : ℕ → List (View.Piece (Elt Ideal) S8x512x128 .f32)
  | 0 => []
  | t + 1 => stack (step arg3 harg3 x2 t) (steps t) 128
/-- The second step: a quarter of the tile to the rows that leave its number by four. -/
def sixteen (t n : ℕ) : View.Piece (Elt Ideal) S8x512x128 .f32 :=
  ⟨foursR t n (n / 4), through64 (arg16.view.readCov (stack (step arg3 harg3 x2 t) (steps arg3 harg3 x2 t) (4 * (n + 1))) (quarterR t n (n / 4)).toLoadRect)⟩
/-- The attention by sixteens, of the first `t` tiles. -/
def sixteens : ℕ → List (View.Piece (Elt Ideal) S8x512x128 .f32)
  | 0 => []
  | t + 1 => stack (sixteen arg3 harg3 arg16 x2 t) (sixteens t) 32

/-- The statistics of the tile `t`, by fours for `d = 0` and by sixteens for `d = 1`. -/
def statsRead (d t : ℕ) : FVec Ideal S256x128 .f32 := flat (arg17.view.readCov (stats arg5 harg5 arg6 harg6 x4 x5 (t + 1)) (statRowsR d t).toLoadRect)
/-- The gated attention of the tile `t`, the lanes of the group `g`. -/
def gated (t g : ℕ) : View.Piece (Elt Ideal) S512x1024 .bf16 :=
  ⟨tileR t g, gatedOf g (ld arg4 harg4 x3 (statR t).toLoadRect) (statsRead arg5 harg5 arg6 harg6 arg17 x4 x5 0 t) (statsRead arg5 harg5 arg6 harg6 arg17 x4 x5 1 t) (ld arg1 harg1 x0 (tileR t g).toLoadRect)
    (arg14.view.readCov (fours arg2 harg2 x1 (t + 1)) (slabRowsR t g).toLoadRect) (arg15.view.readCov (sixteens arg3 harg3 arg16 x2 (t + 1)) (slabRowsR t g).toLoadRect) (ld arg7 harg7 x6 (tileR t g).toLoadRect)⟩
def gateds : ℕ → List (View.Piece (Elt Ideal) S512x1024 .bf16)
  | 0 => []
  | t + 1 => stack (gated arg1 harg1 arg2 harg2 arg3 harg3 arg4 harg4 arg5 harg5 arg6 harg6 arg7 harg7 arg14 arg15 arg16 arg17 x0 x1 x2 x3 x4 x5 x6 t) (gateds t) 8

/-- The tile `t` of the result. -/
def result (t : ℕ) : View.Piece (Elt Ideal) S512x2048 .f32 :=
  ⟨outR t, normed (summed (arg13.view.readCov (gateds arg1 harg1 arg2 harg2 arg3 harg3 arg4 harg4 arg5 harg5 arg6 harg6 arg7 harg7 arg14 arg15 arg16 arg17 x0 x1 x2 x3 x4 x5 x6 2) (halfR t).toLoadRect) (ld arg8 harg8 x7 (halfR t).toLoadRect)
    (ld arg10 harg10 x9 (weightsR 0).toLoadRect) (ld arg10 harg10 x9 (weightsR 1).toLoadRect) (ld arg9 harg9 x8 (outR t).toLoadRect)) (ld arg11 harg11 x10 gainR.toLoadRect)⟩

set_option maxRecDepth 65536 in
set_option maxHeartbeats 8000000 in
/-- The body's stores into the result. -/
theorem stores :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).1
      = stack (result arg1 harg1 arg2 harg2 arg3 harg3 arg4 harg4 arg5 harg5 arg6 harg6 arg7 harg7 arg8 harg8 arg9 harg9 arg10 harg10 arg11 harg11 arg13 arg14 arg15 arg16 arg17 x0 x1 x2 x3 x4 x5 x6 x7 x8 x9 x10) [] 2 := rfl

end

end Cert.Out
-- ==== Proof.OutBlock.lean ====
/-
  What one grid point leaves: every scratch array agrees with one plain rearrangement of its blocks, and the result's rows are
  the rows of the specification.
-/
module

public import proofs.«01_k».proof.Proof.OutTile
public import proofs.«01_k».proof.Proof.OutStores

@[expose] public section

set_option maxRecDepth 65536

noncomputable section

namespace Cert.Out

open Idealize.ShloMosaic Idealize.ShloMosaic.TcCoe Idealize.SL.Sem
open Cert.Kernel3Ideal Cert.Kernel3Ideal.Gen

/-! ## Stacks of pieces -/

theorem ld_apply {s : Shape} {e : EltTy} (a : Memref sig .tc .vmem s e) (ha : a.IsWhole) (x : Vec Ideal s e) (r : Rect s) (i : r.shape.Idx) :
    ld a ha x r.toLoadRect i = x (r.emb i) := by
  unfold ld
  rw [View.readAt_eq_ld, ha.read_unread]
  rfl

section layers
variable {s : Shape} {e : EltTy}

/-- Every piece of `L` holds `G` where it lies. -/
def Agrees (G : s.Idx → Elt Ideal e) (L : List (View.Piece (Elt Ideal) s e)) : Prop := ∀ p ∈ L, ∀ x : p.1.shape.Idx, p.2 x = G (p.1.emb x)

variable (G : s.Idx → Elt Ideal e) (P : ℕ → View.Piece (Elt Ideal) s e) (L : List (View.Piece (Elt Ideal) s e))

theorem stack_agrees (hL : Agrees G L) : ∀ N, (∀ n < N, ∀ x : (P n).1.shape.Idx, (P n).2 x = G ((P n).1.emb x)) → Agrees G (stack P L N)
  | 0, _ => hL
  | N + 1, h => fun p hp => by
    rcases List.mem_cons.1 hp with rfl | hp
    · exact h N (Nat.lt_succ_self N)
    · exact stack_agrees hL N (fun n hn => h n (Nat.lt_succ_of_lt hn)) p hp

theorem mem_stack (n : ℕ) : ∀ N, n < N → P n ∈ stack P L N
  | 0, h => absurd h (Nat.not_lt_zero _)
  | N + 1, h => by
    rcases Nat.lt_succ_iff_lt_or_eq.1 h with h | rfl
    · exact List.mem_cons_of_mem _ (mem_stack n N h)
    · exact List.mem_cons_self

theorem mem_below (p : View.Piece (Elt Ideal) s e) (hp : p ∈ L) : ∀ N, p ∈ stack P L N
  | 0 => hp
  | N + 1 => List.mem_cons_of_mem _ (mem_below p hp N)

/-- A load from an array of agreeing pieces, at a place one of them covers. -/
theorem read_back (M : Memref sig .tc .vmem s e) (hL : Agrees G L) (B : LoadRect s) (j : B.shape.Idx) (p : View.Piece (Elt Ideal) s e) (hp : p ∈ L) (x : p.1.shape.Idx)
    (hx : ∀ a, (p.1.emb x a).val = (B.idx j a).val) : M.view.readCov L B j = G (B.idx j) := by
  have he : p.1.emb x = B.idx j := funext fun a => Fin.ext (hx a)
  rw [View.readCov_eq_canon']
  exact View.canon_apply_of_pieces G L hL _ ⟨p, hp, he ▸ p.1.idx_mem x⟩

end layers

theorem eq_slab {a b : ℕ} (x : Shape.Idx ⟨3, ![1, a, b]⟩) : ∃ (k : Fin a) (l : Fin b), x = ix3 0 k l :=
  ⟨x 1, x 2, (eq_ix3 x).trans (congrArg (fun i : Fin 1 => ix3 i (x 1) (x 2)) (Subsingleton.elim _ _))⟩

/-! ## The plain rearrangements -/

section targets
variable (x0 : Vec Ideal S512x1024 .bf16) (x1 : Vec Ideal S4x128x1024 .bf16) (x2 : Vec Ideal S16x32x1024 .bf16) (x3 : Vec Ideal S512x128 .f32) (x4 : Vec Ideal S4x128x128 .f32) (x5 : Vec Ideal S16x32x128 .f32)
  (x6 x7 : Vec Ideal S512x1024 .bf16) (x8 : Vec Ideal S512x2048 .f32) (x9 : Vec Ideal S2048x2048 .bf16) (x10 : Vec Ideal S1x2048 .f32)

/-- A block's rows: in order, by fours, by sixteens; of the attention and of the statistics. -/
abbrev rowO : ℕ → ℕ → EReal := row (R := 512) (C := 1024) (φ := .bf16) (by decide) (by decide) x0
abbrev fourO : ℕ → ℕ → EReal := classRow (r := 4) (Q := 128) (C := 1024) (φ := .bf16) (by decide) (by decide) (by decide) x1
abbrev sixteenO : ℕ → ℕ → EReal := classRow (r := 16) (Q := 32) (C := 1024) (φ := .bf16) (by decide) (by decide) (by decide) x2
abbrev rowS : ℕ → ℕ → EReal := row (R := 512) (C := 128) (φ := .f32) (by decide) (by decide) x3
abbrev fourS : ℕ → ℕ → EReal := classRow (r := 4) (Q := 128) (C := 128) (φ := .f32) (by decide) (by decide) (by decide) x4
abbrev sixteenS : ℕ → ℕ → EReal := classRow (r := 16) (Q := 32) (C := 128) (φ := .f32) (by decide) (by decide) (by decide) x5

def statT : Vec Ideal S2x512x128 .f32 := fun y => if (y 0).val = 0 then fourS x4 (y 1).val (y 2).val else sixteenS x5 (y 1).val (y 2).val
def fourT : Vec Ideal S8x512x128 .f32 := fun y => fourO x1 (y 1).val (128 * (y 0).val + (y 2).val)
def sixteenT : Vec Ideal S8x512x128 .f32 := fun y => sixteenO x2 (y 1).val (128 * (y 0).val + (y 2).val)
/-- After the first step, a quarter holds the rows that leave its number by four. -/
def stepT : Vec Ideal S8x512x128 .f32 := fun y =>
  sixteenO x2 (256 * ((y 1).val / 256) + 4 * ((y 1).val % 64) + (y 1).val / 64 % 4) (128 * (y 0).val + (y 2).val)
/-- The gated attention's row `n`. -/
def gatedRow (n : ℕ) : ℕ → EReal :=
  mixed (rowS x3 n) (fourS x4 n) (sixteenS x5 n) (rowO x0 n) (fourO x1 n) (sixteenO x2 n) (rowO x6 n)
def gatedT : Vec Ideal S512x1024 .bf16 := fun y => gatedRow x0 x1 x2 x3 x4 x5 x6 (y 0).val (y 1).val
def resultT : Vec Ideal S512x2048 .f32 := fun y =>
  resultRow (rowS x3 (y 0).val) (fourS x4 (y 0).val) (sixteenS x5 (y 0).val) (rowO x0 (y 0).val) (fourO x1 (y 0).val) (sixteenO x2 (y 0).val) (rowO x6 (y 0).val) (rowO x7 (y 0).val)
    (fun i k => x9 (ix2 i k)) (fun k => x8 (ix2 (y 0) k)) (fun k => x10 (ix2 0 k)) (y 1)
end targets

/-! ## The scratch arrays -/

section
variable (arg1 : Memref sig .tc .vmem S512x1024 .bf16) (harg1 : arg1.IsWhole) (arg2 : Memref sig .tc .vmem S4x128x1024 .bf16) (harg2 : arg2.IsWhole) (arg3 : Memref sig .tc .vmem S16x32x1024 .bf16) (harg3 : arg3.IsWhole)
  (arg4 : Memref sig .tc .vmem S512x128 .f32) (harg4 : arg4.IsWhole) (arg5 : Memref sig .tc .vmem S4x128x128 .f32) (harg5 : arg5.IsWhole) (arg6 : Memref sig .tc .vmem S16x32x128 .f32) (harg6 : arg6.IsWhole)
  (arg7 : Memref sig .tc .vmem S512x1024 .bf16) (harg7 : arg7.IsWhole) (arg8 : Memref sig .tc .vmem S512x1024 .bf16) (harg8 : arg8.IsWhole) (arg9 : Memref sig .tc .vmem S512x2048 .f32) (harg9 : arg9.IsWhole)
  (arg10 : Memref sig .tc .vmem S2048x2048 .bf16) (harg10 : arg10.IsWhole) (arg11 : Memref sig .tc .vmem S1x2048 .f32) (harg11 : arg11.IsWhole)
  (arg13 : Memref sig .tc .vmem S512x1024 .bf16) (arg14 arg15 arg16 : Memref sig .tc .vmem S8x512x128 .f32) (arg17 : Memref sig .tc .vmem S2x512x128 .f32)
  (x0 : Vec Ideal S512x1024 .bf16) (x1 : Vec Ideal S4x128x1024 .bf16) (x2 : Vec Ideal S16x32x1024 .bf16) (x3 : Vec Ideal S512x128 .f32) (x4 : Vec Ideal S4x128x128 .f32) (x5 : Vec Ideal S16x32x128 .f32)
  (x6 x7 : Vec Ideal S512x1024 .bf16) (x8 : Vec Ideal S512x2048 .f32) (x9 : Vec Ideal S2048x2048 .bf16) (x10 : Vec Ideal S1x2048 .f32)

theorem stats_agree : ∀ t, t ≤ 2 → Agrees (statT x4 x5) (stats arg5 harg5 arg6 harg6 x4 x5 t)
  | 0, _ => fun p h => absurd h List.not_mem_nil
  | t + 1, ht => by
    refine stack_agrees _ _ _ (stack_agrees _ _ _ (stats_agree t (by omega)) 4 fun n hn x => ?_) 16 fun n hn x => ?_
    · obtain ⟨k, l, rfl⟩ := eq_slab (a := 64) (b := 128) x
      refine (through64_apply _ k l).trans ((ld_apply arg5 harg5 x4 (statClass4R t n) _).trans ?_)
      refine Eq.trans ?_ (if_pos (show 0 + 1 * 0 = 0 from rfl)).symm
      refine classRow_eq _ _ _ x4 _ _ _ ?_ ?_ ?_
      · show n % 4 + 1 * 0 = (256 * (t % 2) + n % 4 + 4 * k.val) % 4
        omega
      · show 64 * (t % 2) + 1 * k.val = (256 * (t % 2) + n % 4 + 4 * k.val) / 4 % 128
        omega
      · show 0 + 1 * l.val = (0 + 1 * l.val) % 128
        omega
    · obtain ⟨k, l, rfl⟩ := eq_slab (a := 16) (b := 128) x
      refine (through16_apply _ k l).trans ((ld_apply arg6 harg6 x5 (statClass16R t n) _).trans ?_)
      refine Eq.trans ?_ (if_neg (show ¬ (1 + 1 * 0 = 0) by decide)).symm
      refine classRow_eq _ _ _ x5 _ _ _ ?_ ?_ ?_
      · show n % 16 + 1 * 0 = (256 * (t % 2) + n % 16 + 16 * k.val) % 16
        omega
      · show 16 * (t % 2) + 1 * k.val = (256 * (t % 2) + n % 16 + 16 * k.val) / 16 % 32
        omega
      · show 0 + 1 * l.val = (0 + 1 * l.val) % 128
        omega

theorem fours_agree : ∀ t, t ≤ 2 → Agrees (fourT x1) (fours arg2 harg2 x1 t)
  | 0, _ => fun p h => absurd h List.not_mem_nil
  | t + 1, ht => by
    refine stack_agrees _ _ _ (fours_agree t (by omega)) 32 fun n hn x => ?_
    obtain ⟨k, l, rfl⟩ := eq_slab (a := 64) (b := 128) x
    refine ((wide64_apply (ld arg2 harg2 x1 (class4R t (n / 8) n).toLoadRect) k l).trans (ld_apply arg2 harg2 x1 (class4R t (n / 8) n) _)).trans ?_
    show x1 ((class4R t (n / 8) n).emb (ix3 0 k l)) = fourO x1 (256 * (t % 2) + n / 8 % 4 + 4 * k.val) (128 * (n % 8 + 1 * 0) + (0 + 1 * l.val))
    refine classRow_eq _ _ _ x1 _ _ _ ?_ ?_ ?_
    · show n / 8 % 4 + 1 * 0 = (256 * (t % 2) + n / 8 % 4 + 4 * k.val) % 4
      omega
    · show 64 * (t % 2) + 1 * k.val = (256 * (t % 2) + n / 8 % 4 + 4 * k.val) / 4 % 128
      omega
    · show 128 * (n % 8) + 1 * l.val = (128 * (n % 8 + 1 * 0) + (0 + 1 * l.val)) % 1024
      omega

theorem step_agree (t : ℕ) (ht : t < 2) (n : ℕ) (hn : n < 128) (x) : (step arg3 harg3 x2 t n).2 x = stepT x2 ((step arg3 harg3 x2 t n).1.emb x) := by
  obtain ⟨k, l, rfl⟩ := eq_slab (a := 16) (b := 128) x
  refine ((wide16_apply (ld arg3 harg3 x2 (class16R t (n / 4 % 4 + 4 * (n % 4)) (n / 16)).toLoadRect) k l).trans (ld_apply arg3 harg3 x2 (class16R t (n / 4 % 4 + 4 * (n % 4)) (n / 16)) _)).trans ?_
  show x2 ((class16R t (n / 4 % 4 + 4 * (n % 4)) (n / 16)).emb (ix3 0 k l)) = sixteenO x2 (256 * ((256 * (t % 2) + 64 * (n / 4 % 4) + n % 4 + 4 * k.val) / 256) + 4 * ((256 * (t % 2) + 64 * (n / 4 % 4) + n % 4 + 4 * k.val) % 64) + (256 * (t % 2) + 64 * (n / 4 % 4) + n % 4 + 4 * k.val) / 64 % 4)
    (128 * (n / 16 % 8 + 1 * 0) + (0 + 1 * l.val))
  have et : t % 2 = t := Nat.mod_eq_of_lt ht
  have eg : n / 16 % 8 = n / 16 := by omega
  rw [et, eg]
  have hq : n / 4 % 4 < 4 := Nat.mod_lt _ (by decide)
  have hr : n % 4 < 4 := Nat.mod_lt _ (by decide)
  have hg : n / 16 < 8 := by omega
  generalize hq' : n / 4 % 4 = q at hq ⊢
  generalize hr' : n % 4 = r at hr ⊢
  generalize hg' : n / 16 = g at hg ⊢
  have hm : 256 * ((256 * t + 64 * q + r + 4 * k.val) / 256) + 4 * ((256 * t + 64 * q + r + 4 * k.val) % 64) + (256 * t + 64 * q + r + 4 * k.val) / 64 % 4 = 256 * t + 16 * k.val + (q + 4 * r) := by
    have h1 : (256 * t + 64 * q + r + 4 * k.val) / 256 = t := by omega
    have h2 : (256 * t + 64 * q + r + 4 * k.val) % 64 = r + 4 * k.val := by omega
    have h3 : (256 * t + 64 * q + r + 4 * k.val) / 64 % 4 = q := by omega
    omega
  rw [hm]
  clear hm hq' hr' hg' eg
  refine classRow_eq _ _ _ x2 _ _ _ ?_ ?_ ?_
  · show (q + 4 * r) % 16 + 1 * 0 = (256 * t + 16 * k.val + (q + 4 * r)) % 16
    omega
  · show 16 * (t % 2) + 1 * k.val = (256 * t + 16 * k.val + (q + 4 * r)) / 16 % 32
    have h1 : (256 * t + 16 * k.val + (q + 4 * r)) / 16 = 16 * t + k.val := by omega
    rw [et, h1]
    omega
  · show 128 * (g % 8) + 1 * l.val = (128 * (g + 1 * 0) + (0 + 1 * l.val)) % 1024
    omega

theorem steps_agree : ∀ t, t ≤ 2 → Agrees (stepT x2) (steps arg3 harg3 x2 t)
  | 0, _ => fun p h => absurd h List.not_mem_nil
  | t + 1, ht => stack_agrees _ _ _ (steps_agree t (by omega)) 128 fun n hn x => step_agree arg3 harg3 x2 t (by omega) n hn x

theorem sixteens_agree : ∀ t, t ≤ 2 → Agrees (sixteenT x2) (sixteens arg3 harg3 arg16 x2 t)
  | 0, _ => fun p h => absurd h List.not_mem_nil
  | t + 1, ht => by
    refine stack_agrees _ _ _ (sixteens_agree t (by omega)) 32 fun n hn x => ?_
    obtain ⟨k, l, rfl⟩ := eq_slab (a := 64) (b := 128) x
    refine (through64_apply (arg16.view.readCov (stack (step arg3 harg3 x2 t) (steps arg3 harg3 x2 t) (4 * (n + 1))) (quarterR t n (n / 4)).toLoadRect) k l).trans ?_
    refine (read_back (stepT x2) _ arg16 (stack_agrees _ _ _ (steps_agree arg3 harg3 x2 t (by omega)) _ fun n' hn' x => step_agree arg3 harg3 x2 t (by omega) n' (by omega) x) _ _
      (step arg3 harg3 x2 t (4 * n + k.val % 4)) (mem_stack _ _ _ _ (by omega)) (ix3 0 ⟨k.val / 4, by omega⟩ l) fun a => ?_).trans ?_
    · fin_cases a
      · show (4 * n + k.val % 4) / 16 % 8 + 1 * 0 = n / 4 % 8 + 1 * 0
        omega
      · show 256 * (t % 2) + 64 * ((4 * n + k.val % 4) / 4 % 4) + (4 * n + k.val % 4) % 4 + 4 * (k.val / 4) = 256 * (t % 2) + 64 * (n % 4) + 1 * k.val
        omega
      · rfl
    · show sixteenO x2 (256 * ((256 * (t % 2) + 64 * (n % 4) + 1 * k.val) / 256) + 4 * ((256 * (t % 2) + 64 * (n % 4) + 1 * k.val) % 64) + (256 * (t % 2) + 64 * (n % 4) + 1 * k.val) / 64 % 4) (128 * (n / 4 % 8 + 1 * 0) + (0 + 1 * l.val))
        = sixteenO x2 (256 * (t % 2) + n % 4 + 4 * k.val) (128 * (n / 4 % 8 + 1 * 0) + (0 + 1 * l.val))
      congr 1
      omega

theorem statsRead_fours (t : ℕ) (ht : t < 2) (m : Fin 256) (l : Fin 128) : statsRead arg5 harg5 arg6 harg6 arg17 x4 x5 0 t (ix2 m l) = fourS x4 (256 * t + m.val) l.val := by
  unfold statsRead
  refine (flat_apply _ m l).trans ((read_back (statT x4 x5) _ arg17 (stats_agree arg5 harg5 arg6 harg6 x4 x5 (t + 1) (by omega)) _ _
    (statFour arg5 harg5 x4 t (m.val % 4)) (mem_below _ _ _ (mem_stack _ _ _ _ (by omega)) _) (ix3 0 ⟨m.val / 4, by omega⟩ l) fun a => ?_).trans ?_)
  · fin_cases a
    · rfl
    · show 256 * (t % 2) + m.val % 4 % 4 + 4 * (m.val / 4) = 256 * (t % 2) + 1 * m.val
      omega
    · rfl
  · refine (if_pos (show 0 + 1 * 0 = 0 from rfl)).trans ?_
    show fourS x4 (256 * (t % 2) + 1 * m.val) (0 + 1 * l.val) = _
    congr 1 <;> omega

theorem statsRead_sixteens (t : ℕ) (ht : t < 2) (m : Fin 256) (l : Fin 128) : statsRead arg5 harg5 arg6 harg6 arg17 x4 x5 1 t (ix2 m l) = sixteenS x5 (256 * t + m.val) l.val := by
  unfold statsRead
  refine (flat_apply _ m l).trans ((read_back (statT x4 x5) _ arg17 (stats_agree arg5 harg5 arg6 harg6 x4 x5 (t + 1) (by omega)) _ _
    (statSixteen arg6 harg6 x5 t (m.val % 16)) (mem_stack _ _ _ _ (by omega)) (ix3 0 ⟨m.val / 16, by omega⟩ l) fun a => ?_).trans ?_)
  · fin_cases a
    · rfl
    · show 256 * (t % 2) + m.val % 16 % 16 + 16 * (m.val / 16) = 256 * (t % 2) + 1 * m.val
      omega
    · rfl
  · refine (if_neg (show ¬ (1 + 1 * 0 = 0) by decide)).trans ?_
    show sixteenS x5 (256 * (t % 2) + 1 * m.val) (0 + 1 * l.val) = _
    congr 1 <;> omega

theorem fours_read (t g : ℕ) (ht : t < 2) (hg : g < 8) (m : Fin 256) (l : Fin 128) :
    arg14.view.readCov (fours arg2 harg2 x1 (t + 1)) (slabRowsR t g).toLoadRect (ix3 0 m l) = fourO x1 (256 * t + m.val) (128 * g + l.val) := by
  refine (read_back (fourT x1) _ arg14 (fours_agree arg2 harg2 x1 (t + 1) (by omega)) _ _
    (four arg2 harg2 x1 t (8 * (m.val % 4) + g)) (mem_stack _ _ _ _ (by omega)) (ix3 0 ⟨m.val / 4, by omega⟩ l) fun a => ?_).trans ?_
  · fin_cases a
    · show (8 * (m.val % 4) + g) % 8 + 1 * 0 = g % 8 + 1 * 0
      omega
    · show 256 * (t % 2) + (8 * (m.val % 4) + g) / 8 % 4 + 4 * (m.val / 4) = 256 * (t % 2) + 1 * m.val
      omega
    · rfl
  · show fourO x1 (256 * (t % 2) + 1 * m.val) (128 * (g % 8 + 1 * 0) + (0 + 1 * l.val)) = _
    congr 1 <;> omega

theorem sixteens_read (t g : ℕ) (ht : t < 2) (hg : g < 8) (m : Fin 256) (l : Fin 128) :
    arg15.view.readCov (sixteens arg3 harg3 arg16 x2 (t + 1)) (slabRowsR t g).toLoadRect (ix3 0 m l) = sixteenO x2 (256 * t + m.val) (128 * g + l.val) := by
  refine (read_back (sixteenT x2) _ arg15 (sixteens_agree arg3 harg3 arg16 x2 (t + 1) (by omega)) _ _
    (sixteen arg3 harg3 arg16 x2 t (4 * g + m.val % 4)) (mem_stack _ _ _ _ (by omega)) (ix3 0 ⟨m.val / 4, by omega⟩ l) fun a => ?_).trans ?_
  · fin_cases a
    · show (4 * g + m.val % 4) / 4 % 8 + 1 * 0 = g % 8 + 1 * 0
      omega
    · show 256 * (t % 2) + (4 * g + m.val % 4) % 4 + 4 * (m.val / 4) = 256 * (t % 2) + 1 * m.val
      omega
    · rfl
  · show sixteenO x2 (256 * (t % 2) + 1 * m.val) (128 * (g % 8 + 1 * 0) + (0 + 1 * l.val)) = _
    congr 1 <;> omega

/-! ## The gated attention -/

theorem gated_agree (t : ℕ) (ht : t < 2) (g : ℕ) (hg : g < 8) (x) :
    (gated arg1 harg1 arg2 harg2 arg3 harg3 arg4 harg4 arg5 harg5 arg6 harg6 arg7 harg7 arg14 arg15 arg16 arg17 x0 x1 x2 x3 x4 x5 x6 t g).2 x
      = gatedT x0 x1 x2 x3 x4 x5 x6 ((gated arg1 harg1 arg2 harg2 arg3 harg3 arg4 harg4 arg5 harg5 arg6 harg6 arg7 harg7 arg14 arg15 arg16 arg17 x0 x1 x2 x3 x4 x5 x6 t g).1.emb x) := by
  obtain ⟨m, l, rfl⟩ : ∃ (m : Fin 256) (l : Fin 128), x = ix2 m l := ⟨_, _, eq_ix2 x⟩
  have h1 : lanes (ld arg4 harg4 x3 (statR t).toLoadRect) m = rowS x3 (256 * t + m.val) := funext fun j => by
    unfold lanes
    refine (ld_apply arg4 harg4 x3 (statR t) _).trans (row_eq _ _ x3 _ _ _ ?_ ?_)
    · show 256 * (t % 2) + 1 * m.val = (256 * t + m.val) % 512
      omega
    · show 0 + 1 * (j % 128) = j % 128
      omega
  have h4 : lanes (statsRead arg5 harg5 arg6 harg6 arg17 x4 x5 0 t) m = fourS x4 (256 * t + m.val) := funext fun j => by
    unfold lanes
    refine (statsRead_fours arg5 harg5 arg6 harg6 arg17 x4 x5 t ht m _).trans ?_
    simp only [fourS, classRow, Nat.mod_mod]
  have h16 : lanes (statsRead arg5 harg5 arg6 harg6 arg17 x4 x5 1 t) m = sixteenS x5 (256 * t + m.val) := funext fun j => by
    unfold lanes
    refine (statsRead_sixteens arg5 harg5 arg6 harg6 arg17 x4 x5 t ht m _).trans ?_
    simp only [sixteenS, classRow, Nat.mod_mod]
  have hrow : ∀ (M : Memref sig .tc .vmem S512x1024 .bf16) (hM : M.IsWhole) (y : Vec Ideal S512x1024 .bf16), ld M hM y (tileR t g).toLoadRect (ix2 m l) = rowO y (256 * t + m.val) (128 * g + l.val) := fun M hM y => by
    refine (ld_apply M hM y (tileR t g) _).trans (row_eq _ _ y _ _ _ ?_ ?_)
    · show 256 * (t % 2) + 1 * m.val = (256 * t + m.val) % 512
      omega
    · show 128 * (g % 8) + 1 * l.val = (128 * g + l.val) % 1024
      omega
  refine (gatedOf_apply g hg _ _ _ _ _ _ _ m l).trans ?_
  rw [h1, h4, h16, hrow arg1 harg1 x0, hrow arg7 harg7 x6, fours_read arg2 harg2 arg14 x1 t g ht hg m l, sixteens_read arg3 harg3 arg15 arg16 x2 t g ht hg m l]
  show _ = gatedRow x0 x1 x2 x3 x4 x5 x6 (256 * (t % 2) + 1 * m.val) (128 * (g % 8) + 1 * l.val)
  have e0 : 256 * (t % 2) + 1 * m.val = 256 * t + m.val := by omega
  have e1 : 128 * (g % 8) + 1 * l.val = 128 * g + l.val := by omega
  have e2 : (128 * g + l.val) / 64 = 2 * g + l.val / 64 := by omega
  rw [e0, e1]
  unfold gatedRow mixed
  rw [e2]

theorem gateds_agree : ∀ t, t ≤ 2 → Agrees (gatedT x0 x1 x2 x3 x4 x5 x6) (gateds arg1 harg1 arg2 harg2 arg3 harg3 arg4 harg4 arg5 harg5 arg6 harg6 arg7 harg7 arg14 arg15 arg16 arg17 x0 x1 x2 x3 x4 x5 x6 t)
  | 0, _ => fun p h => absurd h List.not_mem_nil
  | t + 1, ht => stack_agrees _ _ _ (gateds_agree t (by omega)) 8 fun g hg x => gated_agree arg1 harg1 arg2 harg2 arg3 harg3 arg4 harg4 arg5 harg5 arg6 harg6 arg7 harg7 arg14 arg15 arg16 arg17 x0 x1 x2 x3 x4 x5 x6 t (by omega) g hg x

theorem gated_mem (t : ℕ) (ht : t < 2) (g : ℕ) (hg : g < 8) : gated arg1 harg1 arg2 harg2 arg3 harg3 arg4 harg4 arg5 harg5 arg6 harg6 arg7 harg7 arg14 arg15 arg16 arg17 x0 x1 x2 x3 x4 x5 x6 t g
    ∈ gateds arg1 harg1 arg2 harg2 arg3 harg3 arg4 harg4 arg5 harg5 arg6 harg6 arg7 harg7 arg14 arg15 arg16 arg17 x0 x1 x2 x3 x4 x5 x6 2 := by
  rcases Nat.lt_succ_iff_lt_or_eq.1 ht with h | rfl
  · obtain rfl : t = 0 := by omega
    exact mem_below _ _ _ (mem_stack _ _ _ _ hg) _
  · exact mem_stack _ _ _ _ hg

theorem gateds_read (t : ℕ) (ht : t < 2) (m : Fin 256) (i : Fin 1024) :
    arg13.view.readCov (gateds arg1 harg1 arg2 harg2 arg3 harg3 arg4 harg4 arg5 harg5 arg6 harg6 arg7 harg7 arg14 arg15 arg16 arg17 x0 x1 x2 x3 x4 x5 x6 2) (halfR t).toLoadRect (ix2 m i)
      = gatedRow x0 x1 x2 x3 x4 x5 x6 (256 * t + m.val) i.val := by
  refine (read_back (gatedT x0 x1 x2 x3 x4 x5 x6) _ arg13 (gateds_agree arg1 harg1 arg2 harg2 arg3 harg3 arg4 harg4 arg5 harg5 arg6 harg6 arg7 harg7 arg14 arg15 arg16 arg17 x0 x1 x2 x3 x4 x5 x6 2 le_rfl) _ _
    (gated arg1 harg1 arg2 harg2 arg3 harg3 arg4 harg4 arg5 harg5 arg6 harg6 arg7 harg7 arg14 arg15 arg16 arg17 x0 x1 x2 x3 x4 x5 x6 t (i.val / 128)) (gated_mem arg1 harg1 arg2 harg2 arg3 harg3 arg4 harg4 arg5 harg5 arg6 harg6 arg7 harg7 arg14 arg15 arg16 arg17 x0 x1 x2 x3 x4 x5 x6 t ht _ (by omega))
    (ix2 m ⟨i.val % 128, by omega⟩) fun a => ?_).trans ?_
  · fin_cases a
    · rfl
    · show 128 * (i.val / 128 % 8) + 1 * (i.val % 128) = 0 + 1 * i.val
      omega
  · show gatedRow x0 x1 x2 x3 x4 x5 x6 (256 * (t % 2) + 1 * m.val) (0 + 1 * i.val) = _
    congr 1 <;> omega

/-! ## The result -/

theorem result_agree (t : ℕ) (ht : t < 2) (x) :
    (result arg1 harg1 arg2 harg2 arg3 harg3 arg4 harg4 arg5 harg5 arg6 harg6 arg7 harg7 arg8 harg8 arg9 harg9 arg10 harg10 arg11 harg11 arg13 arg14 arg15 arg16 arg17 x0 x1 x2 x3 x4 x5 x6 x7 x8 x9 x10 t).2 x
      = resultT x0 x1 x2 x3 x4 x5 x6 x7 x8 x9 x10 ((outR t).emb x) := by
  obtain ⟨m, k, rfl⟩ : ∃ (m : Fin 256) (k : Fin 2048), x = ix2 m k := ⟨_, _, eq_ix2 x⟩
  refine (normed_apply _ _ m k).trans ?_
  have he : ∀ k : Fin 2048, (outR t).emb (ix2 m k) = (ix2 ⟨256 * t + m.val, by omega⟩ k : S512x2048.Idx) := fun k => by
    refine Rect.emb_eq_of_coords _ _ _ fun a => ?_
    fin_cases a
    · simp; omega
    · simp
  have hw : ∀ (p : ℕ) (hp : p < 2) (i : Fin 1024) (k : Fin 2048), ld arg10 harg10 x9 (weightsR p).toLoadRect (ix2 i k) = x9 (ix2 ⟨1024 * p + i.val, by omega⟩ k) := fun p hp i k => by
    refine (ld_apply arg10 harg10 x9 (weightsR p) _).trans (congrArg x9 (Rect.emb_eq_of_coords _ _ _ fun a => ?_))
    fin_cases a
    · simp; omega
    · simp
  have hg : ∀ k : Fin 2048, ld arg11 harg11 x10 gainR.toLoadRect (ix2 0 k) = x10 (ix2 0 k) := fun k => by
    refine (ld_apply arg11 harg11 x10 gainR _).trans (congrArg x10 (Rect.emb_eq_of_coords _ _ _ fun a => ?_))
    fin_cases a <;> simp
  have hx : ∀ k : Fin 2048, ld arg9 harg9 x8 (outR t).toLoadRect (ix2 m k) = x8 (ix2 ⟨256 * t + m.val, by omega⟩ k) := fun k =>
    (ld_apply arg9 harg9 x8 (outR t) _).trans (congrArg x8 (he k))
  have hc : ∀ i : Fin 1024, ld arg8 harg8 x7 (halfR t).toLoadRect (ix2 m i) = rowO x7 (256 * t + m.val) i.val := fun i => by
    refine (ld_apply arg8 harg8 x7 (halfR t) _).trans (row_eq _ _ x7 _ _ _ ?_ ?_)
    · show 256 * (t % 2) + 1 * m.val = (256 * t + m.val) % 512
      omega
    · show 0 + 1 * i.val = i.val % 1024
      omega
  rw [he k]
  show _ = resultRow (rowS x3 (256 * t + m.val)) (fourS x4 (256 * t + m.val)) (sixteenS x5 (256 * t + m.val)) (rowO x0 (256 * t + m.val)) (fourO x1 (256 * t + m.val)) (sixteenO x2 (256 * t + m.val)) (rowO x6 (256 * t + m.val)) (rowO x7 (256 * t + m.val))
    (fun i k => x9 (ix2 i k)) (fun k => x8 (ix2 ⟨256 * t + m.val, by omega⟩ k)) (fun k => x10 (ix2 0 k)) k
  unfold resultRow
  refine congrArg₂ (fun a b => Cert.Proj.rms a b k) (funext fun j => ?_) (funext hg)
  rw [summed_apply, hx]
  unfold added
  refine congrArg _ (congrArg₂ (· + ·) (Finset.sum_congr rfl fun i _ => ?_) (Finset.sum_congr rfl fun i _ => ?_))
  · rw [gateds_read arg1 harg1 arg2 harg2 arg3 harg3 arg4 harg4 arg5 harg5 arg6 harg6 arg7 harg7 arg13 arg14 arg15 arg16 arg17 x0 x1 x2 x3 x4 x5 x6 t ht m i, hw 0 (by decide)]
    simp only [Nat.mul_zero, Nat.zero_add]
    rfl
  · rw [hc i, hw 1 (by decide)]

/-- The block a grid point leaves agrees with the specification. -/
theorem results_agree : Agrees (resultT x0 x1 x2 x3 x4 x5 x6 x7 x8 x9 x10)
    (stack (result arg1 harg1 arg2 harg2 arg3 harg3 arg4 harg4 arg5 harg5 arg6 harg6 arg7 harg7 arg8 harg8 arg9 harg9 arg10 harg10 arg11 harg11 arg13 arg14 arg15 arg16 arg17 x0 x1 x2 x3 x4 x5 x6 x7 x8 x9 x10) [] 2) :=
  stack_agrees _ _ _ (fun p h => absurd h List.not_mem_nil) 2 fun t ht x => result_agree arg1 harg1 arg2 harg2 arg3 harg3 arg4 harg4 arg5 harg5 arg6 harg6 arg7 harg7 arg8 harg8 arg9 harg9 arg10 harg10 arg11 harg11 arg13 arg14 arg15 arg16 arg17 x0 x1 x2 x3 x4 x5 x6 x7 x8 x9 x10 t ht x

end

end Cert.Out
-- ==== Proof.OutArrays.lean ====
/-
  The output projection's array: its sixteen blocks of 512 rows are the blocks of `resultA` of the arguments.
-/
module

public import proofs.«01_k».proof.Proof.OutBlock
public import proofs.«01_k».proof.Proof.Gen.Kernel3Ideal.Value
public import Idealize.ShloMosaic.Lib.Claim
public import Idealize.ShloMosaic.Lib.Pipeline.ValueKit
public import Idealize.ShloMosaic.Lib.StableHlo.ReadAt
public import Idealize.ShloMosaic.Lib.Writes

@[expose] public section

set_option maxRecDepth 65536

noncomputable section

namespace Cert.Out

open Idealize.ShloMosaic Idealize.ShloMosaic.TcCoe Idealize.SL.Sem
open Cert.Kernel3Ideal Cert.Kernel3Ideal.Gen

variable (m : (ℓ : Loc nD τ sig) → Buf (Elt Ideal) ℓ) (c : Dev nD) (t : Fin cfg0.N)

/-- What a grid point leaves. -/
theorem left_block : outsAt0 m c t = resultT (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  funext y
  unfold outsAt0 out0_A_11
  refine View.read_writes_apply_of_pieces VO0_11 _ _ _ ?_ y (cover0_A_11 ..)
  rw [stores]
  exact fun p hp => results_agree _ _ _ _ _ _ _ _ _ _ _ _ _ _ _ _ _ _ _ _ _ _ _ _ _ _ _ _ _ _ _ _ _ _ _ _ _ _ p hp

/-! ## The blocks -/

/-- The call's eleven arguments. -/
abbrev argO1 : Vec Ideal S8192x1024 .bf16 := m ((c : Thread nD τ).loc main_arg0)
abbrev argO4 : Vec Ideal S4x2048x1024 .bf16 := m ((c : Thread nD τ).loc main_arg1)
abbrev argO16 : Vec Ideal S16x512x1024 .bf16 := m ((c : Thread nD τ).loc main_arg2)
abbrev argS1 : Vec Ideal S8192x128 .f32 := m ((c : Thread nD τ).loc main_arg3)
abbrev argS4 : Vec Ideal S4x2048x128 .f32 := m ((c : Thread nD τ).loc main_arg4)
abbrev argS16 : Vec Ideal S16x512x128 .f32 := m ((c : Thread nD τ).loc main_arg5)
abbrev argGate : Vec Ideal S8192x1024 .bf16 := m ((c : Thread nD τ).loc main_arg6)
abbrev argY : Vec Ideal S8192x1024 .bf16 := m ((c : Thread nD τ).loc main_arg7)
abbrev argX : Vec Ideal S8192x2048 .f32 := m ((c : Thread nD τ).loc main_arg8)
abbrev argW : Vec Ideal S2048x2048 .bf16 := m ((c : Thread nD τ).loc main_arg9)
abbrev argG : Vec Ideal S2048 .f32 := m ((c : Thread nD τ).loc main_arg10)

theorem places : ∀ t : Fin cfg0.N, win0_0.index t = ![t.val, 0] ∧ win0_1.index t = ![0, t.val, 0] ∧ win0_2.index t = ![0, t.val, 0] ∧ win0_3.index t = ![t.val, 0]
    ∧ win0_4.index t = ![0, t.val, 0] ∧ win0_5.index t = ![0, t.val, 0] ∧ win0_6.index t = ![t.val, 0] ∧ win0_7.index t = ![t.val, 0] ∧ win0_8.index t = ![t.val, 0]
    ∧ win0_9.index t = ![0, 0] ∧ win0_10.index t = ![0, 0] :=
  (by decide +kernel : ∀ t : Fin grid0.N, win0_0.index t = ![t.val, 0] ∧ win0_1.index t = ![0, t.val, 0] ∧ win0_2.index t = ![0, t.val, 0] ∧ win0_3.index t = ![t.val, 0]
    ∧ win0_4.index t = ![0, t.val, 0] ∧ win0_5.index t = ![0, t.val, 0] ∧ win0_6.index t = ![t.val, 0] ∧ win0_7.index t = ![t.val, 0] ∧ win0_8.index t = ![t.val, 0]
    ∧ win0_9.index t = ![0, 0] ∧ win0_10.index t = ![0, 0])

/-- The gains as the kernel's operand. -/
theorem gains (k : Fin 2048) : (V m c main_v0 : Vec Ideal S1x2048 .f32) (ix2 0 k) = argG m c (ix1 k) := by
  unfold V
  after_reads_at

theorem o1_entry (r : Fin 512) (k : Fin 1024) : (iblk m c 0 t : Vec Ideal S512x1024 .bf16) (ix2 r k) = argO1 m c (ix2 ⟨(512 * t.val + r.val) % 8192, Nat.mod_lt _ (by decide)⟩ k) := by
  have ht : t.val < 16 := lt_of_lt_of_eq t.isLt N_0
  have hp := (places t).1
  blk_ext [iblk, V, hp]
theorem o4_entry (a : Fin 4) (q : Fin 128) (k : Fin 1024) : (iblk m c 1 t : Vec Ideal S4x128x1024 .bf16) (ix3 a q k) = argO4 m c (ix3 a ⟨(128 * t.val + q.val) % 2048, Nat.mod_lt _ (by decide)⟩ k) := by
  have ht : t.val < 16 := lt_of_lt_of_eq t.isLt N_0
  have hp := (places t).2.1
  blk_ext [iblk, V, hp]
theorem o16_entry (a : Fin 16) (q : Fin 32) (k : Fin 1024) : (iblk m c 2 t : Vec Ideal S16x32x1024 .bf16) (ix3 a q k) = argO16 m c (ix3 a ⟨(32 * t.val + q.val) % 512, Nat.mod_lt _ (by decide)⟩ k) := by
  have ht : t.val < 16 := lt_of_lt_of_eq t.isLt N_0
  have hp := (places t).2.2.1
  blk_ext [iblk, V, hp]
theorem s1_entry (r : Fin 512) (k : Fin 128) : (iblk m c 3 t : Vec Ideal S512x128 .f32) (ix2 r k) = argS1 m c (ix2 ⟨(512 * t.val + r.val) % 8192, Nat.mod_lt _ (by decide)⟩ k) := by
  have ht : t.val < 16 := lt_of_lt_of_eq t.isLt N_0
  have hp := (places t).2.2.2.1
  blk_ext [iblk, V, hp]
theorem s4_entry (a : Fin 4) (q : Fin 128) (k : Fin 128) : (iblk m c 4 t : Vec Ideal S4x128x128 .f32) (ix3 a q k) = argS4 m c (ix3 a ⟨(128 * t.val + q.val) % 2048, Nat.mod_lt _ (by decide)⟩ k) := by
  have ht : t.val < 16 := lt_of_lt_of_eq t.isLt N_0
  have hp := (places t).2.2.2.2.1
  blk_ext [iblk, V, hp]
theorem s16_entry (a : Fin 16) (q : Fin 32) (k : Fin 128) : (iblk m c 5 t : Vec Ideal S16x32x128 .f32) (ix3 a q k) = argS16 m c (ix3 a ⟨(32 * t.val + q.val) % 512, Nat.mod_lt _ (by decide)⟩ k) := by
  have ht : t.val < 16 := lt_of_lt_of_eq t.isLt N_0
  have hp := (places t).2.2.2.2.2.1
  blk_ext [iblk, V, hp]
theorem gate_entry (r : Fin 512) (k : Fin 1024) : (iblk m c 6 t : Vec Ideal S512x1024 .bf16) (ix2 r k) = argGate m c (ix2 ⟨(512 * t.val + r.val) % 8192, Nat.mod_lt _ (by decide)⟩ k) := by
  have ht : t.val < 16 := lt_of_lt_of_eq t.isLt N_0
  have hp := (places t).2.2.2.2.2.2.1
  blk_ext [iblk, V, hp]
theorem y_entry (r : Fin 512) (k : Fin 1024) : (iblk m c 7 t : Vec Ideal S512x1024 .bf16) (ix2 r k) = argY m c (ix2 ⟨(512 * t.val + r.val) % 8192, Nat.mod_lt _ (by decide)⟩ k) := by
  have ht : t.val < 16 := lt_of_lt_of_eq t.isLt N_0
  have hp := (places t).2.2.2.2.2.2.2.1
  blk_ext [iblk, V, hp]
theorem x_entry (r : Fin 512) (k : Fin 2048) : (iblk m c 8 t : Vec Ideal S512x2048 .f32) (ix2 r k) = argX m c (ix2 ⟨(512 * t.val + r.val) % 8192, Nat.mod_lt _ (by decide)⟩ k) := by
  have ht : t.val < 16 := lt_of_lt_of_eq t.isLt N_0
  have hp := (places t).2.2.2.2.2.2.2.2.1
  blk_ext [iblk, V, hp]
theorem w_entry (i k : Fin 2048) : (iblk m c 9 t : Vec Ideal S2048x2048 .bf16) (ix2 i k) = argW m c (ix2 i k) := by
  have hp := (places t).2.2.2.2.2.2.2.2.2.1
  blk_ext [iblk, V, hp]
theorem g_entry (k : Fin 2048) : (iblk m c 10 t : Vec Ideal S1x2048 .f32) (ix2 0 k) = argG m c (ix1 k) := by
  have hp := (places t).2.2.2.2.2.2.2.2.2.2
  refine Eq.trans (b := (V m c main_v0 : Vec Ideal S1x2048 .f32) (ix2 0 k)) ?_ (gains m c k)
  blk_ext [iblk, hp]

/-- A block's row of the result is the array's. -/
theorem block_place (y : S512x2048.Idx) (z : S8192x2048.Idx) (h0 : (z 0).val = 512 * t.val + (y 0).val) (h1 : (z 1).val = (y 1).val) :
    resultT (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = resultA (argO1 m c) (argO4 m c) (argO16 m c) (argS1 m c) (argS4 m c) (argS16 m c) (argGate m c) (argY m c) (argX m c) (argW m c) (argG m c) z := by
  obtain ⟨n, k, rfl⟩ : ∃ (n : Fin 512) (k : Fin 2048), y = ix2 n k := ⟨_, _, eq_ix2 y⟩
  have hz : (512 * t.val + n.val) % 8192 = (z 0).val := by
    rw [h0]
    exact Nat.mod_eq_of_lt (h0 ▸ (z 0).isLt)
  have hx : ∀ k : Fin 2048, (iblk m c 8 t : Vec Ideal S512x2048 .f32) (ix2 n k) = argX m c (ix2 (z 0) k) := fun k =>
    (x_entry m c t n k).trans (congrArg (fun i => argX m c (ix2 i k)) (Fin.ext hz))
  have ek : z 1 = k := Fin.ext h1
  unfold resultT resultA
  rw [h0, ek]
  show resultRow (rowS (iblk m c 3 t) n.val) (fourS (iblk m c 4 t) n.val) (sixteenS (iblk m c 5 t) n.val) (rowO (iblk m c 0 t) n.val) (fourO (iblk m c 1 t) n.val) (sixteenO (iblk m c 2 t) n.val) (rowO (iblk m c 6 t) n.val) (rowO (iblk m c 7 t) n.val)
    (fun i k => (iblk m c 9 t : Vec Ideal S2048x2048 .bf16) (ix2 i k)) (fun k => (iblk m c 8 t : Vec Ideal S512x2048 .f32) (ix2 n k)) (fun k => (iblk m c 10 t : Vec Ideal S1x2048 .f32) (ix2 0 k)) k = _
  rw [show rowS (iblk m c 3 t) n.val = row _ _ (argS1 m c) (512 * t.val + n.val) from row_shift _ (by decide) _ _ (argS1 m c) _ _ n.isLt (s1_entry m c t),
    show fourS (iblk m c 4 t) n.val = classRow _ _ _ (argS4 m c) (512 * t.val + n.val) from classRow_shift _ _ (by decide) _ _ (argS4 m c) (128 * t.val) _ _ (by omega) (by omega) (s4_entry m c t),
    show sixteenS (iblk m c 5 t) n.val = classRow _ _ _ (argS16 m c) (512 * t.val + n.val) from classRow_shift _ _ (by decide) _ _ (argS16 m c) (32 * t.val) _ _ (by omega) (by omega) (s16_entry m c t),
    show rowO (iblk m c 0 t) n.val = row _ _ (argO1 m c) (512 * t.val + n.val) from row_shift _ (by decide) _ _ (argO1 m c) _ _ n.isLt (o1_entry m c t),
    show fourO (iblk m c 1 t) n.val = classRow _ _ _ (argO4 m c) (512 * t.val + n.val) from classRow_shift _ _ (by decide) _ _ (argO4 m c) (128 * t.val) _ _ (by omega) (by omega) (o4_entry m c t),
    show sixteenO (iblk m c 2 t) n.val = classRow _ _ _ (argO16 m c) (512 * t.val + n.val) from classRow_shift _ _ (by decide) _ _ (argO16 m c) (32 * t.val) _ _ (by omega) (by omega) (o16_entry m c t),
    show rowO (iblk m c 6 t) n.val = row _ _ (argGate m c) (512 * t.val + n.val) from row_shift _ (by decide) _ _ (argGate m c) _ _ n.isLt (gate_entry m c t),
    show rowO (iblk m c 7 t) n.val = row _ _ (argY m c) (512 * t.val + n.val) from row_shift _ (by decide) _ _ (argY m c) _ _ n.isLt (y_entry m c t)]
  rw [show (fun i k => (iblk m c 9 t : Vec Ideal S2048x2048 .bf16) (ix2 i k)) = fun i k => argW m c (ix2 i k) from funext fun i => funext fun k => w_entry m c t i k,
    show (fun k => (iblk m c 8 t : Vec Ideal S512x2048 .f32) (ix2 n k)) = fun k => argX m c (ix2 (z 0) k) from funext hx,
    show (fun k => (iblk m c 10 t : Vec Ideal S1x2048 .f32) (ix2 0 k)) = fun k => argG m c (ix1 k) from funext (g_entry m c t)]
  rfl

theorem result_array : (dats m 0 c).arrAt 11 cfg0.N
    = (resultA (argO1 m c) (argO4 m c) (argO16 m c) (argS1 m c) (argS4 m c) (argS16 m c) (argGate m c) (argY m c) (argX m c) (argW m c) (argG m c) : Vec Ideal S8192x2048 .f32) := by
  refine (dats m 0 c).arrAt_eq_of_covers 11 _ (by decide +kernel) fun t hf y => ?_
  have hp : win0_11.index t = ![t.val, 0] := (by decide +kernel : ∀ t : Fin grid0.N, win0_11.index t = ![t.val, 0]) t
  blk_simp
  rw [after0_11, left_block]
  exact block_place m c t y _ (by blk_simp [hp] <;> simp <;> omega) (by blk_simp [hp] <;> simp)

end Cert.Out
-- ==== Proof.OutReference.lean ====
/-
  The output projection's reference, read stage by stage: its result is `resultA` of its arguments.
-/
module

public import proofs.«01_k».proof.Proof.OutSpec
public import proofs.«01_k».proof.Proof.Reference
public import proofs.«01_k».proof.Proof.Gen.Reference3Ideal.Read

@[expose] public section

set_option maxRecDepth 65536

noncomputable section

namespace Cert.OutRef

open Idealize.ShloMosaic Idealize.SL.Sem Cert.Out
open Cert.Reference3Ideal Cert.Reference3Ideal.Gen Cert.Reference3Ideal.Read

variable (o1 : Vec Ideal S8192x1024 .bf16) (o4 : Vec Ideal S4x2048x1024 .bf16) (o16 : Vec Ideal S16x512x1024 .bf16)
  (s1 : Vec Ideal S8192x128 .f32) (s4 : Vec Ideal S4x2048x128 .f32) (s16 : Vec Ideal S16x512x128 .f32)
  (gate y : Vec Ideal S8192x1024 .bf16) (x : Vec Ideal S8192x2048 .f32) (W : Vec Ideal S2048x2048 .bf16) (G : Vec Ideal S2048 .f32)

/-- The arguments' rows. -/
abbrev rowO : ℕ → ℕ → EReal := row (R := 8192) (C := 1024) (φ := .bf16) (by decide) (by decide) o1
abbrev fourO : ℕ → ℕ → EReal := classRow (r := 4) (Q := 2048) (C := 1024) (φ := .bf16) (by decide) (by decide) (by decide) o4
abbrev sixteenO : ℕ → ℕ → EReal := classRow (r := 16) (Q := 512) (C := 1024) (φ := .bf16) (by decide) (by decide) (by decide) o16
abbrev rowS : ℕ → ℕ → EReal := row (R := 8192) (C := 128) (φ := .f32) (by decide) (by decide) s1
abbrev fourS : ℕ → ℕ → EReal := classRow (r := 4) (Q := 2048) (C := 128) (φ := .f32) (by decide) (by decide) (by decide) s4
abbrev sixteenS : ℕ → ℕ → EReal := classRow (r := 16) (Q := 512) (C := 128) (φ := .f32) (by decide) (by decide) (by decide) s16

/-! ## The groups in order -/

theorem tops1 (n : Fin 8192) (h : Fin 16) : val_main_v14 (F := Ideal) s1 (ix2 n h) = rowS s1 n.val h.val := by
  simp only [val_main_v14]
  pointwise
  exact row_eq _ _ _ _ _ _ (Nat.mod_eq_of_lt n.isLt).symm (show h.val = h.val % 128 by omega)
theorem tops4 (n : Fin 8192) (h : Fin 16) : val_main_v15 (F := Ideal) s4 (ix2 n h) = fourS s4 n.val h.val := by
  simp only [val_main_v15, val_main_v11, val_main_v10]
  pointwise
  exact classRow_eq _ _ _ _ _ _ _ rfl (show n.val / 4 = n.val / 4 % 2048 by omega) (show h.val = h.val % 128 by omega)
theorem tops16 (n : Fin 8192) (h : Fin 16) : val_main_v16 (F := Ideal) s16 (ix2 n h) = sixteenS s16 n.val h.val := by
  simp only [val_main_v16, val_main_v13, val_main_v12]
  pointwise
  exact classRow_eq _ _ _ _ _ _ _ rfl (show n.val / 16 = n.val / 16 % 512 by omega) (show h.val = h.val % 128 by omega)
theorem dens1 (n : Fin 8192) (h : Fin 16) : val_main_v17 (F := Ideal) s1 (ix2 n h) = rowS s1 n.val (16 + h.val) := by
  simp only [val_main_v17]
  pointwise
  exact row_eq _ _ _ _ _ _ (Nat.mod_eq_of_lt n.isLt).symm (show 16 + h.val = (16 + h.val) % 128 by omega)
theorem dens4 (n : Fin 8192) (h : Fin 16) : val_main_v18 (F := Ideal) s4 (ix2 n h) = fourS s4 n.val (16 + h.val) := by
  simp only [val_main_v18, val_main_v11, val_main_v10]
  pointwise
  exact classRow_eq _ _ _ _ _ _ _ rfl (show n.val / 4 = n.val / 4 % 2048 by omega) (show 16 + h.val = (16 + h.val) % 128 by omega)
theorem dens16 (n : Fin 8192) (h : Fin 16) : val_main_v19 (F := Ideal) s16 (ix2 n h) = sixteenS s16 n.val (16 + h.val) := by
  simp only [val_main_v19, val_main_v13, val_main_v12]
  pointwise
  exact classRow_eq _ _ _ _ _ _ _ rfl (show n.val / 16 = n.val / 16 % 512 by omega) (show 16 + h.val = (16 + h.val) % 128 by omega)
theorem nums1 (n : Fin 8192) (h : Fin 16) (u : Fin 64) : val_main_v5 (F := Ideal) o1 (ix3 n h u) = rowO o1 n.val (64 * h.val + u.val) := by
  simp only [val_main_v5, val_main_v4]
  pointwise
  exact row_eq _ _ _ _ _ _ (Nat.mod_eq_of_lt n.isLt).symm (show h.val * 64 + u.val = (64 * h.val + u.val) % 1024 by omega)
theorem nums4 (n : Fin 8192) (h : Fin 16) (u : Fin 64) : val_main_v7 (F := Ideal) o4 (ix3 n h u) = fourO o4 n.val (64 * h.val + u.val) := by
  simp only [val_main_v7, val_main_v6, val_main_v1, val_main_v0]
  pointwise
  exact classRow_eq _ _ _ _ _ _ _ rfl (show n.val / 4 = n.val / 4 % 2048 by omega) (show h.val * 64 + u.val = (64 * h.val + u.val) % 1024 by omega)
theorem nums16 (n : Fin 8192) (h : Fin 16) (u : Fin 64) : val_main_v9 (F := Ideal) o16 (ix3 n h u) = sixteenO o16 n.val (64 * h.val + u.val) := by
  simp only [val_main_v9, val_main_v8, val_main_v3, val_main_v2]
  pointwise
  exact classRow_eq _ _ _ _ _ _ _ rfl (show n.val / 16 = n.val / 16 % 512 by omega) (show h.val * 64 + u.val = (64 * h.val + u.val) % 1024 by omega)

/-! ## The weights -/

theorem log_two : Ideal.log (Ideal.ofBits .f32 0x40000000#32) = ((Real.log 2 : ℝ) : EReal) := by
  rw [Cert.Attn.two]
  exact if_neg (by norm_num)

theorem scale1 (n : Fin 8192) (h : Fin 16) : val_main_v26 (F := Ideal) s1 s4 s16 (ix2 n h) = scale (rowS s1 n.val) (fourS s4 n.val) (sixteenS s16 n.val) (rowS s1 n.val) h.val := by
  simp only [val_main_v26, val_main_v25, val_main_v24, val_main_v23, val_main_v22, val_main_v21, val_main_v20, val_main_cst]
  pointwise
  rw [log_two, Cert.Attn.exp_log_two, tops1, tops4, tops16]
  rfl
theorem scale4 (n : Fin 8192) (h : Fin 16) : val_main_v31 (F := Ideal) s1 s4 s16 (ix2 n h) = scale (rowS s1 n.val) (fourS s4 n.val) (sixteenS s16 n.val) (fourS s4 n.val) h.val := by
  simp only [val_main_v31, val_main_v30, val_main_v29, val_main_v28, val_main_v27, val_main_v21, val_main_v20, val_main_cst_0]
  pointwise
  rw [log_two, Cert.Attn.exp_log_two, tops1, tops4, tops16]
  rfl
theorem scale16 (n : Fin 8192) (h : Fin 16) : val_main_v36 (F := Ideal) s1 s4 s16 (ix2 n h) = scale (rowS s1 n.val) (fourS s4 n.val) (sixteenS s16 n.val) (sixteenS s16 n.val) h.val := by
  simp only [val_main_v36, val_main_v35, val_main_v34, val_main_v33, val_main_v32, val_main_v21, val_main_v20, val_main_cst_1]
  pointwise
  rw [log_two, Cert.Attn.exp_log_two, tops1, tops4, tops16]
  rfl

theorem total_read (n : Fin 8192) (h : Fin 16) : val_main_v41 (F := Ideal) s1 s4 s16 (ix2 n h) = total (rowS s1 n.val) (fourS s4 n.val) (sixteenS s16 n.val) h.val := by
  simp only [val_main_v41, val_main_v40, val_main_v39, val_main_v38, val_main_v37]
  pointwise
  rw [scale1, scale4, scale16, dens1, dens4, dens16]
  rfl

theorem weighted (n : Fin 8192) (h : Fin 16) (u : Fin 64) : val_main_v57 (F := Ideal) o1 o4 o16 s1 s4 s16 (ix3 n h u)
    = weight (rowS s1 n.val) (fourS s4 n.val) (sixteenS s16 n.val) (rowS s1 n.val) h.val * rowO o1 n.val (64 * h.val + u.val)
      + weight (rowS s1 n.val) (fourS s4 n.val) (sixteenS s16 n.val) (fourS s4 n.val) h.val * fourO o4 n.val (64 * h.val + u.val)
      + weight (rowS s1 n.val) (fourS s4 n.val) (sixteenS s16 n.val) (sixteenS s16 n.val) h.val * sixteenO o16 n.val (64 * h.val + u.val) := by
  simp only [val_main_v57, val_main_v56, val_main_v55, val_main_v54, val_main_v53, val_main_v52, val_main_v51, val_main_v50, val_main_v49, val_main_v48, val_main_v47, val_main_v46, val_main_v45, val_main_v44, val_main_v43, val_main_v42, val_main_cst_2]
  pointwise
  rw [scale1, scale4, scale16, total_read, nums1, nums4, nums16]
  rfl

/-- A row's gated attention. -/
abbrev gatedRow (n : ℕ) : ℕ → EReal := mixed (rowS s1 n) (fourS s4 n) (sixteenS s16 n) (rowO o1 n) (fourO o4 n) (sixteenO o16 n) (rowO gate n)

theorem gated_read (n : Fin 8192) (j : Fin 1024) : val_main_v60 (F := Ideal) o1 o4 o16 s1 s4 s16 gate (ix2 n j) = gatedRow o1 o4 o16 s1 s4 s16 gate n.val j.val := by
  simp only [val_main_v60, val_main_v59, val_main_v58]
  pointwise
  rw [weighted]
  have e : 64 * (j.val / 64) + j.val % 64 = j.val := by omega
  have hg : gate (ix2 n j) = rowO gate n.val j.val := row_eq _ _ _ _ _ _ (Nat.mod_eq_of_lt n.isLt).symm (Nat.mod_eq_of_lt j.isLt).symm
  rw [hg]
  simp only [e]
  rfl

/-! ## The product and the norm -/

theorem beside_low (n : Fin 8192) (i : Fin 1024) : val_main_v62 (F := Ideal) o1 o4 o16 s1 s4 s16 gate y (ix2 n ⟨i.val, by omega⟩) = gatedRow o1 o4 o16 s1 s4 s16 gate n.val i.val := by
  simp only [val_main_v62, val_main_v61]
  pointwise
  rw [gated_read]

theorem beside_high (n : Fin 8192) (i : Fin 1024) : val_main_v62 (F := Ideal) o1 o4 o16 s1 s4 s16 gate y (ix2 n ⟨1024 + i.val, by omega⟩) = rowO y n.val i.val := by
  simp only [val_main_v62, val_main_v61]
  pointwise
  exact row_eq _ _ _ _ _ _ (Nat.mod_eq_of_lt n.isLt).symm (Nat.mod_eq_of_lt i.isLt).symm

theorem added_read (n : Fin 8192) (k : Fin 2048) : val_main_v65 (F := Ideal) o1 o4 o16 s1 s4 s16 gate y x W (ix2 n k)
    = added (gatedRow o1 o4 o16 s1 s4 s16 gate n.val) (rowO y n.val) (fun i k => W (ix2 i k)) (fun k => x (ix2 n k)) k := by
  simp only [val_main_v65, val_main_v64, val_main_v63]
  pointwise
  rw [sum_halves]
  unfold added
  simp only [beside_low, beside_high]

theorem result_read : val_main_v78 (F := Ideal) o1 o4 o16 s1 s4 s16 gate y x W G = resultA o1 o4 o16 s1 s4 s16 gate y x W G := by
  funext z
  obtain ⟨n, k, rfl⟩ : ∃ (n : Fin 8192) (k : Fin 2048), z = ix2 n k := ⟨_, _, eq_ix2 z⟩
  show _ = Cert.Proj.rms (added (gatedRow o1 o4 o16 s1 s4 s16 gate n.val) (rowO y n.val) (fun i k => W (ix2 i k)) (fun k => x (ix2 n k))) (fun k => G (ix1 k)) k
  unfold Cert.Proj.rms
  simp only [val_main_v78, val_main_v77, val_main_v76, val_main_v75, val_main_v74, val_main_v73, val_main_v72, val_main_v71, val_main_v70, val_main_v69, val_main_v68, val_main_v67, val_main_v66, val_main_cst_3, val_main_cst_4, val_main_cst_5]
  pointwise
  simp only [added_read]

end Cert.OutRef
-- ==== Proof.OutRun.lean ====
/-
  The output projection's reference, run: its result is `resultA` of its arguments.
-/
module

public import proofs.«01_k».proof.Proof.OutReference
public import proofs.«01_k».proof.Proof.Gen.Reference3Ideal.Run

@[expose] public section

noncomputable section

namespace Cert.OutRef

open Idealize.ShloMosaic Idealize.SL.Sem Cert.Out Cert.Reference3Ideal Cert.Reference3Ideal.Gen Cert.Reference3Ideal.Read

variable (m : (ℓ : Loc nD τ sig) → Buf (Elt Ideal) ℓ) (c : Dev nD)

/-- The reference's arguments: three attention outputs, their three statistics, the gate, the convolution's output, the
    rows the result is added to, the weights and the gain. -/
def gotO1 : Vec Ideal S8192x1024 .bf16 := m ((c.tc : Thread nD τ).loc main_arg0)
def gotO4 : Vec Ideal S4x2048x1024 .bf16 := m ((c.tc : Thread nD τ).loc main_arg1)
def gotO16 : Vec Ideal S16x512x1024 .bf16 := m ((c.tc : Thread nD τ).loc main_arg2)
def gotS1 : Vec Ideal S8192x128 .f32 := m ((c.tc : Thread nD τ).loc main_arg3)
def gotS4 : Vec Ideal S4x2048x128 .f32 := m ((c.tc : Thread nD τ).loc main_arg4)
def gotS16 : Vec Ideal S16x512x128 .f32 := m ((c.tc : Thread nD τ).loc main_arg5)
def gotGate : Vec Ideal S8192x1024 .bf16 := m ((c.tc : Thread nD τ).loc main_arg6)
def gotY : Vec Ideal S8192x1024 .bf16 := m ((c.tc : Thread nD τ).loc main_arg7)
def gotX : Vec Ideal S8192x2048 .f32 := m ((c.tc : Thread nD τ).loc main_arg8)
def gotW : Vec Ideal S2048x2048 .bf16 := m ((c.tc : Thread nD τ).loc main_arg9)
def gotG : Vec Ideal S2048 .f32 := m ((c.tc : Thread nD τ).loc main_arg10)

/-- The result the run names, as the array it is. -/
theorem end78 : Value.res_main_v78 m c = resultA (gotO1 m c) (gotO4 m c) (gotO16 m c) (gotS1 m c) (gotS4 m c) (gotS16 m c) (gotGate m c) (gotY m c) (gotX m c) (gotW m c) (gotG m c) :=
  (val_main_v78_eq m c).trans (result_read (gotO1 m c) (gotO4 m c) (gotO16 m c) (gotS1 m c) (gotS4 m c) (gotS16 m c) (gotGate m c) (gotY m c) (gotX m c) (gotW m c) (gotG m c))

/-- The run of the reference, with its result as this array. -/
theorem reference_run (ρ : Dev nD → PrngReg) :
    θ_run defs (onTc (τ := τ) (main (F := Ideal))) ⟨m, fun _ => 0, ρ⟩ fun r => ∀ c : Dev nD,
      r.2.mem ((c.tc : Thread nD τ).loc main_v78) = resultA (gotO1 m c) (gotO4 m c) (gotO16 m c) (gotS1 m c) (gotS4 m c) (gotS16 m c) (gotGate m c) (gotY m c) (gotX m c) (gotW m c) (gotG m c)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run defs _ _).mono (fun _ h c => ⟨(h c).1.trans (end78 m c), (h c).2⟩) (Value.run (F := Ideal) m ρ)

end Cert.OutRef

end
-- ==== Proof.SampleSpec.lean ====
/-
  The sampled tokens' output layer in plain terms.

  There are 32 sequences of four new tokens, 128 rows in all, and row `r` is token `r % 4` of its sequence. The gated row has
  2048 entries: the first 1024 are the attention times its gate; the others are `u` times the mixed values times the gate of
  the mixing. The mixed value of a token is a bias plus a sum over the tokens of its sequence up to itself, with weights that
  depend on the group of 128 lanes. The gated row times the weights is added to the row `x`, and the sum is divided by the
  root of its mean square and multiplied by the gains.
-/
module

public import proofs.«01_k».proof.Proof.ProjRows
public import Idealize.ShloMosaic.Lib.Pointwise

@[expose] public section

noncomputable section

namespace Cert.Sample

open Idealize.ShloMosaic

/-- Two rows of 1024 beside each other. -/
def beside (low high : Fin 1024 → EReal) (j : Fin 2048) : EReal :=
  if h : j.val < 1024 then low ⟨j.val, h⟩ else high ⟨j.val - 1024, by omega⟩

theorem beside_low (low high : Fin 1024 → EReal) (j : Fin 1024) : beside low high ⟨j.val, by omega⟩ = low j := dif_pos j.isLt
theorem beside_high (low high : Fin 1024 → EReal) (j : Fin 1024) : beside low high ⟨1024 + j.val, by omega⟩ = high j :=
  (dif_neg (show ¬ (1024 + j.val < 1024) by omega)).trans (congrArg high (Fin.ext (Nat.add_sub_cancel_left 1024 j.val)))

/-- The weight with which token `k` enters token `t`, for the group `g`: zero where `k` comes after `t`. -/
def causal (WS : FVec Ideal ⟨3, ![8, 128, 128]⟩ .f32) (g : Fin 8) (t k : Fin 4) : EReal :=
  if k.val ≤ t.val then WS (ix3 g ⟨t.val, by omega⟩ ⟨k.val, by omega⟩) else 0

/-- The token a row is. -/
def tok (r : Fin 128) : Fin 4 := ⟨r.val % 4, Nat.mod_lt _ (by decide)⟩
/-- The row of token `k` of the sequence that row `r` belongs to. -/
def rowAt (r : Fin 128) (k : Fin 4) : Fin 128 := ⟨4 * (r.val / 4) + k.val, by omega⟩
/-- The group of a lane. -/
def group (j : Fin 1024) : Fin 8 := ⟨j.val / 128, by omega⟩

/-- The mixed value of row `r`, lane `j`. -/
def mixed (vc : FVec Ideal ⟨2, ![128, 1024]⟩ .f32) (WS : FVec Ideal ⟨3, ![8, 128, 128]⟩ .f32) (BS : FVec Ideal ⟨2, ![8, 128]⟩ .f32) (r : Fin 128) (j : Fin 1024) : EReal :=
  ∑ k : Fin 4, vc (ix2 (rowAt r k) j) * causal WS (group j) (tok r) k + BS (ix2 (group j) ⟨(tok r).val, by omega⟩)

/-- The gated row. -/
def gated (oa ga u vc gb : FVec Ideal ⟨2, ![128, 1024]⟩ .f32) (WS : FVec Ideal ⟨3, ![8, 128, 128]⟩ .f32) (BS : FVec Ideal ⟨2, ![8, 128]⟩ .f32) (r : Fin 128) : Fin 2048 → EReal :=
  beside (fun j => oa (ix2 r j) * ga (ix2 r j)) fun j => u (ix2 r j) * mixed vc WS BS r j * gb (ix2 r j)

/-- The result. -/
def resultA (oa ga u vc gb : FVec Ideal ⟨2, ![128, 1024]⟩ .f32) (x : FVec Ideal ⟨2, ![128, 2048]⟩ .f32) (W : FVec Ideal ⟨2, ![2048, 2048]⟩ .f32)
    (WS : FVec Ideal ⟨3, ![8, 128, 128]⟩ .f32) (BS : FVec Ideal ⟨2, ![8, 128]⟩ .f32) (G : FVec Ideal ⟨1, ![2048]⟩ .f32) : FVec Ideal ⟨2, ![128, 2048]⟩ .f32 := fun z =>
  Cert.Proj.rms (fun k => x (ix2 (z 0) k) + ∑ j : Fin 2048, gated oa ga u vc gb WS BS (z 0) j * W (ix2 j k)) (fun k => G (ix1 k)) (z 1)

/-- A sum over 2048 terms, 512 at a time. -/
theorem sum_quarters (f : Fin 2048 → EReal) :
    ∑ j, f j = ∑ k : Fin 512, f ⟨k.val, by omega⟩ + ∑ k : Fin 512, f ⟨512 + k.val, by omega⟩ + ∑ k : Fin 512, f ⟨1024 + k.val, by omega⟩ + ∑ k : Fin 512, f ⟨1536 + k.val, by omega⟩ := by
  rw [Fin.sum_univ_add (a := 1536) (b := 512) f, Fin.sum_univ_add (a := 1024) (b := 512) fun i => f (Fin.castAdd 512 i),
    Fin.sum_univ_add (a := 512) (b := 512) fun i => f (Fin.castAdd 512 (Fin.castAdd 512 i))]
  rfl

end Cert.Sample
-- ==== Proof.SampleBlock.lean ====
/-
  The body of the sampled tokens' output layer, one grid point: what it stores, from what it reads.

  The first of the four points lays the gated rows into one scratch array and the rows `x` into the other; every point adds to
  the latter the product of 512 columns of the gated rows with its 512 rows of weights; the last one stores the result.
-/
module

public import proofs.«01_k».proof.Proof.SampleSpec
public import proofs.«01_k».proof.Proof.OutBlock
public import proofs.«01_k».proof.Proof.Gen.Kernel4Ideal.Frame
public import Idealize.ShloMosaic.Lib.Pointwise
public import Idealize.ShloMosaic.Lib.Writes

@[expose] public section

set_option maxRecDepth 65536

noncomputable section

namespace Cert.Sample

open Idealize.ShloMosaic Idealize.ShloMosaic.TcCoe Idealize.SL.Sem
open Cert.Kernel4Ideal Cert.Kernel4Ideal.Gen

/-! ## The sums a point makes -/

/-- The row `d` before the row `r`, going round. -/
def back (d : ℕ) (r : Fin 128) : Fin 128 := ⟨(r.val + 128 - d) % 128, Nat.mod_lt _ (by decide)⟩

/-- The mixed value from a table of coefficients, one for each distance. -/
def mixedT (x3 : Vec Ideal S128x1024 .f32) (x7 : Vec Ideal S4x128x1024 .f32) (x8 : Vec Ideal S128x1024 .f32) (r : Fin 128) (j : Fin 1024) : EReal :=
  x8 (ix2 r j) + x7 (ix3 0 r j) * x3 (ix2 r j) + x7 (ix3 1 r j) * x3 (ix2 (back 1 r) j) + x7 (ix3 2 r j) * x3 (ix2 (back 2 r) j) + x7 (ix3 3 r j) * x3 (ix2 (back 3 r) j)

theorem pay6_apply (a b : Vec Ideal S128x1024 .f32) (r : Fin 128) (j : Fin 1024) : k0_pay6 (F := Ideal) a b (ix2 r j) = a (ix2 r j) * b (ix2 r j) := by
  unfold k0_pay6
  pointwise

theorem pay1_apply (a b : Vec Ideal S128x1024 .f32) (r : Fin 128) (j : Fin 1024) : k0_pay1 (F := Ideal) a b (ix2 r j) = a (ix2 r j) * b (ix2 r j) := by
  unfold k0_pay1
  pointwise

theorem pay7_apply (v b : Vec Ideal S128x1024 .f32) (c0 c1 c2 c3 : Vec Ideal S1x128x1024 .f32) (u : Vec Ideal S128x1024 .f32) (r : Fin 128) (j : Fin 1024) :
    k0_pay7 (F := Ideal) v b c0 c1 c2 c3 u (ix2 r j) = u (ix2 r j) * (b (ix2 r j) + c0 (ix3 0 r j) * v (ix2 r j) + c1 (ix3 0 r j) * v (ix2 (back 1 r) j) + c2 (ix3 0 r j) * v (ix2 (back 2 r) j) + c3 (ix3 0 r j) * v (ix2 (back 3 r) j)) := by
  unfold k0_pay7
  pointwise
  rfl

theorem pay4_apply (w : Vec Ideal S512x2048 .f32) (a : Vec Ideal S128x2048 .f32) (z : Vec Ideal S128x512 .bf16) (r : Fin 128) (k : Fin 2048) :
    k0_pay4 (F := Ideal) w a z (ix2 r k) = a (ix2 r k) + ∑ i : Fin 512, z (ix2 r i) * w (ix2 i k) := by
  unfold k0_pay4 k0_pay3
  pointwise

theorem pay5_apply (x : Vec Ideal S128x2048 .f32) (g : Vec Ideal S1x2048 .f32) (r : Fin 128) (k : Fin 2048) :
    k0_pay5 (F := Ideal) x g (ix2 r k) = Cert.Proj.rms (fun j => x (ix2 r j)) (fun j => g (ix2 0 j)) k := by
  unfold k0_pay5 Cert.Proj.rms
  pointwise

/-! ## What is read and written where -/

/-- What a load reads from the block `x`. -/
abbrev ld {s : Shape} {e : EltTy} (a : Memref sig .tc .vmem s e) (ha : a.IsWhole) (x : Vec Ideal s e) (r : LoadRect s) : r.shape.Idx → Elt Ideal e :=
  View.readAt (Elt Ideal) a.view r (ha.unread x)

theorem ld_apply {s : Shape} {e : EltTy} (a : Memref sig .tc .vmem s e) (ha : a.IsWhole) (x : Vec Ideal s e) (r : Rect s) (i : r.shape.Idx) :
    ld a ha x r.toLoadRect i = x (r.emb i) := by
  unfold ld
  rw [View.readAt_eq_ld, ha.read_unread]
  rfl

/-- A load from an array of agreeing pieces, at a place one of them covers. -/
theorem read_back {s : Shape} {e : EltTy} (G : s.Idx → Elt Ideal e) (L : List (View.Piece (Elt Ideal) s e)) (M : Memref sig .tc .vmem s e) (hL : Cert.Out.Agrees G L) (B : LoadRect s) (j : B.shape.Idx)
    (p : View.Piece (Elt Ideal) s e) (hp : p ∈ L) (x : p.1.shape.Idx) (hx : ∀ a, (p.1.emb x a).val = (B.idx j a).val) : M.view.readCov L B j = G (B.idx j) := by
  have he : p.1.emb x = B.idx j := funext fun a => Fin.ext (hx a)
  rw [View.readCov_eq_canon']
  exact View.canon_apply_of_pieces G L hL _ ⟨p, hp, he ▸ p.1.idx_mem x⟩

theorem inWhole1 : ∀ a, (![0, 0] : Fin 2 → ℕ) a + S128x1024.size a ≤ S128x1024.size a := by decide
theorem inWhole2 : ∀ a, (![0, 0] : Fin 2 → ℕ) a + S128x2048.size a ≤ S128x2048.size a := by decide
theorem inWeights : ∀ a, (![0, 0] : Fin 2 → ℕ) a + S512x2048.size a ≤ S512x2048.size a := by decide
theorem inGain : ∀ a, (![0, 0] : Fin 2 → ℕ) a + S1x2048.size a ≤ S1x2048.size a := by decide
theorem inLow : ∀ a, (![0, 0] : Fin 2 → ℕ) a + S128x1024.size a ≤ S128x2048.size a := by decide
theorem inHigh : ∀ a, (![0, 1024] : Fin 2 → ℕ) a + S128x1024.size a ≤ S128x2048.size a := by decide
theorem inCoef (d : Fin 4) : ∀ a, (![d.val, 0, 0] : Fin 3 → ℕ) a + S1x128x1024.size a ≤ S4x128x1024.size a :=
  Fin.forall_fin_succ.2 ⟨show d.val + 1 ≤ 4 by omega, Fin.forall_fin_two.2 ⟨show 0 + 128 ≤ 128 by omega, show 0 + 1024 ≤ 1024 by omega⟩⟩

def half1R : Rect S128x1024 := Rect.unit (s := S128x1024) ![0, 0] S128x1024.size inWhole1
def wholeR : Rect S128x2048 := Rect.unit (s := S128x2048) ![0, 0] S128x2048.size inWhole2
def weightsR : Rect S512x2048 := Rect.unit (s := S512x2048) ![0, 0] S512x2048.size inWeights
def gainR : Rect S1x2048 := Rect.unit (s := S1x2048) ![0, 0] S1x2048.size inGain
def lowR : Rect S128x2048 := Rect.unit (s := S128x2048) ![0, 0] S128x1024.size inLow
def highR : Rect S128x2048 := Rect.unit (s := S128x2048) ![0, 1024] S128x1024.size inHigh
def coefR (d : Fin 4) : Rect S4x128x1024 := Rect.unit (s := S4x128x1024) ![d.val, 0, 0] S1x128x1024.size (inCoef d)
/-- A point's 512 columns. -/
def columnsR (i : grid0.Coords) : Rect S128x2048 := Rect.unit (s := S128x2048) (k0_off1 i) S128x512.size (k0_off1_inb i)

section
variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x2048 .f32) (harg6 : arg6.IsWhole) (arg7 : Memref sig .tc .vmem S512x2048 .f32) (harg7 : arg7.IsWhole) (arg8 : Memref sig .tc .vmem S4x128x1024 .f32) (harg8 : arg8.IsWhole) (arg9 : Memref sig .tc .vmem S128x1024 .f32) (harg9 : arg9.IsWhole) (arg10 : Memref sig .tc .vmem S1x2048 .f32) (harg10 : arg10.IsWhole) (arg11 : Memref sig .tc .vmem S128x2048 .f32) (harg11 : arg11.IsWhole) (arg12 : Memref sig .tc .vmem S512x2048 .bf16) (harg12 : arg12.IsWhole) (arg13 : Memref sig .tc .vmem S128x2048 .bf16) (harg13 : arg13.IsWhole) (arg14 : Memref sig .tc .vmem S128x2048 .f32) (harg14 : arg14.IsWhole)
  (x0 : Vec Ideal S128x1024 .f32) (x1 : Vec Ideal S128x1024 .f32) (x2 : Vec Ideal S128x1024 .f32) (x3 : Vec Ideal S128x1024 .f32) (x4 : Vec Ideal S128x1024 .f32) (x5 : Vec Ideal S128x2048 .f32) (x6 : Vec Ideal S512x2048 .f32) (x7 : Vec Ideal S4x128x1024 .f32) (x8 : Vec Ideal S128x1024 .f32) (x9 : Vec Ideal S1x2048 .f32) (xs0 : Vec Ideal S128x2048 .bf16) (xs1 : Vec Ideal S128x2048 .f32)

/-- The gated rows' two halves. -/
def halves : List (View.Piece (Elt Ideal) S128x2048 .bf16) :=
  [⟨highR, k0_pay1 (F := Ideal) (k0_pay7 (F := Ideal) (ld arg4 harg4 x3 half1R.toLoadRect) (ld arg9 harg9 x8 half1R.toLoadRect) (ld arg8 harg8 x7 (coefR 0).toLoadRect) (ld arg8 harg8 x7 (coefR 1).toLoadRect) (ld arg8 harg8 x7 (coefR 2).toLoadRect) (ld arg8 harg8 x7 (coefR 3).toLoadRect) (ld arg3 harg3 x2 half1R.toLoadRect)) (ld arg5 harg5 x4 half1R.toLoadRect)⟩,
   ⟨lowR, k0_pay6 (F := Ideal) (ld arg1 harg1 x0 half1R.toLoadRect) (ld arg2 harg2 x1 half1R.toLoadRect)⟩]

set_option maxHeartbeats 8000000 in
theorem storesA0 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1
    = halves arg1 harg1 arg2 harg2 arg3 harg3 arg4 harg4 arg5 harg5 arg8 harg8 arg9 harg9 x0 x1 x2 x3 x4 x7 x8 := rfl

def started : List (View.Piece (Elt Ideal) S128x2048 .f32) := [⟨wholeR, k0_pay2 (F := Ideal) (ld arg6 harg6 x5 wholeR.toLoadRect)⟩]

set_option maxHeartbeats 8000000 in
theorem storesA1 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.2.1
    = ⟨wholeR, k0_pay4 (F := Ideal) (ld arg7 harg7 x6 weightsR.toLoadRect) (arg14.view.readCov (started arg6 harg6 x5) wholeR.toLoadRect)
        (arg13.view.readCov (halves arg1 harg1 arg2 harg2 arg3 harg3 arg4 harg4 arg5 harg5 arg8 harg8 arg9 harg9 x0 x1 x2 x3 x4 x7 x8) (columnsR i).toLoadRect)⟩ :: started arg6 harg6 x5 := rfl

/-- A later point's sum. -/
def addedTo : List (View.Piece (Elt Ideal) S128x2048 .f32) :=
  [⟨wholeR, k0_pay4 (F := Ideal) (ld arg7 harg7 x6 weightsR.toLoadRect) (ld arg14 harg14 xs1 wholeR.toLoadRect) (ld arg13 harg13 xs0 (columnsR i).toLoadRect)⟩]

set_option maxHeartbeats 8000000 in
theorem storesB1 (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.2.1
    = addedTo i arg7 harg7 arg13 harg13 arg14 harg14 x6 xs0 xs1 := rfl

set_option maxHeartbeats 8000000 in
theorem storesC10 (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1
    = [⟨wholeR, k0_pay5 (F := Ideal) (arg14.view.readCov (addedTo i arg7 harg7 arg13 harg13 arg14 harg14 x6 xs0 xs1) wholeR.toLoadRect) (ld arg10 harg10 x9 gainR.toLoadRect)⟩] := rfl

set_option maxHeartbeats 8000000 in
theorem storesA11 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1 = [⟨weightsR, k0_pay3 (F := Ideal) (ld arg7 harg7 x6 weightsR.toLoadRect)⟩] := rfl
set_option maxHeartbeats 8000000 in
theorem storesB11 (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1 = [⟨weightsR, k0_pay3 (F := Ideal) (ld arg7 harg7 x6 weightsR.toLoadRect)⟩] := rfl
set_option maxHeartbeats 8000000 in
theorem storesC11 (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1 = [⟨weightsR, k0_pay3 (F := Ideal) (ld arg7 harg7 x6 weightsR.toLoadRect)⟩] := rfl

end

end Cert.Sample
-- ==== Proof.SampleTile.lean ====
/-
  What the stores of one grid point of the sampled tokens' output layer hold, entry by entry.
-/
module

public import proofs.«01_k».proof.Proof.SampleBlock

@[expose] public section

set_option maxRecDepth 65536

noncomputable section

namespace Cert.Sample

open Idealize.ShloMosaic Idealize.ShloMosaic.TcCoe Idealize.SL.Sem
open Cert.Kernel4Ideal Cert.Kernel4Ideal.Gen

/-! ## The places -/

theorem half1_emb (r : Fin 128) (j : Fin 1024) : half1R.emb (ix2 r j) = (ix2 r j : S128x1024.Idx) :=
  Rect.emb_eq_of_coords _ _ _ fun a => by fin_cases a <;> simp [half1R]
theorem whole_emb (r : Fin 128) (k : Fin 2048) : wholeR.emb (ix2 r k) = (ix2 r k : S128x2048.Idx) :=
  Rect.emb_eq_of_coords _ _ _ fun a => by fin_cases a <;> simp [wholeR]
theorem weights_emb (r : Fin 512) (k : Fin 2048) : weightsR.emb (ix2 r k) = (ix2 r k : S512x2048.Idx) :=
  Rect.emb_eq_of_coords _ _ _ fun a => by fin_cases a <;> simp [weightsR]
theorem gain_emb (k : Fin 2048) : gainR.emb (ix2 0 k) = (ix2 0 k : S1x2048.Idx) :=
  Rect.emb_eq_of_coords _ _ _ fun a => by fin_cases a <;> simp [gainR]
theorem low_emb (r : Fin 128) (j : Fin 1024) : lowR.emb (ix2 r j) = (ix2 r ⟨j.val, by omega⟩ : S128x2048.Idx) :=
  Rect.emb_eq_of_coords _ _ _ fun a => by fin_cases a <;> simp [lowR]
theorem high_emb (r : Fin 128) (j : Fin 1024) : highR.emb (ix2 r j) = (ix2 r ⟨1024 + j.val, by omega⟩ : S128x2048.Idx) :=
  Rect.emb_eq_of_coords _ _ _ fun a => by fin_cases a <;> simp [highR]
theorem coef_emb (d : Fin 4) (r : Fin 128) (j : Fin 1024) : (coefR d).emb (ix3 0 r j) = (ix3 d r j : S4x128x1024.Idx) :=
  Rect.emb_eq_of_coords _ _ _ fun a => by fin_cases a <;> simp [coefR]
theorem columns_emb (i : grid0.Coords) (p : ℕ) (hp : p < 4) (ho : k0_off1 i = ![0, 512 * p]) (r : Fin 128) (k : Fin 512) :
    (columnsR i).emb (ix2 r k) = (ix2 r ⟨512 * p + k.val, by omega⟩ : S128x2048.Idx) := by
  refine Rect.emb_eq_of_coords _ _ _ fun a => ?_
  unfold columnsR
  fin_cases a <;> simp [ho]

theorem ld_half (a : Memref sig .tc .vmem S128x1024 .f32) (ha : a.IsWhole) (x : Vec Ideal S128x1024 .f32) (r : Fin 128) (j : Fin 1024) : ld a ha x half1R.toLoadRect (ix2 r j) = x (ix2 r j) :=
  (ld_apply a ha x half1R _).trans (congrArg x (half1_emb r j))
theorem ld_whole (a : Memref sig .tc .vmem S128x2048 .f32) (ha : a.IsWhole) (x : Vec Ideal S128x2048 .f32) (r : Fin 128) (j : Fin 2048) : ld a ha x wholeR.toLoadRect (ix2 r j) = x (ix2 r j) :=
  (ld_apply a ha x wholeR _).trans (congrArg x (whole_emb r j))
theorem ld_weights (a : Memref sig .tc .vmem S512x2048 .f32) (ha : a.IsWhole) (x : Vec Ideal S512x2048 .f32) (r : Fin 512) (j : Fin 2048) : ld a ha x weightsR.toLoadRect (ix2 r j) = x (ix2 r j) :=
  (ld_apply a ha x weightsR _).trans (congrArg x (weights_emb r j))
theorem ld_gain (a : Memref sig .tc .vmem S1x2048 .f32) (ha : a.IsWhole) (x : Vec Ideal S1x2048 .f32) (j : Fin 2048) : ld a ha x gainR.toLoadRect (ix2 0 j) = x (ix2 0 j) :=
  (ld_apply a ha x gainR _).trans (congrArg x (gain_emb j))
theorem ld_coef (a : Memref sig .tc .vmem S4x128x1024 .f32) (ha : a.IsWhole) (x : Vec Ideal S4x128x1024 .f32) (d : Fin 4) (r : Fin 128) (j : Fin 1024) : ld a ha x (coefR d).toLoadRect (ix3 0 r j) = x (ix3 d r j) :=
  (ld_apply a ha x (coefR d) _).trans (congrArg x (coef_emb d r j))
theorem ld_columns (a : Memref sig .tc .vmem S128x2048 .bf16) (ha : a.IsWhole) (x : Vec Ideal S128x2048 .bf16) (i : grid0.Coords) (p : ℕ) (hp : p < 4) (ho : k0_off1 i = ![0, 512 * p]) (r : Fin 128) (k : Fin 512) :
    ld a ha x (columnsR i).toLoadRect (ix2 r k) = x (ix2 r ⟨512 * p + k.val, by omega⟩) :=
  (ld_apply a ha x (columnsR i) _).trans (congrArg x (columns_emb i p hp ho r k))

section
variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x2048 .f32) (harg6 : arg6.IsWhole) (arg7 : Memref sig .tc .vmem S512x2048 .f32) (harg7 : arg7.IsWhole) (arg8 : Memref sig .tc .vmem S4x128x1024 .f32) (harg8 : arg8.IsWhole) (arg9 : Memref sig .tc .vmem S128x1024 .f32) (harg9 : arg9.IsWhole) (arg10 : Memref sig .tc .vmem S1x2048 .f32) (harg10 : arg10.IsWhole) (arg11 : Memref sig .tc .vmem S128x2048 .f32) (harg11 : arg11.IsWhole) (arg12 : Memref sig .tc .vmem S512x2048 .bf16) (harg12 : arg12.IsWhole) (arg13 : Memref sig .tc .vmem S128x2048 .bf16) (harg13 : arg13.IsWhole) (arg14 : Memref sig .tc .vmem S128x2048 .f32) (harg14 : arg14.IsWhole)
  (x0 : Vec Ideal S128x1024 .f32) (x1 : Vec Ideal S128x1024 .f32) (x2 : Vec Ideal S128x1024 .f32) (x3 : Vec Ideal S128x1024 .f32) (x4 : Vec Ideal S128x1024 .f32) (x5 : Vec Ideal S128x2048 .f32) (x6 : Vec Ideal S512x2048 .f32) (x7 : Vec Ideal S4x128x1024 .f32) (x8 : Vec Ideal S128x1024 .f32) (x9 : Vec Ideal S1x2048 .f32) (xs0 : Vec Ideal S128x2048 .bf16) (xs1 : Vec Ideal S128x2048 .f32)

/-! ## The scratch arrays -/

/-- The gated rows. -/
def gatedT : Vec Ideal S128x2048 .bf16 := fun y =>
  beside (fun j => x0 (ix2 (y 0) j) * x1 (ix2 (y 0) j)) (fun j => x2 (ix2 (y 0) j) * mixedT x3 x7 x8 (y 0) j * x4 (ix2 (y 0) j)) (y 1)

theorem halves_agree : Cert.Out.Agrees (gatedT x0 x1 x2 x3 x4 x7 x8) (halves arg1 harg1 arg2 harg2 arg3 harg3 arg4 harg4 arg5 harg5 arg8 harg8 arg9 harg9 x0 x1 x2 x3 x4 x7 x8) := by
  intro p hp
  rcases List.mem_cons.1 hp with rfl | hp
  · intro x
    obtain ⟨r, j, rfl⟩ : ∃ (r : Fin 128) (j : Fin 1024), x = ix2 r j := ⟨_, _, eq_ix2 x⟩
    refine ((pay1_apply _ _ r j).trans (congrArg₂ (fun a b : EReal => a * b) ((pay7_apply _ _ _ _ _ _ _ r j).trans (congrArg₂ (fun a b : EReal => a * b) (ld_half _ _ _ r j) ?_)) (ld_half _ _ _ r j))).trans
      ((beside_high (fun j => x0 (ix2 r j) * x1 (ix2 r j)) (fun j => x2 (ix2 r j) * mixedT x3 x7 x8 r j * x4 (ix2 r j)) j).symm.trans (congrArg (gatedT x0 x1 x2 x3 x4 x7 x8) (high_emb r j)).symm)
    unfold mixedT
    exact congrArg₂ (fun a b : EReal => a + b) (congrArg₂ (fun a b : EReal => a + b) (congrArg₂ (fun a b : EReal => a + b) (congrArg₂ (fun a b : EReal => a + b) (ld_half _ _ _ r j)
      (congrArg₂ (fun a b : EReal => a * b) (ld_coef _ _ _ 0 r j) (ld_half _ _ _ r j)))
      (congrArg₂ (fun a b : EReal => a * b) (ld_coef _ _ _ 1 r j) (ld_half _ _ _ (back 1 r) j)))
      (congrArg₂ (fun a b : EReal => a * b) (ld_coef _ _ _ 2 r j) (ld_half _ _ _ (back 2 r) j)))
      (congrArg₂ (fun a b : EReal => a * b) (ld_coef _ _ _ 3 r j) (ld_half _ _ _ (back 3 r) j))
  · obtain rfl := List.mem_singleton.1 hp
    intro x
    obtain ⟨r, j, rfl⟩ : ∃ (r : Fin 128) (j : Fin 1024), x = ix2 r j := ⟨_, _, eq_ix2 x⟩
    exact ((pay6_apply _ _ r j).trans (congrArg₂ (fun a b : EReal => a * b) (ld_half _ _ _ r j) (ld_half _ _ _ r j))).trans
      ((beside_low (fun j => x0 (ix2 r j) * x1 (ix2 r j)) (fun j => x2 (ix2 r j) * mixedT x3 x7 x8 r j * x4 (ix2 r j)) j).symm.trans (congrArg (gatedT x0 x1 x2 x3 x4 x7 x8) (low_emb r j)).symm)

theorem gated_stored (hc0 : cond0_0 i) (hc1 : ¬cond0_1 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = gatedT x0 x1 x2 x3 x4 x7 x8 := by
  funext y
  unfold sout0_A_0
  refine View.read_writes_apply_of_pieces VS0_0 _ _ _ ?_ y (scover0_A_0 ..)
  rw [storesA0]
  exact fun p hp => halves_agree _ _ _ _ _ _ _ _ _ _ _ _ _ _ _ _ _ _ _ _ _ p hp

/-- A point's part of the product: 512 columns of the rows `A` with its rows of weights. -/
def partT (A : Vec Ideal S128x2048 .bf16) (w : Vec Ideal S512x2048 .f32) (p : ℕ) (hp : p < 4) : Vec Ideal S128x2048 .f32 := fun y =>
  ∑ k : Fin 512, A (ix2 (y 0) ⟨512 * p + k.val, by omega⟩) * w (ix2 k (y 1))

theorem halves_read (p : ℕ) (hp : p < 4) (ho : k0_off1 i = ![0, 512 * p]) (r : Fin 128) (k : Fin 512) :
    arg13.view.readCov (halves arg1 harg1 arg2 harg2 arg3 harg3 arg4 harg4 arg5 harg5 arg8 harg8 arg9 harg9 x0 x1 x2 x3 x4 x7 x8) (columnsR i).toLoadRect (ix2 r k)
      = gatedT x0 x1 x2 x3 x4 x7 x8 (ix2 r ⟨512 * p + k.val, by omega⟩) := by
  have he := columns_emb i p hp ho r k
  have ha := halves_agree arg1 harg1 arg2 harg2 arg3 harg3 arg4 harg4 arg5 harg5 arg8 harg8 arg9 harg9 x0 x1 x2 x3 x4 x7 x8
  by_cases h : p < 2
  · refine (read_back _ _ arg13 ha (columnsR i).toLoadRect (ix2 r k) _ (List.mem_cons_of_mem _ List.mem_cons_self) (ix2 r ⟨512 * p + k.val, by omega⟩) fun a => ?_).trans (congrArg _ he)
    rw [show (columnsR i).toLoadRect.idx (ix2 r k) = _ from he]
    exact congrArg (fun z : S128x2048.Idx => (z a).val) (low_emb r ⟨512 * p + k.val, by omega⟩)
  · refine (read_back _ _ arg13 ha (columnsR i).toLoadRect (ix2 r k) _ List.mem_cons_self (ix2 r ⟨512 * p + k.val - 1024, by omega⟩) fun a => ?_).trans (congrArg _ he)
    rw [show (columnsR i).toLoadRect.idx (ix2 r k) = _ from he]
    refine (congrArg (fun z : S128x2048.Idx => (z a).val) (high_emb r ⟨512 * p + k.val - 1024, by omega⟩)).trans ?_
    fin_cases a
    · rfl
    · show 1024 + (512 * p + k.val - 1024) = 512 * p + k.val
      omega

theorem started_read (r : Fin 128) (k : Fin 2048) : arg14.view.readCov (started arg6 harg6 x5) wholeR.toLoadRect (ix2 r k) = x5 (ix2 r k) := by
  refine (read_back (s := S128x2048) x5 _ arg14 (fun p hp x => ?_) wholeR.toLoadRect (ix2 r k) _ List.mem_cons_self (ix2 r k) fun a => rfl).trans (congrArg x5 (whole_emb r k))
  obtain rfl := List.mem_singleton.1 hp
  obtain ⟨r, k, rfl⟩ : ∃ (r : Fin 128) (k : Fin 2048), x = ix2 r k := ⟨_, _, eq_ix2 x⟩
  unfold k0_pay2
  pointwise
  exact ld_apply arg6 harg6 x5 wholeR _

theorem sum_started (hc0 : cond0_0 i) (hc1 : ¬cond0_1 i) (p : ℕ) (hp : p < 4) (ho : k0_off1 i = ![0, 512 * p]) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = fun y => x5 y + partT (gatedT x0 x1 x2 x3 x4 x7 x8) x6 p hp y := by
  funext y
  obtain ⟨r, k, rfl⟩ : ∃ (r : Fin 128) (k : Fin 2048), y = ix2 r k := ⟨_, _, eq_ix2 y⟩
  unfold sout0_A_1
  rw [storesA1]
  refine (View.read_writes_cons_hit VS0_1 _ wholeR _ _ (ix2 r k) _ (whole_emb r k)).trans ?_
  refine (pay4_apply _ _ _ r k).trans ?_
  rw [started_read]
  unfold partT
  refine congrArg _ (Finset.sum_congr rfl fun n _ => ?_)
  rw [halves_read i arg1 harg1 arg2 harg2 arg3 harg3 arg4 harg4 arg5 harg5 arg8 harg8 arg9 harg9 arg13 x0 x1 x2 x3 x4 x7 x8 p hp ho, ld_weights]
  rfl

theorem added_entry (p : ℕ) (hp : p < 4) (ho : k0_off1 i = ![0, 512 * p]) (r : Fin 128) (k : Fin 2048) :
    k0_pay4 (F := Ideal) (ld arg7 harg7 x6 weightsR.toLoadRect) (ld arg14 harg14 xs1 wholeR.toLoadRect) (ld arg13 harg13 xs0 (columnsR i).toLoadRect) (ix2 r k)
      = xs1 (ix2 r k) + partT xs0 x6 p hp (ix2 r k) := by
  refine (pay4_apply _ _ _ r k).trans ?_
  rw [ld_whole]
  unfold partT
  refine congrArg _ (Finset.sum_congr rfl fun n _ => ?_)
  rw [ld_weights, ld_columns _ _ _ i p hp ho]
  rfl

theorem sum_added (hc0 : ¬cond0_0 i) (hc1 : ¬cond0_1 i) (p : ℕ) (hp : p < 4) (ho : k0_off1 i = ![0, 512 * p]) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = fun y => xs1 y + partT xs0 x6 p hp y := by
  funext y
  obtain ⟨r, k, rfl⟩ : ∃ (r : Fin 128) (k : Fin 2048), y = ix2 r k := ⟨_, _, eq_ix2 y⟩
  unfold sout0_B_1
  rw [storesB1]
  exact (View.read_writes_cons_hit VS0_1 _ wholeR _ _ (ix2 r k) _ (whole_emb r k)).trans (added_entry i arg7 harg7 arg13 harg13 arg14 harg14 x6 xs0 xs1 p hp ho r k)

/-! ## The results -/

theorem result_stored (hc0 : ¬cond0_0 i) (hc1 : cond0_1 i) (p : ℕ) (hp : p < 4) (ho : k0_off1 i = ![0, 512 * p]) (r : Fin 128) (k : Fin 2048) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 (ix2 r k)
      = Cert.Proj.rms (fun j => xs1 (ix2 r j) + partT xs0 x6 p hp (ix2 r j)) (fun j => x9 (ix2 0 j)) k := by
  unfold out0_C_10
  rw [storesC10]
  refine (View.read_writes_cons_hit VO0_10 _ wholeR _ _ (ix2 r k) _ (whole_emb r k)).trans ?_
  refine (pay5_apply _ _ r k).trans ?_
  refine congrArg₂ (fun a b => Cert.Proj.rms a b k) (funext fun j => ?_) (funext fun j => ?_)
  · refine (read_back (s := S128x2048) (fun y => xs1 y + partT xs0 x6 p hp y) _ arg14 (fun q hq x => ?_) wholeR.toLoadRect (ix2 r j) _ List.mem_cons_self (ix2 r j) fun a => rfl).trans
      (congrArg (fun y => xs1 y + partT xs0 x6 p hp y) (whole_emb r j))
    obtain rfl := List.mem_singleton.1 hq
    obtain ⟨r, k, rfl⟩ : ∃ (r : Fin 128) (k : Fin 2048), x = ix2 r k := ⟨_, _, eq_ix2 x⟩
    refine (added_entry i arg7 harg7 arg13 harg13 arg14 harg14 x6 xs0 xs1 p hp ho r k).trans ?_
    exact (congrArg (fun y => xs1 y + partT xs0 x6 p hp y) (whole_emb r k)).symm
  · exact ld_gain ..

theorem weights_entry (f : VO0_11.ty.Contents (Elt Ideal)) (r : Fin 512) (k : Fin 2048) :
    VO0_11.read (Elt Ideal) (VO0_11.writes (Elt Ideal) f [⟨weightsR, k0_pay3 (F := Ideal) (ld arg7 harg7 x6 weightsR.toLoadRect)⟩]) (ix2 r k) = x6 (ix2 r k) := by
  refine (View.read_writes_cons_hit VO0_11 _ weightsR _ _ (ix2 r k) _ (weights_emb r k)).trans ?_
  unfold k0_pay3
  pointwise
  exact ld_weights ..

theorem weightsA (hc0 : cond0_0 i) (hc1 : ¬cond0_1 i) (r : Fin 512) (k : Fin 2048) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 (ix2 r k) = x6 (ix2 r k) := by
  unfold out0_A_11
  rw [storesA11]
  exact weights_entry ..
theorem weightsB (hc0 : ¬cond0_0 i) (hc1 : ¬cond0_1 i) (r : Fin 512) (k : Fin 2048) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 (ix2 r k) = x6 (ix2 r k) := by
  unfold out0_B_11
  rw [storesB11]
  exact weights_entry ..
theorem weightsC (hc0 : ¬cond0_0 i) (hc1 : cond0_1 i) (r : Fin 512) (k : Fin 2048) : out0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 (ix2 r k) = x6 (ix2 r k) := by
  unfold out0_C_11
  rw [storesC11]
  exact weights_entry ..

end

end Cert.Sample
-- ==== Proof.SampleMix.lean ====
/-
  The mixing: the sum over the distances between two tokens, which the kernel makes, is the sum over the tokens.
-/
module

public import proofs.«01_k».proof.Proof.SampleBlock
public import Mathlib.Tactic.Abel

@[expose] public section

noncomputable section

namespace Cert.Sample

open Idealize.ShloMosaic Idealize.ShloMosaic.TcCoe Idealize.SL.Sem
open Cert.Kernel4Ideal Cert.Kernel4Ideal.Gen

/-- What lies at the distance `d` before the token `t`. -/
def atDistance (f : Fin 4 → EReal) (t : Fin 4) (d : ℕ) : EReal := if d ≤ t.val then f ⟨t.val - d, by omega⟩ else 0

/-- The sum over the distances is the sum over the tokens. -/
theorem sum_distances (f : Fin 4 → EReal) (b : EReal) (t : Fin 4) :
    b + atDistance f t 0 + atDistance f t 1 + atDistance f t 2 + atDistance f t 3 = (∑ k : Fin 4, if k.val ≤ t.val then f k else 0) + b := by
  rw [Fin.sum_univ_four]
  unfold atDistance
  fin_cases t <;> simp <;> abel

variable (x3 : Vec Ideal S128x1024 .f32) (x7 : Vec Ideal S4x128x1024 .f32) (x8 : Vec Ideal S128x1024 .f32) (WS : Vec Ideal S8x128x128 .f32) (BS : Vec Ideal S8x128 .f32)

theorem mixedT_eq (h7 : ∀ (d : Fin 4) (r : Fin 128) (j : Fin 1024), x7 (ix3 d r j) = if h : d.val ≤ (tok r).val then WS (ix3 (group j) ⟨(tok r).val, by omega⟩ ⟨(tok r).val - d.val, by omega⟩) else 0)
    (h8 : ∀ (r : Fin 128) (j : Fin 1024), x8 (ix2 r j) = BS (ix2 (group j) ⟨(tok r).val, by omega⟩)) (r : Fin 128) (j : Fin 1024) :
    mixedT x3 x7 x8 r j = mixed x3 WS BS r j := by
  have term : ∀ d : Fin 4, x7 (ix3 d r j) * x3 (ix2 (back d.val r) j)
      = atDistance (fun k => x3 (ix2 (rowAt r k) j) * WS (ix3 (group j) ⟨(tok r).val, by omega⟩ ⟨k.val, by omega⟩)) (tok r) d.val := by
    intro d
    rw [h7]
    unfold atDistance
    by_cases h : d.val ≤ (tok r).val
    · rw [dif_pos h, if_pos h, mul_comm]
      have e : back d.val r = rowAt r ⟨(tok r).val - d.val, by omega⟩ := by
        have ht : (tok r).val = r.val % 4 := rfl
        apply Fin.ext
        show (r.val + 128 - d.val) % 128 = 4 * (r.val / 4) + ((tok r).val - d.val)
        omega
      rw [e]
    · rw [dif_neg h, if_neg h, zero_mul]
  have e0 : back 0 r = r := Fin.ext (show (r.val + 128 - 0) % 128 = r.val by omega)
  have t0 := term 0
  rw [show back (0 : Fin 4).val r = r from e0] at t0
  unfold mixedT
  rw [t0, show x7 (ix3 1 r j) * x3 (ix2 (back 1 r) j) = _ from term 1, show x7 (ix3 2 r j) * x3 (ix2 (back 2 r) j) = _ from term 2, show x7 (ix3 3 r j) * x3 (ix2 (back 3 r) j) = _ from term 3, h8]
  refine (sum_distances _ _ _).trans ?_
  unfold mixed
  refine congrArg (fun a : EReal => a + _) (Finset.sum_congr rfl fun k _ => ?_)
  unfold causal
  by_cases h : k.val ≤ (tok r).val
  · rw [if_pos h, if_pos h]
  · rw [if_neg h, if_neg h, mul_zero]

end Cert.Sample
-- ==== Proof.SampleHost.lean ====
/-
  The tables the kernel takes its coefficients and its biases from: each is laid out from the two arguments before the call.
-/
module

public import proofs.«01_k».proof.Proof.SampleSpec
public import proofs.«01_k».proof.Proof.Gen.Kernel4Ideal.Value
public import Idealize.ShloMosaic.Lib.Claim
public import Idealize.ShloMosaic.Lib.Pipeline.ValueKit
public import Idealize.ShloMosaic.Lib.StableHlo.ReadAt

@[expose] public section

set_option maxRecDepth 65536

noncomputable section

namespace Cert.Sample

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

abbrev argWS : Vec Ideal S8x128x128 .f32 := m ((c : Thread nD τ).loc main_arg7)
abbrev argBS : Vec Ideal S8x128 .f32 := m ((c : Thread nD τ).loc main_arg8)

theorem biases (r : Fin 128) (j : Fin 1024) : (V m c main_v76 : Vec Ideal S128x1024 .f32) (ix2 r j) = argBS m c (ix2 (group j) ⟨(tok r).val, by omega⟩) := by
  unfold V
  after_reads_at
  rfl

set_option maxHeartbeats 4000000 in
theorem table (d t : Fin 4) (g : Fin 8) : (V m c main_v64 : Vec Ideal S4x4x8 .f32) (ix3 d t g) = if h : d.val ≤ t.val then argWS m c (ix3 g ⟨t.val, by omega⟩ ⟨t.val - d.val, by omega⟩) else 0 := by
  unfold V
  fin_cases d <;> fin_cases t <;> repeat after_reads_at

set_option maxHeartbeats 8000000 in
theorem coefs (d : Fin 4) (r : Fin 128) (j : Fin 1024) : (V m c main_v69 : Vec Ideal S4x128x1024 .f32) (ix3 d r j) = (V m c main_v64 : Vec Ideal S4x4x8 .f32) (ix3 d (tok r) (group j)) := by
  unfold V
  fin_cases d <;> (repeat after_reads_at) <;> rfl

end Cert.Sample
-- ==== Proof.SampleArrays.lean ====
/-
  The arrays of the sampled tokens' output layer: what the four grid points leave, one after the other, and so what the run
  leaves in the two results.
-/
module

public import proofs.«01_k».proof.Proof.SampleTile
public import proofs.«01_k».proof.Proof.SampleMix
public import proofs.«01_k».proof.Proof.SampleHost

@[expose] public section

set_option maxRecDepth 65536
set_option maxHeartbeats 2000000

noncomputable section

namespace Cert.Sample

open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ) (c : Dev nD) (t : Fin cfg0.N)

/-! ## The blocks -/

abbrev argOA : Vec Ideal S128x1024 .f32 := m ((c : Thread nD τ).loc main_arg0)
abbrev argGA : Vec Ideal S128x1024 .f32 := m ((c : Thread nD τ).loc main_arg1)
abbrev argU : Vec Ideal S128x1024 .f32 := m ((c : Thread nD τ).loc main_arg2)
abbrev argVC : Vec Ideal S128x1024 .f32 := m ((c : Thread nD τ).loc main_arg3)
abbrev argGB : Vec Ideal S128x1024 .f32 := m ((c : Thread nD τ).loc main_arg4)
abbrev argX : Vec Ideal S128x2048 .f32 := m ((c : Thread nD τ).loc main_arg5)
abbrev argW : Vec Ideal S2048x2048 .f32 := m ((c : Thread nD τ).loc main_arg6)
abbrev argG : Vec Ideal S2048 .f32 := m ((c : Thread nD τ).loc main_arg9)

theorem gains (k : Fin 2048) : (V m c main_v77 : Vec Ideal S1x2048 .f32) (ix2 0 k) = argG m c (ix1 k) := by
  unfold V
  after_reads_at

theorem places : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![0, 0, 0] ∧ win0_8.index t = ![0, 0] ∧ win0_9.index t = ![0, 0]
    ∧ k0_off1 (grid0.coords t) = ![0, 512 * t.val] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![0, 0, 0] ∧ win0_8.index t = ![0, 0] ∧ win0_9.index t = ![0, 0]
    ∧ k0_off1 (grid0.coords t) = ![0, 512 * t.val])

theorem oa_entry (r : Fin 128) (k : Fin 1024) : (iblk m c 0 t : Vec Ideal S128x1024 .f32) (ix2 r k) = argOA m c (ix2 r k) := by
  have hp := (places t).1
  blk_ext [iblk, V, hp]
theorem ga_entry (r : Fin 128) (k : Fin 1024) : (iblk m c 1 t : Vec Ideal S128x1024 .f32) (ix2 r k) = argGA m c (ix2 r k) := by
  have hp := (places t).2.1
  blk_ext [iblk, V, hp]
theorem u_entry (r : Fin 128) (k : Fin 1024) : (iblk m c 2 t : Vec Ideal S128x1024 .f32) (ix2 r k) = argU m c (ix2 r k) := by
  have hp := (places t).2.2.1
  blk_ext [iblk, V, hp]
theorem vc_entry (r : Fin 128) (k : Fin 1024) : (iblk m c 3 t : Vec Ideal S128x1024 .f32) (ix2 r k) = argVC m c (ix2 r k) := by
  have hp := (places t).2.2.2.1
  blk_ext [iblk, V, hp]
theorem gb_entry (r : Fin 128) (k : Fin 1024) : (iblk m c 4 t : Vec Ideal S128x1024 .f32) (ix2 r k) = argGB m c (ix2 r k) := by
  have hp := (places t).2.2.2.2.1
  blk_ext [iblk, V, hp]
theorem x_entry (r : Fin 128) (k : Fin 2048) : (iblk m c 5 t : Vec Ideal S128x2048 .f32) (ix2 r k) = argX m c (ix2 r k) := by
  have hp := (places t).2.2.2.2.2.1
  blk_ext [iblk, V, hp]
theorem w_entry (r : Fin 512) (k : Fin 2048) : (iblk m c 6 t : Vec Ideal S512x2048 .f32) (ix2 r k) = argW m c (ix2 ⟨(512 * t.val + r.val) % 2048, Nat.mod_lt _ (by decide)⟩ k) := by
  have ht : t.val < 4 := lt_of_lt_of_eq t.isLt N_0
  have hp := (places t).2.2.2.2.2.2.1
  blk_ext [iblk, V, hp]
theorem coef_entry (d : Fin 4) (r : Fin 128) (j : Fin 1024) : (iblk m c 7 t : Vec Ideal S4x128x1024 .f32) (ix3 d r j)
    = if h : d.val ≤ (tok r).val then argWS m c (ix3 (group j) ⟨(tok r).val, by omega⟩ ⟨(tok r).val - d.val, by omega⟩) else 0 := by
  have hp := (places t).2.2.2.2.2.2.2.1
  refine Eq.trans (b := (V m c main_v69 : Vec Ideal S4x128x1024 .f32) (ix3 d r j)) ?_ ((coefs m c d r j).trans (table m c d (tok r) (group j)))
  blk_ext [iblk, hp]
theorem bias_entry (r : Fin 128) (j : Fin 1024) : (iblk m c 8 t : Vec Ideal S128x1024 .f32) (ix2 r j) = argBS m c (ix2 (group j) ⟨(tok r).val, by omega⟩) := by
  have hp := (places t).2.2.2.2.2.2.2.2.1
  refine Eq.trans (b := (V m c main_v76 : Vec Ideal S128x1024 .f32) (ix2 r j)) ?_ (biases m c r j)
  blk_ext [iblk, hp]
theorem g_entry (k : Fin 2048) : (iblk m c 9 t : Vec Ideal S1x2048 .f32) (ix2 0 k) = argG m c (ix1 k) := by
  have hp := (places t).2.2.2.2.2.2.2.2.2.1
  refine Eq.trans (b := (V m c main_v77 : Vec Ideal S1x2048 .f32) (ix2 0 k)) ?_ (gains m c k)
  blk_ext [iblk, hp]

/-! ## The points -/

/-- The gated rows. -/
def rows : Vec Ideal S128x2048 .bf16 := fun y => gated (argOA m c) (argGA m c) (argU m c) (argVC m c) (argGB m c) (argWS m c) (argBS m c) (y 0) (y 1)

theorem gatedT_rows : gatedT (iblk m c 0 t) (iblk m c 1 t) (iblk m c 2 t) (iblk m c 3 t) (iblk m c 4 t) (iblk m c 7 t) (iblk m c 8 t) = rows m c := by
  funext y
  obtain ⟨r, k, rfl⟩ : ∃ (r : Fin 128) (k : Fin 2048), y = ix2 r k := ⟨_, _, eq_ix2 y⟩
  unfold gatedT rows gated
  refine congrArg₂ (fun a b => beside a b k) (funext fun j => ?_) (funext fun j => ?_)
  · exact congrArg₂ (fun a b : EReal => a * b) (oa_entry m c t r j) (ga_entry m c t r j)
  · have e3 : (iblk m c 3 t : Vec Ideal S128x1024 .f32) = argVC m c := funext fun y => by
      obtain ⟨r, k, rfl⟩ : ∃ (r : Fin 128) (k : Fin 1024), y = ix2 r k := ⟨_, _, eq_ix2 y⟩
      exact vc_entry m c t r k
    refine congrArg₂ (fun a b : EReal => a * b) (congrArg₂ (fun a b : EReal => a * b) (u_entry m c t r j) ?_) (gb_entry m c t r j)
    exact (mixedT_eq _ _ _ (argWS m c) (argBS m c) (coef_entry m c t) (bias_entry m c t) r j).trans (congrArg (fun v => mixed v (argWS m c) (argBS m c) r j) e3)

/-- The part of the product that the point `n` adds. -/
def part (n : ℕ) : Vec Ideal S128x2048 .f32 := fun y =>
  ∑ k : Fin 512, rows m c (ix2 (y 0) ⟨(512 * n + k.val) % 2048, Nat.mod_lt _ (by decide)⟩) * argW m c (ix2 ⟨(512 * n + k.val) % 2048, Nat.mod_lt _ (by decide)⟩ (y 1))

theorem partT_part (h : t.val < 4) : partT (rows m c) (iblk m c 6 t) t.val h = part m c t.val := by
  funext y
  obtain ⟨r, k, rfl⟩ : ∃ (r : Fin 128) (k : Fin 2048), y = ix2 r k := ⟨_, _, eq_ix2 y⟩
  unfold partT part
  refine Finset.sum_congr rfl fun i _ => ?_
  refine congrArg₂ (fun a b : EReal => a * b) (congrArg (fun j => rows m c (ix2 r j)) (Fin.ext ?_)) (w_entry m c t i k)
  show 512 * t.val + i.val = (512 * t.val + i.val) % 2048
  omega

/-- The sums after the point `n`. -/
def sums : ℕ → Vec Ideal S128x2048 .f32
  | 0 => fun y => argX m c y + part m c 0 y
  | n + 1 => fun y => sums n y + part m c (n + 1) y

theorem scratch_start (hn : 0 < cfg0.N) : (outsAt0 m c 0 hn).2.2.1 = rows m c ∧ (outsAt0 m c 0 hn).2.2.2 = sums m c 0 := by
  rw [outsAt0_A m c ⟨0, hn⟩ rfl (show ¬ 0 % 4 = 3 by decide)]
  dsimp only
  refine ⟨(gated_stored ..).trans (gatedT_rows m c _), ?_⟩
  refine (sum_started _ _ _ _ _ _ _ _ _ _ _ _ _ _ _ _ _ _ _ _ _ _ _ _ _ _ _ _ _ _ _ _ _ _ _ _ _ _ _ _ _ _ 0 (by decide) (places ⟨0, hn⟩).2.2.2.2.2.2.2.2.2.2).trans ?_
  rw [gatedT_rows, show partT (rows m c) (iblk m c 6 ⟨0, hn⟩) 0 (by decide) = _ from partT_part m c ⟨0, hn⟩ (show 0 < 4 by decide)]
  funext y
  obtain ⟨r, k, rfl⟩ : ∃ (r : Fin 128) (k : Fin 2048), y = ix2 r k := ⟨_, _, eq_ix2 y⟩
  exact congrArg (fun a : EReal => a + part m c 0 (ix2 r k)) (x_entry m c _ r k)

theorem scratch_next (n : ℕ) (hn : n + 1 < cfg0.N) (h3 : n + 1 < 3) (i0 : (outsAt0 m c n (by omega)).2.2.1 = rows m c) (i1 : (outsAt0 m c n (by omega)).2.2.2 = sums m c n) :
    (outsAt0 m c (n + 1) hn).2.2.1 = rows m c ∧ (outsAt0 m c (n + 1) hn).2.2.2 = sums m c (n + 1) := by
  rw [outsAt0_B m c ⟨n + 1, hn⟩ (show ¬ (n + 1) % 4 = 0 by omega) (show ¬ (n + 1) % 4 = 3 by omega)]
  dsimp only
  refine ⟨i0, ?_⟩
  refine (sum_added _ _ _ _ _ _ _ _ _ _ _ _ _ _ _ _ _ _ _ _ _ _ _ _ _ _ _ _ _ _ _ _ _ _ _ _ _ _ _ _ _ _ _ _ (n + 1) (by omega) (places ⟨n + 1, hn⟩).2.2.2.2.2.2.2.2.2.2).trans ?_
  funext y
  refine congrArg₂ (fun a b : EReal => a + b) (congrFun i1 y) ?_
  refine (congrArg (fun A => partT A (iblk m c 6 ⟨n + 1, hn⟩) (n + 1) (by omega) y) i0).trans ?_
  exact congrFun (partT_part m c ⟨n + 1, hn⟩ (show n + 1 < 4 by omega)) y

theorem scratch : ∀ (n : ℕ) (hn : n < cfg0.N), n < 3 → (outsAt0 m c n hn).2.2.1 = rows m c ∧ (outsAt0 m c n hn).2.2.2 = sums m c n
  | 0, hn, _ => scratch_start m c hn
  | n + 1, hn, h3 => scratch_next m c n hn h3 (scratch n (by omega) (by omega)).1 (scratch n (by omega) (by omega)).2

theorem weights_left (n : ℕ) (hn : n < cfg0.N) (r : Fin 512) (k : Fin 2048) : (outsAt0 m c n hn).2.1 (ix2 r k) = (iblk m c 6 ⟨n, hn⟩ : Vec Ideal S512x2048 .f32) (ix2 r k) := by
  have hN : n < 4 := lt_of_lt_of_eq hn N_0
  by_cases h0 : n % 4 = 0
  · rw [outsAt0_A m c ⟨n, hn⟩ h0 (show ¬ n % 4 = 3 by omega)]
    dsimp only
    exact weightsA ..
  · by_cases h1 : n % 4 = 3
    · rw [outsAt0_C m c ⟨n, hn⟩ h0 h1]
      dsimp only
      exact weightsC ..
    · rw [outsAt0_B m c ⟨n, hn⟩ h0 h1]
      dsimp only
      exact weightsB ..

/-! ## The results -/

theorem sums_all (r : Fin 128) (k : Fin 2048) : sums m c 3 (ix2 r k) = argX m c (ix2 r k) + ∑ j : Fin 2048, rows m c (ix2 r j) * argW m c (ix2 j k) := by
  rw [sum_quarters]
  have e : ∀ (n : ℕ) (hn : n < 4), part m c n (ix2 r k) = ∑ i : Fin 512, rows m c (ix2 r ⟨512 * n + i.val, by omega⟩) * argW m c (ix2 ⟨512 * n + i.val, by omega⟩ k) := fun n hn => by
    refine Finset.sum_congr rfl fun i _ => ?_
    have h : (⟨(512 * n + i.val) % 2048, Nat.mod_lt _ (by decide)⟩ : Fin 2048) = ⟨512 * n + i.val, by omega⟩ := Fin.ext (Nat.mod_eq_of_lt (by omega))
    show rows m c (ix2 r ⟨(512 * n + i.val) % 2048, _⟩) * argW m c (ix2 ⟨(512 * n + i.val) % 2048, _⟩ k) = _
    rw [h]
  show argX m c (ix2 r k) + part m c 0 (ix2 r k) + part m c 1 (ix2 r k) + part m c 2 (ix2 r k) + part m c 3 (ix2 r k) = _
  rw [e 0 (by decide), e 1 (by decide), e 2 (by decide), e 3 (by decide)]
  simp only [add_assoc, Nat.mul_zero, Nat.zero_add, Nat.mul_one, show 512 * 2 = 1024 from rfl, show 512 * 3 = 1536 from rfl]

theorem result_array : (G10 m c : Vec Ideal S128x2048 .f32)
    = resultA (argOA m c) (argGA m c) (argU m c) (argVC m c) (argGB m c) (argX m c) (argW m c) (argWS m c) (argBS m c) (argG m c) := by
  have h3 : 3 < cfg0.N := lt_of_lt_of_eq (by decide) N_0.symm
  funext y
  obtain ⟨r, k, rfl⟩ : ∃ (r : Fin 128) (k : Fin 2048), y = ix2 r k := ⟨_, _, eq_ix2 y⟩
  obtain ⟨i0, i1⟩ := scratch m c 2 (by omega) (by decide)
  rw [G10_last, ← outsAt0_sweep m c 3 h3, outsAt0_C m c ⟨3, h3⟩ (show ¬ 3 % 4 = 0 by decide) (show 3 % 4 = 3 by decide)]
  dsimp only
  refine (result_stored _ _ _ _ _ _ _ _ _ _ _ _ _ _ _ _ _ _ _ _ _ _ _ _ _ _ _ _ _ _ _ _ _ _ _ _ _ _ _ _ _ _ _ _ 3 (by decide) (places ⟨3, h3⟩).2.2.2.2.2.2.2.2.2.2 r k).trans ?_
  refine congrArg₂ (fun a b => Cert.Proj.rms a b k) (funext fun j => ?_) (funext (g_entry m c _))
  refine Eq.trans (congrArg₂ (fun a b : EReal => a + b) (congrFun i1 (ix2 r j)) ?_) (sums_all m c r j)
  refine (congrArg (fun A => partT A (iblk m c 6 ⟨3, h3⟩) 3 (by decide) (ix2 r j)) i0).trans ?_
  exact congrFun (partT_part m c ⟨3, h3⟩ (show 3 < 4 by decide)) (ix2 r j)

theorem weights_array : (G11 m c : Vec Ideal S2048x2048 .bf16) = argW m c := by
  funext y
  obtain ⟨n, l, rfl⟩ : ∃ (n : Fin 2048) (l : Fin 2048), y = ix2 n l := ⟨_, _, eq_ix2 y⟩
  have hr : pt11Of (ix2 n l) = n.val / 512 := by
    show 1 * (n.val / 512 - 0) + 1 * (l.val / 2048 - 0) = _
    omega
  have hN : cfg0.N = 4 := N_0
  have hlt : n.val / 512 < cfg0.N := by omega
  have hlt' : pt11Of (ix2 n l) < cfg0.N := by rw [hr]; exact hlt
  have hloc : loc11Of (ix2 n l) = ix2 ⟨n.val % 512, by omega⟩ l := by
    funext a
    fin_cases a
    · rfl
    · exact Fin.ext (Nat.mod_eq_of_lt l.isLt)
  unfold G11
  rw [dif_pos hlt', ← outsAt0_sweep m c _ hlt', hloc, weights_left, w_entry]
  refine congrArg (fun i => argW m c (ix2 i l)) (Fin.ext ?_)
  show (512 * pt11Of (ix2 n l) + n.val % 512) % 2048 = n.val
  rw [hr]
  omega

end Cert.Sample
-- ==== Proof.SampleReference.lean ====
/-
  The reference of the sampled tokens' output layer, read stage by stage: its result is `resultA` of its arguments.
-/
module

public import proofs.«01_k».proof.Proof.SampleSpec
public import proofs.«01_k».proof.Proof.Reference
public import proofs.«01_k».proof.Proof.Gen.Reference4Ideal.Read

@[expose] public section

set_option maxRecDepth 65536

noncomputable section

namespace Cert.SampleRef

open Idealize.ShloMosaic Idealize.SL.Sem Cert.Sample
open Cert.Reference4Ideal Cert.Reference4Ideal.Gen Cert.Reference4Ideal.Read

variable (oa ga u vc gb : Vec Ideal S128x1024 .f32) (x : Vec Ideal S128x2048 .f32) (W : Vec Ideal S2048x2048 .f32)
  (WS : Vec Ideal S8x128x128 .f32) (BS : Vec Ideal S8x128 .f32) (G : Vec Ideal S2048 .f32)

theorem weights_read (g : Fin 8) (t k : Fin 4) : val_main_v6 (F := Ideal) WS (ix3 g t k) = causal WS g t k := by
  simp only [val_main_v6, val_main_v5, val_main_v4, val_main_v3, val_main_v2, val_main_v1, val_main_cst, val_main_call0_v5, val_main_call0_cst, val_main_call0_v4, val_main_call0_v3, val_main_call0_v2, val_main_call0_v1, val_main_call0_c, val_main_call0_v0]
  pointwise
  unfold causal
  fin_cases t <;> fin_cases k <;> simp <;> rfl

theorem mixed_read (r : Fin 128) (j : Fin 1024) : val_main_v15 (F := Ideal) vc WS BS (ix2 r j) = mixed vc WS BS r j := by
  simp only [val_main_v15, val_main_v14, val_main_v13, val_main_v12, val_main_v11, val_main_v10, val_main_v9, val_main_v8, val_main_v7, val_main_v0]
  pointwise
  simp only [weights_read]
  unfold mixed
  have e : ∀ k : Fin 4, (⟨r.val / 4 * 4 + k.val, by omega⟩ : Fin 128) = rowAt r k := fun k => Fin.ext (show r.val / 4 * 4 + k.val = 4 * (r.val / 4) + k.val by omega)
  simp only [e]
  rfl

theorem gated_low (r : Fin 128) (j : Fin 2048) : val_main_v19 (F := Ideal) oa ga u vc gb WS BS (ix2 r j) = gated oa ga u vc gb WS BS r j := by
  unfold gated beside
  simp only [val_main_v19, val_main_v18, val_main_v17, val_main_v16]
  pointwise
  simp only [mixed_read]

theorem summed_read (r : Fin 128) (k : Fin 2048) : val_main_v21 (F := Ideal) oa ga u vc gb x W WS BS (ix2 r k)
    = x (ix2 r k) + ∑ j : Fin 2048, gated oa ga u vc gb WS BS r j * W (ix2 j k) := by
  simp only [val_main_v21, val_main_v20]
  pointwise
  simp only [gated_low]

theorem result_read : val_main_v34 (F := Ideal) oa ga u vc gb x W WS BS G = resultA oa ga u vc gb x W WS BS G := by
  funext z
  obtain ⟨n, k, rfl⟩ : ∃ (n : Fin 128) (k : Fin 2048), z = ix2 n k := ⟨_, _, eq_ix2 z⟩
  show _ = Cert.Proj.rms (fun k => x (ix2 n k) + ∑ j : Fin 2048, gated oa ga u vc gb WS BS n j * W (ix2 j k)) (fun k => G (ix1 k)) k
  unfold Cert.Proj.rms
  simp only [val_main_v34, val_main_v33, val_main_v32, val_main_v31, val_main_v30, val_main_v29, val_main_v28, val_main_v27, val_main_v26, val_main_v25, val_main_v24, val_main_v23, val_main_v22, val_main_cst_0, val_main_cst_1, val_main_cst_2]
  pointwise
  simp only [summed_read]

end Cert.SampleRef
-- ==== Proof.SampleRun.lean ====
/-
  The reference of the sampled tokens' output layer, run: its results are `resultA` of its arguments and the weights.
-/
module

public import proofs.«01_k».proof.Proof.SampleReference
public import proofs.«01_k».proof.Proof.Gen.Reference4Ideal.Run

@[expose] public section

noncomputable section

namespace Cert.SampleRef

open Idealize.ShloMosaic Idealize.SL.Sem Cert.Sample Cert.Reference4Ideal Cert.Reference4Ideal.Gen Cert.Reference4Ideal.Read

variable (m : (ℓ : Loc nD τ sig) → Buf (Elt Ideal) ℓ) (c : Dev nD)

/-- The reference's arguments: the attention's output and its gate, the chunk's two halves and their gate, the rows the
    result is added to, the weights, the chunk's weights and biases, and the gain. -/
def gotOA : Vec Ideal S128x1024 .f32 := m ((c.tc : Thread nD τ).loc main_arg0)
def gotGA : Vec Ideal S128x1024 .f32 := m ((c.tc : Thread nD τ).loc main_arg1)
def gotU : Vec Ideal S128x1024 .f32 := m ((c.tc : Thread nD τ).loc main_arg2)
def gotVC : Vec Ideal S128x1024 .f32 := m ((c.tc : Thread nD τ).loc main_arg3)
def gotGB : Vec Ideal S128x1024 .f32 := m ((c.tc : Thread nD τ).loc main_arg4)
def gotX : Vec Ideal S128x2048 .f32 := m ((c.tc : Thread nD τ).loc main_arg5)
def gotW : Vec Ideal S2048x2048 .f32 := m ((c.tc : Thread nD τ).loc main_arg6)
def gotWS : Vec Ideal S8x128x128 .f32 := m ((c.tc : Thread nD τ).loc main_arg7)
def gotBS : Vec Ideal S8x128 .f32 := m ((c.tc : Thread nD τ).loc main_arg8)
def gotG : Vec Ideal S2048 .f32 := m ((c.tc : Thread nD τ).loc main_arg9)

/-- The first result the run names, as the array it is. -/
theorem end34 : Value.res_main_v34 m c = resultA (gotOA m c) (gotGA m c) (gotU m c) (gotVC m c) (gotGB m c) (gotX m c) (gotW m c) (gotWS m c) (gotBS m c) (gotG m c) :=
  (val_main_v34_eq m c).trans (result_read (gotOA m c) (gotGA m c) (gotU m c) (gotVC m c) (gotGB m c) (gotX m c) (gotW m c) (gotWS m c) (gotBS m c) (gotG m c))

/-- The run of the reference, with its results as these arrays. -/
theorem reference_run (ρ : Dev nD → PrngReg) :
    θ_run defs (onTc (τ := τ) (main (F := Ideal))) ⟨m, fun _ => 0, ρ⟩ fun r => ∀ c : Dev nD,
      r.2.mem ((c.tc : Thread nD τ).loc main_v34) = resultA (gotOA m c) (gotGA m c) (gotU m c) (gotVC m c) (gotGB m c) (gotX m c) (gotW m c) (gotWS m c) (gotBS m c) (gotG m c)
      ∧ r.2.mem ((c.tc : Thread nD τ).loc main_v35) = gotW m c
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run defs _ _).mono (fun _ h c => ⟨(h c).1.trans (end34 m c), (h c).2.1, (h c).2.2⟩) (Value.run (F := Ideal) m ρ)

end Cert.SampleRef

end
-- ==== Proof.lean ====
/-
  The proof of `Cert.Claim` (proofs.«01_k».proof.Defs): for each of the five calls three frames, the idealization and the
  value claim. The attention's two arrays are `attn` and `stats` of its arguments (Proof/Points.lean), and so are its
  reference's two results (Proof/Reference.lean). The projection's twelve arrays are `rowsA` and the arrays of `part`
  (Proof/ProjArrays.lean), and so are its reference's twelve results (Proof/ProjReference.lean, Proof/ProjRun.lean).
  The output projection's array is `resultA` (Proof/OutArrays.lean), and so is its reference's result (Proof/OutRun.lean).
  The sampled tokens' output layer leaves `resultA` of Proof/SampleSpec.lean and its weights (Proof/SampleArrays.lean), and
  so does its reference (Proof/SampleRun.lean). The attention over four sequences leaves `attn4` and `stats4`
  (Proof/FourPoints.lean), and so does its reference (Proof/FourReference.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Points
public import proofs.«01_k».proof.Proof.Reference
public import proofs.«01_k».proof.Proof.FourPoints
public import proofs.«01_k».proof.Proof.FourReference
public import proofs.«01_k».proof.Proof.ProjArrays
public import proofs.«01_k».proof.Proof.ProjReference
public import proofs.«01_k».proof.Proof.ProjRun
public import proofs.«01_k».proof.Proof.OutArrays
public import proofs.«01_k».proof.Proof.OutRun
public import proofs.«01_k».proof.Proof.SampleArrays
public import proofs.«01_k».proof.Proof.SampleRun
public import Idealize.ShloMosaic.Adequacy
public import Idealize.ShloMosaic.Init

@[expose] public section

noncomputable section

namespace Cert.Proof

open Idealize.ShloMosaic Idealize.SL.Sem

/-- The reference keeps its arguments; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel and the reference end with the same two arrays. -/
theorem algebraic : Cert.algebraic_KernelIdeal_ReferenceIdeal (hKernelIdeal := Cert.KernelIdeal.Gen.facts) (hReferenceIdeal := Cert.ReferenceIdeal.Gen.facts) :=
  fun m ρ m' ρ' _ hag =>
    ⟨fun c => Cert.Attn.attn (Cert.Attn.argQ m c) (Cert.Attn.argK m c) (Cert.Attn.argV m c), fun c => Cert.Attn.stats (Cert.Attn.argQ m c) (Cert.Attn.argK m c),
      (θ_run Cert.KernelIdeal.defs _ _).mono (fun _ h c => ⟨(h c).1.trans (Cert.Attn.G5_eq m c), (h c).2.1.trans (Cert.Attn.G6_eq m c), (h c).2.2⟩)
        (Cert.KernelIdeal.Value.run (F := Ideal) m ρ),
      (θ_run Cert.ReferenceIdeal.defs _ _).mono (fun _ h c =>
        ⟨(h c).1.trans (by
            rw [Cert.ReferenceIdeal.Read.val_main_v56_eq, Cert.Attn.attn_read, (hag c).1, (hag c).2.1, (hag c).2.2]),
          (h c).2.1.trans (by
            rw [Cert.ReferenceIdeal.Read.val_main_v61_eq, Cert.Attn.stats_read, (hag c).1, (hag c).2.1]), (h c).2.2⟩)
        (Cert.ReferenceIdeal.Value.run (F := Ideal) m' ρ')⟩

/-- The projection's reference keeps its arguments; it has no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2.2.2.2.2.2.2.2.2, sem_eq_zero_of_no_sems (by decide) r.2⟩)
    (Cert.Reference2Ideal.Value.run (F := Ideal) m ρ)

/-- Equal arguments have equal normalized rows and equal parts. -/
theorem same_rows {X X' : Vec Ideal Cert.Kernel2Ideal.S8192x2048 .f32} {G G' : Vec Ideal Cert.Kernel2Ideal.S2048 .f32} (hX : X = X') (hG : G = G') :
    Cert.Proj.rowsA X G = Cert.Proj.rowsA X' G' := by rw [hX, hG]
theorem same_part {X X' : Vec Ideal Cert.Kernel2Ideal.S8192x2048 .f32} {G G' : Vec Ideal Cert.Kernel2Ideal.S2048 .f32}
    {W W' : Vec Ideal Cert.Kernel2Ideal.S2048x3072 .bf16} (p : ℕ) (hX : X = X') (hG : G = G') (hW : W = W') :
    Cert.Proj.part X G W p = Cert.Proj.part X' G' W' p := by rw [hX, hG, hW]

set_option maxHeartbeats 4000000 in
/-- The projection and its reference end with the same twelve arrays. -/
theorem algebraic2 : Cert.algebraic_Kernel2Ideal_Reference2Ideal (hKernel2Ideal := Cert.Kernel2Ideal.Gen.facts) (hReference2Ideal := Cert.Reference2Ideal.Gen.facts) :=
  fun m ρ m' ρ' _ hag =>
    ⟨fun c => Cert.Proj.rowsA (Cert.Proj.argX m c) (Cert.Proj.argG m c),
      fun c => Cert.Proj.plainA (Cert.Proj.part (Cert.Proj.argX m c) (Cert.Proj.argG m c) (Cert.Proj.argW m c) 0),
      fun c => Cert.Proj.class4A (Cert.Proj.part (Cert.Proj.argX m c) (Cert.Proj.argG m c) (Cert.Proj.argW m c) 0),
      fun c => Cert.Proj.class16A (Cert.Proj.part (Cert.Proj.argX m c) (Cert.Proj.argG m c) (Cert.Proj.argW m c) 0),
      fun c => Cert.Proj.plainA (Cert.Proj.part (Cert.Proj.argX m c) (Cert.Proj.argG m c) (Cert.Proj.argW m c) 1),
      fun c => Cert.Proj.class4A (Cert.Proj.part (Cert.Proj.argX m c) (Cert.Proj.argG m c) (Cert.Proj.argW m c) 1),
      fun c => Cert.Proj.class16A (Cert.Proj.part (Cert.Proj.argX m c) (Cert.Proj.argG m c) (Cert.Proj.argW m c) 1),
      fun c => Cert.Proj.plainA (Cert.Proj.part (Cert.Proj.argX m c) (Cert.Proj.argG m c) (Cert.Proj.argW m c) 2),
      fun c => Cert.Proj.class4A (Cert.Proj.part (Cert.Proj.argX m c) (Cert.Proj.argG m c) (Cert.Proj.argW m c) 2),
      fun c => Cert.Proj.class16A (Cert.Proj.part (Cert.Proj.argX m c) (Cert.Proj.argG m c) (Cert.Proj.argW m c) 2),
      fun c => Cert.Proj.tailA (Cert.Proj.part (Cert.Proj.argX m c) (Cert.Proj.argG m c) (Cert.Proj.argW m c) 1),
      fun c => Cert.Proj.tailA (Cert.Proj.part (Cert.Proj.argX m c) (Cert.Proj.argG m c) (Cert.Proj.argW m c) 2),
      (θ_run Cert.Kernel2Ideal.defs _ _).mono (fun _ h c => by
        obtain ⟨h0, h1, h2, h3, h4, h5, h6, h7, h8, h9, h10, h11, ha⟩ := h c
        exact ⟨h0.trans (Cert.Proj.rows_array m c),
          h1.trans (Cert.Proj.plain_array0 m c),
          h2.trans (Cert.Proj.class4_array0 m c),
          h3.trans (Cert.Proj.class16_array0 m c),
          h4.trans (Cert.Proj.plain_array1 m c),
          h5.trans (Cert.Proj.class4_array1 m c),
          h6.trans (Cert.Proj.class16_array1 m c),
          h7.trans (Cert.Proj.plain_array2 m c),
          h8.trans (Cert.Proj.class4_array2 m c),
          h9.trans (Cert.Proj.class16_array2 m c),
          h10.trans (Cert.Proj.tail_array1 m c),
          h11.trans (Cert.Proj.tail_array2 m c), ha⟩)
        (Cert.Kernel2Ideal.Value.run_blocks (F := Ideal) m ρ),
      (θ_run Cert.Reference2Ideal.defs _ _).mono (fun _ h c => by
        obtain ⟨h0, h1, h2, h3, h4, h5, h6, h7, h8, h9, h10, h11, ha⟩ := h c
        obtain ⟨eX, eG, eW⟩ := hag c
        have e : ∀ p, Cert.Proj.part (Cert.ProjRef.gotX m' c) (Cert.ProjRef.gotG m' c) (Cert.ProjRef.gotW m' c) p = Cert.Proj.part (Cert.Proj.argX m c) (Cert.Proj.argG m c) (Cert.Proj.argW m c) p :=
          fun p => same_part p eX eG eW
        have eR : Cert.Proj.rowsA (Cert.ProjRef.gotX m' c) (Cert.ProjRef.gotG m' c) = Cert.Proj.rowsA (Cert.Proj.argX m c) (Cert.Proj.argG m c) := same_rows eX eG
        exact ⟨h0.trans eR,
          h1.trans (congrArg Cert.Proj.plainA (e 0)), h2.trans (congrArg Cert.Proj.class4A (e 0)), h3.trans (congrArg Cert.Proj.class16A (e 0)),
          h4.trans (congrArg Cert.Proj.plainA (e 1)), h5.trans (congrArg Cert.Proj.class4A (e 1)), h6.trans (congrArg Cert.Proj.class16A (e 1)),
          h7.trans (congrArg Cert.Proj.plainA (e 2)), h8.trans (congrArg Cert.Proj.class4A (e 2)), h9.trans (congrArg Cert.Proj.class16A (e 2)),
          h10.trans (congrArg Cert.Proj.tailA (e 1)), h11.trans (congrArg Cert.Proj.tailA (e 2)), ha⟩)
        (Cert.ProjRef.reference_run m' ρ')⟩

/-- The output projection's reference keeps its arguments; it has no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- Equal arguments have equal results. -/
theorem same_result {a0 b0 : Vec Ideal Cert.Kernel3Ideal.S8192x1024 .bf16} {a1 b1 : Vec Ideal Cert.Kernel3Ideal.S4x2048x1024 .bf16} {a2 b2 : Vec Ideal Cert.Kernel3Ideal.S16x512x1024 .bf16} {a3 b3 : Vec Ideal Cert.Kernel3Ideal.S8192x128 .f32} {a4 b4 : Vec Ideal Cert.Kernel3Ideal.S4x2048x128 .f32} {a5 b5 : Vec Ideal Cert.Kernel3Ideal.S16x512x128 .f32} {a6 b6 : Vec Ideal Cert.Kernel3Ideal.S8192x1024 .bf16} {a7 b7 : Vec Ideal Cert.Kernel3Ideal.S8192x1024 .bf16} {a8 b8 : Vec Ideal Cert.Kernel3Ideal.S8192x2048 .f32} {a9 b9 : Vec Ideal Cert.Kernel3Ideal.S2048x2048 .bf16} {a10 b10 : Vec Ideal Cert.Kernel3Ideal.S2048 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    Cert.Out.resultA a0 a1 a2 a3 a4 a5 a6 a7 a8 a9 a10 = Cert.Out.resultA b0 b1 b2 b3 b4 b5 b6 b7 b8 b9 b10 := by
  rw [h0, h1, h2, h3, h4, h5, h6, h7, h8, h9, h10]

set_option maxHeartbeats 4000000 in
/-- The output projection and its reference end with the same array. -/
theorem algebraic3 : Cert.algebraic_Kernel3Ideal_Reference3Ideal (hKernel3Ideal := Cert.Kernel3Ideal.Gen.facts) (hReference3Ideal := Cert.Reference3Ideal.Gen.facts) :=
  fun m ρ m' ρ' _ hag =>
    ⟨fun c => Cert.Out.resultA (Cert.Out.argO1 m c) (Cert.Out.argO4 m c) (Cert.Out.argO16 m c) (Cert.Out.argS1 m c) (Cert.Out.argS4 m c) (Cert.Out.argS16 m c) (Cert.Out.argGate m c) (Cert.Out.argY m c) (Cert.Out.argX m c) (Cert.Out.argW m c) (Cert.Out.argG m c),
      (θ_run Cert.Kernel3Ideal.defs _ _).mono (fun _ h c => ⟨(h c).1.trans (Cert.Out.result_array m c), (h c).2⟩)
        (Cert.Kernel3Ideal.Value.run_blocks (F := Ideal) m ρ),
      (θ_run Cert.Reference3Ideal.defs _ _).mono (fun _ h c => by
        obtain ⟨e0, e1, e2, e3, e4, e5, e6, e7, e8, e9, e10⟩ := hag c
        exact ⟨(h c).1.trans (same_result e0 e1 e2 e3 e4 e5 e6 e7 e8 e9 e10), (h c).2⟩)
        (Cert.OutRef.reference_run m' ρ')⟩

/-- The sampled tokens' reference keeps its arguments; it has no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Equal arguments have equal results. -/
theorem same_sample {a0 b0 : Vec Ideal Cert.Kernel4Ideal.S128x1024 .f32} {a1 b1 : Vec Ideal Cert.Kernel4Ideal.S128x1024 .f32} {a2 b2 : Vec Ideal Cert.Kernel4Ideal.S128x1024 .f32} {a3 b3 : Vec Ideal Cert.Kernel4Ideal.S128x1024 .f32} {a4 b4 : Vec Ideal Cert.Kernel4Ideal.S128x1024 .f32} {a5 b5 : Vec Ideal Cert.Kernel4Ideal.S128x2048 .f32} {a6 b6 : Vec Ideal Cert.Kernel4Ideal.S2048x2048 .f32} {a7 b7 : Vec Ideal Cert.Kernel4Ideal.S8x128x128 .f32} {a8 b8 : Vec Ideal Cert.Kernel4Ideal.S8x128 .f32} {a9 b9 : Vec Ideal Cert.Kernel4Ideal.S2048 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) :
    Cert.Sample.resultA a0 a1 a2 a3 a4 a5 a6 a7 a8 a9 = Cert.Sample.resultA b0 b1 b2 b3 b4 b5 b6 b7 b8 b9 := by
  rw [h0, h1, h2, h3, h4, h5, h6, h7, h8, h9]

set_option maxHeartbeats 4000000 in
/-- The sampled tokens' output layer and its reference end with the same two arrays. -/
theorem algebraic4 : Cert.algebraic_Kernel4Ideal_Reference4Ideal (hKernel4Ideal := Cert.Kernel4Ideal.Gen.facts) (hReference4Ideal := Cert.Reference4Ideal.Gen.facts) :=
  fun m ρ m' ρ' _ hag =>
    ⟨fun c => Cert.Sample.resultA (Cert.Sample.argOA m c) (Cert.Sample.argGA m c) (Cert.Sample.argU m c) (Cert.Sample.argVC m c) (Cert.Sample.argGB m c) (Cert.Sample.argX m c) (Cert.Sample.argW m c) (Cert.Sample.argWS m c) (Cert.Sample.argBS m c) (Cert.Sample.argG m c), fun c => Cert.Sample.argW m c,
      (θ_run Cert.Kernel4Ideal.defs _ _).mono (fun _ h c => ⟨(h c).1.trans (Cert.Sample.result_array m c), (h c).2.1.trans (Cert.Sample.weights_array m c), (h c).2.2⟩)
        (Cert.Kernel4Ideal.Value.run (F := Ideal) m ρ),
      (θ_run Cert.Reference4Ideal.defs _ _).mono (fun _ h c => by
        obtain ⟨e0, e1, e2, e3, e4, e5, e6, e7, e8, e9⟩ := hag c
        exact ⟨(h c).1.trans (same_sample e0 e1 e2 e3 e4 e5 e6 e7 e8 e9), (h c).2.1.trans e6, (h c).2.2⟩)
        (Cert.SampleRef.reference_run m' ρ')⟩

/-- The reference of the attention over four sequences keeps its arguments; it has no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The attention over four sequences and its reference end with the same two arrays. -/
theorem algebraic5 : Cert.algebraic_Kernel5Ideal_Reference5Ideal (hKernel5Ideal := Cert.Kernel5Ideal.Gen.facts) (hReference5Ideal := Cert.Reference5Ideal.Gen.facts) :=
  fun m ρ m' ρ' _ hag =>
    ⟨fun c => Cert.Attn4.attn4 (Cert.Attn4.argQ m c) (Cert.Attn4.argK m c) (Cert.Attn4.argV m c), fun c => Cert.Attn4.stats4 (Cert.Attn4.argQ m c) (Cert.Attn4.argK m c),
      (θ_run Cert.Kernel5Ideal.defs _ _).mono (fun _ h c => ⟨(h c).1.trans (Cert.Attn4.G5_eq m c), (h c).2.1.trans (Cert.Attn4.G6_eq m c), (h c).2.2⟩)
        (Cert.Kernel5Ideal.Value.run (F := Ideal) m ρ),
      (θ_run Cert.Reference5Ideal.defs _ _).mono (fun _ h c =>
        ⟨(h c).1.trans (by
            rw [Cert.Reference5Ideal.Read.val_main_v56_eq, Cert.Attn4.attn_read, (hag c).1, (hag c).2.1, (hag c).2.2]),
          (h c).2.1.trans (by
            rw [Cert.Reference5Ideal.Read.val_main_v61_eq, Cert.Attn4.stats_read, (hag c).1, (hag c).2.1]), (h c).2.2⟩)
        (Cert.Reference5Ideal.Value.run (F := Ideal) m' ρ')⟩

/-- The claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  IdealRules.named_const.statement Cert.KernelIdeal.κ "mask" .f32 0xF149F2CA#32 ⊥ rfl, algebraic, trivial, algebraic2, trivial, algebraic3, trivial, algebraic4,
  IdealRules.named_const.statement Cert.Kernel5Ideal.κ "mask" .f32 0xF149F2CA#32 ⊥ rfl, algebraic5⟩

end Cert.Proof

end
